-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fair [hPre_fair : Cert.Pre_fair.Facts] (m : (ℓ : Loc Cert.KernelIdeal.nD Cert.KernelIdeal.τ Cert.KernelIdeal.sig) → Buf (Elt Ideal) ℓ) : Prop :=
  ∀ c : Dev Cert.KernelIdeal.nD,
    (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fair [hPre_fair : Cert.Pre_fair.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fair [hKernelIdeal : Cert.KernelIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fair m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fair [hReferenceIdeal : Cert.ReferenceIdeal.Facts] [hPre_fair : Cert.Pre_fair.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fair m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_fair [hKernelIdeal : Cert.KernelIdeal.Facts] [hReferenceIdeal : Cert.ReferenceIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fair m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fair : Cert.Pre_fair.Facts),
    quiescent_Kernel (hKernel := hKernel)
    ∧ quiescent_KernelIdeal (hKernelIdeal := hKernelIdeal)
    ∧ quiescent_KernelIdeal_pre_fair (hKernelIdeal := hKernelIdeal) (hPre_fair := hPre_fair)
    ∧ quiescent_ReferenceIdeal (hReferenceIdeal := hReferenceIdeal)
    ∧ quiescent_ReferenceIdeal_pre_fair (hReferenceIdeal := hReferenceIdeal) (hPre_fair := hPre_fair)
    ∧ preserves_Kernel_KernelIdeal
    ∧ algebraic_KernelIdeal_ReferenceIdeal_pre_fair (hKernelIdeal := hKernelIdeal) (hReferenceIdeal := hReferenceIdeal) (hPre_fair := hPre_fair)
-- ==== Pre_fair.lean ====
abbrev S128x100000 : Shape := ⟨2, ![128, 100000]⟩
abbrev S_ : Shape := ⟨0, ![]⟩
abbrev S100000 : Shape := ⟨1, ![100000]⟩
abbrev S1x100000 : Shape := ⟨2, ![1, 100000]⟩
abbrev S128 : Shape := ⟨1, ![128]⟩
abbrev S128x1 : Shape := ⟨2, ![128, 1]⟩

class Facts : Prop where
  reducesTo_S128x100000_S100000_d0 : S128x100000.ReducesTo [0] S100000
  h_S_ : 0 < S_.numel
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S_S128x100000 : S_.BroadcastsInDim S128x100000 (![] : Fin 0 → Fin S128x100000.rank)
  reducesTo_S128x100000_S128_d1 : S128x100000.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S1x100000_S128x100000_0_1 : S1x100000.BroadcastsInDim S128x100000 (![0, 1] : Fin 2 → Fin S128x100000.rank)
  bcast_S128x1_S128x100000_0_1 : S128x1.BroadcastsInDim S128x100000 (![0, 1] : Fin 2 → Fin S128x100000.rank)

variable [Facts]

def fn_where {F : FTy → Type} [FloatOps F] (arg0 : IVec S128x100000 1) (arg1 : FVec F S128x100000 .f32) (arg2 : FVec F S_ .f32) : FVec F S128x100000 .f32 :=
  let v0 : FVec F S_ .f32 := id arg2
  let v1 : FVec F S128x100000 .f32 := broadcastInDim S128x100000 ![] bcast_S_S128x100000 v0
  let v2 : FVec F S128x100000 .f32 := select arg0 arg1 v1
  v2

def fn_part1 {F : FTy → Type} [FloatOps F] (main_v3 : IVec S1x100000 1) (main_v10 : IVec S128x1 1) (main_v15 : IVec S128x100000 1) : IVec S128x100000 1 :=
  let main_v16 : IVec S128x100000 1 := broadcastInDim S128x100000 ![0, 1] bcast_S1x100000_S128x100000_0_1 main_v3
  let main_v17 : IVec S128x100000 1 := andi main_v15 main_v16
  let main_v18 : IVec S128x100000 1 := broadcastInDim S128x100000 ![0, 1] bcast_S128x1_S128x100000_0_1 main_v10
  let main_v19 : IVec S128x100000 1 := andi main_v17 main_v18
  main_v19

def fn {F : FTy → Type} [FloatOps F] (main_arg0 : FVec F S128x100000 .f32) (main_arg1 : FVec F S128x100000 .f32) : IVec S128x100000 1 :=
  let main_cst : FVec F S_ .f32 := constant S_ .f32 0xFF800000#32
  let main_v0 : FVec F S100000 .f32 := (fun x v => Host.reduce FloatOps.maximumf x v reducesTo_S128x100000_S100000_d0 h_S_) main_arg0 main_cst
  let main_v1 : FVec F S1x100000 .f32 := broadcastInDim S1x100000 ![1] bcast_S100000_S1x100000_1 main_v0
  let main_cst_0 : FVec F S_ .f32 := constant S_ .f32 0xFF800000#32
  let main_v2 : FVec F S1x100000 .f32 := broadcastInDim S1x100000 ![] bcast_S_S1x100000 main_cst_0
  let main_v3 : IVec S1x100000 1 := cmpf .ogt main_v1 main_v2
  let main_cst_1 : FVec F S_ .f32 := constant S_ .f32 0xFF800000#32
  let main_v4 : FVec F S128x100000 .f32 := broadcastInDim S128x100000 ![] bcast_S_S128x100000 main_cst_1
  let main_v5 : IVec S128x100000 1 := cmpf .ogt main_arg0 main_v4
  let main_cst_2 : FVec F S_ .f32 := constant S_ .f32 0x00000000#32
  let main_v6 : FVec F S128x100000 .f32 := fn_where (F := F) main_v5 main_arg1 main_cst_2
  let main_cst_3 : FVec F S_ .f32 := constant S_ .f32 0xFF800000#32
  let main_v7 : FVec F S128 .f32 := (fun x v => Host.reduce FloatOps.maximumf x v reducesTo_S128x100000_S128_d1 h_S_) main_v6 main_cst_3
  let main_v8 : FVec F S128x1 .f32 := broadcastInDim S128x1 ![0] bcast_S128_S128x1_0 main_v7
  let main_cst_4 : FVec F S_ .f32 := constant S_ .f32 0x00000000#32
  let main_v9 : FVec F S128x1 .f32 := broadcastInDim S128x1 ![] bcast_S_S128x1 main_cst_4
  let main_v10 : IVec S128x1 1 := cmpf .ogt main_v8 main_v9
  let main_cst_5 : FVec F S_ .f32 := constant S_ .f32 0x7F800000#32
  let main_v11 : FVec F S128x100000 .f32 := broadcastInDim S128x100000 ![] bcast_S_S128x100000 main_cst_5
  let main_v12 : IVec S128x100000 1 := cmpf .olt main_arg0 main_v11
  let main_cst_6 : FVec F S_ .f32 := constant S_ .f32 0x00000000#32
  let main_v13 : FVec F S128x100000 .f32 := broadcastInDim S128x100000 ![] bcast_S_S128x100000 main_cst_6
  let main_v14 : IVec S128x100000 1 := cmpf .oge main_arg1 main_v13
  let main_v15 : IVec S128x100000 1 := andi main_v12 main_v14
  fn_part1 (F := F) main_v3 main_v10 main_v15
-- ==== Kernel.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S100000x128 : Shape := ⟨2, ![100000, 128]⟩
abbrev S1x128 : Shape := ⟨2, ![1, 128]⟩
abbrev S100352x128 : Shape := ⟨2, ![100352, 128]⟩
abbrev S4x1024x128 : Shape := ⟨3, ![4, 1024, 128]⟩
abbrev S4 : Shape := ⟨1, ![4]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S128 : Shape := ⟨1, ![128]⟩
abbrev S2x1024x128 : Shape := ⟨3, ![2, 1024, 128]⟩
abbrev S128x1 : Shape := ⟨2, ![128, 1]⟩

abbrev nBuf : Space → Nat
  | .hbm => 286
  | .vmem => 13
  | .smem => 0
  | _ => 0

abbrev hbmTy0_0 (i : Nat) : BufTy := match i % 128 with
  | 0 => ⟨S128x100000, .f32⟩
  | 1 => ⟨S128x100000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S100000x128, .f32⟩
  | 24 => ⟨S100000x128, .f32⟩
  | 25 => ⟨S100000x128, .f32⟩
  | 26 => ⟨S100000x128, .f32⟩
  | 27 => ⟨S1x128, .i32⟩
  | 28 => ⟨S128x100000, .f32⟩
  | 29 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S1x128, .i32⟩
  | .local _ .vmem, ⟨1, _⟩ => ⟨S100352x128, .f32⟩
  | .local _ .vmem, ⟨2, _⟩ => ⟨S1x128, .f32⟩
  | .local _ .vmem, ⟨3, _⟩ => ⟨S1x128, .f32⟩
  | .local _ .vmem, ⟨4, _⟩ => ⟨S1x128, .i32⟩
  | .local _ .vmem, ⟨5, _⟩ => ⟨S4x1024x128, .f32⟩
  | .local _ .vmem, ⟨6, _⟩ => ⟨S4x1024x128, .f32⟩
  | .local _ .vmem, ⟨7, _⟩ => ⟨S4x1024x128, .f32⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S2x1024x128, .f32⟩
  | .local _ .vmem, ⟨12, _⟩ => ⟨S2x1024x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v7 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11_0 : Ref sig .tc := ⟨.hbm, 282, rfl⟩
abbrev main_v11_1 : Ref sig .tc := ⟨.hbm, 283, rfl⟩
abbrev main_v12 : Ref sig .tc := ⟨.hbm, 284, rfl⟩
abbrev main_v13 : Ref sig .tc := ⟨.hbm, 285, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_scoped6 : Ref sig .tc := ⟨.vmem, 8, rfl⟩
abbrev cc0_scoped8 : Ref sig .tc := ⟨.vmem, 9, rfl⟩
abbrev cc0_scoped10 : Ref sig .tc := ⟨.vmem, 10, rfl⟩
abbrev cc0_scoped12 : Ref sig .tc := ⟨.vmem, 11, rfl⟩
abbrev cc0_scoped14 : Ref sig .tc := ⟨.vmem, 12, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let v_false_r0 : BitVec 1 := 0#1
  let c672_i32_r0 : BitVec 32 := 672#32
  let c1024_i32_r0 : BitVec 32 := 1024#32
  let v45_r0 : BitVec 32 := Scalar.select v_false_r0 c672_i32_r0 c1024_i32_r0
  v45_r0
def k0_off1 : Fin 1 → Nat :=
  let c0_i32_38_r0 : BitVec 32 := 0#32
  let c4_i32_r0 : BitVec 32 := 4#32
  let v44_r0 : BitVec 32 := Scalar.remui c0_i32_38_r0 c4_i32_r0
  ![v44_r0.toNat]
def k0_off2 : (Fin 3 → Nat) × (Fin 3 → Nat) :=
  let c0_i32_38_r0 : BitVec 32 := 0#32
  let c4_i32_r0 : BitVec 32 := 4#32
  let v44_r0 : BitVec 32 := Scalar.remui c0_i32_38_r0 c4_i32_r0
  let c0_i32_39_r0 : BitVec 32 := 0#32
  let c0_i32_40_r0 : BitVec 32 := 0#32
  let v_false_r0 : BitVec 1 := 0#1
  let c672_i32_r0 : BitVec 32 := 672#32
  let c1024_i32_r0 : BitVec 32 := 1024#32
  let v45_r0 : BitVec 32 := Scalar.select v_false_r0 c672_i32_r0 c1024_i32_r0
  let v46_r0 : BitVec 32 := v45_r0
  ⟨![v44_r0.toNat, 0, 0], ![1, v46_r0.toNat, 128]⟩
def k0_sz1 : Fin 2 → Nat :=
  let v_false_r0 : BitVec 1 := 0#1
  let c672_i32_r0 : BitVec 32 := 672#32
  let c1024_i32_r0 : BitVec 32 := 1024#32
  let v45_r0 : BitVec 32 := Scalar.select v_false_r0 c672_i32_r0 c1024_i32_r0
  let v46_r0 : BitVec 32 := v45_r0
  ![v46_r0.toNat, 128]
def k0_off3 : (Fin 2 → Nat) × (Fin 2 → Nat) :=
  let c0_i32_41_r0 : BitVec 32 := 0#32
  let c0_i32_42_r0 : BitVec 32 := 0#32
  let v_false_r0 : BitVec 1 := 0#1
  let c672_i32_r0 : BitVec 32 := 672#32
  let c1024_i32_r0 : BitVec 32 := 1024#32
  let v45_r0 : BitVec 32 := Scalar.select v_false_r0 c672_i32_r0 c1024_i32_r0
  let v46_r0 : BitVec 32 := v45_r0
  ⟨![0, 0], ![v46_r0.toNat, 128]⟩
def k0_mult2 : BitVec 32 :=
  let false_47_r0 : BitVec 1 := 0#1
  let c672_i32_48_r0 : BitVec 32 := 672#32
  let c1024_i32_49_r0 : BitVec 32 := 1024#32
  let v54_r0 : BitVec 32 := Scalar.select false_47_r0 c672_i32_48_r0 c1024_i32_49_r0
  v54_r0
def k0_mult3 : BitVec 32 :=
  let false_58_r0 : BitVec 1 := 0#1
  let c672_i32_59_r0 : BitVec 32 := 672#32
  let c1024_i32_60_r0 : BitVec 32 := 1024#32
  let v63_r0 : BitVec 32 := Scalar.select false_58_r0 c672_i32_59_r0 c1024_i32_60_r0
  v63_r0
def k0_off4 : (Fin 2 → Nat) × (Fin 2 → Nat) :=
  let c1024_i32_63_r0 : BitVec 32 := 1024#32
  let c0_i32_64_r0 : BitVec 32 := 0#32
  let false_58_r0 : BitVec 1 := 0#1
  let c672_i32_59_r0 : BitVec 32 := 672#32
  let c1024_i32_60_r0 : BitVec 32 := 1024#32
  let v63_r0 : BitVec 32 := Scalar.select false_58_r0 c672_i32_59_r0 c1024_i32_60_r0
  let v64_r0 : BitVec 32 := v63_r0
  ⟨![1024, 0], ![v64_r0.toNat, 128]⟩
def k0_mult4 : BitVec 32 :=
  let false_69_r0 : BitVec 1 := 0#1
  let c672_i32_70_r0 : BitVec 32 := 672#32
  let c1024_i32_71_r0 : BitVec 32 := 1024#32
  let v72_r0 : BitVec 32 := Scalar.select false_69_r0 c672_i32_70_r0 c1024_i32_71_r0
  v72_r0
def k0_cond1 : BitVec 1 :=
  let true_79_r0 : BitVec 1 := 1#1
  let c2_i32_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v80_r0 : BitVec 32 := Scalar.muli c2_i32_r0 v28_r0
  let c0_i32_78_r0 : BitVec 32 := 0#32
  let v81_r0 : BitVec 1 := Scalar.cmpi .ne v80_r0 c0_i32_78_r0
  let v82_r0 : BitVec 1 := Scalar.andi true_79_r0 v81_r0
  let true_80_r0 : BitVec 1 := 1#1
  let v83_r0 : BitVec 1 := Scalar.andi v82_r0 true_80_r0
  let v84_r0 : BitVec 32 := Scalar.extui v83_r0
  let c0_i32_81_r0 : BitVec 32 := 0#32
  let v85_r0 : BitVec 1 := Scalar.cmpi .ne v84_r0 c0_i32_81_r0
  v85_r0

def k0_mult5 : BitVec 32 :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  v184_r0
def k0_off5 : Fin 1 → Nat :=
  let c0_i32_43_r0 : BitVec 32 := 0#32
  let c1_i32_44_r0 : BitVec 32 := 1#32
  let v52_r0 : BitVec 32 := Scalar.addi c0_i32_43_r0 c1_i32_44_r0
  let c4_i32_164_r0 : BitVec 32 := 4#32
  let v180_r0 : BitVec 32 := Scalar.remui v52_r0 c4_i32_164_r0
  ![v180_r0.toNat]
def k0_off6 : (Fin 3 → Nat) × (Fin 3 → Nat) :=
  let c0_i32_43_r0 : BitVec 32 := 0#32
  let c1_i32_44_r0 : BitVec 32 := 1#32
  let v52_r0 : BitVec 32 := Scalar.addi c0_i32_43_r0 c1_i32_44_r0
  let c4_i32_164_r0 : BitVec 32 := 4#32
  let v180_r0 : BitVec 32 := Scalar.remui v52_r0 c4_i32_164_r0
  let c0_i32_169_r0 : BitVec 32 := 0#32
  let c0_i32_170_r0 : BitVec 32 := 0#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v180_r0.toNat, 0, 0], ![1, v185_r0.toNat, 128]⟩
def k0_sz2 : Fin 2 → Nat :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ![v185_r0.toNat, 128]
def k0_off7 : (Fin 2 → Nat) × (Fin 2 → Nat) :=
  let c1024_i32_166_r0 : BitVec 32 := 1024#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let v182_r0 : BitVec 32 := Scalar.muli c1024_i32_166_r0 v181_r0
  let c0_i32_171_r0 : BitVec 32 := 0#32
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v182_r0.toNat, 0], ![v185_r0.toNat, 128]⟩
def k0_cond2 : BitVec 1 :=
  let true_85_r0 : BitVec 1 := 1#1
  let c2_i32_83_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v88_r0 : BitVec 32 := Scalar.muli c2_i32_83_r0 v28_r0
  let c0_i32_84_r0 : BitVec 32 := 0#32
  let v89_r0 : BitVec 1 := Scalar.cmpi .ne v88_r0 c0_i32_84_r0
  let v90_r0 : BitVec 1 := Scalar.andi true_85_r0 v89_r0
  let true_86_r0 : BitVec 1 := 1#1
  let v91_r0 : BitVec 1 := Scalar.andi v90_r0 true_86_r0
  let v92_r0 : BitVec 32 := Scalar.extui v91_r0
  let c0_i32_87_r0 : BitVec 32 := 0#32
  let v93_r0 : BitVec 1 := Scalar.cmpi .ne v92_r0 c0_i32_87_r0
  v93_r0

def k0_mult6 : BitVec 32 :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  v184_r0
def k0_off8 : Fin 1 → Nat :=
  let c0_i32_54_r0 : BitVec 32 := 0#32
  let c1_i32_55_r0 : BitVec 32 := 1#32
  let v61_r0 : BitVec 32 := Scalar.addi c0_i32_54_r0 c1_i32_55_r0
  let c4_i32_164_r0 : BitVec 32 := 4#32
  let v180_r0 : BitVec 32 := Scalar.remui v61_r0 c4_i32_164_r0
  ![v180_r0.toNat]
def k0_off9 : (Fin 3 → Nat) × (Fin 3 → Nat) :=
  let c0_i32_54_r0 : BitVec 32 := 0#32
  let c1_i32_55_r0 : BitVec 32 := 1#32
  let v61_r0 : BitVec 32 := Scalar.addi c0_i32_54_r0 c1_i32_55_r0
  let c4_i32_164_r0 : BitVec 32 := 4#32
  let v180_r0 : BitVec 32 := Scalar.remui v61_r0 c4_i32_164_r0
  let c0_i32_169_r0 : BitVec 32 := 0#32
  let c0_i32_170_r0 : BitVec 32 := 0#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v180_r0.toNat, 0, 0], ![1, v185_r0.toNat, 128]⟩
def k0_sz3 : Fin 2 → Nat :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ![v185_r0.toNat, 128]
def k0_off10 : (Fin 2 → Nat) × (Fin 2 → Nat) :=
  let c1024_i32_166_r0 : BitVec 32 := 1024#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let v182_r0 : BitVec 32 := Scalar.muli c1024_i32_166_r0 v181_r0
  let c0_i32_171_r0 : BitVec 32 := 0#32
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v182_r0.toNat, 0], ![v185_r0.toNat, 128]⟩
def k0_cond3 : BitVec 1 :=
  let true_92_r0 : BitVec 1 := 1#1
  let c2_i32_89_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v96_r0 : BitVec 32 := Scalar.muli c2_i32_89_r0 v28_r0
  let c1_i32_90_r0 : BitVec 32 := 1#32
  let v97_r0 : BitVec 32 := Scalar.addi v96_r0 c1_i32_90_r0
  let c1_i32_91_r0 : BitVec 32 := 1#32
  let v98_r0 : BitVec 1 := Scalar.cmpi .ne v97_r0 c1_i32_91_r0
  let v99_r0 : BitVec 1 := Scalar.andi true_92_r0 v98_r0
  let true_93_r0 : BitVec 1 := 1#1
  let v100_r0 : BitVec 1 := Scalar.andi v99_r0 true_93_r0
  let v101_r0 : BitVec 32 := Scalar.extui v100_r0
  let c0_i32_94_r0 : BitVec 32 := 0#32
  let v102_r0 : BitVec 1 := Scalar.cmpi .ne v101_r0 c0_i32_94_r0
  v102_r0

def k0_mult7 : BitVec 32 :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  v185_r0
def k0_off11 : Fin 1 → Nat :=
  let c0_i32_65_r0 : BitVec 32 := 0#32
  let c1_i32_66_r0 : BitVec 32 := 1#32
  let v70_r0 : BitVec 32 := Scalar.addi c0_i32_65_r0 c1_i32_66_r0
  let c4_i32_164_r0 : BitVec 32 := 4#32
  let v180_r0 : BitVec 32 := Scalar.remui v70_r0 c4_i32_164_r0
  ![v180_r0.toNat]
def k0_off12 : (Fin 3 → Nat) × (Fin 3 → Nat) :=
  let c0_i32_65_r0 : BitVec 32 := 0#32
  let c1_i32_66_r0 : BitVec 32 := 1#32
  let v70_r0 : BitVec 32 := Scalar.addi c0_i32_65_r0 c1_i32_66_r0
  let c4_i32_164_r0 : BitVec 32 := 4#32
  let v180_r0 : BitVec 32 := Scalar.remui v70_r0 c4_i32_164_r0
  let c0_i32_170_r0 : BitVec 32 := 0#32
  let c0_i32_171_r0 : BitVec 32 := 0#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v180_r0.toNat, 0, 0], ![1, v186_r0.toNat, 128]⟩
def k0_sz4 : Fin 2 → Nat :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ![v186_r0.toNat, 128]
def k0_off13 : (Fin 2 → Nat) × (Fin 2 → Nat) :=
  let c1024_i32_167_r0 : BitVec 32 := 1024#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let v183_r0 : BitVec 32 := Scalar.muli c1024_i32_167_r0 v182_r0
  let c0_i32_172_r0 : BitVec 32 := 0#32
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v183_r0.toNat, 0], ![v186_r0.toNat, 128]⟩
def k0_cond4 : BitVec 1 :=
  let true_99_r0 : BitVec 1 := 1#1
  let c2_i32_96_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v105_r0 : BitVec 32 := Scalar.muli c2_i32_96_r0 v28_r0
  let c1_i32_97_r0 : BitVec 32 := 1#32
  let v106_r0 : BitVec 32 := Scalar.addi v105_r0 c1_i32_97_r0
  let c1_i32_98_r0 : BitVec 32 := 1#32
  let v107_r0 : BitVec 1 := Scalar.cmpi .ne v106_r0 c1_i32_98_r0
  let v108_r0 : BitVec 1 := Scalar.andi true_99_r0 v107_r0
  let true_100_r0 : BitVec 1 := 1#1
  let v109_r0 : BitVec 1 := Scalar.andi v108_r0 true_100_r0
  let v110_r0 : BitVec 32 := Scalar.extui v109_r0
  let c0_i32_101_r0 : BitVec 32 := 0#32
  let v111_r0 : BitVec 1 := Scalar.cmpi .ne v110_r0 c0_i32_101_r0
  v111_r0

def k0_mult8 : BitVec 32 :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  v185_r0
def k0_off14 : Fin 1 → Nat :=
  let c0_i32_76_r0 : BitVec 32 := 0#32
  let c1_i32_77_r0 : BitVec 32 := 1#32
  let v79_r0 : BitVec 32 := Scalar.addi c0_i32_76_r0 c1_i32_77_r0
  let c4_i32_164_r0 : BitVec 32 := 4#32
  let v180_r0 : BitVec 32 := Scalar.remui v79_r0 c4_i32_164_r0
  ![v180_r0.toNat]
def k0_off15 : (Fin 3 → Nat) × (Fin 3 → Nat) :=
  let c0_i32_76_r0 : BitVec 32 := 0#32
  let c1_i32_77_r0 : BitVec 32 := 1#32
  let v79_r0 : BitVec 32 := Scalar.addi c0_i32_76_r0 c1_i32_77_r0
  let c4_i32_164_r0 : BitVec 32 := 4#32
  let v180_r0 : BitVec 32 := Scalar.remui v79_r0 c4_i32_164_r0
  let c0_i32_170_r0 : BitVec 32 := 0#32
  let c0_i32_171_r0 : BitVec 32 := 0#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v180_r0.toNat, 0, 0], ![1, v186_r0.toNat, 128]⟩
def k0_sz5 : Fin 2 → Nat :=
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ![v186_r0.toNat, 128]
def k0_off16 : (Fin 2 → Nat) × (Fin 2 → Nat) :=
  let c1024_i32_167_r0 : BitVec 32 := 1024#32
  let c2_i32_165_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v181_r0 : BitVec 32 := Scalar.muli c2_i32_165_r0 v28_r0
  let c1_i32_166_r0 : BitVec 32 := 1#32
  let v182_r0 : BitVec 32 := Scalar.addi v181_r0 c1_i32_166_r0
  let v183_r0 : BitVec 32 := Scalar.muli c1024_i32_167_r0 v182_r0
  let c0_i32_172_r0 : BitVec 32 := 0#32
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v183_r0.toNat, 0], ![v186_r0.toNat, 128]⟩
def k0_cond5 : BitVec 1 :=
  let true_104_r0 : BitVec 1 := 1#1
  let c2_i32_103_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v114_r0 : BitVec 32 := Scalar.muli c2_i32_103_r0 v33_r0
  let c2_i32_r0 : BitVec 32 := 2#32
  let c0_i32_22_r0 : BitVec 32 := 0#32
  let v28_r0 : BitVec 32 := Scalar.addi v27_r0 c0_i32_22_r0
  let v80_r0 : BitVec 32 := Scalar.muli c2_i32_r0 v28_r0
  let v115_r0 : BitVec 1 := Scalar.cmpi .ne v114_r0 v80_r0
  let v116_r0 : BitVec 1 := Scalar.andi true_104_r0 v115_r0
  let true_105_r0 : BitVec 1 := 1#1
  let v117_r0 : BitVec 1 := Scalar.andi v116_r0 true_105_r0
  let v118_r0 : BitVec 32 := Scalar.extui v117_r0
  let c0_i32_106_r0 : BitVec 32 := 0#32
  let v119_r0 : BitVec 1 := Scalar.cmpi .ne v118_r0 c0_i32_106_r0
  v119_r0

def k0_mult9 : BitVec 32 :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  v184_r0
def k0_off17 : Fin 1 → Nat :=
  let true_79_r0 : BitVec 1 := 1#1
  let c2_i32_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v80_r0 : BitVec 32 := Scalar.muli c2_i32_r0 v28_r0
  let c0_i32_78_r0 : BitVec 32 := 0#32
  let v81_r0 : BitVec 1 := Scalar.cmpi .ne v80_r0 c0_i32_78_r0
  let v82_r0 : BitVec 1 := Scalar.andi true_79_r0 v81_r0
  let c0_i32_43_r0 : BitVec 32 := 0#32
  let c1_i32_44_r0 : BitVec 32 := 1#32
  let v52_r0 : BitVec 32 := Scalar.addi c0_i32_43_r0 c1_i32_44_r0
  let c1_i32_82_r0 : BitVec 32 := 1#32
  let v86_r0 : BitVec 32 := Scalar.addi v52_r0 c1_i32_82_r0
  let v87_r0 : BitVec 32 := Scalar.select v82_r0 v86_r0 v52_r0
  let c4_i32_164_r0 : BitVec 32 := 4#32
  let v180_r0 : BitVec 32 := Scalar.remui v87_r0 c4_i32_164_r0
  ![v180_r0.toNat]
def k0_off18 : (Fin 3 → Nat) × (Fin 3 → Nat) :=
  let true_79_r0 : BitVec 1 := 1#1
  let c2_i32_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v80_r0 : BitVec 32 := Scalar.muli c2_i32_r0 v28_r0
  let c0_i32_78_r0 : BitVec 32 := 0#32
  let v81_r0 : BitVec 1 := Scalar.cmpi .ne v80_r0 c0_i32_78_r0
  let v82_r0 : BitVec 1 := Scalar.andi true_79_r0 v81_r0
  let c0_i32_43_r0 : BitVec 32 := 0#32
  let c1_i32_44_r0 : BitVec 32 := 1#32
  let v52_r0 : BitVec 32 := Scalar.addi c0_i32_43_r0 c1_i32_44_r0
  let c1_i32_82_r0 : BitVec 32 := 1#32
  let v86_r0 : BitVec 32 := Scalar.addi v52_r0 c1_i32_82_r0
  let v87_r0 : BitVec 32 := Scalar.select v82_r0 v86_r0 v52_r0
  let c4_i32_164_r0 : BitVec 32 := 4#32
  let v180_r0 : BitVec 32 := Scalar.remui v87_r0 c4_i32_164_r0
  let c0_i32_169_r0 : BitVec 32 := 0#32
  let c0_i32_170_r0 : BitVec 32 := 0#32
  let c2_i32_165_r0 : BitVec 32 := 2#32
  let true_24_r0 : BitVec 1 := 1#1
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v180_r0.toNat, 0, 0], ![1, v185_r0.toNat, 128]⟩
def k0_sz6 : Fin 2 → Nat :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ![v185_r0.toNat, 128]
def k0_off19 : (Fin 2 → Nat) × (Fin 2 → Nat) :=
  let c1024_i32_166_r0 : BitVec 32 := 1024#32
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let v182_r0 : BitVec 32 := Scalar.muli c1024_i32_166_r0 v181_r0
  let c0_i32_171_r0 : BitVec 32 := 0#32
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v182_r0.toNat, 0], ![v185_r0.toNat, 128]⟩
def k0_cond6 : BitVec 1 :=
  let true_109_r0 : BitVec 1 := 1#1
  let c2_i32_108_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v122_r0 : BitVec 32 := Scalar.muli c2_i32_108_r0 v33_r0
  let c2_i32_83_r0 : BitVec 32 := 2#32
  let c0_i32_22_r0 : BitVec 32 := 0#32
  let v28_r0 : BitVec 32 := Scalar.addi v27_r0 c0_i32_22_r0
  let v88_r0 : BitVec 32 := Scalar.muli c2_i32_83_r0 v28_r0
  let v123_r0 : BitVec 1 := Scalar.cmpi .ne v122_r0 v88_r0
  let v124_r0 : BitVec 1 := Scalar.andi true_109_r0 v123_r0
  let true_110_r0 : BitVec 1 := 1#1
  let v125_r0 : BitVec 1 := Scalar.andi v124_r0 true_110_r0
  let v126_r0 : BitVec 32 := Scalar.extui v125_r0
  let c0_i32_111_r0 : BitVec 32 := 0#32
  let v127_r0 : BitVec 1 := Scalar.cmpi .ne v126_r0 c0_i32_111_r0
  v127_r0

def k0_mult10 : BitVec 32 :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  v184_r0
def k0_off20 : Fin 1 → Nat :=
  let true_85_r0 : BitVec 1 := 1#1
  let c2_i32_83_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v88_r0 : BitVec 32 := Scalar.muli c2_i32_83_r0 v28_r0
  let c0_i32_84_r0 : BitVec 32 := 0#32
  let v89_r0 : BitVec 1 := Scalar.cmpi .ne v88_r0 c0_i32_84_r0
  let v90_r0 : BitVec 1 := Scalar.andi true_85_r0 v89_r0
  let c0_i32_54_r0 : BitVec 32 := 0#32
  let c1_i32_55_r0 : BitVec 32 := 1#32
  let v61_r0 : BitVec 32 := Scalar.addi c0_i32_54_r0 c1_i32_55_r0
  let c1_i32_88_r0 : BitVec 32 := 1#32
  let v94_r0 : BitVec 32 := Scalar.addi v61_r0 c1_i32_88_r0
  let v95_r0 : BitVec 32 := Scalar.select v90_r0 v94_r0 v61_r0
  let c4_i32_164_r0 : BitVec 32 := 4#32
  let v180_r0 : BitVec 32 := Scalar.remui v95_r0 c4_i32_164_r0
  ![v180_r0.toNat]
def k0_off21 : (Fin 3 → Nat) × (Fin 3 → Nat) :=
  let true_85_r0 : BitVec 1 := 1#1
  let c2_i32_83_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v88_r0 : BitVec 32 := Scalar.muli c2_i32_83_r0 v28_r0
  let c0_i32_84_r0 : BitVec 32 := 0#32
  let v89_r0 : BitVec 1 := Scalar.cmpi .ne v88_r0 c0_i32_84_r0
  let v90_r0 : BitVec 1 := Scalar.andi true_85_r0 v89_r0
  let c0_i32_54_r0 : BitVec 32 := 0#32
  let c1_i32_55_r0 : BitVec 32 := 1#32
  let v61_r0 : BitVec 32 := Scalar.addi c0_i32_54_r0 c1_i32_55_r0
  let c1_i32_88_r0 : BitVec 32 := 1#32
  let v94_r0 : BitVec 32 := Scalar.addi v61_r0 c1_i32_88_r0
  let v95_r0 : BitVec 32 := Scalar.select v90_r0 v94_r0 v61_r0
  let c4_i32_164_r0 : BitVec 32 := 4#32
  let v180_r0 : BitVec 32 := Scalar.remui v95_r0 c4_i32_164_r0
  let c0_i32_169_r0 : BitVec 32 := 0#32
  let c0_i32_170_r0 : BitVec 32 := 0#32
  let c2_i32_165_r0 : BitVec 32 := 2#32
  let true_24_r0 : BitVec 1 := 1#1
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v180_r0.toNat, 0, 0], ![1, v185_r0.toNat, 128]⟩
def k0_sz7 : Fin 2 → Nat :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ![v185_r0.toNat, 128]
def k0_off22 : (Fin 2 → Nat) × (Fin 2 → Nat) :=
  let c1024_i32_166_r0 : BitVec 32 := 1024#32
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let v182_r0 : BitVec 32 := Scalar.muli c1024_i32_166_r0 v181_r0
  let c0_i32_171_r0 : BitVec 32 := 0#32
  let c97_i32_r0 : BitVec 32 := 97#32
  let v183_r0 : BitVec 1 := Scalar.cmpi .eq v181_r0 c97_i32_r0
  let c672_i32_167_r0 : BitVec 32 := 672#32
  let c1024_i32_168_r0 : BitVec 32 := 1024#32
  let v184_r0 : BitVec 32 := Scalar.select v183_r0 c672_i32_167_r0 c1024_i32_168_r0
  let v185_r0 : BitVec 32 := v184_r0
  ⟨![v182_r0.toNat, 0], ![v185_r0.toNat, 128]⟩
def k0_cond7 : BitVec 1 :=
  let true_115_r0 : BitVec 1 := 1#1
  let c2_i32_113_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v130_r0 : BitVec 32 := Scalar.muli c2_i32_113_r0 v33_r0
  let c1_i32_114_r0 : BitVec 32 := 1#32
  let v131_r0 : BitVec 32 := Scalar.addi v130_r0 c1_i32_114_r0
  let c2_i32_89_r0 : BitVec 32 := 2#32
  let c0_i32_22_r0 : BitVec 32 := 0#32
  let v28_r0 : BitVec 32 := Scalar.addi v27_r0 c0_i32_22_r0
  let v96_r0 : BitVec 32 := Scalar.muli c2_i32_89_r0 v28_r0
  let c1_i32_90_r0 : BitVec 32 := 1#32
  let v97_r0 : BitVec 32 := Scalar.addi v96_r0 c1_i32_90_r0
  let v132_r0 : BitVec 1 := Scalar.cmpi .ne v131_r0 v97_r0
  let v133_r0 : BitVec 1 := Scalar.andi true_115_r0 v132_r0
  let true_116_r0 : BitVec 1 := 1#1
  let v134_r0 : BitVec 1 := Scalar.andi v133_r0 true_116_r0
  let v135_r0 : BitVec 32 := Scalar.extui v134_r0
  let c0_i32_117_r0 : BitVec 32 := 0#32
  let v136_r0 : BitVec 1 := Scalar.cmpi .ne v135_r0 c0_i32_117_r0
  v136_r0

def k0_mult11 : BitVec 32 :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  v185_r0
def k0_off23 : Fin 1 → Nat :=
  let true_92_r0 : BitVec 1 := 1#1
  let c2_i32_89_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v96_r0 : BitVec 32 := Scalar.muli c2_i32_89_r0 v28_r0
  let c1_i32_90_r0 : BitVec 32 := 1#32
  let v97_r0 : BitVec 32 := Scalar.addi v96_r0 c1_i32_90_r0
  let c1_i32_91_r0 : BitVec 32 := 1#32
  let v98_r0 : BitVec 1 := Scalar.cmpi .ne v97_r0 c1_i32_91_r0
  let v99_r0 : BitVec 1 := Scalar.andi true_92_r0 v98_r0
  let c0_i32_65_r0 : BitVec 32 := 0#32
  let c1_i32_66_r0 : BitVec 32 := 1#32
  let v70_r0 : BitVec 32 := Scalar.addi c0_i32_65_r0 c1_i32_66_r0
  let c1_i32_95_r0 : BitVec 32 := 1#32
  let v103_r0 : BitVec 32 := Scalar.addi v70_r0 c1_i32_95_r0
  let v104_r0 : BitVec 32 := Scalar.select v99_r0 v103_r0 v70_r0
  let c4_i32_164_r0 : BitVec 32 := 4#32
  let v180_r0 : BitVec 32 := Scalar.remui v104_r0 c4_i32_164_r0
  ![v180_r0.toNat]
def k0_off24 : (Fin 3 → Nat) × (Fin 3 → Nat) :=
  let true_92_r0 : BitVec 1 := 1#1
  let c2_i32_89_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v96_r0 : BitVec 32 := Scalar.muli c2_i32_89_r0 v28_r0
  let c1_i32_90_r0 : BitVec 32 := 1#32
  let v97_r0 : BitVec 32 := Scalar.addi v96_r0 c1_i32_90_r0
  let c1_i32_91_r0 : BitVec 32 := 1#32
  let v98_r0 : BitVec 1 := Scalar.cmpi .ne v97_r0 c1_i32_91_r0
  let v99_r0 : BitVec 1 := Scalar.andi true_92_r0 v98_r0
  let c0_i32_65_r0 : BitVec 32 := 0#32
  let c1_i32_66_r0 : BitVec 32 := 1#32
  let v70_r0 : BitVec 32 := Scalar.addi c0_i32_65_r0 c1_i32_66_r0
  let c1_i32_95_r0 : BitVec 32 := 1#32
  let v103_r0 : BitVec 32 := Scalar.addi v70_r0 c1_i32_95_r0
  let v104_r0 : BitVec 32 := Scalar.select v99_r0 v103_r0 v70_r0
  let c4_i32_164_r0 : BitVec 32 := 4#32
  let v180_r0 : BitVec 32 := Scalar.remui v104_r0 c4_i32_164_r0
  let c0_i32_170_r0 : BitVec 32 := 0#32
  let c0_i32_171_r0 : BitVec 32 := 0#32
  let c2_i32_165_r0 : BitVec 32 := 2#32
  let true_24_r0 : BitVec 1 := 1#1
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v180_r0.toNat, 0, 0], ![1, v186_r0.toNat, 128]⟩
def k0_sz8 : Fin 2 → Nat :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ![v186_r0.toNat, 128]
def k0_off25 : (Fin 2 → Nat) × (Fin 2 → Nat) :=
  let c1024_i32_167_r0 : BitVec 32 := 1024#32
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let v183_r0 : BitVec 32 := Scalar.muli c1024_i32_167_r0 v182_r0
  let c0_i32_172_r0 : BitVec 32 := 0#32
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v183_r0.toNat, 0], ![v186_r0.toNat, 128]⟩
def k0_cond8 : BitVec 1 :=
  let true_121_r0 : BitVec 1 := 1#1
  let c2_i32_119_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v139_r0 : BitVec 32 := Scalar.muli c2_i32_119_r0 v33_r0
  let c1_i32_120_r0 : BitVec 32 := 1#32
  let v140_r0 : BitVec 32 := Scalar.addi v139_r0 c1_i32_120_r0
  let c2_i32_96_r0 : BitVec 32 := 2#32
  let c0_i32_22_r0 : BitVec 32 := 0#32
  let v28_r0 : BitVec 32 := Scalar.addi v27_r0 c0_i32_22_r0
  let v105_r0 : BitVec 32 := Scalar.muli c2_i32_96_r0 v28_r0
  let c1_i32_97_r0 : BitVec 32 := 1#32
  let v106_r0 : BitVec 32 := Scalar.addi v105_r0 c1_i32_97_r0
  let v141_r0 : BitVec 1 := Scalar.cmpi .ne v140_r0 v106_r0
  let v142_r0 : BitVec 1 := Scalar.andi true_121_r0 v141_r0
  let true_122_r0 : BitVec 1 := 1#1
  let v143_r0 : BitVec 1 := Scalar.andi v142_r0 true_122_r0
  let v144_r0 : BitVec 32 := Scalar.extui v143_r0
  let c0_i32_123_r0 : BitVec 32 := 0#32
  let v145_r0 : BitVec 1 := Scalar.cmpi .ne v144_r0 c0_i32_123_r0
  v145_r0

def k0_mult12 : BitVec 32 :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  v185_r0
def k0_off26 : Fin 1 → Nat :=
  let true_99_r0 : BitVec 1 := 1#1
  let c2_i32_96_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v105_r0 : BitVec 32 := Scalar.muli c2_i32_96_r0 v28_r0
  let c1_i32_97_r0 : BitVec 32 := 1#32
  let v106_r0 : BitVec 32 := Scalar.addi v105_r0 c1_i32_97_r0
  let c1_i32_98_r0 : BitVec 32 := 1#32
  let v107_r0 : BitVec 1 := Scalar.cmpi .ne v106_r0 c1_i32_98_r0
  let v108_r0 : BitVec 1 := Scalar.andi true_99_r0 v107_r0
  let c0_i32_76_r0 : BitVec 32 := 0#32
  let c1_i32_77_r0 : BitVec 32 := 1#32
  let v79_r0 : BitVec 32 := Scalar.addi c0_i32_76_r0 c1_i32_77_r0
  let c1_i32_102_r0 : BitVec 32 := 1#32
  let v112_r0 : BitVec 32 := Scalar.addi v79_r0 c1_i32_102_r0
  let v113_r0 : BitVec 32 := Scalar.select v108_r0 v112_r0 v79_r0
  let c4_i32_164_r0 : BitVec 32 := 4#32
  let v180_r0 : BitVec 32 := Scalar.remui v113_r0 c4_i32_164_r0
  ![v180_r0.toNat]
def k0_off27 : (Fin 3 → Nat) × (Fin 3 → Nat) :=
  let true_99_r0 : BitVec 1 := 1#1
  let c2_i32_96_r0 : BitVec 32 := 2#32
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c0_i32_22_r0 : BitVec 32 := 0#32
  let v28_r0 : BitVec 32 := Scalar.addi v27_r0 c0_i32_22_r0
  let v105_r0 : BitVec 32 := Scalar.muli c2_i32_96_r0 v28_r0
  let c1_i32_97_r0 : BitVec 32 := 1#32
  let v106_r0 : BitVec 32 := Scalar.addi v105_r0 c1_i32_97_r0
  let c1_i32_98_r0 : BitVec 32 := 1#32
  let v107_r0 : BitVec 1 := Scalar.cmpi .ne v106_r0 c1_i32_98_r0
  let v108_r0 : BitVec 1 := Scalar.andi true_99_r0 v107_r0
  let c0_i32_76_r0 : BitVec 32 := 0#32
  let c1_i32_77_r0 : BitVec 32 := 1#32
  let v79_r0 : BitVec 32 := Scalar.addi c0_i32_76_r0 c1_i32_77_r0
  let c1_i32_102_r0 : BitVec 32 := 1#32
  let v112_r0 : BitVec 32 := Scalar.addi v79_r0 c1_i32_102_r0
  let v113_r0 : BitVec 32 := Scalar.select v108_r0 v112_r0 v79_r0
  let c4_i32_164_r0 : BitVec 32 := 4#32
  let v180_r0 : BitVec 32 := Scalar.remui v113_r0 c4_i32_164_r0
  let c0_i32_170_r0 : BitVec 32 := 0#32
  let c0_i32_171_r0 : BitVec 32 := 0#32
  let c2_i32_165_r0 : BitVec 32 := 2#32
  let true_24_r0 : BitVec 1 := 1#1
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v180_r0.toNat, 0, 0], ![1, v186_r0.toNat, 128]⟩
def k0_sz9 : Fin 2 → Nat :=
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ![v186_r0.toNat, 128]
def k0_off28 : (Fin 2 → Nat) × (Fin 2 → Nat) :=
  let c1024_i32_167_r0 : BitVec 32 := 1024#32
  let c2_i32_165_r0 : BitVec 32 := 2#32
  let true_24_r0 : BitVec 1 := 1#1
  let true_19_r0 : BitVec 1 := 1#1
  let c1_i32_r0 : BitVec 32 := 1#32
  let c0_i32_20_r0 : BitVec 32 := 0#32
  let v25_r0 : BitVec 32 := Scalar.select true_19_r0 c1_i32_r0 c0_i32_20_r0
  let c49_i32_r0 : BitVec 32 := 49#32
  let v26_r0 : BitVec 1 := Scalar.cmpi .eq v25_r0 c49_i32_r0
  let c0_i32_21_r0 : BitVec 32 := 0#32
  let v27_r0 : BitVec 32 := Scalar.select v26_r0 c0_i32_21_r0 v25_r0
  let c1_i32_23_r0 : BitVec 32 := 1#32
  let v29_r0 : BitVec 32 := Scalar.addi v27_r0 c1_i32_23_r0
  let v30_r0 : BitVec 32 := Scalar.select true_24_r0 v29_r0 v27_r0
  let c49_i32_25_r0 : BitVec 32 := 49#32
  let v31_r0 : BitVec 1 := Scalar.cmpi .eq v30_r0 c49_i32_25_r0
  let c0_i32_26_r0 : BitVec 32 := 0#32
  let v32_r0 : BitVec 32 := Scalar.select v31_r0 c0_i32_26_r0 v30_r0
  let c0_i32_27_r0 : BitVec 32 := 0#32
  let v33_r0 : BitVec 32 := Scalar.addi v32_r0 c0_i32_27_r0
  let v181_r0 : BitVec 32 := Scalar.muli c2_i32_165_r0 v33_r0
  let c1_i32_166_r0 : BitVec 32 := 1#32
  let v182_r0 : BitVec 32 := Scalar.addi v181_r0 c1_i32_166_r0
  let v183_r0 : BitVec 32 := Scalar.muli c1024_i32_167_r0 v182_r0
  let c0_i32_172_r0 : BitVec 32 := 0#32
  let c97_i32_r0 : BitVec 32 := 97#32
  let v184_r0 : BitVec 1 := Scalar.cmpi .eq v182_r0 c97_i32_r0
  let c672_i32_168_r0 : BitVec 32 := 672#32
  let c1024_i32_169_r0 : BitVec 32 := 1024#32
  let v185_r0 : BitVec 32 := Scalar.select v184_r0 c672_i32_168_r0 c1024_i32_169_r0
  let v186_r0 : BitVec 32 := v185_r0
  ⟨![v183_r0.toNat, 0], ![v186_r0.toNat, 128]⟩
@[reducible] def k0_t1_loop : Scf.Loop 32 :=
  let c0_i32_130_r0 : BitVec 32 := 0#32
  let c49_i32_131_r0 : BitVec 32 := 49#32
  let v148_r0 : BitVec 32 := Scalar.addi c0_i32_130_r0 c49_i32_131_r0
  let c1_i32_132_r0 : BitVec 32 := 1#32
  ⟨c0_i32_130_r0, v148_r0, c1_i32_132_r0⟩
def k0_mult13 (arg18_r0 : BitVec 32) : BitVec 32 :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  v450_r0
def k0_cond9 (k0_t1 : Fin k0_t1_loop.trips) (arg18_r0 : BitVec 32) : BitVec 1 :=
  let c2_i32_192_r0 : BitVec 32 := 2#32
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c0_i32_181_r0 : BitVec 32 := 0#32
  let v197_r0 : BitVec 32 := Scalar.addi v196_r0 c0_i32_181_r0
  let v208_r0 : BitVec 32 := Scalar.muli c2_i32_192_r0 v197_r0
  let c2_i32_193_r0 : BitVec 32 := 2#32
  let true_183_r0 : BitVec 1 := 1#1
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v209_r0 : BitVec 32 := Scalar.muli c2_i32_193_r0 v202_r0
  let v210_r0 : BitVec 1 := Scalar.cmpi .ne v208_r0 v209_r0
  let c0_i32_130_r0 : BitVec 32 := 0#32
  let c1_i32_132_r0 : BitVec 32 := 1#32
  let arg9_r0 : BitVec 32 := Scf.iv c0_i32_130_r0 c1_i32_132_r0 k0_t1
  let c46_i32_r0 : BitVec 32 := 46#32
  let v211_r0 : BitVec 1 := Scalar.cmpi .sge arg9_r0 c46_i32_r0
  let true_194_r0 : BitVec 1 := 1#1
  let v212_r0 : BitVec 1 := Scalar.xori v211_r0 true_194_r0
  let v213_r0 : BitVec 1 := Scalar.andi v210_r0 v212_r0
  let true_195_r0 : BitVec 1 := 1#1
  let v214_r0 : BitVec 1 := Scalar.andi v213_r0 true_195_r0
  let v215_r0 : BitVec 32 := Scalar.extui v214_r0
  let c0_i32_196_r0 : BitVec 32 := 0#32
  let v216_r0 : BitVec 1 := Scalar.cmpi .ne v215_r0 c0_i32_196_r0
  v216_r0

def k0_off29 (arg10_r0 : BitVec 32) : Fin 1 → Nat :=
  let c4_i32_321_r0 : BitVec 32 := 4#32
  let v446_r0 : BitVec 32 := Scalar.remui arg10_r0 c4_i32_321_r0
  ![v446_r0.toNat]
def k0_off30 (arg10_r0 : BitVec 32) (arg18_r0 : BitVec 32) : (Fin 3 → Nat) × (Fin 3 → Nat) :=
  let c4_i32_321_r0 : BitVec 32 := 4#32
  let v446_r0 : BitVec 32 := Scalar.remui arg10_r0 c4_i32_321_r0
  let c0_i32_326_r0 : BitVec 32 := 0#32
  let c0_i32_327_r0 : BitVec 32 := 0#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v446_r0.toNat, 0, 0], ![1, v451_r0.toNat, 128]⟩
def k0_sz10 (arg18_r0 : BitVec 32) : Fin 2 → Nat :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ![v451_r0.toNat, 128]
def k0_off31 (arg18_r0 : BitVec 32) : (Fin 2 → Nat) × (Fin 2 → Nat) :=
  let c1024_i32_323_r0 : BitVec 32 := 1024#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let v448_r0 : BitVec 32 := Scalar.muli c1024_i32_323_r0 v447_r0
  let c0_i32_328_r0 : BitVec 32 := 0#32
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v448_r0.toNat, 0], ![v451_r0.toNat, 128]⟩
def k0_mult14 (arg18_r0 : BitVec 32) : BitVec 32 :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  v450_r0
def k0_cond10 (k0_t1 : Fin k0_t1_loop.trips) (arg18_r0 : BitVec 32) : BitVec 1 :=
  let c2_i32_199_r0 : BitVec 32 := 2#32
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c0_i32_181_r0 : BitVec 32 := 0#32
  let v197_r0 : BitVec 32 := Scalar.addi v196_r0 c0_i32_181_r0
  let v220_r0 : BitVec 32 := Scalar.muli c2_i32_199_r0 v197_r0
  let c2_i32_200_r0 : BitVec 32 := 2#32
  let true_183_r0 : BitVec 1 := 1#1
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v221_r0 : BitVec 32 := Scalar.muli c2_i32_200_r0 v202_r0
  let v222_r0 : BitVec 1 := Scalar.cmpi .ne v220_r0 v221_r0
  let c0_i32_130_r0 : BitVec 32 := 0#32
  let c1_i32_132_r0 : BitVec 32 := 1#32
  let arg9_r0 : BitVec 32 := Scf.iv c0_i32_130_r0 c1_i32_132_r0 k0_t1
  let c46_i32_201_r0 : BitVec 32 := 46#32
  let v223_r0 : BitVec 1 := Scalar.cmpi .sge arg9_r0 c46_i32_201_r0
  let true_202_r0 : BitVec 1 := 1#1
  let v224_r0 : BitVec 1 := Scalar.xori v223_r0 true_202_r0
  let v225_r0 : BitVec 1 := Scalar.andi v222_r0 v224_r0
  let true_203_r0 : BitVec 1 := 1#1
  let v226_r0 : BitVec 1 := Scalar.andi v225_r0 true_203_r0
  let v227_r0 : BitVec 32 := Scalar.extui v226_r0
  let c0_i32_204_r0 : BitVec 32 := 0#32
  let v228_r0 : BitVec 1 := Scalar.cmpi .ne v227_r0 c0_i32_204_r0
  v228_r0

def k0_off32 (arg12_r0 : BitVec 32) : Fin 1 → Nat :=
  let c4_i32_321_r0 : BitVec 32 := 4#32
  let v446_r0 : BitVec 32 := Scalar.remui arg12_r0 c4_i32_321_r0
  ![v446_r0.toNat]
def k0_off33 (arg12_r0 : BitVec 32) (arg18_r0 : BitVec 32) : (Fin 3 → Nat) × (Fin 3 → Nat) :=
  let c4_i32_321_r0 : BitVec 32 := 4#32
  let v446_r0 : BitVec 32 := Scalar.remui arg12_r0 c4_i32_321_r0
  let c0_i32_326_r0 : BitVec 32 := 0#32
  let c0_i32_327_r0 : BitVec 32 := 0#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v446_r0.toNat, 0, 0], ![1, v451_r0.toNat, 128]⟩
def k0_sz11 (arg18_r0 : BitVec 32) : Fin 2 → Nat :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ![v451_r0.toNat, 128]
def k0_off34 (arg18_r0 : BitVec 32) : (Fin 2 → Nat) × (Fin 2 → Nat) :=
  let c1024_i32_323_r0 : BitVec 32 := 1024#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let v448_r0 : BitVec 32 := Scalar.muli c1024_i32_323_r0 v447_r0
  let c0_i32_328_r0 : BitVec 32 := 0#32
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v448_r0.toNat, 0], ![v451_r0.toNat, 128]⟩
def k0_mult15 (arg18_r0 : BitVec 32) : BitVec 32 :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  v451_r0
def k0_cond11 (k0_t1 : Fin k0_t1_loop.trips) (arg18_r0 : BitVec 32) : BitVec 1 :=
  let c2_i32_207_r0 : BitVec 32 := 2#32
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c0_i32_181_r0 : BitVec 32 := 0#32
  let v197_r0 : BitVec 32 := Scalar.addi v196_r0 c0_i32_181_r0
  let v232_r0 : BitVec 32 := Scalar.muli c2_i32_207_r0 v197_r0
  let c1_i32_208_r0 : BitVec 32 := 1#32
  let v233_r0 : BitVec 32 := Scalar.addi v232_r0 c1_i32_208_r0
  let c2_i32_209_r0 : BitVec 32 := 2#32
  let true_183_r0 : BitVec 1 := 1#1
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v234_r0 : BitVec 32 := Scalar.muli c2_i32_209_r0 v202_r0
  let c1_i32_210_r0 : BitVec 32 := 1#32
  let v235_r0 : BitVec 32 := Scalar.addi v234_r0 c1_i32_210_r0
  let v236_r0 : BitVec 1 := Scalar.cmpi .ne v233_r0 v235_r0
  let c0_i32_130_r0 : BitVec 32 := 0#32
  let c1_i32_132_r0 : BitVec 32 := 1#32
  let arg9_r0 : BitVec 32 := Scf.iv c0_i32_130_r0 c1_i32_132_r0 k0_t1
  let c46_i32_211_r0 : BitVec 32 := 46#32
  let v237_r0 : BitVec 1 := Scalar.cmpi .sge arg9_r0 c46_i32_211_r0
  let true_212_r0 : BitVec 1 := 1#1
  let v238_r0 : BitVec 1 := Scalar.xori v237_r0 true_212_r0
  let v239_r0 : BitVec 1 := Scalar.andi v236_r0 v238_r0
  let true_213_r0 : BitVec 1 := 1#1
  let v240_r0 : BitVec 1 := Scalar.andi v239_r0 true_213_r0
  let v241_r0 : BitVec 32 := Scalar.extui v240_r0
  let c0_i32_214_r0 : BitVec 32 := 0#32
  let v242_r0 : BitVec 1 := Scalar.cmpi .ne v241_r0 c0_i32_214_r0
  v242_r0

def k0_off35 (arg14_r0 : BitVec 32) : Fin 1 → Nat :=
  let c4_i32_321_r0 : BitVec 32 := 4#32
  let v446_r0 : BitVec 32 := Scalar.remui arg14_r0 c4_i32_321_r0
  ![v446_r0.toNat]
def k0_off36 (arg14_r0 : BitVec 32) (arg18_r0 : BitVec 32) : (Fin 3 → Nat) × (Fin 3 → Nat) :=
  let c4_i32_321_r0 : BitVec 32 := 4#32
  let v446_r0 : BitVec 32 := Scalar.remui arg14_r0 c4_i32_321_r0
  let c0_i32_327_r0 : BitVec 32 := 0#32
  let c0_i32_328_r0 : BitVec 32 := 0#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ⟨![v446_r0.toNat, 0, 0], ![1, v452_r0.toNat, 128]⟩
def k0_sz12 (arg18_r0 : BitVec 32) : Fin 2 → Nat :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ![v452_r0.toNat, 128]
def k0_off37 (arg18_r0 : BitVec 32) : (Fin 2 → Nat) × (Fin 2 → Nat) :=
  let c1024_i32_324_r0 : BitVec 32 := 1024#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let v449_r0 : BitVec 32 := Scalar.muli c1024_i32_324_r0 v448_r0
  let c0_i32_329_r0 : BitVec 32 := 0#32
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ⟨![v449_r0.toNat, 0], ![v452_r0.toNat, 128]⟩
def k0_mult16 (arg18_r0 : BitVec 32) : BitVec 32 :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  v451_r0
def k0_cond12 (k0_t1 : Fin k0_t1_loop.trips) (arg18_r0 : BitVec 32) : BitVec 1 :=
  let c2_i32_217_r0 : BitVec 32 := 2#32
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c0_i32_181_r0 : BitVec 32 := 0#32
  let v197_r0 : BitVec 32 := Scalar.addi v196_r0 c0_i32_181_r0
  let v246_r0 : BitVec 32 := Scalar.muli c2_i32_217_r0 v197_r0
  let c1_i32_218_r0 : BitVec 32 := 1#32
  let v247_r0 : BitVec 32 := Scalar.addi v246_r0 c1_i32_218_r0
  let c2_i32_219_r0 : BitVec 32 := 2#32
  let true_183_r0 : BitVec 1 := 1#1
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v248_r0 : BitVec 32 := Scalar.muli c2_i32_219_r0 v202_r0
  let c1_i32_220_r0 : BitVec 32 := 1#32
  let v249_r0 : BitVec 32 := Scalar.addi v248_r0 c1_i32_220_r0
  let v250_r0 : BitVec 1 := Scalar.cmpi .ne v247_r0 v249_r0
  let c0_i32_130_r0 : BitVec 32 := 0#32
  let c1_i32_132_r0 : BitVec 32 := 1#32
  let arg9_r0 : BitVec 32 := Scf.iv c0_i32_130_r0 c1_i32_132_r0 k0_t1
  let c46_i32_221_r0 : BitVec 32 := 46#32
  let v251_r0 : BitVec 1 := Scalar.cmpi .sge arg9_r0 c46_i32_221_r0
  let true_222_r0 : BitVec 1 := 1#1
  let v252_r0 : BitVec 1 := Scalar.xori v251_r0 true_222_r0
  let v253_r0 : BitVec 1 := Scalar.andi v250_r0 v252_r0
  let true_223_r0 : BitVec 1 := 1#1
  let v254_r0 : BitVec 1 := Scalar.andi v253_r0 true_223_r0
  let v255_r0 : BitVec 32 := Scalar.extui v254_r0
  let c0_i32_224_r0 : BitVec 32 := 0#32
  let v256_r0 : BitVec 1 := Scalar.cmpi .ne v255_r0 c0_i32_224_r0
  v256_r0

def k0_off38 (arg16_r0 : BitVec 32) : Fin 1 → Nat :=
  let c4_i32_321_r0 : BitVec 32 := 4#32
  let v446_r0 : BitVec 32 := Scalar.remui arg16_r0 c4_i32_321_r0
  ![v446_r0.toNat]
def k0_off39 (arg16_r0 : BitVec 32) (arg18_r0 : BitVec 32) : (Fin 3 → Nat) × (Fin 3 → Nat) :=
  let c4_i32_321_r0 : BitVec 32 := 4#32
  let v446_r0 : BitVec 32 := Scalar.remui arg16_r0 c4_i32_321_r0
  let c0_i32_327_r0 : BitVec 32 := 0#32
  let c0_i32_328_r0 : BitVec 32 := 0#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ⟨![v446_r0.toNat, 0, 0], ![1, v452_r0.toNat, 128]⟩
def k0_sz13 (arg18_r0 : BitVec 32) : Fin 2 → Nat :=
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ![v452_r0.toNat, 128]
def k0_off40 (arg18_r0 : BitVec 32) : (Fin 2 → Nat) × (Fin 2 → Nat) :=
  let c1024_i32_324_r0 : BitVec 32 := 1024#32
  let c2_i32_322_r0 : BitVec 32 := 2#32
  let true_183_r0 : BitVec 1 := 1#1
  let true_178_r0 : BitVec 1 := 1#1
  let true_173_r0 : BitVec 1 := 1#1
  let c1_i32_172_r0 : BitVec 32 := 1#32
  let v188_r0 : BitVec 32 := Scalar.addi arg18_r0 c1_i32_172_r0
  let v189_r0 : BitVec 32 := Scalar.select true_173_r0 v188_r0 arg18_r0
  let c49_i32_174_r0 : BitVec 32 := 49#32
  let v190_r0 : BitVec 1 := Scalar.cmpi .eq v189_r0 c49_i32_174_r0
  let c0_i32_175_r0 : BitVec 32 := 0#32
  let v191_r0 : BitVec 32 := Scalar.select v190_r0 c0_i32_175_r0 v189_r0
  let c1_i32_177_r0 : BitVec 32 := 1#32
  let v193_r0 : BitVec 32 := Scalar.addi v191_r0 c1_i32_177_r0
  let v194_r0 : BitVec 32 := Scalar.select true_178_r0 v193_r0 v191_r0
  let c49_i32_179_r0 : BitVec 32 := 49#32
  let v195_r0 : BitVec 1 := Scalar.cmpi .eq v194_r0 c49_i32_179_r0
  let c0_i32_180_r0 : BitVec 32 := 0#32
  let v196_r0 : BitVec 32 := Scalar.select v195_r0 c0_i32_180_r0 v194_r0
  let c1_i32_182_r0 : BitVec 32 := 1#32
  let v198_r0 : BitVec 32 := Scalar.addi v196_r0 c1_i32_182_r0
  let v199_r0 : BitVec 32 := Scalar.select true_183_r0 v198_r0 v196_r0
  let c49_i32_184_r0 : BitVec 32 := 49#32
  let v200_r0 : BitVec 1 := Scalar.cmpi .eq v199_r0 c49_i32_184_r0
  let c0_i32_185_r0 : BitVec 32 := 0#32
  let v201_r0 : BitVec 32 := Scalar.select v200_r0 c0_i32_185_r0 v199_r0
  let c0_i32_186_r0 : BitVec 32 := 0#32
  let v202_r0 : BitVec 32 := Scalar.addi v201_r0 c0_i32_186_r0
  let v447_r0 : BitVec 32 := Scalar.muli c2_i32_322_r0 v202_r0
  let c1_i32_323_r0 : BitVec 32 := 1#32
  let v448_r0 : BitVec 32 := Scalar.addi v447_r0 c1_i32_323_r0
  let v449_r0 : BitVec 32 := Scalar.muli c1024_i32_324_r0 v448_r0
  let c0_i32_329_r0 : BitVec 32 := 0#32
  let c97_i32_r0 : BitVec 32 := 97#32
  let v450_r0 : BitVec 1 := Scalar.cmpi .eq v448_r0 c97_i32_r0
  let c672_i32_325_r0 : BitVec 32 := 672#32
  let c1024_i32_326_r0 : BitVec 32 := 1024#32
  let v451_r0 : BitVec 32 := Scalar.select v450_r0 c672_i32_325_r0 c1024_i32_326_r0
  let v452_r0 : BitVec 32 := v451_r0
  ⟨![v449_r0.toNat, 0], ![v452_r0.toNat, 128]⟩
def k0_mult17 (arg18_r0 : BitVec 32) : BitVec 32 :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  v449_r0
def k0_cond13 (k0_t1 : Fin k0_t1_loop.trips) (arg18_r0 : BitVec 32) : BitVec 1 :=
  let c2_i32_227_r0 : BitVec 32 := 2#32
  let c0_i32_166_r0 : BitVec 32 := 0#32
  let v182_r0 : BitVec 32 := Scalar.addi arg18_r0 c0_i32_166_r0
  let v260_r0 : BitVec 32 := Scalar.muli c2_i32_227_r0 v182_r0
  let c2_i32_228_r0 : BitVec 32 := 2#32
  let true_168_r0 : BitVec 1 := 1#1
  let c1_i32_167_r0 : BitVec 32 := 1#32
  let v183_r0 : BitVec 32 := Scalar.subi arg18_r0 c1_i32_167_r0
  let v184_r0 : BitVec 32 := Scalar.select true_168_r0 v183_r0 arg18_r0
  let c_m1_i32_169_r0 : BitVec 32 := 4294967295#32
  let v185_r0 : BitVec 1 := Scalar.cmpi .eq v184_r0 c_m1_i32_169_r0
  let c48_i32_170_r0 : BitVec 32 := 48#32
  let v186_r0 : BitVec 32 := Scalar.select v185_r0 c48_i32_170_r0 v184_r0
  let c0_i32_171_r0 : BitVec 32 := 0#32
  let v187_r0 : BitVec 32 := Scalar.addi v186_r0 c0_i32_171_r0
  let v261_r0 : BitVec 32 := Scalar.muli c2_i32_228_r0 v187_r0
  let v262_r0 : BitVec 1 := Scalar.cmpi .ne v260_r0 v261_r0
  let c0_i32_130_r0 : BitVec 32 := 0#32
  let c1_i32_132_r0 : BitVec 32 := 1#32
  let arg9_r0 : BitVec 32 := Scf.iv c0_i32_130_r0 c1_i32_132_r0 k0_t1
  let c0_i32_164_r0 : BitVec 32 := 0#32
  let v180_r0 : BitVec 1 := Scalar.cmpi .eq arg9_r0 c0_i32_164_r0
  let v263_r0 : BitVec 1 := Scalar.ori v262_r0 v180_r0
  let c0_i32_229_r0 : BitVec 32 := 0#32
  let v264_r0 : BitVec 1 := Scalar.cmpi .sge arg9_r0 c0_i32_229_r0
  let v265_r0 : BitVec 1 := Scalar.andi v263_r0 v264_r0
  let v266_r0 : BitVec 32 := Scalar.extui v265_r0
  let c0_i32_230_r0 : BitVec 32 := 0#32
  let v267_r0 : BitVec 1 := Scalar.cmpi .ne v266_r0 c0_i32_230_r0
  v267_r0

def k0_off41 (arg11_r0 : BitVec 32) : Fin 1 → Nat :=
  let c4_i32_325_r0 : BitVec 32 := 4#32
  let v451_r0 : BitVec 32 := Scalar.remui arg11_r0 c4_i32_325_r0
  ![v451_r0.toNat]
def k0_off42 (arg11_r0 : BitVec 32) (arg18_r0 : BitVec 32) : (Fin 3 → Nat) × (Fin 3 → Nat) :=
  let c4_i32_325_r0 : BitVec 32 := 4#32
  let v451_r0 : BitVec 32 := Scalar.remui arg11_r0 c4_i32_325_r0
  let c0_i32_326_r0 : BitVec 32 := 0#32
  let c0_i32_327_r0 : BitVec 32 := 0#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ⟨![v451_r0.toNat, 0, 0], ![1, v450_r0.toNat, 128]⟩

def k0_sz14 (arg18_r0 : BitVec 32) : Fin 2 → Nat :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ![v450_r0.toNat, 128]
def k0_off43 (arg18_r0 : BitVec 32) : (Fin 2 → Nat) × (Fin 2 → Nat) :=
  let c1024_i32_322_r0 : BitVec 32 := 1024#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let v447_r0 : BitVec 32 := Scalar.muli c1024_i32_322_r0 v446_r0
  let c0_i32_328_r0 : BitVec 32 := 0#32
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ⟨![v447_r0.toNat, 0], ![v450_r0.toNat, 128]⟩

def k0_mult18 (arg18_r0 : BitVec 32) : BitVec 32 :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  v449_r0
def k0_cond14 (k0_t1 : Fin k0_t1_loop.trips) (arg18_r0 : BitVec 32) : BitVec 1 :=
  let c2_i32_231_r0 : BitVec 32 := 2#32
  let c0_i32_166_r0 : BitVec 32 := 0#32
  let v182_r0 : BitVec 32 := Scalar.addi arg18_r0 c0_i32_166_r0
  let v268_r0 : BitVec 32 := Scalar.muli c2_i32_231_r0 v182_r0
  let c2_i32_232_r0 : BitVec 32 := 2#32
  let true_168_r0 : BitVec 1 := 1#1
  let c1_i32_167_r0 : BitVec 32 := 1#32
  let v183_r0 : BitVec 32 := Scalar.subi arg18_r0 c1_i32_167_r0
  let v184_r0 : BitVec 32 := Scalar.select true_168_r0 v183_r0 arg18_r0
  let c_m1_i32_169_r0 : BitVec 32 := 4294967295#32
  let v185_r0 : BitVec 1 := Scalar.cmpi .eq v184_r0 c_m1_i32_169_r0
  let c48_i32_170_r0 : BitVec 32 := 48#32
  let v186_r0 : BitVec 32 := Scalar.select v185_r0 c48_i32_170_r0 v184_r0
  let c0_i32_171_r0 : BitVec 32 := 0#32
  let v187_r0 : BitVec 32 := Scalar.addi v186_r0 c0_i32_171_r0
  let v269_r0 : BitVec 32 := Scalar.muli c2_i32_232_r0 v187_r0
  let v270_r0 : BitVec 1 := Scalar.cmpi .ne v268_r0 v269_r0
  let c0_i32_130_r0 : BitVec 32 := 0#32
  let c1_i32_132_r0 : BitVec 32 := 1#32
  let arg9_r0 : BitVec 32 := Scf.iv c0_i32_130_r0 c1_i32_132_r0 k0_t1
  let c0_i32_164_r0 : BitVec 32 := 0#32
  let v180_r0 : BitVec 1 := Scalar.cmpi .eq arg9_r0 c0_i32_164_r0
  let v271_r0 : BitVec 1 := Scalar.ori v270_r0 v180_r0
  let c0_i32_233_r0 : BitVec 32 := 0#32
  let v272_r0 : BitVec 1 := Scalar.cmpi .sge arg9_r0 c0_i32_233_r0
  let v273_r0 : BitVec 1 := Scalar.andi v271_r0 v272_r0
  let v274_r0 : BitVec 32 := Scalar.extui v273_r0
  let c0_i32_234_r0 : BitVec 32 := 0#32
  let v275_r0 : BitVec 1 := Scalar.cmpi .ne v274_r0 c0_i32_234_r0
  v275_r0

def k0_off44 (arg13_r0 : BitVec 32) : Fin 1 → Nat :=
  let c4_i32_325_r0 : BitVec 32 := 4#32
  let v451_r0 : BitVec 32 := Scalar.remui arg13_r0 c4_i32_325_r0
  ![v451_r0.toNat]
def k0_off45 (arg13_r0 : BitVec 32) (arg18_r0 : BitVec 32) : (Fin 3 → Nat) × (Fin 3 → Nat) :=
  let c4_i32_325_r0 : BitVec 32 := 4#32
  let v451_r0 : BitVec 32 := Scalar.remui arg13_r0 c4_i32_325_r0
  let c0_i32_326_r0 : BitVec 32 := 0#32
  let c0_i32_327_r0 : BitVec 32 := 0#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ⟨![v451_r0.toNat, 0, 0], ![1, v450_r0.toNat, 128]⟩

def k0_sz15 (arg18_r0 : BitVec 32) : Fin 2 → Nat :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ![v450_r0.toNat, 128]
def k0_off46 (arg18_r0 : BitVec 32) : (Fin 2 → Nat) × (Fin 2 → Nat) :=
  let c1024_i32_322_r0 : BitVec 32 := 1024#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let v447_r0 : BitVec 32 := Scalar.muli c1024_i32_322_r0 v446_r0
  let c0_i32_328_r0 : BitVec 32 := 0#32
  let c97_i32_r0 : BitVec 32 := 97#32
  let v448_r0 : BitVec 1 := Scalar.cmpi .eq v446_r0 c97_i32_r0
  let c672_i32_323_r0 : BitVec 32 := 672#32
  let c1024_i32_324_r0 : BitVec 32 := 1024#32
  let v449_r0 : BitVec 32 := Scalar.select v448_r0 c672_i32_323_r0 c1024_i32_324_r0
  let v450_r0 : BitVec 32 := v449_r0
  ⟨![v447_r0.toNat, 0], ![v450_r0.toNat, 128]⟩

def k0_mult19 (arg18_r0 : BitVec 32) : BitVec 32 :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  v450_r0
def k0_cond15 (k0_t1 : Fin k0_t1_loop.trips) (arg18_r0 : BitVec 32) : BitVec 1 :=
  let c2_i32_235_r0 : BitVec 32 := 2#32
  let c0_i32_166_r0 : BitVec 32 := 0#32
  let v182_r0 : BitVec 32 := Scalar.addi arg18_r0 c0_i32_166_r0
  let v276_r0 : BitVec 32 := Scalar.muli c2_i32_235_r0 v182_r0
  let c1_i32_236_r0 : BitVec 32 := 1#32
  let v277_r0 : BitVec 32 := Scalar.addi v276_r0 c1_i32_236_r0
  let c2_i32_237_r0 : BitVec 32 := 2#32
  let true_168_r0 : BitVec 1 := 1#1
  let c1_i32_167_r0 : BitVec 32 := 1#32
  let v183_r0 : BitVec 32 := Scalar.subi arg18_r0 c1_i32_167_r0
  let v184_r0 : BitVec 32 := Scalar.select true_168_r0 v183_r0 arg18_r0
  let c_m1_i32_169_r0 : BitVec 32 := 4294967295#32
  let v185_r0 : BitVec 1 := Scalar.cmpi .eq v184_r0 c_m1_i32_169_r0
  let c48_i32_170_r0 : BitVec 32 := 48#32
  let v186_r0 : BitVec 32 := Scalar.select v185_r0 c48_i32_170_r0 v184_r0
  let c0_i32_171_r0 : BitVec 32 := 0#32
  let v187_r0 : BitVec 32 := Scalar.addi v186_r0 c0_i32_171_r0
  let v278_r0 : BitVec 32 := Scalar.muli c2_i32_237_r0 v187_r0
  let c1_i32_238_r0 : BitVec 32 := 1#32
  let v279_r0 : BitVec 32 := Scalar.addi v278_r0 c1_i32_238_r0
  let v280_r0 : BitVec 1 := Scalar.cmpi .ne v277_r0 v279_r0
  let c0_i32_130_r0 : BitVec 32 := 0#32
  let c1_i32_132_r0 : BitVec 32 := 1#32
  let arg9_r0 : BitVec 32 := Scf.iv c0_i32_130_r0 c1_i32_132_r0 k0_t1
  let c0_i32_164_r0 : BitVec 32 := 0#32
  let v180_r0 : BitVec 1 := Scalar.cmpi .eq arg9_r0 c0_i32_164_r0
  let v281_r0 : BitVec 1 := Scalar.ori v280_r0 v180_r0
  let c0_i32_239_r0 : BitVec 32 := 0#32
  let v282_r0 : BitVec 1 := Scalar.cmpi .sge arg9_r0 c0_i32_239_r0
  let v283_r0 : BitVec 1 := Scalar.andi v281_r0 v282_r0
  let v284_r0 : BitVec 32 := Scalar.extui v283_r0
  let c0_i32_240_r0 : BitVec 32 := 0#32
  let v285_r0 : BitVec 1 := Scalar.cmpi .ne v284_r0 c0_i32_240_r0
  v285_r0

def k0_off47 (arg15_r0 : BitVec 32) : Fin 1 → Nat :=
  let c4_i32_326_r0 : BitVec 32 := 4#32
  let v452_r0 : BitVec 32 := Scalar.remui arg15_r0 c4_i32_326_r0
  ![v452_r0.toNat]
def k0_off48 (arg15_r0 : BitVec 32) (arg18_r0 : BitVec 32) : (Fin 3 → Nat) × (Fin 3 → Nat) :=
  let c4_i32_326_r0 : BitVec 32 := 4#32
  let v452_r0 : BitVec 32 := Scalar.remui arg15_r0 c4_i32_326_r0
  let c0_i32_327_r0 : BitVec 32 := 0#32
  let c0_i32_328_r0 : BitVec 32 := 0#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v452_r0.toNat, 0, 0], ![1, v451_r0.toNat, 128]⟩

def k0_sz16 (arg18_r0 : BitVec 32) : Fin 2 → Nat :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ![v451_r0.toNat, 128]
def k0_off49 (arg18_r0 : BitVec 32) : (Fin 2 → Nat) × (Fin 2 → Nat) :=
  let c1024_i32_323_r0 : BitVec 32 := 1024#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let v448_r0 : BitVec 32 := Scalar.muli c1024_i32_323_r0 v447_r0
  let c0_i32_329_r0 : BitVec 32 := 0#32
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v448_r0.toNat, 0], ![v451_r0.toNat, 128]⟩

def k0_mult20 (arg18_r0 : BitVec 32) : BitVec 32 :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  v450_r0
def k0_cond16 (k0_t1 : Fin k0_t1_loop.trips) (arg18_r0 : BitVec 32) : BitVec 1 :=
  let c2_i32_241_r0 : BitVec 32 := 2#32
  let c0_i32_166_r0 : BitVec 32 := 0#32
  let v182_r0 : BitVec 32 := Scalar.addi arg18_r0 c0_i32_166_r0
  let v286_r0 : BitVec 32 := Scalar.muli c2_i32_241_r0 v182_r0
  let c1_i32_242_r0 : BitVec 32 := 1#32
  let v287_r0 : BitVec 32 := Scalar.addi v286_r0 c1_i32_242_r0
  let c2_i32_243_r0 : BitVec 32 := 2#32
  let true_168_r0 : BitVec 1 := 1#1
  let c1_i32_167_r0 : BitVec 32 := 1#32
  let v183_r0 : BitVec 32 := Scalar.subi arg18_r0 c1_i32_167_r0
  let v184_r0 : BitVec 32 := Scalar.select true_168_r0 v183_r0 arg18_r0
  let c_m1_i32_169_r0 : BitVec 32 := 4294967295#32
  let v185_r0 : BitVec 1 := Scalar.cmpi .eq v184_r0 c_m1_i32_169_r0
  let c48_i32_170_r0 : BitVec 32 := 48#32
  let v186_r0 : BitVec 32 := Scalar.select v185_r0 c48_i32_170_r0 v184_r0
  let c0_i32_171_r0 : BitVec 32 := 0#32
  let v187_r0 : BitVec 32 := Scalar.addi v186_r0 c0_i32_171_r0
  let v288_r0 : BitVec 32 := Scalar.muli c2_i32_243_r0 v187_r0
  let c1_i32_244_r0 : BitVec 32 := 1#32
  let v289_r0 : BitVec 32 := Scalar.addi v288_r0 c1_i32_244_r0
  let v290_r0 : BitVec 1 := Scalar.cmpi .ne v287_r0 v289_r0
  let c0_i32_130_r0 : BitVec 32 := 0#32
  let c1_i32_132_r0 : BitVec 32 := 1#32
  let arg9_r0 : BitVec 32 := Scf.iv c0_i32_130_r0 c1_i32_132_r0 k0_t1
  let c0_i32_164_r0 : BitVec 32 := 0#32
  let v180_r0 : BitVec 1 := Scalar.cmpi .eq arg9_r0 c0_i32_164_r0
  let v291_r0 : BitVec 1 := Scalar.ori v290_r0 v180_r0
  let c0_i32_245_r0 : BitVec 32 := 0#32
  let v292_r0 : BitVec 1 := Scalar.cmpi .sge arg9_r0 c0_i32_245_r0
  let v293_r0 : BitVec 1 := Scalar.andi v291_r0 v292_r0
  let v294_r0 : BitVec 32 := Scalar.extui v293_r0
  let c0_i32_246_r0 : BitVec 32 := 0#32
  let v295_r0 : BitVec 1 := Scalar.cmpi .ne v294_r0 c0_i32_246_r0
  v295_r0

def k0_off50 (arg17_r0 : BitVec 32) : Fin 1 → Nat :=
  let c4_i32_326_r0 : BitVec 32 := 4#32
  let v452_r0 : BitVec 32 := Scalar.remui arg17_r0 c4_i32_326_r0
  ![v452_r0.toNat]
def k0_off51 (arg17_r0 : BitVec 32) (arg18_r0 : BitVec 32) : (Fin 3 → Nat) × (Fin 3 → Nat) :=
  let c4_i32_326_r0 : BitVec 32 := 4#32
  let v452_r0 : BitVec 32 := Scalar.remui arg17_r0 c4_i32_326_r0
  let c0_i32_327_r0 : BitVec 32 := 0#32
  let c0_i32_328_r0 : BitVec 32 := 0#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v452_r0.toNat, 0, 0], ![1, v451_r0.toNat, 128]⟩

def k0_sz17 (arg18_r0 : BitVec 32) : Fin 2 → Nat :=
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ![v451_r0.toNat, 128]
def k0_off52 (arg18_r0 : BitVec 32) : (Fin 2 → Nat) × (Fin 2 → Nat) :=
  let c1024_i32_323_r0 : BitVec 32 := 1024#32
  let c2_i32_321_r0 : BitVec 32 := 2#32
  let c0_i32_166_r0 : BitVec 32 := 0#32
  let v182_r0 : BitVec 32 := Scalar.addi arg18_r0 c0_i32_166_r0
  let v446_r0 : BitVec 32 := Scalar.muli c2_i32_321_r0 v182_r0
  let c1_i32_322_r0 : BitVec 32 := 1#32
  let v447_r0 : BitVec 32 := Scalar.addi v446_r0 c1_i32_322_r0
  let v448_r0 : BitVec 32 := Scalar.muli c1024_i32_323_r0 v447_r0
  let c0_i32_329_r0 : BitVec 32 := 0#32
  let c97_i32_r0 : BitVec 32 := 97#32
  let v449_r0 : BitVec 1 := Scalar.cmpi .eq v447_r0 c97_i32_r0
  let c672_i32_324_r0 : BitVec 32 := 672#32
  let c1024_i32_325_r0 : BitVec 32 := 1024#32
  let v450_r0 : BitVec 32 := Scalar.select v449_r0 c672_i32_324_r0 c1024_i32_325_r0
  let v451_r0 : BitVec 32 := v450_r0
  ⟨![v448_r0.toNat, 0], ![v451_r0.toNat, 128]⟩

def k0_off53 (arg11_r0 : BitVec 32) : Fin 3 → Nat :=
  let c4_i32_247_r0 : BitVec 32 := 4#32
  let v296_r0 : BitVec 32 := Scalar.remui arg11_r0 c4_i32_247_r0
  let v301_r0 : Index := Scalar.indexCast v296_r0
  let c0_251_r0 : Index := 0#32
  let c0_252_r0 : Index := 0#32
  ![v301_r0.toNat, 0, 0]

def k0_chk2 (arg11_r0 : BitVec 32) : Prop :=
  (∀ a, (k0_off53 arg11_r0) a + S1x1024x128.size a ≤ S4x1024x128.size a)
theorem k0_off53_inb : ∀ (arg11_r0 : BitVec 32) (k0_hw2 : k0_chk2 arg11_r0), ∀ a, (k0_off53 arg11_r0) a + S1x1024x128.size a ≤ S4x1024x128.size a := fun arg11_r0 k0_hw2 => k0_hw2

def k0_off54 (arg13_r0 : BitVec 32) : Fin 3 → Nat :=
  let c4_i32_248_r0 : BitVec 32 := 4#32
  let v297_r0 : BitVec 32 := Scalar.remui arg13_r0 c4_i32_248_r0
  let v304_r0 : Index := Scalar.indexCast v297_r0
  let c0_253_r0 : Index := 0#32
  let c0_254_r0 : Index := 0#32
  ![v304_r0.toNat, 0, 0]

def k0_chk3 (arg13_r0 : BitVec 32) : Prop :=
  (∀ a, (k0_off54 arg13_r0) a + S1x1024x128.size a ≤ S4x1024x128.size a)
theorem k0_off54_inb : ∀ (arg13_r0 : BitVec 32) (k0_hw3 : k0_chk3 arg13_r0), ∀ a, (k0_off54 arg13_r0) a + S1x1024x128.size a ≤ S4x1024x128.size a := fun arg13_r0 k0_hw3 => k0_hw3

def k0_off55 (arg18_r0 : BitVec 32) : Fin 2 → Nat :=
  let c2_i32_255_r0 : BitVec 32 := 2#32
  let c0_i32_166_r0 : BitVec 32 := 0#32
  let v182_r0 : BitVec 32 := Scalar.addi arg18_r0 c0_i32_166_r0
  let v307_r0 : BitVec 32 := Scalar.muli c2_i32_255_r0 v182_r0
  let c1024_i32_261_r0 : BitVec 32 := 1024#32
  let v326_r0 : BitVec 32 := Scalar.muli v307_r0 c1024_i32_261_r0
  let v327_r0 : Index := Scalar.indexCast v326_r0
  let c0_262_r0 : Index := 0#32
  ![v327_r0.toNat, 0]
def k0_off56 (arg15_r0 : BitVec 32) : Fin 3 → Nat :=
  let c4_i32_249_r0 : BitVec 32 := 4#32
  let v298_r0 : BitVec 32 := Scalar.remui arg15_r0 c4_i32_249_r0
  let v338_r0 : Index := Scalar.indexCast v298_r0
  let c0_268_r0 : Index := 0#32
  let c0_269_r0 : Index := 0#32
  ![v338_r0.toNat, 0, 0]

def k0_chk4 (arg15_r0 : BitVec 32) : Prop :=
  (∀ a, (k0_off56 arg15_r0) a + S1x1024x128.size a ≤ S4x1024x128.size a)
theorem k0_off56_inb : ∀ (arg15_r0 : BitVec 32) (k0_hw4 : k0_chk4 arg15_r0), ∀ a, (k0_off56 arg15_r0) a + S1x1024x128.size a ≤ S4x1024x128.size a := fun arg15_r0 k0_hw4 => k0_hw4

def k0_off57 (arg17_r0 : BitVec 32) : Fin 3 → Nat :=
  let c4_i32_250_r0 : BitVec 32 := 4#32
  let v299_r0 : BitVec 32 := Scalar.remui arg17_r0 c4_i32_250_r0
  let v341_r0 : Index := Scalar.indexCast v299_r0
  let c0_270_r0 : Index := 0#32
  let c0_271_r0 : Index := 0#32
  ![v341_r0.toNat, 0, 0]

def k0_chk5 (arg17_r0 : BitVec 32) : Prop :=
  (∀ a, (k0_off57 arg17_r0) a + S1x1024x128.size a ≤ S4x1024x128.size a)
theorem k0_off57_inb : ∀ (arg17_r0 : BitVec 32) (k0_hw5 : k0_chk5 arg17_r0), ∀ a, (k0_off57 arg17_r0) a + S1x1024x128.size a ≤ S4x1024x128.size a := fun arg17_r0 k0_hw5 => k0_hw5

def k0_off58 (arg18_r0 : BitVec 32) : Fin 2 → Nat :=
  let c2_i32_272_r0 : BitVec 32 := 2#32
  let c0_i32_166_r0 : BitVec 32 := 0#32
  let v182_r0 : BitVec 32 := Scalar.addi arg18_r0 c0_i32_166_r0
  let v344_r0 : BitVec 32 := Scalar.muli c2_i32_272_r0 v182_r0
  let c1_i32_273_r0 : BitVec 32 := 1#32
  let v345_r0 : BitVec 32 := Scalar.addi v344_r0 c1_i32_273_r0
  let c1024_i32_280_r0 : BitVec 32 := 1024#32
  let v364_r0 : BitVec 32 := Scalar.muli v345_r0 c1024_i32_280_r0
  let v365_r0 : Index := Scalar.indexCast v364_r0
  let c0_281_r0 : Index := 0#32
  ![v365_r0.toNat, 0]

def k0_chk1_0 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) : Prop :=
  (∀ (k0_h9 : k0_cond9 k0_t1 arg18_r0 = 1#1), 8 ∣ (k0_mult13 arg18_r0).toNat) ∧
  (∀ (k0_h9 : k0_cond9 k0_t1 arg18_r0 = 1#1), ∀ a, (k0_off29 arg10_r0) a + S1.size a ≤ S4.size a) ∧
  (∀ (k0_h9 : k0_cond9 k0_t1 arg18_r0 = 1#1), ∀ a, (k0_off30 arg10_r0 arg18_r0).2 a = 0 ∨ (k0_off30 arg10_r0 arg18_r0).1 a + (k0_off30 arg10_r0 arg18_r0).2 a ≤ S4x1024x128.size a) ∧
  (∀ (k0_h9 : k0_cond9 k0_t1 arg18_r0 = 1#1), (⟨3, (k0_off30 arg10_r0 arg18_r0).2⟩ : Shape).Squeezes ⟨2, k0_sz10 arg18_r0⟩) ∧
  (∀ (k0_h9 : k0_cond9 k0_t1 arg18_r0 = 1#1), ∀ a, (k0_off31 arg18_r0).2 a = 0 ∨ (k0_off31 arg18_r0).1 a + (k0_off31 arg18_r0).2 a ≤ S100000x128.size a) ∧
  (∀ (k0_h10 : k0_cond10 k0_t1 arg18_r0 = 1#1), 8 ∣ (k0_mult14 arg18_r0).toNat) ∧
  (∀ (k0_h10 : k0_cond10 k0_t1 arg18_r0 = 1#1), ∀ a, (k0_off32 arg12_r0) a + S1.size a ≤ S4.size a) ∧
  (∀ (k0_h10 : k0_cond10 k0_t1 arg18_r0 = 1#1), ∀ a, (k0_off33 arg12_r0 arg18_r0).2 a = 0 ∨ (k0_off33 arg12_r0 arg18_r0).1 a + (k0_off33 arg12_r0 arg18_r0).2 a ≤ S4x1024x128.size a) ∧
  (∀ (k0_h10 : k0_cond10 k0_t1 arg18_r0 = 1#1), (⟨3, (k0_off33 arg12_r0 arg18_r0).2⟩ : Shape).Squeezes ⟨2, k0_sz11 arg18_r0⟩) ∧
  (∀ (k0_h10 : k0_cond10 k0_t1 arg18_r0 = 1#1), ∀ a, (k0_off34 arg18_r0).2 a = 0 ∨ (k0_off34 arg18_r0).1 a + (k0_off34 arg18_r0).2 a ≤ S100000x128.size a) ∧
  (∀ (k0_h11 : k0_cond11 k0_t1 arg18_r0 = 1#1), 8 ∣ (k0_mult15 arg18_r0).toNat) ∧
  (∀ (k0_h11 : k0_cond11 k0_t1 arg18_r0 = 1#1), ∀ a, (k0_off35 arg14_r0) a + S1.size a ≤ S4.size a) ∧
  (∀ (k0_h11 : k0_cond11 k0_t1 arg18_r0 = 1#1), ∀ a, (k0_off36 arg14_r0 arg18_r0).2 a = 0 ∨ (k0_off36 arg14_r0 arg18_r0).1 a + (k0_off36 arg14_r0 arg18_r0).2 a ≤ S4x1024x128.size a) ∧
  (∀ (k0_h11 : k0_cond11 k0_t1 arg18_r0 = 1#1), (⟨3, (k0_off36 arg14_r0 arg18_r0).2⟩ : Shape).Squeezes ⟨2, k0_sz12 arg18_r0⟩) ∧
  (∀ (k0_h11 : k0_cond11 k0_t1 arg18_r0 = 1#1), ∀ a, (k0_off37 arg18_r0).2 a = 0 ∨ (k0_off37 arg18_r0).1 a + (k0_off37 arg18_r0).2 a ≤ S100000x128.size a) ∧
  (∀ (k0_h12 : k0_cond12 k0_t1 arg18_r0 = 1#1), 8 ∣ (k0_mult16 arg18_r0).toNat) ∧
  (∀ (k0_h12 : k0_cond12 k0_t1 arg18_r0 = 1#1), ∀ a, (k0_off38 arg16_r0) a + S1.size a ≤ S4.size a) ∧
  (∀ (k0_h12 : k0_cond12 k0_t1 arg18_r0 = 1#1), ∀ a, (k0_off39 arg16_r0 arg18_r0).2 a = 0 ∨ (k0_off39 arg16_r0 arg18_r0).1 a + (k0_off39 arg16_r0 arg18_r0).2 a ≤ S4x1024x128.size a) ∧
  (∀ (k0_h12 : k0_cond12 k0_t1 arg18_r0 = 1#1), (⟨3, (k0_off39 arg16_r0 arg18_r0).2⟩ : Shape).Squeezes ⟨2, k0_sz13 arg18_r0⟩) ∧
  (∀ (k0_h12 : k0_cond12 k0_t1 arg18_r0 = 1#1), ∀ a, (k0_off40 arg18_r0).2 a = 0 ∨ (k0_off40 arg18_r0).1 a + (k0_off40 arg18_r0).2 a ≤ S100000x128.size a) ∧
  (∀ (k0_h13 : k0_cond13 k0_t1 arg18_r0 = 1#1), 8 ∣ (k0_mult17 arg18_r0).toNat) ∧
  (∀ (k0_h13 : k0_cond13 k0_t1 arg18_r0 = 1#1), ∀ a, (k0_off41 arg11_r0) a + S1.size a ≤ S4.size a) ∧
  (∀ (k0_h13 : k0_cond13 k0_t1 arg18_r0 = 1#1), (⟨3, (k0_off42 arg11_r0 arg18_r0).2⟩ : Shape).Squeezes ⟨2, k0_sz14 arg18_r0⟩) ∧
  (∀ (k0_h14 : k0_cond14 k0_t1 arg18_r0 = 1#1), 8 ∣ (k0_mult18 arg18_r0).toNat) ∧
  (∀ (k0_h14 : k0_cond14 k0_t1 arg18_r0 = 1#1), ∀ a, (k0_off44 arg13_r0) a + S1.size a ≤ S4.size a) ∧
  (∀ (k0_h14 : k0_cond14 k0_t1 arg18_r0 = 1#1), (⟨3, (k0_off45 arg13_r0 arg18_r0).2⟩ : Shape).Squeezes ⟨2, k0_sz15 arg18_r0⟩) ∧
  (∀ (k0_h15 : k0_cond15 k0_t1 arg18_r0 = 1#1), 8 ∣ (k0_mult19 arg18_r0).toNat) ∧
  (∀ (k0_h15 : k0_cond15 k0_t1 arg18_r0 = 1#1), ∀ a, (k0_off47 arg15_r0) a + S1.size a ≤ S4.size a) ∧
  (∀ (k0_h15 : k0_cond15 k0_t1 arg18_r0 = 1#1), (⟨3, (k0_off48 arg15_r0 arg18_r0).2⟩ : Shape).Squeezes ⟨2, k0_sz16 arg18_r0⟩) ∧
  (∀ (k0_h16 : k0_cond16 k0_t1 arg18_r0 = 1#1), 8 ∣ (k0_mult20 arg18_r0).toNat) ∧
  (∀ (k0_h16 : k0_cond16 k0_t1 arg18_r0 = 1#1), ∀ a, (k0_off50 arg17_r0) a + S1.size a ≤ S4.size a) ∧
  (∀ (k0_h16 : k0_cond16 k0_t1 arg18_r0 = 1#1), (⟨3, (k0_off51 arg17_r0 arg18_r0).2⟩ : Shape).Squeezes ⟨2, k0_sz17 arg18_r0⟩)
def k0_chk1_1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) : Prop :=
  (∀ a, (k0_off55 arg18_r0) a + S1024x128.size a ≤ S100352x128.size a) ∧
  (∀ a, (k0_off58 arg18_r0) a + S1024x128.size a ≤ S100352x128.size a)
def k0_chk1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) : Prop :=
  k0_chk1_0 k0_t1 arg10_r0 arg11_r0 arg12_r0 arg13_r0 arg14_r0 arg15_r0 arg16_r0 arg17_r0 arg18_r0 ∧
  k0_chk1_1 k0_t1 arg10_r0 arg11_r0 arg12_r0 arg13_r0 arg14_r0 arg15_r0 arg16_r0 arg17_r0 arg18_r0
theorem k0_mult13_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h9 : k0_cond9 k0_t1 arg18_r0 = 1#1), 8 ∣ (k0_mult13 arg18_r0).toNat := fun k0_t1 arg10_r0 arg11_r0 arg12_r0 arg13_r0 arg14_r0 arg15_r0 arg16_r0 arg17_r0 arg18_r0 k0_hw1 k0_h9 => k0_hw1.1.1 k0_h9
theorem k0_off29_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h9 : k0_cond9 k0_t1 arg18_r0 = 1#1), ∀ a, (k0_off29 arg10_r0) a + S1.size a ≤ S4.size a := fun k0_t1 arg10_r0 arg11_r0 arg12_r0 arg13_r0 arg14_r0 arg15_r0 arg16_r0 arg17_r0 arg18_r0 k0_hw1 k0_h9 => k0_hw1.1.2.1 k0_h9
theorem k0_off30_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h9 : k0_cond9 k0_t1 arg18_r0 = 1#1), ∀ a, (k0_off30 arg10_r0 arg18_r0).2 a = 0 ∨ (k0_off30 arg10_r0 arg18_r0).1 a + (k0_off30 arg10_r0 arg18_r0).2 a ≤ S4x1024x128.size a := fun k0_t1 arg10_r0 arg11_r0 arg12_r0 arg13_r0 arg14_r0 arg15_r0 arg16_r0 arg17_r0 arg18_r0 k0_hw1 k0_h9 => k0_hw1.1.2.2.1 k0_h9
theorem k0_sz10_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h9 : k0_cond9 k0_t1 arg18_r0 = 1#1), (⟨3, (k0_off30 arg10_r0 arg18_r0).2⟩ : Shape).Squeezes ⟨2, k0_sz10 arg18_r0⟩ := fun k0_t1 arg10_r0 arg11_r0 arg12_r0 arg13_r0 arg14_r0 arg15_r0 arg16_r0 arg17_r0 arg18_r0 k0_hw1 k0_h9 => k0_hw1.1.2.2.2.1 k0_h9
theorem k0_off31_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h9 : k0_cond9 k0_t1 arg18_r0 = 1#1), ∀ a, (k0_off31 arg18_r0).2 a = 0 ∨ (k0_off31 arg18_r0).1 a + (k0_off31 arg18_r0).2 a ≤ S100000x128.size a := fun k0_t1 arg10_r0 arg11_r0 arg12_r0 arg13_r0 arg14_r0 arg15_r0 arg16_r0 arg17_r0 arg18_r0 k0_hw1 k0_h9 => k0_hw1.1.2.2.2.2.1 k0_h9
theorem k0_mult14_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h10 : k0_cond10 k0_t1 arg18_r0 = 1#1), 8 ∣ (k0_mult14 arg18_r0).toNat := fun k0_t1 arg10_r0 arg11_r0 arg12_r0 arg13_r0 arg14_r0 arg15_r0 arg16_r0 arg17_r0 arg18_r0 k0_hw1 k0_h10 => k0_hw1.1.2.2.2.2.2.1 k0_h10
theorem k0_off32_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h10 : k0_cond10 k0_t1 arg18_r0 = 1#1), ∀ a, (k0_off32 arg12_r0) a + S1.size a ≤ S4.size a := fun k0_t1 arg10_r0 arg11_r0 arg12_r0 arg13_r0 arg14_r0 arg15_r0 arg16_r0 arg17_r0 arg18_r0 k0_hw1 k0_h10 => k0_hw1.1.2.2.2.2.2.2.1 k0_h10
theorem k0_off33_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h10 : k0_cond10 k0_t1 arg18_r0 = 1#1), ∀ a, (k0_off33 arg12_r0 arg18_r0).2 a = 0 ∨ (k0_off33 arg12_r0 arg18_r0).1 a + (k0_off33 arg12_r0 arg18_r0).2 a ≤ S4x1024x128.size a := fun k0_t1 arg10_r0 arg11_r0 arg12_r0 arg13_r0 arg14_r0 arg15_r0 arg16_r0 arg17_r0 arg18_r0 k0_hw1 k0_h10 => k0_hw1.1.2.2.2.2.2.2.2.1 k0_h10
theorem k0_sz11_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h10 : k0_cond10 k0_t1 arg18_r0 = 1#1), (⟨3, (k0_off33 arg12_r0 arg18_r0).2⟩ : Shape).Squeezes ⟨2, k0_sz11 arg18_r0⟩ := fun k0_t1 arg10_r0 arg11_r0 arg12_r0 arg13_r0 arg14_r0 arg15_r0 arg16_r0 arg17_r0 arg18_r0 k0_hw1 k0_h10 => k0_hw1.1.2.2.2.2.2.2.2.2.1 k0_h10
theorem k0_off34_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h10 : k0_cond10 k0_t1 arg18_r0 = 1#1), ∀ a, (k0_off34 arg18_r0).2 a = 0 ∨ (k0_off34 arg18_r0).1 a + (k0_off34 arg18_r0).2 a ≤ S100000x128.size a := fun k0_t1 arg10_r0 arg11_r0 arg12_r0 arg13_r0 arg14_r0 arg15_r0 arg16_r0 arg17_r0 arg18_r0 k0_hw1 k0_h10 => k0_hw1.1.2.2.2.2.2.2.2.2.2.1 k0_h10
theorem k0_mult15_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h11 : k0_cond11 k0_t1 arg18_r0 = 1#1), 8 ∣ (k0_mult15 arg18_r0).toNat := fun k0_t1 arg10_r0 arg11_r0 arg12_r0 arg13_r0 arg14_r0 arg15_r0 arg16_r0 arg17_r0 arg18_r0 k0_hw1 k0_h11 => k0_hw1.1.2.2.2.2.2.2.2.2.2.2.1 k0_h11
theorem k0_off35_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h11 : k0_cond11 k0_t1 arg18_r0 = 1#1), ∀ a, (k0_off35 arg14_r0) a + S1.size a ≤ S4.size a := fun k0_t1 arg10_r0 arg11_r0 arg12_r0 arg13_r0 arg14_r0 arg15_r0 arg16_r0 arg17_r0 arg18_r0 k0_hw1 k0_h11 => k0_hw1.1.2.2.2.2.2.2.2.2.2.2.2.1 k0_h11
theorem k0_off36_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h11 : k0_cond11 k0_t1 arg18_r0 = 1#1), ∀ a, (k0_off36 arg14_r0 arg18_r0).2 a = 0 ∨ (k0_off36 arg14_r0 arg18_r0).1 a + (k0_off36 arg14_r0 arg18_r0).2 a ≤ S4x1024x128.size a := fun k0_t1 arg10_r0 arg11_r0 arg12_r0 arg13_r0 arg14_r0 arg15_r0 arg16_r0 arg17_r0 arg18_r0 k0_hw1 k0_h11 => k0_hw1.1.2.2.2.2.2.2.2.2.2.2.2.2.1 k0_h11
theorem k0_sz12_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h11 : k0_cond11 k0_t1 arg18_r0 = 1#1), (⟨3, (k0_off36 arg14_r0 arg18_r0).2⟩ : Shape).Squeezes ⟨2, k0_sz12 arg18_r0⟩ := fun k0_t1 arg10_r0 arg11_r0 arg12_r0 arg13_r0 arg14_r0 arg15_r0 arg16_r0 arg17_r0 arg18_r0 k0_hw1 k0_h11 => k0_hw1.1.2.2.2.2.2.2.2.2.2.2.2.2.2.1 k0_h11
theorem k0_off37_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h11 : k0_cond11 k0_t1 arg18_r0 = 1#1), ∀ a, (k0_off37 arg18_r0).2 a = 0 ∨ (k0_off37 arg18_r0).1 a + (k0_off37 arg18_r0).2 a ≤ S100000x128.size a := fun k0_t1 arg10_r0 arg11_r0 arg12_r0 arg13_r0 arg14_r0 arg15_r0 arg16_r0 arg17_r0 arg18_r0 k0_hw1 k0_h11 => k0_hw1.1.2.2.2.2.2.2.2.2.2.2.2.2.2.2.1 k0_h11
theorem k0_mult16_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h12 : k0_cond12 k0_t1 arg18_r0 = 1#1), 8 ∣ (k0_mult16 arg18_r0).toNat := fun k0_t1 arg10_r0 arg11_r0 arg12_r0 arg13_r0 arg14_r0 arg15_r0 arg16_r0 arg17_r0 arg18_r0 k0_hw1 k0_h12 => k0_hw1.1.2.2.2.2.2.2.2.2.2.2.2.2.2.2.2.1 k0_h12
theorem k0_off38_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h12 : k0_cond12 k0_t1 arg18_r0 = 1#1), ∀ a, (k0_off38 arg16_r0) a + S1.size a ≤ S4.size a := fun k0_t1 arg10_r0 arg11_r0 arg12_r0 arg13_r0 arg14_r0 arg15_r0 arg16_r0 arg17_r0 arg18_r0 k0_hw1 k0_h12 => k0_hw1.1.2.2.2.2.2.2.2.2.2.2.2.2.2.2.2.2.1 k0_h12
theorem k0_off39_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h12 : k0_cond12 k0_t1 arg18_r0 = 1#1), ∀ a, (k0_off39 arg16_r0 arg18_r0).2 a = 0 ∨ (k0_off39 arg16_r0 arg18_r0).1 a + (k0_off39 arg16_r0 arg18_r0).2 a ≤ S4x1024x128.size a := fun k0_t1 arg10_r0 arg11_r0 arg12_r0 arg13_r0 arg14_r0 arg15_r0 arg16_r0 arg17_r0 arg18_r0 k0_hw1 k0_h12 => k0_hw1.1.2.2.2.2.2.2.2.2.2.2.2.2.2.2.2.2.2.1 k0_h12
theorem k0_sz13_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h12 : k0_cond12 k0_t1 arg18_r0 = 1#1), (⟨3, (k0_off39 arg16_r0 arg18_r0).2⟩ : Shape).Squeezes ⟨2, k0_sz13 arg18_r0⟩ := fun k0_t1 arg10_r0 arg11_r0 arg12_r0 arg13_r0 arg14_r0 arg15_r0 arg16_r0 arg17_r0 arg18_r0 k0_hw1 k0_h12 => k0_hw1.1.2.2.2.2.2.2.2.2.2.2.2.2.2.2.2.2.2.2.1 k0_h12
theorem k0_off40_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h12 : k0_cond12 k0_t1 arg18_r0 = 1#1), ∀ a, (k0_off40 arg18_r0).2 a = 0 ∨ (k0_off40 arg18_r0).1 a + (k0_off40 arg18_r0).2 a ≤ S100000x128.size a := fun k0_t1 arg10_r0 arg11_r0 arg12_r0 arg13_r0 arg14_r0 arg15_r0 arg16_r0 arg17_r0 arg18_r0 k0_hw1 k0_h12 => k0_hw1.1.2.2.2.2.2.2.2.2.2.2.2.2.2.2.2.2.2.2.2.1 k0_h12
theorem k0_mult17_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h13 : k0_cond13 k0_t1 arg18_r0 = 1#1), 8 ∣ (k0_mult17 arg18_r0).toNat := fun k0_t1 arg10_r0 arg11_r0 arg12_r0 arg13_r0 arg14_r0 arg15_r0 arg16_r0 arg17_r0 arg18_r0 k0_hw1 k0_h13 => k0_hw1.1.2.2.2.2.2.2.2.2.2.2.2.2.2.2.2.2.2.2.2.2.1 k0_h13
theorem k0_off41_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h13 : k0_cond13 k0_t1 arg18_r0 = 1#1), ∀ a, (k0_off41 arg11_r0) a + S1.size a ≤ S4.size a := fun k0_t1 arg10_r0 arg11_r0 arg12_r0 arg13_r0 arg14_r0 arg15_r0 arg16_r0 arg17_r0 arg18_r0 k0_hw1 k0_h13 => k0_hw1.1.2.2.2.2.2.2.2.2.2.2.2.2.2.2.2.2.2.2.2.2.2.1 k0_h13
theorem k0_sz14_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h13 : k0_cond13 k0_t1 arg18_r0 = 1#1), (⟨3, (k0_off42 arg11_r0 arg18_r0).2⟩ : Shape).Squeezes ⟨2, k0_sz14 arg18_r0⟩ := fun k0_t1 arg10_r0 arg11_r0 arg12_r0 arg13_r0 arg14_r0 arg15_r0 arg16_r0 arg17_r0 arg18_r0 k0_hw1 k0_h13 => k0_hw1.1.2.2.2.2.2.2.2.2.2.2.2.2.2.2.2.2.2.2.2.2.2.2.1 k0_h13
theorem k0_mult18_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h14 : k0_cond14 k0_t1 arg18_r0 = 1#1), 8 ∣ (k0_mult18 arg18_r0).toNat := fun k0_t1 arg10_r0 arg11_r0 arg12_r0 arg13_r0 arg14_r0 arg15_r0 arg16_r0 arg17_r0 arg18_r0 k0_hw1 k0_h14 => k0_hw1.1.2.2.2.2.2.2.2.2.2.2.2.2.2.2.2.2.2.2.2.2.2.2.2.1 k0_h14
theorem k0_off44_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h14 : k0_cond14 k0_t1 arg18_r0 = 1#1), ∀ a, (k0_off44 arg13_r0) a + S1.size a ≤ S4.size a := fun k0_t1 arg10_r0 arg11_r0 arg12_r0 arg13_r0 arg14_r0 arg15_r0 arg16_r0 arg17_r0 arg18_r0 k0_hw1 k0_h14 => k0_hw1.1.2.2.2.2.2.2.2.2.2.2.2.2.2.2.2.2.2.2.2.2.2.2.2.2.1 k0_h14
theorem k0_sz15_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h14 : k0_cond14 k0_t1 arg18_r0 = 1#1), (⟨3, (k0_off45 arg13_r0 arg18_r0).2⟩ : Shape).Squeezes ⟨2, k0_sz15 arg18_r0⟩ := fun k0_t1 arg10_r0 arg11_r0 arg12_r0 arg13_r0 arg14_r0 arg15_r0 arg16_r0 arg17_r0 arg18_r0 k0_hw1 k0_h14 => k0_hw1.1.2.2.2.2.2.2.2.2.2.2.2.2.2.2.2.2.2.2.2.2.2.2.2.2.2.1 k0_h14
theorem k0_mult19_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h15 : k0_cond15 k0_t1 arg18_r0 = 1#1), 8 ∣ (k0_mult19 arg18_r0).toNat := fun k0_t1 arg10_r0 arg11_r0 arg12_r0 arg13_r0 arg14_r0 arg15_r0 arg16_r0 arg17_r0 arg18_r0 k0_hw1 k0_h15 => k0_hw1.1.2.2.2.2.2.2.2.2.2.2.2.2.2.2.2.2.2.2.2.2.2.2.2.2.2.2.1 k0_h15
theorem k0_off47_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h15 : k0_cond15 k0_t1 arg18_r0 = 1#1), ∀ a, (k0_off47 arg15_r0) a + S1.size a ≤ S4.size a := fun k0_t1 arg10_r0 arg11_r0 arg12_r0 arg13_r0 arg14_r0 arg15_r0 arg16_r0 arg17_r0 arg18_r0 k0_hw1 k0_h15 => k0_hw1.1.2.2.2.2.2.2.2.2.2.2.2.2.2.2.2.2.2.2.2.2.2.2.2.2.2.2.2.1 k0_h15
theorem k0_sz16_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h15 : k0_cond15 k0_t1 arg18_r0 = 1#1), (⟨3, (k0_off48 arg15_r0 arg18_r0).2⟩ : Shape).Squeezes ⟨2, k0_sz16 arg18_r0⟩ := fun k0_t1 arg10_r0 arg11_r0 arg12_r0 arg13_r0 arg14_r0 arg15_r0 arg16_r0 arg17_r0 arg18_r0 k0_hw1 k0_h15 => k0_hw1.1.2.2.2.2.2.2.2.2.2.2.2.2.2.2.2.2.2.2.2.2.2.2.2.2.2.2.2.2.1 k0_h15
theorem k0_mult20_dvd : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h16 : k0_cond16 k0_t1 arg18_r0 = 1#1), 8 ∣ (k0_mult20 arg18_r0).toNat := fun k0_t1 arg10_r0 arg11_r0 arg12_r0 arg13_r0 arg14_r0 arg15_r0 arg16_r0 arg17_r0 arg18_r0 k0_hw1 k0_h16 => k0_hw1.1.2.2.2.2.2.2.2.2.2.2.2.2.2.2.2.2.2.2.2.2.2.2.2.2.2.2.2.2.2.1 k0_h16
theorem k0_off50_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h16 : k0_cond16 k0_t1 arg18_r0 = 1#1), ∀ a, (k0_off50 arg17_r0) a + S1.size a ≤ S4.size a := fun k0_t1 arg10_r0 arg11_r0 arg12_r0 arg13_r0 arg14_r0 arg15_r0 arg16_r0 arg17_r0 arg18_r0 k0_hw1 k0_h16 => k0_hw1.1.2.2.2.2.2.2.2.2.2.2.2.2.2.2.2.2.2.2.2.2.2.2.2.2.2.2.2.2.2.2.1 k0_h16
theorem k0_sz17_squeezes : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ (k0_h16 : k0_cond16 k0_t1 arg18_r0 = 1#1), (⟨3, (k0_off51 arg17_r0 arg18_r0).2⟩ : Shape).Squeezes ⟨2, k0_sz17 arg18_r0⟩ := fun k0_t1 arg10_r0 arg11_r0 arg12_r0 arg13_r0 arg14_r0 arg15_r0 arg16_r0 arg17_r0 arg18_r0 k0_hw1 k0_h16 => k0_hw1.1.2.2.2.2.2.2.2.2.2.2.2.2.2.2.2.2.2.2.2.2.2.2.2.2.2.2.2.2.2.2.2 k0_h16
theorem k0_off55_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ a, (k0_off55 arg18_r0) a + S1024x128.size a ≤ S100352x128.size a := fun k0_t1 arg10_r0 arg11_r0 arg12_r0 arg13_r0 arg14_r0 arg15_r0 arg16_r0 arg17_r0 arg18_r0 k0_hw1 => k0_hw1.2.1
theorem k0_off58_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg10_r0 arg11_r0 arg12_r0 arg13_r0 arg14_r0 arg15_r0 arg16_r0 arg17_r0 arg18_r0), ∀ a, (k0_off58 arg18_r0) a + S1024x128.size a ≤ S100352x128.size a := fun k0_t1 arg10_r0 arg11_r0 arg12_r0 arg13_r0 arg14_r0 arg15_r0 arg16_r0 arg17_r0 arg18_r0 k0_hw1 => k0_hw1.2.2

def k0_mult21 : BitVec 32 :=
  let v_false_r1 : BitVec 1 := 0#1
  let c672_i32_r1 : BitVec 32 := 672#32
  let c1024_i32_r1 : BitVec 32 := 1024#32
  let v45_r1 : BitVec 32 := Scalar.select v_false_r1 c672_i32_r1 c1024_i32_r1
  v45_r1
def k0_mult22 : BitVec 32 :=
  let false_47_r1 : BitVec 1 := 0#1
  let c672_i32_48_r1 : BitVec 32 := 672#32
  let c1024_i32_49_r1 : BitVec 32 := 1024#32
  let v54_r1 : BitVec 32 := Scalar.select false_47_r1 c672_i32_48_r1 c1024_i32_49_r1
  v54_r1
def k0_cond25 : BitVec 1 :=
  let true_57_r1 : BitVec 1 := 1#1
  let c2_i32_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v62_r1 : BitVec 32 := Scalar.muli c2_i32_r1 v28_r1
  let c0_i32_56_r1 : BitVec 32 := 0#32
  let v63_r1 : BitVec 1 := Scalar.cmpi .ne v62_r1 c0_i32_56_r1
  let v64_r1 : BitVec 1 := Scalar.andi true_57_r1 v63_r1
  let true_58_r1 : BitVec 1 := 1#1
  let v65_r1 : BitVec 1 := Scalar.andi v64_r1 true_58_r1
  let v66_r1 : BitVec 32 := Scalar.extui v65_r1
  let c0_i32_59_r1 : BitVec 32 := 0#32
  let v67_r1 : BitVec 1 := Scalar.cmpi .ne v66_r1 c0_i32_59_r1
  v67_r1

def k0_mult23 : BitVec 32 :=
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  v155_r1
def k0_off59 : Fin 1 → Nat :=
  let c0_i32_43_r1 : BitVec 32 := 0#32
  let c1_i32_44_r1 : BitVec 32 := 1#32
  let v52_r1 : BitVec 32 := Scalar.addi c0_i32_43_r1 c1_i32_44_r1
  let c4_i32_138_r1 : BitVec 32 := 4#32
  let v151_r1 : BitVec 32 := Scalar.remui v52_r1 c4_i32_138_r1
  ![v151_r1.toNat]
def k0_off60 : (Fin 3 → Nat) × (Fin 3 → Nat) :=
  let c0_i32_43_r1 : BitVec 32 := 0#32
  let c1_i32_44_r1 : BitVec 32 := 1#32
  let v52_r1 : BitVec 32 := Scalar.addi c0_i32_43_r1 c1_i32_44_r1
  let c4_i32_138_r1 : BitVec 32 := 4#32
  let v151_r1 : BitVec 32 := Scalar.remui v52_r1 c4_i32_138_r1
  let c0_i32_144_r1 : BitVec 32 := 0#32
  let c0_i32_145_r1 : BitVec 32 := 0#32
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ⟨![v151_r1.toNat, 0, 0], ![1, v156_r1.toNat, 128]⟩
def k0_sz18 : Fin 2 → Nat :=
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ![v156_r1.toNat, 128]
def k0_off61 : (Fin 2 → Nat) × (Fin 2 → Nat) :=
  let c1024_i32_140_r1 : BitVec 32 := 1024#32
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let v153_r1 : BitVec 32 := Scalar.muli c1024_i32_140_r1 v152_r1
  let c0_i32_146_r1 : BitVec 32 := 0#32
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ⟨![v153_r1.toNat, 0], ![v156_r1.toNat, 128]⟩
def k0_cond26 : BitVec 1 :=
  let true_64_r1 : BitVec 1 := 1#1
  let c2_i32_61_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v70_r1 : BitVec 32 := Scalar.muli c2_i32_61_r1 v28_r1
  let c1_i32_62_r1 : BitVec 32 := 1#32
  let v71_r1 : BitVec 32 := Scalar.addi v70_r1 c1_i32_62_r1
  let c1_i32_63_r1 : BitVec 32 := 1#32
  let v72_r1 : BitVec 1 := Scalar.cmpi .ne v71_r1 c1_i32_63_r1
  let v73_r1 : BitVec 1 := Scalar.andi true_64_r1 v72_r1
  let true_65_r1 : BitVec 1 := 1#1
  let v74_r1 : BitVec 1 := Scalar.andi v73_r1 true_65_r1
  let v75_r1 : BitVec 32 := Scalar.extui v74_r1
  let c0_i32_66_r1 : BitVec 32 := 0#32
  let v76_r1 : BitVec 1 := Scalar.cmpi .ne v75_r1 c0_i32_66_r1
  v76_r1

def k0_mult24 : BitVec 32 :=
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  v156_r1
def k0_off62 : Fin 1 → Nat :=
  let c0_i32_54_r1 : BitVec 32 := 0#32
  let c1_i32_55_r1 : BitVec 32 := 1#32
  let v61_r1 : BitVec 32 := Scalar.addi c0_i32_54_r1 c1_i32_55_r1
  let c4_i32_138_r1 : BitVec 32 := 4#32
  let v151_r1 : BitVec 32 := Scalar.remui v61_r1 c4_i32_138_r1
  ![v151_r1.toNat]
def k0_off63 : (Fin 3 → Nat) × (Fin 3 → Nat) :=
  let c0_i32_54_r1 : BitVec 32 := 0#32
  let c1_i32_55_r1 : BitVec 32 := 1#32
  let v61_r1 : BitVec 32 := Scalar.addi c0_i32_54_r1 c1_i32_55_r1
  let c4_i32_138_r1 : BitVec 32 := 4#32
  let v151_r1 : BitVec 32 := Scalar.remui v61_r1 c4_i32_138_r1
  let c0_i32_145_r1 : BitVec 32 := 0#32
  let c0_i32_146_r1 : BitVec 32 := 0#32
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ⟨![v151_r1.toNat, 0, 0], ![1, v157_r1.toNat, 128]⟩
def k0_sz19 : Fin 2 → Nat :=
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ![v157_r1.toNat, 128]
def k0_off64 : (Fin 2 → Nat) × (Fin 2 → Nat) :=
  let c1024_i32_141_r1 : BitVec 32 := 1024#32
  let c2_i32_139_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v152_r1 : BitVec 32 := Scalar.muli c2_i32_139_r1 v28_r1
  let c1_i32_140_r1 : BitVec 32 := 1#32
  let v153_r1 : BitVec 32 := Scalar.addi v152_r1 c1_i32_140_r1
  let v154_r1 : BitVec 32 := Scalar.muli c1024_i32_141_r1 v153_r1
  let c0_i32_147_r1 : BitVec 32 := 0#32
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ⟨![v154_r1.toNat, 0], ![v157_r1.toNat, 128]⟩
def k0_cond27 : BitVec 1 :=
  let true_69_r1 : BitVec 1 := 1#1
  let c2_i32_68_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v79_r1 : BitVec 32 := Scalar.muli c2_i32_68_r1 v33_r1
  let c2_i32_r1 : BitVec 32 := 2#32
  let c0_i32_22_r1 : BitVec 32 := 0#32
  let v28_r1 : BitVec 32 := Scalar.addi v27_r1 c0_i32_22_r1
  let v62_r1 : BitVec 32 := Scalar.muli c2_i32_r1 v28_r1
  let v80_r1 : BitVec 1 := Scalar.cmpi .ne v79_r1 v62_r1
  let v81_r1 : BitVec 1 := Scalar.andi true_69_r1 v80_r1
  let true_70_r1 : BitVec 1 := 1#1
  let v82_r1 : BitVec 1 := Scalar.andi v81_r1 true_70_r1
  let v83_r1 : BitVec 32 := Scalar.extui v82_r1
  let c0_i32_71_r1 : BitVec 32 := 0#32
  let v84_r1 : BitVec 1 := Scalar.cmpi .ne v83_r1 c0_i32_71_r1
  v84_r1

def k0_mult25 : BitVec 32 :=
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  v155_r1
def k0_off65 : Fin 1 → Nat :=
  let true_57_r1 : BitVec 1 := 1#1
  let c2_i32_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v62_r1 : BitVec 32 := Scalar.muli c2_i32_r1 v28_r1
  let c0_i32_56_r1 : BitVec 32 := 0#32
  let v63_r1 : BitVec 1 := Scalar.cmpi .ne v62_r1 c0_i32_56_r1
  let v64_r1 : BitVec 1 := Scalar.andi true_57_r1 v63_r1
  let c0_i32_43_r1 : BitVec 32 := 0#32
  let c1_i32_44_r1 : BitVec 32 := 1#32
  let v52_r1 : BitVec 32 := Scalar.addi c0_i32_43_r1 c1_i32_44_r1
  let c1_i32_60_r1 : BitVec 32 := 1#32
  let v68_r1 : BitVec 32 := Scalar.addi v52_r1 c1_i32_60_r1
  let v69_r1 : BitVec 32 := Scalar.select v64_r1 v68_r1 v52_r1
  let c4_i32_138_r1 : BitVec 32 := 4#32
  let v151_r1 : BitVec 32 := Scalar.remui v69_r1 c4_i32_138_r1
  ![v151_r1.toNat]
def k0_off66 : (Fin 3 → Nat) × (Fin 3 → Nat) :=
  let true_57_r1 : BitVec 1 := 1#1
  let c2_i32_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v62_r1 : BitVec 32 := Scalar.muli c2_i32_r1 v28_r1
  let c0_i32_56_r1 : BitVec 32 := 0#32
  let v63_r1 : BitVec 1 := Scalar.cmpi .ne v62_r1 c0_i32_56_r1
  let v64_r1 : BitVec 1 := Scalar.andi true_57_r1 v63_r1
  let c0_i32_43_r1 : BitVec 32 := 0#32
  let c1_i32_44_r1 : BitVec 32 := 1#32
  let v52_r1 : BitVec 32 := Scalar.addi c0_i32_43_r1 c1_i32_44_r1
  let c1_i32_60_r1 : BitVec 32 := 1#32
  let v68_r1 : BitVec 32 := Scalar.addi v52_r1 c1_i32_60_r1
  let v69_r1 : BitVec 32 := Scalar.select v64_r1 v68_r1 v52_r1
  let c4_i32_138_r1 : BitVec 32 := 4#32
  let v151_r1 : BitVec 32 := Scalar.remui v69_r1 c4_i32_138_r1
  let c0_i32_144_r1 : BitVec 32 := 0#32
  let c0_i32_145_r1 : BitVec 32 := 0#32
  let c2_i32_139_r1 : BitVec 32 := 2#32
  let true_24_r1 : BitVec 1 := 1#1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ⟨![v151_r1.toNat, 0, 0], ![1, v156_r1.toNat, 128]⟩
def k0_sz20 : Fin 2 → Nat :=
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ![v156_r1.toNat, 128]
def k0_off67 : (Fin 2 → Nat) × (Fin 2 → Nat) :=
  let c1024_i32_140_r1 : BitVec 32 := 1024#32
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let v153_r1 : BitVec 32 := Scalar.muli c1024_i32_140_r1 v152_r1
  let c0_i32_146_r1 : BitVec 32 := 0#32
  let c97_i32_141_r1 : BitVec 32 := 97#32
  let v154_r1 : BitVec 1 := Scalar.cmpi .eq v152_r1 c97_i32_141_r1
  let c672_i32_142_r1 : BitVec 32 := 672#32
  let c1024_i32_143_r1 : BitVec 32 := 1024#32
  let v155_r1 : BitVec 32 := Scalar.select v154_r1 c672_i32_142_r1 c1024_i32_143_r1
  let v156_r1 : BitVec 32 := v155_r1
  ⟨![v153_r1.toNat, 0], ![v156_r1.toNat, 128]⟩
def k0_cond28 : BitVec 1 :=
  let true_75_r1 : BitVec 1 := 1#1
  let c2_i32_73_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v87_r1 : BitVec 32 := Scalar.muli c2_i32_73_r1 v33_r1
  let c1_i32_74_r1 : BitVec 32 := 1#32
  let v88_r1 : BitVec 32 := Scalar.addi v87_r1 c1_i32_74_r1
  let c2_i32_61_r1 : BitVec 32 := 2#32
  let c0_i32_22_r1 : BitVec 32 := 0#32
  let v28_r1 : BitVec 32 := Scalar.addi v27_r1 c0_i32_22_r1
  let v70_r1 : BitVec 32 := Scalar.muli c2_i32_61_r1 v28_r1
  let c1_i32_62_r1 : BitVec 32 := 1#32
  let v71_r1 : BitVec 32 := Scalar.addi v70_r1 c1_i32_62_r1
  let v89_r1 : BitVec 1 := Scalar.cmpi .ne v88_r1 v71_r1
  let v90_r1 : BitVec 1 := Scalar.andi true_75_r1 v89_r1
  let true_76_r1 : BitVec 1 := 1#1
  let v91_r1 : BitVec 1 := Scalar.andi v90_r1 true_76_r1
  let v92_r1 : BitVec 32 := Scalar.extui v91_r1
  let c0_i32_77_r1 : BitVec 32 := 0#32
  let v93_r1 : BitVec 1 := Scalar.cmpi .ne v92_r1 c0_i32_77_r1
  v93_r1

def k0_mult26 : BitVec 32 :=
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  v156_r1
def k0_off68 : Fin 1 → Nat :=
  let true_64_r1 : BitVec 1 := 1#1
  let c2_i32_61_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v70_r1 : BitVec 32 := Scalar.muli c2_i32_61_r1 v28_r1
  let c1_i32_62_r1 : BitVec 32 := 1#32
  let v71_r1 : BitVec 32 := Scalar.addi v70_r1 c1_i32_62_r1
  let c1_i32_63_r1 : BitVec 32 := 1#32
  let v72_r1 : BitVec 1 := Scalar.cmpi .ne v71_r1 c1_i32_63_r1
  let v73_r1 : BitVec 1 := Scalar.andi true_64_r1 v72_r1
  let c0_i32_54_r1 : BitVec 32 := 0#32
  let c1_i32_55_r1 : BitVec 32 := 1#32
  let v61_r1 : BitVec 32 := Scalar.addi c0_i32_54_r1 c1_i32_55_r1
  let c1_i32_67_r1 : BitVec 32 := 1#32
  let v77_r1 : BitVec 32 := Scalar.addi v61_r1 c1_i32_67_r1
  let v78_r1 : BitVec 32 := Scalar.select v73_r1 v77_r1 v61_r1
  let c4_i32_138_r1 : BitVec 32 := 4#32
  let v151_r1 : BitVec 32 := Scalar.remui v78_r1 c4_i32_138_r1
  ![v151_r1.toNat]
def k0_off69 : (Fin 3 → Nat) × (Fin 3 → Nat) :=
  let true_64_r1 : BitVec 1 := 1#1
  let c2_i32_61_r1 : BitVec 32 := 2#32
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c0_i32_22_r1 : BitVec 32 := 0#32
  let v28_r1 : BitVec 32 := Scalar.addi v27_r1 c0_i32_22_r1
  let v70_r1 : BitVec 32 := Scalar.muli c2_i32_61_r1 v28_r1
  let c1_i32_62_r1 : BitVec 32 := 1#32
  let v71_r1 : BitVec 32 := Scalar.addi v70_r1 c1_i32_62_r1
  let c1_i32_63_r1 : BitVec 32 := 1#32
  let v72_r1 : BitVec 1 := Scalar.cmpi .ne v71_r1 c1_i32_63_r1
  let v73_r1 : BitVec 1 := Scalar.andi true_64_r1 v72_r1
  let c0_i32_54_r1 : BitVec 32 := 0#32
  let c1_i32_55_r1 : BitVec 32 := 1#32
  let v61_r1 : BitVec 32 := Scalar.addi c0_i32_54_r1 c1_i32_55_r1
  let c1_i32_67_r1 : BitVec 32 := 1#32
  let v77_r1 : BitVec 32 := Scalar.addi v61_r1 c1_i32_67_r1
  let v78_r1 : BitVec 32 := Scalar.select v73_r1 v77_r1 v61_r1
  let c4_i32_138_r1 : BitVec 32 := 4#32
  let v151_r1 : BitVec 32 := Scalar.remui v78_r1 c4_i32_138_r1
  let c0_i32_145_r1 : BitVec 32 := 0#32
  let c0_i32_146_r1 : BitVec 32 := 0#32
  let c2_i32_139_r1 : BitVec 32 := 2#32
  let true_24_r1 : BitVec 1 := 1#1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ⟨![v151_r1.toNat, 0, 0], ![1, v157_r1.toNat, 128]⟩
def k0_sz21 : Fin 2 → Nat :=
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c1_i32_140_r1 : BitVec 32 := 1#32
  let v153_r1 : BitVec 32 := Scalar.addi v152_r1 c1_i32_140_r1
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ![v157_r1.toNat, 128]
def k0_off70 : (Fin 2 → Nat) × (Fin 2 → Nat) :=
  let c1024_i32_141_r1 : BitVec 32 := 1024#32
  let c2_i32_139_r1 : BitVec 32 := 2#32
  let true_24_r1 : BitVec 1 := 1#1
  let true_19_r1 : BitVec 1 := 1#1
  let c1_i32_r1 : BitVec 32 := 1#32
  let c0_i32_20_r1 : BitVec 32 := 0#32
  let v25_r1 : BitVec 32 := Scalar.select true_19_r1 c1_i32_r1 c0_i32_20_r1
  let c49_i32_r1 : BitVec 32 := 49#32
  let v26_r1 : BitVec 1 := Scalar.cmpi .eq v25_r1 c49_i32_r1
  let c0_i32_21_r1 : BitVec 32 := 0#32
  let v27_r1 : BitVec 32 := Scalar.select v26_r1 c0_i32_21_r1 v25_r1
  let c1_i32_23_r1 : BitVec 32 := 1#32
  let v29_r1 : BitVec 32 := Scalar.addi v27_r1 c1_i32_23_r1
  let v30_r1 : BitVec 32 := Scalar.select true_24_r1 v29_r1 v27_r1
  let c49_i32_25_r1 : BitVec 32 := 49#32
  let v31_r1 : BitVec 1 := Scalar.cmpi .eq v30_r1 c49_i32_25_r1
  let c0_i32_26_r1 : BitVec 32 := 0#32
  let v32_r1 : BitVec 32 := Scalar.select v31_r1 c0_i32_26_r1 v30_r1
  let c0_i32_27_r1 : BitVec 32 := 0#32
  let v33_r1 : BitVec 32 := Scalar.addi v32_r1 c0_i32_27_r1
  let v152_r1 : BitVec 32 := Scalar.muli c2_i32_139_r1 v33_r1
  let c1_i32_140_r1 : BitVec 32 := 1#32
  let v153_r1 : BitVec 32 := Scalar.addi v152_r1 c1_i32_140_r1
  let v154_r1 : BitVec 32 := Scalar.muli c1024_i32_141_r1 v153_r1
  let c0_i32_147_r1 : BitVec 32 := 0#32
  let c97_i32_142_r1 : BitVec 32 := 97#32
  let v155_r1 : BitVec 1 := Scalar.cmpi .eq v153_r1 c97_i32_142_r1
  let c672_i32_143_r1 : BitVec 32 := 672#32
  let c1024_i32_144_r1 : BitVec 32 := 1024#32
  let v156_r1 : BitVec 32 := Scalar.select v155_r1 c672_i32_143_r1 c1024_i32_144_r1
  let v157_r1 : BitVec 32 := v156_r1
  ⟨![v154_r1.toNat, 0], ![v157_r1.toNat, 128]⟩
@[reducible] def k0_t2_loop : Scf.Loop 32 :=
  let c0_i32_86_r1 : BitVec 32 := 0#32
  let c49_i32_87_r1 : BitVec 32 := 49#32
  let v96_r1 : BitVec 32 := Scalar.addi c0_i32_86_r1 c49_i32_87_r1
  let c1_i32_88_r1 : BitVec 32 := 1#32
  ⟨c0_i32_86_r1, v96_r1, c1_i32_88_r1⟩
def k0_mult27 (arg18_r1 : BitVec 32) : BitVec 32 :=
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  v421_r1
def k0_cond29 (k0_t2 : Fin k0_t2_loop.trips) (arg18_r1 : BitVec 32) : BitVec 1 :=
  let c2_i32_166_r1 : BitVec 32 := 2#32
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c0_i32_155_r1 : BitVec 32 := 0#32
  let v168_r1 : BitVec 32 := Scalar.addi v167_r1 c0_i32_155_r1
  let v179_r1 : BitVec 32 := Scalar.muli c2_i32_166_r1 v168_r1
  let c2_i32_167_r1 : BitVec 32 := 2#32
  let true_157_r1 : BitVec 1 := 1#1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v180_r1 : BitVec 32 := Scalar.muli c2_i32_167_r1 v173_r1
  let v181_r1 : BitVec 1 := Scalar.cmpi .ne v179_r1 v180_r1
  let c0_i32_86_r1 : BitVec 32 := 0#32
  let c1_i32_88_r1 : BitVec 32 := 1#32
  let arg9_r1 : BitVec 32 := Scf.iv c0_i32_86_r1 c1_i32_88_r1 k0_t2
  let c46_i32_r1 : BitVec 32 := 46#32
  let v182_r1 : BitVec 1 := Scalar.cmpi .sge arg9_r1 c46_i32_r1
  let true_168_r1 : BitVec 1 := 1#1
  let v183_r1 : BitVec 1 := Scalar.xori v182_r1 true_168_r1
  let v184_r1 : BitVec 1 := Scalar.andi v181_r1 v183_r1
  let true_169_r1 : BitVec 1 := 1#1
  let v185_r1 : BitVec 1 := Scalar.andi v184_r1 true_169_r1
  let v186_r1 : BitVec 32 := Scalar.extui v185_r1
  let c0_i32_170_r1 : BitVec 32 := 0#32
  let v187_r1 : BitVec 1 := Scalar.cmpi .ne v186_r1 c0_i32_170_r1
  v187_r1

def k0_off71 (arg10_r1 : BitVec 32) : Fin 1 → Nat :=
  let c4_i32_296_r1 : BitVec 32 := 4#32
  let v417_r1 : BitVec 32 := Scalar.remui arg10_r1 c4_i32_296_r1
  ![v417_r1.toNat]
def k0_off72 (arg10_r1 : BitVec 32) (arg18_r1 : BitVec 32) : (Fin 3 → Nat) × (Fin 3 → Nat) :=
  let c4_i32_296_r1 : BitVec 32 := 4#32
  let v417_r1 : BitVec 32 := Scalar.remui arg10_r1 c4_i32_296_r1
  let c0_i32_302_r1 : BitVec 32 := 0#32
  let c0_i32_303_r1 : BitVec 32 := 0#32
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v417_r1.toNat, 0, 0], ![1, v422_r1.toNat, 128]⟩
def k0_sz22 (arg18_r1 : BitVec 32) : Fin 2 → Nat :=
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ![v422_r1.toNat, 128]
def k0_off73 (arg18_r1 : BitVec 32) : (Fin 2 → Nat) × (Fin 2 → Nat) :=
  let c1024_i32_298_r1 : BitVec 32 := 1024#32
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let v419_r1 : BitVec 32 := Scalar.muli c1024_i32_298_r1 v418_r1
  let c0_i32_304_r1 : BitVec 32 := 0#32
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v419_r1.toNat, 0], ![v422_r1.toNat, 128]⟩
def k0_mult28 (arg18_r1 : BitVec 32) : BitVec 32 :=
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  v422_r1
def k0_cond30 (k0_t2 : Fin k0_t2_loop.trips) (arg18_r1 : BitVec 32) : BitVec 1 :=
  let c2_i32_173_r1 : BitVec 32 := 2#32
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c0_i32_155_r1 : BitVec 32 := 0#32
  let v168_r1 : BitVec 32 := Scalar.addi v167_r1 c0_i32_155_r1
  let v191_r1 : BitVec 32 := Scalar.muli c2_i32_173_r1 v168_r1
  let c1_i32_174_r1 : BitVec 32 := 1#32
  let v192_r1 : BitVec 32 := Scalar.addi v191_r1 c1_i32_174_r1
  let c2_i32_175_r1 : BitVec 32 := 2#32
  let true_157_r1 : BitVec 1 := 1#1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v193_r1 : BitVec 32 := Scalar.muli c2_i32_175_r1 v173_r1
  let c1_i32_176_r1 : BitVec 32 := 1#32
  let v194_r1 : BitVec 32 := Scalar.addi v193_r1 c1_i32_176_r1
  let v195_r1 : BitVec 1 := Scalar.cmpi .ne v192_r1 v194_r1
  let c0_i32_86_r1 : BitVec 32 := 0#32
  let c1_i32_88_r1 : BitVec 32 := 1#32
  let arg9_r1 : BitVec 32 := Scf.iv c0_i32_86_r1 c1_i32_88_r1 k0_t2
  let c46_i32_177_r1 : BitVec 32 := 46#32
  let v196_r1 : BitVec 1 := Scalar.cmpi .sge arg9_r1 c46_i32_177_r1
  let true_178_r1 : BitVec 1 := 1#1
  let v197_r1 : BitVec 1 := Scalar.xori v196_r1 true_178_r1
  let v198_r1 : BitVec 1 := Scalar.andi v195_r1 v197_r1
  let true_179_r1 : BitVec 1 := 1#1
  let v199_r1 : BitVec 1 := Scalar.andi v198_r1 true_179_r1
  let v200_r1 : BitVec 32 := Scalar.extui v199_r1
  let c0_i32_180_r1 : BitVec 32 := 0#32
  let v201_r1 : BitVec 1 := Scalar.cmpi .ne v200_r1 c0_i32_180_r1
  v201_r1

def k0_off74 (arg12_r1 : BitVec 32) : Fin 1 → Nat :=
  let c4_i32_296_r1 : BitVec 32 := 4#32
  let v417_r1 : BitVec 32 := Scalar.remui arg12_r1 c4_i32_296_r1
  ![v417_r1.toNat]
def k0_off75 (arg12_r1 : BitVec 32) (arg18_r1 : BitVec 32) : (Fin 3 → Nat) × (Fin 3 → Nat) :=
  let c4_i32_296_r1 : BitVec 32 := 4#32
  let v417_r1 : BitVec 32 := Scalar.remui arg12_r1 c4_i32_296_r1
  let c0_i32_303_r1 : BitVec 32 := 0#32
  let c0_i32_304_r1 : BitVec 32 := 0#32
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v417_r1.toNat, 0, 0], ![1, v423_r1.toNat, 128]⟩
def k0_sz23 (arg18_r1 : BitVec 32) : Fin 2 → Nat :=
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ![v423_r1.toNat, 128]
def k0_off76 (arg18_r1 : BitVec 32) : (Fin 2 → Nat) × (Fin 2 → Nat) :=
  let c1024_i32_299_r1 : BitVec 32 := 1024#32
  let c2_i32_297_r1 : BitVec 32 := 2#32
  let true_157_r1 : BitVec 1 := 1#1
  let true_152_r1 : BitVec 1 := 1#1
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c1_i32_151_r1 : BitVec 32 := 1#32
  let v164_r1 : BitVec 32 := Scalar.addi v162_r1 c1_i32_151_r1
  let v165_r1 : BitVec 32 := Scalar.select true_152_r1 v164_r1 v162_r1
  let c49_i32_153_r1 : BitVec 32 := 49#32
  let v166_r1 : BitVec 1 := Scalar.cmpi .eq v165_r1 c49_i32_153_r1
  let c0_i32_154_r1 : BitVec 32 := 0#32
  let v167_r1 : BitVec 32 := Scalar.select v166_r1 c0_i32_154_r1 v165_r1
  let c1_i32_156_r1 : BitVec 32 := 1#32
  let v169_r1 : BitVec 32 := Scalar.addi v167_r1 c1_i32_156_r1
  let v170_r1 : BitVec 32 := Scalar.select true_157_r1 v169_r1 v167_r1
  let c49_i32_158_r1 : BitVec 32 := 49#32
  let v171_r1 : BitVec 1 := Scalar.cmpi .eq v170_r1 c49_i32_158_r1
  let c0_i32_159_r1 : BitVec 32 := 0#32
  let v172_r1 : BitVec 32 := Scalar.select v171_r1 c0_i32_159_r1 v170_r1
  let c0_i32_160_r1 : BitVec 32 := 0#32
  let v173_r1 : BitVec 32 := Scalar.addi v172_r1 c0_i32_160_r1
  let v418_r1 : BitVec 32 := Scalar.muli c2_i32_297_r1 v173_r1
  let c1_i32_298_r1 : BitVec 32 := 1#32
  let v419_r1 : BitVec 32 := Scalar.addi v418_r1 c1_i32_298_r1
  let v420_r1 : BitVec 32 := Scalar.muli c1024_i32_299_r1 v419_r1
  let c0_i32_305_r1 : BitVec 32 := 0#32
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v420_r1.toNat, 0], ![v423_r1.toNat, 128]⟩
def k0_mult29 (arg18_r1 : BitVec 32) : BitVec 32 :=
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c97_i32_298_r1 : BitVec 32 := 97#32
  let v419_r1 : BitVec 1 := Scalar.cmpi .eq v417_r1 c97_i32_298_r1
  let c672_i32_299_r1 : BitVec 32 := 672#32
  let c1024_i32_300_r1 : BitVec 32 := 1024#32
  let v420_r1 : BitVec 32 := Scalar.select v419_r1 c672_i32_299_r1 c1024_i32_300_r1
  v420_r1
def k0_cond31 (k0_t2 : Fin k0_t2_loop.trips) (arg18_r1 : BitVec 32) : BitVec 1 :=
  let c2_i32_193_r1 : BitVec 32 := 2#32
  let c0_i32_140_r1 : BitVec 32 := 0#32
  let v153_r1 : BitVec 32 := Scalar.addi arg18_r1 c0_i32_140_r1
  let v219_r1 : BitVec 32 := Scalar.muli c2_i32_193_r1 v153_r1
  let c2_i32_194_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v220_r1 : BitVec 32 := Scalar.muli c2_i32_194_r1 v158_r1
  let v221_r1 : BitVec 1 := Scalar.cmpi .ne v219_r1 v220_r1
  let c0_i32_86_r1 : BitVec 32 := 0#32
  let c1_i32_88_r1 : BitVec 32 := 1#32
  let arg9_r1 : BitVec 32 := Scf.iv c0_i32_86_r1 c1_i32_88_r1 k0_t2
  let c0_i32_138_r1 : BitVec 32 := 0#32
  let v151_r1 : BitVec 1 := Scalar.cmpi .eq arg9_r1 c0_i32_138_r1
  let v222_r1 : BitVec 1 := Scalar.ori v221_r1 v151_r1
  let c0_i32_195_r1 : BitVec 32 := 0#32
  let v223_r1 : BitVec 1 := Scalar.cmpi .sge arg9_r1 c0_i32_195_r1
  let v224_r1 : BitVec 1 := Scalar.andi v222_r1 v223_r1
  let v225_r1 : BitVec 32 := Scalar.extui v224_r1
  let c0_i32_196_r1 : BitVec 32 := 0#32
  let v226_r1 : BitVec 1 := Scalar.cmpi .ne v225_r1 c0_i32_196_r1
  v226_r1

def k0_off77 (arg11_r1 : BitVec 32) : Fin 1 → Nat :=
  let c4_i32_301_r1 : BitVec 32 := 4#32
  let v422_r1 : BitVec 32 := Scalar.remui arg11_r1 c4_i32_301_r1
  ![v422_r1.toNat]
def k0_off78 (arg11_r1 : BitVec 32) (arg18_r1 : BitVec 32) : (Fin 3 → Nat) × (Fin 3 → Nat) :=
  let c4_i32_301_r1 : BitVec 32 := 4#32
  let v422_r1 : BitVec 32 := Scalar.remui arg11_r1 c4_i32_301_r1
  let c0_i32_302_r1 : BitVec 32 := 0#32
  let c0_i32_303_r1 : BitVec 32 := 0#32
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c97_i32_298_r1 : BitVec 32 := 97#32
  let v419_r1 : BitVec 1 := Scalar.cmpi .eq v417_r1 c97_i32_298_r1
  let c672_i32_299_r1 : BitVec 32 := 672#32
  let c1024_i32_300_r1 : BitVec 32 := 1024#32
  let v420_r1 : BitVec 32 := Scalar.select v419_r1 c672_i32_299_r1 c1024_i32_300_r1
  let v421_r1 : BitVec 32 := v420_r1
  ⟨![v422_r1.toNat, 0, 0], ![1, v421_r1.toNat, 128]⟩

def k0_sz24 (arg18_r1 : BitVec 32) : Fin 2 → Nat :=
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c97_i32_298_r1 : BitVec 32 := 97#32
  let v419_r1 : BitVec 1 := Scalar.cmpi .eq v417_r1 c97_i32_298_r1
  let c672_i32_299_r1 : BitVec 32 := 672#32
  let c1024_i32_300_r1 : BitVec 32 := 1024#32
  let v420_r1 : BitVec 32 := Scalar.select v419_r1 c672_i32_299_r1 c1024_i32_300_r1
  let v421_r1 : BitVec 32 := v420_r1
  ![v421_r1.toNat, 128]
def k0_off79 (arg18_r1 : BitVec 32) : (Fin 2 → Nat) × (Fin 2 → Nat) :=
  let c1024_i32_297_r1 : BitVec 32 := 1024#32
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let v418_r1 : BitVec 32 := Scalar.muli c1024_i32_297_r1 v417_r1
  let c0_i32_304_r1 : BitVec 32 := 0#32
  let c97_i32_298_r1 : BitVec 32 := 97#32
  let v419_r1 : BitVec 1 := Scalar.cmpi .eq v417_r1 c97_i32_298_r1
  let c672_i32_299_r1 : BitVec 32 := 672#32
  let c1024_i32_300_r1 : BitVec 32 := 1024#32
  let v420_r1 : BitVec 32 := Scalar.select v419_r1 c672_i32_299_r1 c1024_i32_300_r1
  let v421_r1 : BitVec 32 := v420_r1
  ⟨![v418_r1.toNat, 0], ![v421_r1.toNat, 128]⟩

def k0_mult30 (arg18_r1 : BitVec 32) : BitVec 32 :=
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c1_i32_297_r1 : BitVec 32 := 1#32
  let v418_r1 : BitVec 32 := Scalar.addi v417_r1 c1_i32_297_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  v421_r1
def k0_cond32 (k0_t2 : Fin k0_t2_loop.trips) (arg18_r1 : BitVec 32) : BitVec 1 :=
  let c2_i32_197_r1 : BitVec 32 := 2#32
  let c0_i32_140_r1 : BitVec 32 := 0#32
  let v153_r1 : BitVec 32 := Scalar.addi arg18_r1 c0_i32_140_r1
  let v227_r1 : BitVec 32 := Scalar.muli c2_i32_197_r1 v153_r1
  let c1_i32_198_r1 : BitVec 32 := 1#32
  let v228_r1 : BitVec 32 := Scalar.addi v227_r1 c1_i32_198_r1
  let c2_i32_199_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v229_r1 : BitVec 32 := Scalar.muli c2_i32_199_r1 v158_r1
  let c1_i32_200_r1 : BitVec 32 := 1#32
  let v230_r1 : BitVec 32 := Scalar.addi v229_r1 c1_i32_200_r1
  let v231_r1 : BitVec 1 := Scalar.cmpi .ne v228_r1 v230_r1
  let c0_i32_86_r1 : BitVec 32 := 0#32
  let c1_i32_88_r1 : BitVec 32 := 1#32
  let arg9_r1 : BitVec 32 := Scf.iv c0_i32_86_r1 c1_i32_88_r1 k0_t2
  let c0_i32_138_r1 : BitVec 32 := 0#32
  let v151_r1 : BitVec 1 := Scalar.cmpi .eq arg9_r1 c0_i32_138_r1
  let v232_r1 : BitVec 1 := Scalar.ori v231_r1 v151_r1
  let c0_i32_201_r1 : BitVec 32 := 0#32
  let v233_r1 : BitVec 1 := Scalar.cmpi .sge arg9_r1 c0_i32_201_r1
  let v234_r1 : BitVec 1 := Scalar.andi v232_r1 v233_r1
  let v235_r1 : BitVec 32 := Scalar.extui v234_r1
  let c0_i32_202_r1 : BitVec 32 := 0#32
  let v236_r1 : BitVec 1 := Scalar.cmpi .ne v235_r1 c0_i32_202_r1
  v236_r1

def k0_off80 (arg13_r1 : BitVec 32) : Fin 1 → Nat :=
  let c4_i32_302_r1 : BitVec 32 := 4#32
  let v423_r1 : BitVec 32 := Scalar.remui arg13_r1 c4_i32_302_r1
  ![v423_r1.toNat]
def k0_off81 (arg13_r1 : BitVec 32) (arg18_r1 : BitVec 32) : (Fin 3 → Nat) × (Fin 3 → Nat) :=
  let c4_i32_302_r1 : BitVec 32 := 4#32
  let v423_r1 : BitVec 32 := Scalar.remui arg13_r1 c4_i32_302_r1
  let c0_i32_303_r1 : BitVec 32 := 0#32
  let c0_i32_304_r1 : BitVec 32 := 0#32
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c1_i32_297_r1 : BitVec 32 := 1#32
  let v418_r1 : BitVec 32 := Scalar.addi v417_r1 c1_i32_297_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v423_r1.toNat, 0, 0], ![1, v422_r1.toNat, 128]⟩

def k0_sz25 (arg18_r1 : BitVec 32) : Fin 2 → Nat :=
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c1_i32_297_r1 : BitVec 32 := 1#32
  let v418_r1 : BitVec 32 := Scalar.addi v417_r1 c1_i32_297_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ![v422_r1.toNat, 128]
def k0_off82 (arg18_r1 : BitVec 32) : (Fin 2 → Nat) × (Fin 2 → Nat) :=
  let c1024_i32_298_r1 : BitVec 32 := 1024#32
  let c2_i32_296_r1 : BitVec 32 := 2#32
  let c0_i32_140_r1 : BitVec 32 := 0#32
  let v153_r1 : BitVec 32 := Scalar.addi arg18_r1 c0_i32_140_r1
  let v417_r1 : BitVec 32 := Scalar.muli c2_i32_296_r1 v153_r1
  let c1_i32_297_r1 : BitVec 32 := 1#32
  let v418_r1 : BitVec 32 := Scalar.addi v417_r1 c1_i32_297_r1
  let v419_r1 : BitVec 32 := Scalar.muli c1024_i32_298_r1 v418_r1
  let c0_i32_305_r1 : BitVec 32 := 0#32
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v419_r1.toNat, 0], ![v422_r1.toNat, 128]⟩

def k0_off83 (arg11_r1 : BitVec 32) : Fin 3 → Nat :=
  let c4_i32_210_r1 : BitVec 32 := 4#32
  let v252_r1 : BitVec 32 := Scalar.remui arg11_r1 c4_i32_210_r1
  let v257_r1 : Index := Scalar.indexCast v252_r1
  let c0_214_r1 : Index := 0#32
  let c0_215_r1 : Index := 0#32
  ![v257_r1.toNat, 0, 0]

def k0_chk7 (arg11_r1 : BitVec 32) : Prop :=
  (∀ a, (k0_off83 arg11_r1) a + S1x1024x128.size a ≤ S4x1024x128.size a)
theorem k0_off83_inb : ∀ (arg11_r1 : BitVec 32) (k0_hw7 : k0_chk7 arg11_r1), ∀ a, (k0_off83 arg11_r1) a + S1x1024x128.size a ≤ S4x1024x128.size a := fun arg11_r1 k0_hw7 => k0_hw7

def k0_off84 (arg18_r1 : BitVec 32) : Fin 2 → Nat :=
  let c2_i32_216_r1 : BitVec 32 := 2#32
  let c0_i32_140_r1 : BitVec 32 := 0#32
  let v153_r1 : BitVec 32 := Scalar.addi arg18_r1 c0_i32_140_r1
  let v260_r1 : BitVec 32 := Scalar.muli c2_i32_216_r1 v153_r1
  let c1024_i32_217_r1 : BitVec 32 := 1024#32
  let v261_r1 : BitVec 32 := Scalar.muli v260_r1 c1024_i32_217_r1
  let v262_r1 : Index := Scalar.indexCast v261_r1
  let c0_218_r1 : Index := 0#32
  ![v262_r1.toNat, 0]
def k0_off85 (arg14_r1 : BitVec 32) : Fin 3 → Nat :=
  let c2_i32_212_r1 : BitVec 32 := 2#32
  let v254_r1 : BitVec 32 := Scalar.remui arg14_r1 c2_i32_212_r1
  let v266_r1 : Index := Scalar.indexCast v254_r1
  let c0_219_r1 : Index := 0#32
  let c0_220_r1 : Index := 0#32
  ![v266_r1.toNat, 0, 0]

def k0_chk8 (arg14_r1 : BitVec 32) : Prop :=
  (∀ a, (k0_off85 arg14_r1) a + S1x1024x128.size a ≤ S2x1024x128.size a)
theorem k0_off85_inb : ∀ (arg14_r1 : BitVec 32) (k0_hw8 : k0_chk8 arg14_r1), ∀ a, (k0_off85 arg14_r1) a + S1x1024x128.size a ≤ S2x1024x128.size a := fun arg14_r1 k0_hw8 => k0_hw8

def k0_off86 (arg13_r1 : BitVec 32) : Fin 3 → Nat :=
  let c4_i32_211_r1 : BitVec 32 := 4#32
  let v253_r1 : BitVec 32 := Scalar.remui arg13_r1 c4_i32_211_r1
  let v303_r1 : Index := Scalar.indexCast v253_r1
  let c0_237_r1 : Index := 0#32
  let c0_238_r1 : Index := 0#32
  ![v303_r1.toNat, 0, 0]

def k0_chk9 (arg13_r1 : BitVec 32) : Prop :=
  (∀ a, (k0_off86 arg13_r1) a + S1x1024x128.size a ≤ S4x1024x128.size a)
theorem k0_off86_inb : ∀ (arg13_r1 : BitVec 32) (k0_hw9 : k0_chk9 arg13_r1), ∀ a, (k0_off86 arg13_r1) a + S1x1024x128.size a ≤ S4x1024x128.size a := fun arg13_r1 k0_hw9 => k0_hw9

def k0_off87 (arg18_r1 : BitVec 32) : Fin 2 → Nat :=
  let c2_i32_239_r1 : BitVec 32 := 2#32
  let c0_i32_140_r1 : BitVec 32 := 0#32
  let v153_r1 : BitVec 32 := Scalar.addi arg18_r1 c0_i32_140_r1
  let v306_r1 : BitVec 32 := Scalar.muli c2_i32_239_r1 v153_r1
  let c1_i32_240_r1 : BitVec 32 := 1#32
  let v307_r1 : BitVec 32 := Scalar.addi v306_r1 c1_i32_240_r1
  let c1024_i32_241_r1 : BitVec 32 := 1024#32
  let v308_r1 : BitVec 32 := Scalar.muli v307_r1 c1024_i32_241_r1
  let v309_r1 : Index := Scalar.indexCast v308_r1
  let c0_242_r1 : Index := 0#32
  ![v309_r1.toNat, 0]
def k0_off88 (arg16_r1 : BitVec 32) : Fin 3 → Nat :=
  let c2_i32_213_r1 : BitVec 32 := 2#32
  let v255_r1 : BitVec 32 := Scalar.remui arg16_r1 c2_i32_213_r1
  let v313_r1 : Index := Scalar.indexCast v255_r1
  let c0_243_r1 : Index := 0#32
  let c0_244_r1 : Index := 0#32
  ![v313_r1.toNat, 0, 0]

def k0_chk10 (arg16_r1 : BitVec 32) : Prop :=
  (∀ a, (k0_off88 arg16_r1) a + S1x1024x128.size a ≤ S2x1024x128.size a)
theorem k0_off88_inb : ∀ (arg16_r1 : BitVec 32) (k0_hw10 : k0_chk10 arg16_r1), ∀ a, (k0_off88 arg16_r1) a + S1x1024x128.size a ≤ S2x1024x128.size a := fun arg16_r1 k0_hw10 => k0_hw10

def k0_mult31 (arg18_r1 : BitVec 32) : BitVec 32 :=
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  v421_r1
def k0_cond37 (k0_t2 : Fin k0_t2_loop.trips) (arg18_r1 : BitVec 32) : BitVec 1 :=
  let c2_i32_183_r1 : BitVec 32 := 2#32
  let c0_i32_140_r1 : BitVec 32 := 0#32
  let v153_r1 : BitVec 32 := Scalar.addi arg18_r1 c0_i32_140_r1
  let v205_r1 : BitVec 32 := Scalar.muli c2_i32_183_r1 v153_r1
  let c2_i32_184_r1 : BitVec 32 := 2#32
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c0_i32_150_r1 : BitVec 32 := 0#32
  let v163_r1 : BitVec 32 := Scalar.addi v162_r1 c0_i32_150_r1
  let v206_r1 : BitVec 32 := Scalar.muli c2_i32_184_r1 v163_r1
  let v363_r1 : BitVec 1 := Scalar.cmpi .ne v205_r1 v206_r1
  let c0_i32_86_r1 : BitVec 32 := 0#32
  let c1_i32_88_r1 : BitVec 32 := 1#32
  let arg9_r1 : BitVec 32 := Scf.iv c0_i32_86_r1 c1_i32_88_r1 k0_t2
  let c48_i32_139_r1 : BitVec 32 := 48#32
  let v152_r1 : BitVec 1 := Scalar.cmpi .eq arg9_r1 c48_i32_139_r1
  let v364_r1 : BitVec 1 := Scalar.ori v363_r1 v152_r1
  let v365_r1 : BitVec 32 := Scalar.extui v364_r1
  let c0_i32_270_r1 : BitVec 32 := 0#32
  let v366_r1 : BitVec 1 := Scalar.cmpi .ne v365_r1 c0_i32_270_r1
  v366_r1

def k0_off89 (arg14_r1 : BitVec 32) : Fin 1 → Nat :=
  let c2_i32_296_r1 : BitVec 32 := 2#32
  let v417_r1 : BitVec 32 := Scalar.remui arg14_r1 c2_i32_296_r1
  ![v417_r1.toNat]
def k0_off90 (arg18_r1 : BitVec 32) : (Fin 2 → Nat) × (Fin 2 → Nat) :=
  let c1024_i32_298_r1 : BitVec 32 := 1024#32
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let v419_r1 : BitVec 32 := Scalar.muli c1024_i32_298_r1 v418_r1
  let c0_i32_302_r1 : BitVec 32 := 0#32
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v419_r1.toNat, 0], ![v422_r1.toNat, 128]⟩
def k0_off91 (arg14_r1 : BitVec 32) (arg18_r1 : BitVec 32) : (Fin 3 → Nat) × (Fin 3 → Nat) :=
  let c2_i32_296_r1 : BitVec 32 := 2#32
  let v417_r1 : BitVec 32 := Scalar.remui arg14_r1 c2_i32_296_r1
  let c0_i32_303_r1 : BitVec 32 := 0#32
  let c0_i32_304_r1 : BitVec 32 := 0#32
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v417_r1.toNat, 0, 0], ![1, v422_r1.toNat, 128]⟩
def k0_sz26 (arg18_r1 : BitVec 32) : Fin 2 → Nat :=
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ![v422_r1.toNat, 128]
def k0_mult32 (arg18_r1 : BitVec 32) : BitVec 32 :=
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  v422_r1
def k0_cond38 (k0_t2 : Fin k0_t2_loop.trips) (arg18_r1 : BitVec 32) : BitVec 1 :=
  let c2_i32_187_r1 : BitVec 32 := 2#32
  let c0_i32_140_r1 : BitVec 32 := 0#32
  let v153_r1 : BitVec 32 := Scalar.addi arg18_r1 c0_i32_140_r1
  let v211_r1 : BitVec 32 := Scalar.muli c2_i32_187_r1 v153_r1
  let c1_i32_188_r1 : BitVec 32 := 1#32
  let v212_r1 : BitVec 32 := Scalar.addi v211_r1 c1_i32_188_r1
  let c2_i32_189_r1 : BitVec 32 := 2#32
  let true_147_r1 : BitVec 1 := 1#1
  let c1_i32_146_r1 : BitVec 32 := 1#32
  let v159_r1 : BitVec 32 := Scalar.addi arg18_r1 c1_i32_146_r1
  let v160_r1 : BitVec 32 := Scalar.select true_147_r1 v159_r1 arg18_r1
  let c49_i32_148_r1 : BitVec 32 := 49#32
  let v161_r1 : BitVec 1 := Scalar.cmpi .eq v160_r1 c49_i32_148_r1
  let c0_i32_149_r1 : BitVec 32 := 0#32
  let v162_r1 : BitVec 32 := Scalar.select v161_r1 c0_i32_149_r1 v160_r1
  let c0_i32_150_r1 : BitVec 32 := 0#32
  let v163_r1 : BitVec 32 := Scalar.addi v162_r1 c0_i32_150_r1
  let v213_r1 : BitVec 32 := Scalar.muli c2_i32_189_r1 v163_r1
  let c1_i32_190_r1 : BitVec 32 := 1#32
  let v214_r1 : BitVec 32 := Scalar.addi v213_r1 c1_i32_190_r1
  let v370_r1 : BitVec 1 := Scalar.cmpi .ne v212_r1 v214_r1
  let c0_i32_86_r1 : BitVec 32 := 0#32
  let c1_i32_88_r1 : BitVec 32 := 1#32
  let arg9_r1 : BitVec 32 := Scf.iv c0_i32_86_r1 c1_i32_88_r1 k0_t2
  let c48_i32_139_r1 : BitVec 32 := 48#32
  let v152_r1 : BitVec 1 := Scalar.cmpi .eq arg9_r1 c48_i32_139_r1
  let v371_r1 : BitVec 1 := Scalar.ori v370_r1 v152_r1
  let v372_r1 : BitVec 32 := Scalar.extui v371_r1
  let c0_i32_273_r1 : BitVec 32 := 0#32
  let v373_r1 : BitVec 1 := Scalar.cmpi .ne v372_r1 c0_i32_273_r1
  v373_r1

def k0_off92 (arg16_r1 : BitVec 32) : Fin 1 → Nat :=
  let c2_i32_296_r1 : BitVec 32 := 2#32
  let v417_r1 : BitVec 32 := Scalar.remui arg16_r1 c2_i32_296_r1
  ![v417_r1.toNat]
def k0_off93 (arg18_r1 : BitVec 32) : (Fin 2 → Nat) × (Fin 2 → Nat) :=
  let c1024_i32_299_r1 : BitVec 32 := 1024#32
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c1_i32_298_r1 : BitVec 32 := 1#32
  let v419_r1 : BitVec 32 := Scalar.addi v418_r1 c1_i32_298_r1
  let v420_r1 : BitVec 32 := Scalar.muli c1024_i32_299_r1 v419_r1
  let c0_i32_303_r1 : BitVec 32 := 0#32
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v420_r1.toNat, 0], ![v423_r1.toNat, 128]⟩
def k0_off94 (arg16_r1 : BitVec 32) (arg18_r1 : BitVec 32) : (Fin 3 → Nat) × (Fin 3 → Nat) :=
  let c2_i32_296_r1 : BitVec 32 := 2#32
  let v417_r1 : BitVec 32 := Scalar.remui arg16_r1 c2_i32_296_r1
  let c0_i32_304_r1 : BitVec 32 := 0#32
  let c0_i32_305_r1 : BitVec 32 := 0#32
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v417_r1.toNat, 0, 0], ![1, v423_r1.toNat, 128]⟩
def k0_sz27 (arg18_r1 : BitVec 32) : Fin 2 → Nat :=
  let c2_i32_297_r1 : BitVec 32 := 2#32
  let c0_i32_140_r1 : BitVec 32 := 0#32
  let v153_r1 : BitVec 32 := Scalar.addi arg18_r1 c0_i32_140_r1
  let v418_r1 : BitVec 32 := Scalar.muli c2_i32_297_r1 v153_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ![v423_r1.toNat, 128]
def k0_mult33 (arg18_r1 : BitVec 32) : BitVec 32 :=
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  v421_r1
def k0_cond41 (k0_t2 : Fin k0_t2_loop.trips) (arg18_r1 : BitVec 32) : BitVec 1 :=
  let c2_i32_183_r1 : BitVec 32 := 2#32
  let c0_i32_140_r1 : BitVec 32 := 0#32
  let v153_r1 : BitVec 32 := Scalar.addi arg18_r1 c0_i32_140_r1
  let v205_r1 : BitVec 32 := Scalar.muli c2_i32_183_r1 v153_r1
  let c2_i32_203_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v237_r1 : BitVec 32 := Scalar.muli c2_i32_203_r1 v158_r1
  let v389_r1 : BitVec 1 := Scalar.cmpi .ne v205_r1 v237_r1
  let c0_i32_86_r1 : BitVec 32 := 0#32
  let c1_i32_88_r1 : BitVec 32 := 1#32
  let arg9_r1 : BitVec 32 := Scf.iv c0_i32_86_r1 c1_i32_88_r1 k0_t2
  let c0_i32_138_r1 : BitVec 32 := 0#32
  let v151_r1 : BitVec 1 := Scalar.cmpi .eq arg9_r1 c0_i32_138_r1
  let true_282_r1 : BitVec 1 := 1#1
  let v390_r1 : BitVec 1 := Scalar.xori v151_r1 true_282_r1
  let v391_r1 : BitVec 1 := Scalar.andi v389_r1 v390_r1
  let v392_r1 : BitVec 32 := Scalar.extui v391_r1
  let c0_i32_283_r1 : BitVec 32 := 0#32
  let v393_r1 : BitVec 1 := Scalar.cmpi .ne v392_r1 c0_i32_283_r1
  v393_r1

def k0_off95 (arg15_r1 : BitVec 32) : Fin 1 → Nat :=
  let c2_i32_296_r1 : BitVec 32 := 2#32
  let v417_r1 : BitVec 32 := Scalar.remui arg15_r1 c2_i32_296_r1
  ![v417_r1.toNat]
def k0_off96 (arg18_r1 : BitVec 32) : (Fin 2 → Nat) × (Fin 2 → Nat) :=
  let c1024_i32_298_r1 : BitVec 32 := 1024#32
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let v419_r1 : BitVec 32 := Scalar.muli c1024_i32_298_r1 v418_r1
  let c0_i32_302_r1 : BitVec 32 := 0#32
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v419_r1.toNat, 0], ![v422_r1.toNat, 128]⟩

def k0_off97 (arg15_r1 : BitVec 32) (arg18_r1 : BitVec 32) : (Fin 3 → Nat) × (Fin 3 → Nat) :=
  let c2_i32_296_r1 : BitVec 32 := 2#32
  let v417_r1 : BitVec 32 := Scalar.remui arg15_r1 c2_i32_296_r1
  let c0_i32_303_r1 : BitVec 32 := 0#32
  let c0_i32_304_r1 : BitVec 32 := 0#32
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ⟨![v417_r1.toNat, 0, 0], ![1, v422_r1.toNat, 128]⟩

def k0_sz28 (arg18_r1 : BitVec 32) : Fin 2 → Nat :=
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c97_i32_299_r1 : BitVec 32 := 97#32
  let v420_r1 : BitVec 1 := Scalar.cmpi .eq v418_r1 c97_i32_299_r1
  let c672_i32_300_r1 : BitVec 32 := 672#32
  let c1024_i32_301_r1 : BitVec 32 := 1024#32
  let v421_r1 : BitVec 32 := Scalar.select v420_r1 c672_i32_300_r1 c1024_i32_301_r1
  let v422_r1 : BitVec 32 := v421_r1
  ![v422_r1.toNat, 128]
def k0_mult34 (arg18_r1 : BitVec 32) : BitVec 32 :=
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  v422_r1
def k0_cond42 (k0_t2 : Fin k0_t2_loop.trips) (arg18_r1 : BitVec 32) : BitVec 1 :=
  let c2_i32_187_r1 : BitVec 32 := 2#32
  let c0_i32_140_r1 : BitVec 32 := 0#32
  let v153_r1 : BitVec 32 := Scalar.addi arg18_r1 c0_i32_140_r1
  let v211_r1 : BitVec 32 := Scalar.muli c2_i32_187_r1 v153_r1
  let c1_i32_188_r1 : BitVec 32 := 1#32
  let v212_r1 : BitVec 32 := Scalar.addi v211_r1 c1_i32_188_r1
  let c2_i32_206_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v244_r1 : BitVec 32 := Scalar.muli c2_i32_206_r1 v158_r1
  let c1_i32_207_r1 : BitVec 32 := 1#32
  let v245_r1 : BitVec 32 := Scalar.addi v244_r1 c1_i32_207_r1
  let v397_r1 : BitVec 1 := Scalar.cmpi .ne v212_r1 v245_r1
  let c0_i32_86_r1 : BitVec 32 := 0#32
  let c1_i32_88_r1 : BitVec 32 := 1#32
  let arg9_r1 : BitVec 32 := Scf.iv c0_i32_86_r1 c1_i32_88_r1 k0_t2
  let c0_i32_138_r1 : BitVec 32 := 0#32
  let v151_r1 : BitVec 1 := Scalar.cmpi .eq arg9_r1 c0_i32_138_r1
  let true_286_r1 : BitVec 1 := 1#1
  let v398_r1 : BitVec 1 := Scalar.xori v151_r1 true_286_r1
  let v399_r1 : BitVec 1 := Scalar.andi v397_r1 v398_r1
  let v400_r1 : BitVec 32 := Scalar.extui v399_r1
  let c0_i32_287_r1 : BitVec 32 := 0#32
  let v401_r1 : BitVec 1 := Scalar.cmpi .ne v400_r1 c0_i32_287_r1
  v401_r1

def k0_off98 (arg17_r1 : BitVec 32) : Fin 1 → Nat :=
  let c2_i32_296_r1 : BitVec 32 := 2#32
  let v417_r1 : BitVec 32 := Scalar.remui arg17_r1 c2_i32_296_r1
  ![v417_r1.toNat]
def k0_off99 (arg18_r1 : BitVec 32) : (Fin 2 → Nat) × (Fin 2 → Nat) :=
  let c1024_i32_299_r1 : BitVec 32 := 1024#32
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c1_i32_298_r1 : BitVec 32 := 1#32
  let v419_r1 : BitVec 32 := Scalar.addi v418_r1 c1_i32_298_r1
  let v420_r1 : BitVec 32 := Scalar.muli c1024_i32_299_r1 v419_r1
  let c0_i32_303_r1 : BitVec 32 := 0#32
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v420_r1.toNat, 0], ![v423_r1.toNat, 128]⟩

def k0_off100 (arg17_r1 : BitVec 32) (arg18_r1 : BitVec 32) : (Fin 3 → Nat) × (Fin 3 → Nat) :=
  let c2_i32_296_r1 : BitVec 32 := 2#32
  let v417_r1 : BitVec 32 := Scalar.remui arg17_r1 c2_i32_296_r1
  let c0_i32_304_r1 : BitVec 32 := 0#32
  let c0_i32_305_r1 : BitVec 32 := 0#32
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ⟨![v417_r1.toNat, 0, 0], ![1, v423_r1.toNat, 128]⟩

def k0_sz29 (arg18_r1 : BitVec 32) : Fin 2 → Nat :=
  let c2_i32_297_r1 : BitVec 32 := 2#32
  let true_142_r1 : BitVec 1 := 1#1
  let c1_i32_141_r1 : BitVec 32 := 1#32
  let v154_r1 : BitVec 32 := Scalar.subi arg18_r1 c1_i32_141_r1
  let v155_r1 : BitVec 32 := Scalar.select true_142_r1 v154_r1 arg18_r1
  let c_m1_i32_143_r1 : BitVec 32 := 4294967295#32
  let v156_r1 : BitVec 1 := Scalar.cmpi .eq v155_r1 c_m1_i32_143_r1
  let c48_i32_144_r1 : BitVec 32 := 48#32
  let v157_r1 : BitVec 32 := Scalar.select v156_r1 c48_i32_144_r1 v155_r1
  let c0_i32_145_r1 : BitVec 32 := 0#32
  let v158_r1 : BitVec 32 := Scalar.addi v157_r1 c0_i32_145_r1
  let v418_r1 : BitVec 32 := Scalar.muli c2_i32_297_r1 v158_r1
  let c1_i32_298_r1 : BitVec 32 := 1#32
  let v419_r1 : BitVec 32 := Scalar.addi v418_r1 c1_i32_298_r1
  let c97_i32_300_r1 : BitVec 32 := 97#32
  let v421_r1 : BitVec 1 := Scalar.cmpi .eq v419_r1 c97_i32_300_r1
  let c672_i32_301_r1 : BitVec 32 := 672#32
  let c1024_i32_302_r1 : BitVec 32 := 1024#32
  let v422_r1 : BitVec 32 := Scalar.select v421_r1 c672_i32_301_r1 c1024_i32_302_r1
  let v423_r1 : BitVec 32 := v422_r1
  ![v423_r1.toNat, 128]

def k0_chk6_0 (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) : Prop :=
  (∀ (k0_h29 : k0_cond29 k0_t2 arg18_r1 = 1#1), 8 ∣ (k0_mult27 arg18_r1).toNat) ∧
  (∀ (k0_h29 : k0_cond29 k0_t2 arg18_r1 = 1#1), ∀ a, (k0_off71 arg10_r1) a + S1.size a ≤ S4.size a) ∧
  (∀ (k0_h29 : k0_cond29 k0_t2 arg18_r1 = 1#1), ∀ a, (k0_off72 arg10_r1 arg18_r1).2 a = 0 ∨ (k0_off72 arg10_r1 arg18_r1).1 a + (k0_off72 arg10_r1 arg18_r1).2 a ≤ S4x1024x128.size a) ∧
  (∀ (k0_h29 : k0_cond29 k0_t2 arg18_r1 = 1#1), (⟨3, (k0_off72 arg10_r1 arg18_r1).2⟩ : Shape).Squeezes ⟨2, k0_sz22 arg18_r1⟩) ∧
  (∀ (k0_h29 : k0_cond29 k0_t2 arg18_r1 = 1#1), ∀ a, (k0_off73 arg18_r1).2 a = 0 ∨ (k0_off73 arg18_r1).1 a + (k0_off73 arg18_r1).2 a ≤ S100000x128.size a) ∧
  (∀ (k0_h30 : k0_cond30 k0_t2 arg18_r1 = 1#1), 8 ∣ (k0_mult28 arg18_r1).toNat) ∧
  (∀ (k0_h30 : k0_cond30 k0_t2 arg18_r1 = 1#1), ∀ a, (k0_off74 arg12_r1) a + S1.size a ≤ S4.size a) ∧
  (∀ (k0_h30 : k0_cond30 k0_t2 arg18_r1 = 1#1), ∀ a, (k0_off75 arg12_r1 arg18_r1).2 a = 0 ∨ (k0_off75 arg12_r1 arg18_r1).1 a + (k0_off75 arg12_r1 arg18_r1).2 a ≤ S4x1024x128.size a) ∧
  (∀ (k0_h30 : k0_cond30 k0_t2 arg18_r1 = 1#1), (⟨3, (k0_off75 arg12_r1 arg18_r1).2⟩ : Shape).Squeezes ⟨2, k0_sz23 arg18_r1⟩) ∧
  (∀ (k0_h30 : k0_cond30 k0_t2 arg18_r1 = 1#1), ∀ a, (k0_off76 arg18_r1).2 a = 0 ∨ (k0_off76 arg18_r1).1 a + (k0_off76 arg18_r1).2 a ≤ S100000x128.size a) ∧
  (∀ (k0_h31 : k0_cond31 k0_t2 arg18_r1 = 1#1), 8 ∣ (k0_mult29 arg18_r1).toNat) ∧
  (∀ (k0_h31 : k0_cond31 k0_t2 arg18_r1 = 1#1), ∀ a, (k0_off77 arg11_r1) a + S1.size a ≤ S4.size a) ∧
  (∀ (k0_h31 : k0_cond31 k0_t2 arg18_r1 = 1#1), (⟨3, (k0_off78 arg11_r1 arg18_r1).2⟩ : Shape).Squeezes ⟨2, k0_sz24 arg18_r1⟩) ∧
  (∀ (k0_h32 : k0_cond32 k0_t2 arg18_r1 = 1#1), 8 ∣ (k0_mult30 arg18_r1).toNat) ∧
  (∀ (k0_h32 : k0_cond32 k0_t2 arg18_r1 = 1#1), ∀ a, (k0_off80 arg13_r1) a + S1.size a ≤ S4.size a) ∧
  (∀ (k0_h32 : k0_cond32 k0_t2 arg18_r1 = 1#1), (⟨3, (k0_off81 arg13_r1 arg18_r1).2⟩ : Shape).Squeezes ⟨2, k0_sz25 arg18_r1⟩) ∧
  (∀ a, (k0_off84 arg18_r1) a + S1024x128.size a ≤ S100352x128.size a) ∧
  (∀ a, (k0_off87 arg18_r1) a + S1024x128.size a ≤ S100352x128.size a) ∧
  (∀ (k0_h37 : k0_cond37 k0_t2 arg18_r1 = 1#1), 8 ∣ (k0_mult31 arg18_r1).toNat) ∧
  (∀ (k0_h37 : k0_cond37 k0_t2 arg18_r1 = 1#1), ∀ a, (k0_off89 arg14_r1) a + S1.size a ≤ S2.size a) ∧
  (∀ (k0_h37 : k0_cond37 k0_t2 arg18_r1 = 1#1), ∀ a, (k0_off90 arg18_r1).2 a = 0 ∨ (k0_off90 arg18_r1).1 a + (k0_off90 arg18_r1).2 a ≤ S100000x128.size a) ∧
  (∀ (k0_h37 : k0_cond37 k0_t2 arg18_r1 = 1#1), ∀ a, (k0_off91 arg14_r1 arg18_r1).2 a = 0 ∨ (k0_off91 arg14_r1 arg18_r1).1 a + (k0_off91 arg14_r1 arg18_r1).2 a ≤ S2x1024x128.size a) ∧
  (∀ (k0_h37 : k0_cond37 k0_t2 arg18_r1 = 1#1), (⟨3, (k0_off91 arg14_r1 arg18_r1).2⟩ : Shape).Squeezes ⟨2, k0_sz26 arg18_r1⟩) ∧
  (∀ (k0_h38 : k0_cond38 k0_t2 arg18_r1 = 1#1), 8 ∣ (k0_mult32 arg18_r1).toNat) ∧
  (∀ (k0_h38 : k0_cond38 k0_t2 arg18_r1 = 1#1), ∀ a, (k0_off92 arg16_r1) a + S1.size a ≤ S2.size a) ∧
  (∀ (k0_h38 : k0_cond38 k0_t2 arg18_r1 = 1#1), ∀ a, (k0_off93 arg18_r1).2 a = 0 ∨ (k0_off93 arg18_r1).1 a + (k0_off93 arg18_r1).2 a ≤ S100000x128.size a) ∧
  (∀ (k0_h38 : k0_cond38 k0_t2 arg18_r1 = 1#1), ∀ a, (k0_off94 arg16_r1 arg18_r1).2 a = 0 ∨ (k0_off94 arg16_r1 arg18_r1).1 a + (k0_off94 arg16_r1 arg18_r1).2 a ≤ S2x1024x128.size a) ∧
  (∀ (k0_h38 : k0_cond38 k0_t2 arg18_r1 = 1#1), (⟨3, (k0_off94 arg16_r1 arg18_r1).2⟩ : Shape).Squeezes ⟨2, k0_sz27 arg18_r1⟩) ∧
  (∀ (k0_h41 : k0_cond41 k0_t2 arg18_r1 = 1#1), 8 ∣ (k0_mult33 arg18_r1).toNat) ∧
  (∀ (k0_h41 : k0_cond41 k0_t2 arg18_r1 = 1#1), ∀ a, (k0_off95 arg15_r1) a + S1.size a ≤ S2.size a) ∧
  (∀ (k0_h41 : k0_cond41 k0_t2 arg18_r1 = 1#1), (⟨3, (k0_off97 arg15_r1 arg18_r1).2⟩ : Shape).Squeezes ⟨2, k0_sz28 arg18_r1⟩) ∧
  (∀ (k0_h42 : k0_cond42 k0_t2 arg18_r1 = 1#1), 8 ∣ (k0_mult34 arg18_r1).toNat)
def k0_chk6_1 (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) : Prop :=
  (∀ (k0_h42 : k0_cond42 k0_t2 arg18_r1 = 1#1), ∀ a, (k0_off98 arg17_r1) a + S1.size a ≤ S2.size a) ∧
  (∀ (k0_h42 : k0_cond42 k0_t2 arg18_r1 = 1#1), (⟨3, (k0_off100 arg17_r1 arg18_r1).2⟩ : Shape).Squeezes ⟨2, k0_sz29 arg18_r1⟩)
def k0_chk6 (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) : Prop :=
  k0_chk6_0 k0_t2 arg10_r1 arg11_r1 arg12_r1 arg13_r1 arg14_r1 arg15_r1 arg16_r1 arg17_r1 arg18_r1 ∧
  k0_chk6_1 k0_t2 arg10_r1 arg11_r1 arg12_r1 arg13_r1 arg14_r1 arg15_r1 arg16_r1 arg17_r1 arg18_r1
theorem k0_mult27_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h29 : k0_cond29 k0_t2 arg18_r1 = 1#1), 8 ∣ (k0_mult27 arg18_r1).toNat := fun k0_t2 arg10_r1 arg11_r1 arg12_r1 arg13_r1 arg14_r1 arg15_r1 arg16_r1 arg17_r1 arg18_r1 k0_hw6 k0_h29 => k0_hw6.1.1 k0_h29
theorem k0_off71_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h29 : k0_cond29 k0_t2 arg18_r1 = 1#1), ∀ a, (k0_off71 arg10_r1) a + S1.size a ≤ S4.size a := fun k0_t2 arg10_r1 arg11_r1 arg12_r1 arg13_r1 arg14_r1 arg15_r1 arg16_r1 arg17_r1 arg18_r1 k0_hw6 k0_h29 => k0_hw6.1.2.1 k0_h29
theorem k0_off72_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h29 : k0_cond29 k0_t2 arg18_r1 = 1#1), ∀ a, (k0_off72 arg10_r1 arg18_r1).2 a = 0 ∨ (k0_off72 arg10_r1 arg18_r1).1 a + (k0_off72 arg10_r1 arg18_r1).2 a ≤ S4x1024x128.size a := fun k0_t2 arg10_r1 arg11_r1 arg12_r1 arg13_r1 arg14_r1 arg15_r1 arg16_r1 arg17_r1 arg18_r1 k0_hw6 k0_h29 => k0_hw6.1.2.2.1 k0_h29
theorem k0_sz22_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h29 : k0_cond29 k0_t2 arg18_r1 = 1#1), (⟨3, (k0_off72 arg10_r1 arg18_r1).2⟩ : Shape).Squeezes ⟨2, k0_sz22 arg18_r1⟩ := fun k0_t2 arg10_r1 arg11_r1 arg12_r1 arg13_r1 arg14_r1 arg15_r1 arg16_r1 arg17_r1 arg18_r1 k0_hw6 k0_h29 => k0_hw6.1.2.2.2.1 k0_h29
theorem k0_off73_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h29 : k0_cond29 k0_t2 arg18_r1 = 1#1), ∀ a, (k0_off73 arg18_r1).2 a = 0 ∨ (k0_off73 arg18_r1).1 a + (k0_off73 arg18_r1).2 a ≤ S100000x128.size a := fun k0_t2 arg10_r1 arg11_r1 arg12_r1 arg13_r1 arg14_r1 arg15_r1 arg16_r1 arg17_r1 arg18_r1 k0_hw6 k0_h29 => k0_hw6.1.2.2.2.2.1 k0_h29
theorem k0_mult28_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h30 : k0_cond30 k0_t2 arg18_r1 = 1#1), 8 ∣ (k0_mult28 arg18_r1).toNat := fun k0_t2 arg10_r1 arg11_r1 arg12_r1 arg13_r1 arg14_r1 arg15_r1 arg16_r1 arg17_r1 arg18_r1 k0_hw6 k0_h30 => k0_hw6.1.2.2.2.2.2.1 k0_h30
theorem k0_off74_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h30 : k0_cond30 k0_t2 arg18_r1 = 1#1), ∀ a, (k0_off74 arg12_r1) a + S1.size a ≤ S4.size a := fun k0_t2 arg10_r1 arg11_r1 arg12_r1 arg13_r1 arg14_r1 arg15_r1 arg16_r1 arg17_r1 arg18_r1 k0_hw6 k0_h30 => k0_hw6.1.2.2.2.2.2.2.1 k0_h30
theorem k0_off75_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h30 : k0_cond30 k0_t2 arg18_r1 = 1#1), ∀ a, (k0_off75 arg12_r1 arg18_r1).2 a = 0 ∨ (k0_off75 arg12_r1 arg18_r1).1 a + (k0_off75 arg12_r1 arg18_r1).2 a ≤ S4x1024x128.size a := fun k0_t2 arg10_r1 arg11_r1 arg12_r1 arg13_r1 arg14_r1 arg15_r1 arg16_r1 arg17_r1 arg18_r1 k0_hw6 k0_h30 => k0_hw6.1.2.2.2.2.2.2.2.1 k0_h30
theorem k0_sz23_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h30 : k0_cond30 k0_t2 arg18_r1 = 1#1), (⟨3, (k0_off75 arg12_r1 arg18_r1).2⟩ : Shape).Squeezes ⟨2, k0_sz23 arg18_r1⟩ := fun k0_t2 arg10_r1 arg11_r1 arg12_r1 arg13_r1 arg14_r1 arg15_r1 arg16_r1 arg17_r1 arg18_r1 k0_hw6 k0_h30 => k0_hw6.1.2.2.2.2.2.2.2.2.1 k0_h30
theorem k0_off76_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h30 : k0_cond30 k0_t2 arg18_r1 = 1#1), ∀ a, (k0_off76 arg18_r1).2 a = 0 ∨ (k0_off76 arg18_r1).1 a + (k0_off76 arg18_r1).2 a ≤ S100000x128.size a := fun k0_t2 arg10_r1 arg11_r1 arg12_r1 arg13_r1 arg14_r1 arg15_r1 arg16_r1 arg17_r1 arg18_r1 k0_hw6 k0_h30 => k0_hw6.1.2.2.2.2.2.2.2.2.2.1 k0_h30
theorem k0_mult29_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h31 : k0_cond31 k0_t2 arg18_r1 = 1#1), 8 ∣ (k0_mult29 arg18_r1).toNat := fun k0_t2 arg10_r1 arg11_r1 arg12_r1 arg13_r1 arg14_r1 arg15_r1 arg16_r1 arg17_r1 arg18_r1 k0_hw6 k0_h31 => k0_hw6.1.2.2.2.2.2.2.2.2.2.2.1 k0_h31
theorem k0_off77_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h31 : k0_cond31 k0_t2 arg18_r1 = 1#1), ∀ a, (k0_off77 arg11_r1) a + S1.size a ≤ S4.size a := fun k0_t2 arg10_r1 arg11_r1 arg12_r1 arg13_r1 arg14_r1 arg15_r1 arg16_r1 arg17_r1 arg18_r1 k0_hw6 k0_h31 => k0_hw6.1.2.2.2.2.2.2.2.2.2.2.2.1 k0_h31
theorem k0_sz24_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h31 : k0_cond31 k0_t2 arg18_r1 = 1#1), (⟨3, (k0_off78 arg11_r1 arg18_r1).2⟩ : Shape).Squeezes ⟨2, k0_sz24 arg18_r1⟩ := fun k0_t2 arg10_r1 arg11_r1 arg12_r1 arg13_r1 arg14_r1 arg15_r1 arg16_r1 arg17_r1 arg18_r1 k0_hw6 k0_h31 => k0_hw6.1.2.2.2.2.2.2.2.2.2.2.2.2.1 k0_h31
theorem k0_mult30_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h32 : k0_cond32 k0_t2 arg18_r1 = 1#1), 8 ∣ (k0_mult30 arg18_r1).toNat := fun k0_t2 arg10_r1 arg11_r1 arg12_r1 arg13_r1 arg14_r1 arg15_r1 arg16_r1 arg17_r1 arg18_r1 k0_hw6 k0_h32 => k0_hw6.1.2.2.2.2.2.2.2.2.2.2.2.2.2.1 k0_h32
theorem k0_off80_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h32 : k0_cond32 k0_t2 arg18_r1 = 1#1), ∀ a, (k0_off80 arg13_r1) a + S1.size a ≤ S4.size a := fun k0_t2 arg10_r1 arg11_r1 arg12_r1 arg13_r1 arg14_r1 arg15_r1 arg16_r1 arg17_r1 arg18_r1 k0_hw6 k0_h32 => k0_hw6.1.2.2.2.2.2.2.2.2.2.2.2.2.2.2.1 k0_h32
theorem k0_sz25_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h32 : k0_cond32 k0_t2 arg18_r1 = 1#1), (⟨3, (k0_off81 arg13_r1 arg18_r1).2⟩ : Shape).Squeezes ⟨2, k0_sz25 arg18_r1⟩ := fun k0_t2 arg10_r1 arg11_r1 arg12_r1 arg13_r1 arg14_r1 arg15_r1 arg16_r1 arg17_r1 arg18_r1 k0_hw6 k0_h32 => k0_hw6.1.2.2.2.2.2.2.2.2.2.2.2.2.2.2.2.1 k0_h32
theorem k0_off84_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ a, (k0_off84 arg18_r1) a + S1024x128.size a ≤ S100352x128.size a := fun k0_t2 arg10_r1 arg11_r1 arg12_r1 arg13_r1 arg14_r1 arg15_r1 arg16_r1 arg17_r1 arg18_r1 k0_hw6 => k0_hw6.1.2.2.2.2.2.2.2.2.2.2.2.2.2.2.2.2.1
theorem k0_off87_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ a, (k0_off87 arg18_r1) a + S1024x128.size a ≤ S100352x128.size a := fun k0_t2 arg10_r1 arg11_r1 arg12_r1 arg13_r1 arg14_r1 arg15_r1 arg16_r1 arg17_r1 arg18_r1 k0_hw6 => k0_hw6.1.2.2.2.2.2.2.2.2.2.2.2.2.2.2.2.2.2.1
theorem k0_mult31_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h37 : k0_cond37 k0_t2 arg18_r1 = 1#1), 8 ∣ (k0_mult31 arg18_r1).toNat := fun k0_t2 arg10_r1 arg11_r1 arg12_r1 arg13_r1 arg14_r1 arg15_r1 arg16_r1 arg17_r1 arg18_r1 k0_hw6 k0_h37 => k0_hw6.1.2.2.2.2.2.2.2.2.2.2.2.2.2.2.2.2.2.2.1 k0_h37
theorem k0_off89_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h37 : k0_cond37 k0_t2 arg18_r1 = 1#1), ∀ a, (k0_off89 arg14_r1) a + S1.size a ≤ S2.size a := fun k0_t2 arg10_r1 arg11_r1 arg12_r1 arg13_r1 arg14_r1 arg15_r1 arg16_r1 arg17_r1 arg18_r1 k0_hw6 k0_h37 => k0_hw6.1.2.2.2.2.2.2.2.2.2.2.2.2.2.2.2.2.2.2.2.1 k0_h37
theorem k0_off90_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h37 : k0_cond37 k0_t2 arg18_r1 = 1#1), ∀ a, (k0_off90 arg18_r1).2 a = 0 ∨ (k0_off90 arg18_r1).1 a + (k0_off90 arg18_r1).2 a ≤ S100000x128.size a := fun k0_t2 arg10_r1 arg11_r1 arg12_r1 arg13_r1 arg14_r1 arg15_r1 arg16_r1 arg17_r1 arg18_r1 k0_hw6 k0_h37 => k0_hw6.1.2.2.2.2.2.2.2.2.2.2.2.2.2.2.2.2.2.2.2.2.1 k0_h37
theorem k0_off91_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h37 : k0_cond37 k0_t2 arg18_r1 = 1#1), ∀ a, (k0_off91 arg14_r1 arg18_r1).2 a = 0 ∨ (k0_off91 arg14_r1 arg18_r1).1 a + (k0_off91 arg14_r1 arg18_r1).2 a ≤ S2x1024x128.size a := fun k0_t2 arg10_r1 arg11_r1 arg12_r1 arg13_r1 arg14_r1 arg15_r1 arg16_r1 arg17_r1 arg18_r1 k0_hw6 k0_h37 => k0_hw6.1.2.2.2.2.2.2.2.2.2.2.2.2.2.2.2.2.2.2.2.2.2.1 k0_h37
theorem k0_sz26_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h37 : k0_cond37 k0_t2 arg18_r1 = 1#1), (⟨3, (k0_off91 arg14_r1 arg18_r1).2⟩ : Shape).Squeezes ⟨2, k0_sz26 arg18_r1⟩ := fun k0_t2 arg10_r1 arg11_r1 arg12_r1 arg13_r1 arg14_r1 arg15_r1 arg16_r1 arg17_r1 arg18_r1 k0_hw6 k0_h37 => k0_hw6.1.2.2.2.2.2.2.2.2.2.2.2.2.2.2.2.2.2.2.2.2.2.2.1 k0_h37
theorem k0_mult32_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h38 : k0_cond38 k0_t2 arg18_r1 = 1#1), 8 ∣ (k0_mult32 arg18_r1).toNat := fun k0_t2 arg10_r1 arg11_r1 arg12_r1 arg13_r1 arg14_r1 arg15_r1 arg16_r1 arg17_r1 arg18_r1 k0_hw6 k0_h38 => k0_hw6.1.2.2.2.2.2.2.2.2.2.2.2.2.2.2.2.2.2.2.2.2.2.2.2.1 k0_h38
theorem k0_off92_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h38 : k0_cond38 k0_t2 arg18_r1 = 1#1), ∀ a, (k0_off92 arg16_r1) a + S1.size a ≤ S2.size a := fun k0_t2 arg10_r1 arg11_r1 arg12_r1 arg13_r1 arg14_r1 arg15_r1 arg16_r1 arg17_r1 arg18_r1 k0_hw6 k0_h38 => k0_hw6.1.2.2.2.2.2.2.2.2.2.2.2.2.2.2.2.2.2.2.2.2.2.2.2.2.1 k0_h38
theorem k0_off93_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h38 : k0_cond38 k0_t2 arg18_r1 = 1#1), ∀ a, (k0_off93 arg18_r1).2 a = 0 ∨ (k0_off93 arg18_r1).1 a + (k0_off93 arg18_r1).2 a ≤ S100000x128.size a := fun k0_t2 arg10_r1 arg11_r1 arg12_r1 arg13_r1 arg14_r1 arg15_r1 arg16_r1 arg17_r1 arg18_r1 k0_hw6 k0_h38 => k0_hw6.1.2.2.2.2.2.2.2.2.2.2.2.2.2.2.2.2.2.2.2.2.2.2.2.2.2.1 k0_h38
theorem k0_off94_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h38 : k0_cond38 k0_t2 arg18_r1 = 1#1), ∀ a, (k0_off94 arg16_r1 arg18_r1).2 a = 0 ∨ (k0_off94 arg16_r1 arg18_r1).1 a + (k0_off94 arg16_r1 arg18_r1).2 a ≤ S2x1024x128.size a := fun k0_t2 arg10_r1 arg11_r1 arg12_r1 arg13_r1 arg14_r1 arg15_r1 arg16_r1 arg17_r1 arg18_r1 k0_hw6 k0_h38 => k0_hw6.1.2.2.2.2.2.2.2.2.2.2.2.2.2.2.2.2.2.2.2.2.2.2.2.2.2.2.1 k0_h38
theorem k0_sz27_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h38 : k0_cond38 k0_t2 arg18_r1 = 1#1), (⟨3, (k0_off94 arg16_r1 arg18_r1).2⟩ : Shape).Squeezes ⟨2, k0_sz27 arg18_r1⟩ := fun k0_t2 arg10_r1 arg11_r1 arg12_r1 arg13_r1 arg14_r1 arg15_r1 arg16_r1 arg17_r1 arg18_r1 k0_hw6 k0_h38 => k0_hw6.1.2.2.2.2.2.2.2.2.2.2.2.2.2.2.2.2.2.2.2.2.2.2.2.2.2.2.2.1 k0_h38
theorem k0_mult33_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h41 : k0_cond41 k0_t2 arg18_r1 = 1#1), 8 ∣ (k0_mult33 arg18_r1).toNat := fun k0_t2 arg10_r1 arg11_r1 arg12_r1 arg13_r1 arg14_r1 arg15_r1 arg16_r1 arg17_r1 arg18_r1 k0_hw6 k0_h41 => k0_hw6.1.2.2.2.2.2.2.2.2.2.2.2.2.2.2.2.2.2.2.2.2.2.2.2.2.2.2.2.2.1 k0_h41
theorem k0_off95_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h41 : k0_cond41 k0_t2 arg18_r1 = 1#1), ∀ a, (k0_off95 arg15_r1) a + S1.size a ≤ S2.size a := fun k0_t2 arg10_r1 arg11_r1 arg12_r1 arg13_r1 arg14_r1 arg15_r1 arg16_r1 arg17_r1 arg18_r1 k0_hw6 k0_h41 => k0_hw6.1.2.2.2.2.2.2.2.2.2.2.2.2.2.2.2.2.2.2.2.2.2.2.2.2.2.2.2.2.2.1 k0_h41
theorem k0_sz28_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h41 : k0_cond41 k0_t2 arg18_r1 = 1#1), (⟨3, (k0_off97 arg15_r1 arg18_r1).2⟩ : Shape).Squeezes ⟨2, k0_sz28 arg18_r1⟩ := fun k0_t2 arg10_r1 arg11_r1 arg12_r1 arg13_r1 arg14_r1 arg15_r1 arg16_r1 arg17_r1 arg18_r1 k0_hw6 k0_h41 => k0_hw6.1.2.2.2.2.2.2.2.2.2.2.2.2.2.2.2.2.2.2.2.2.2.2.2.2.2.2.2.2.2.2.1 k0_h41
theorem k0_mult34_dvd : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h42 : k0_cond42 k0_t2 arg18_r1 = 1#1), 8 ∣ (k0_mult34 arg18_r1).toNat := fun k0_t2 arg10_r1 arg11_r1 arg12_r1 arg13_r1 arg14_r1 arg15_r1 arg16_r1 arg17_r1 arg18_r1 k0_hw6 k0_h42 => k0_hw6.1.2.2.2.2.2.2.2.2.2.2.2.2.2.2.2.2.2.2.2.2.2.2.2.2.2.2.2.2.2.2.2 k0_h42
theorem k0_off98_inb : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h42 : k0_cond42 k0_t2 arg18_r1 = 1#1), ∀ a, (k0_off98 arg17_r1) a + S1.size a ≤ S2.size a := fun k0_t2 arg10_r1 arg11_r1 arg12_r1 arg13_r1 arg14_r1 arg15_r1 arg16_r1 arg17_r1 arg18_r1 k0_hw6 k0_h42 => k0_hw6.2.1 k0_h42
theorem k0_sz29_squeezes : ∀ (k0_t2 : Fin k0_t2_loop.trips) (arg10_r1 : BitVec 32) (arg11_r1 : BitVec 32) (arg12_r1 : BitVec 32) (arg13_r1 : BitVec 32) (arg14_r1 : BitVec 32) (arg15_r1 : BitVec 32) (arg16_r1 : BitVec 32) (arg17_r1 : BitVec 32) (arg18_r1 : BitVec 32) (k0_hw6 : k0_chk6 k0_t2 arg10_r1 arg11_r1 arg12_r1 arg13_r1 arg14_r1 arg15_r1 arg16_r1 arg17_r1 arg18_r1), ∀ (k0_h42 : k0_cond42 k0_t2 arg18_r1 = 1#1), (⟨3, (k0_off100 arg17_r1 arg18_r1).2⟩ : Shape).Squeezes ⟨2, k0_sz29 arg18_r1⟩ := fun k0_t2 arg10_r1 arg11_r1 arg12_r1 arg13_r1 arg14_r1 arg15_r1 arg16_r1 arg17_r1 arg18_r1 k0_hw6 k0_h42 => k0_hw6.2.2 k0_h42

def k0_mult35 (v97_8_r1 : BitVec 32) : BitVec 32 :=
  let c2_i32_121_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v129_r1 : BitVec 32 := Scalar.muli c2_i32_121_r1 v102_r1
  let c97_i32_r1 : BitVec 32 := 97#32
  let v131_r1 : BitVec 1 := Scalar.cmpi .eq v129_r1 c97_i32_r1
  let c672_i32_123_r1 : BitVec 32 := 672#32
  let c1024_i32_124_r1 : BitVec 32 := 1024#32
  let v132_r1 : BitVec 32 := Scalar.select v131_r1 c672_i32_123_r1 c1024_i32_124_r1
  v132_r1

def k0_off101 (v97_5_r1 : BitVec 32) : Fin 1 → Nat :=
  let c2_i32_120_r1 : BitVec 32 := 2#32
  let v128_r1 : BitVec 32 := Scalar.remui v97_5_r1 c2_i32_120_r1
  ![v128_r1.toNat]

def k0_off102 (v97_8_r1 : BitVec 32) : (Fin 2 → Nat) × (Fin 2 → Nat) :=
  let c1024_i32_122_r1 : BitVec 32 := 1024#32
  let c2_i32_121_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v129_r1 : BitVec 32 := Scalar.muli c2_i32_121_r1 v102_r1
  let v130_r1 : BitVec 32 := Scalar.muli c1024_i32_122_r1 v129_r1
  let c0_i32_125_r1 : BitVec 32 := 0#32
  let c97_i32_r1 : BitVec 32 := 97#32
  let v131_r1 : BitVec 1 := Scalar.cmpi .eq v129_r1 c97_i32_r1
  let c672_i32_123_r1 : BitVec 32 := 672#32
  let c1024_i32_124_r1 : BitVec 32 := 1024#32
  let v132_r1 : BitVec 32 := Scalar.select v131_r1 c672_i32_123_r1 c1024_i32_124_r1
  let v133_r1 : BitVec 32 := v132_r1
  ⟨![v130_r1.toNat, 0], ![v133_r1.toNat, 128]⟩

def k0_off103 (v97_8_r1 : BitVec 32) (v97_5_r1 : BitVec 32) : (Fin 3 → Nat) × (Fin 3 → Nat) :=
  let c2_i32_120_r1 : BitVec 32 := 2#32
  let v128_r1 : BitVec 32 := Scalar.remui v97_5_r1 c2_i32_120_r1
  let c0_i32_126_r1 : BitVec 32 := 0#32
  let c0_i32_127_r1 : BitVec 32 := 0#32
  let c2_i32_121_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v129_r1 : BitVec 32 := Scalar.muli c2_i32_121_r1 v102_r1
  let c97_i32_r1 : BitVec 32 := 97#32
  let v131_r1 : BitVec 1 := Scalar.cmpi .eq v129_r1 c97_i32_r1
  let c672_i32_123_r1 : BitVec 32 := 672#32
  let c1024_i32_124_r1 : BitVec 32 := 1024#32
  let v132_r1 : BitVec 32 := Scalar.select v131_r1 c672_i32_123_r1 c1024_i32_124_r1
  let v133_r1 : BitVec 32 := v132_r1
  ⟨![v128_r1.toNat, 0, 0], ![1, v133_r1.toNat, 128]⟩

def k0_sz30 (v97_8_r1 : BitVec 32) : Fin 2 → Nat :=
  let c2_i32_121_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v129_r1 : BitVec 32 := Scalar.muli c2_i32_121_r1 v102_r1
  let c97_i32_r1 : BitVec 32 := 97#32
  let v131_r1 : BitVec 1 := Scalar.cmpi .eq v129_r1 c97_i32_r1
  let c672_i32_123_r1 : BitVec 32 := 672#32
  let c1024_i32_124_r1 : BitVec 32 := 1024#32
  let v132_r1 : BitVec 32 := Scalar.select v131_r1 c672_i32_123_r1 c1024_i32_124_r1
  let v133_r1 : BitVec 32 := v132_r1
  ![v133_r1.toNat, 128]

def k0_chk12 (v97_8_r1 : BitVec 32) (v97_5_r1 : BitVec 32) : Prop :=
  (∀ a, (k0_off101 v97_5_r1) a + S1.size a ≤ S2.size a) ∧
  ((⟨3, (k0_off103 v97_8_r1 v97_5_r1).2⟩ : Shape).Squeezes ⟨2, k0_sz30 v97_8_r1⟩)
theorem k0_off101_inb : ∀ (v97_8_r1 : BitVec 32) (v97_5_r1 : BitVec 32) (k0_hw12 : k0_chk12 v97_8_r1 v97_5_r1), ∀ a, (k0_off101 v97_5_r1) a + S1.size a ≤ S2.size a := fun v97_8_r1 v97_5_r1 k0_hw12 => k0_hw12.1
theorem k0_sz30_squeezes : ∀ (v97_8_r1 : BitVec 32) (v97_5_r1 : BitVec 32) (k0_hw12 : k0_chk12 v97_8_r1 v97_5_r1), (⟨3, (k0_off103 v97_8_r1 v97_5_r1).2⟩ : Shape).Squeezes ⟨2, k0_sz30 v97_8_r1⟩ := fun v97_8_r1 v97_5_r1 k0_hw12 => k0_hw12.2

def k0_mult36 (v97_8_r1 : BitVec 32) : BitVec 32 :=
  let c2_i32_129_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v140_r1 : BitVec 32 := Scalar.muli c2_i32_129_r1 v102_r1
  let c1_i32_130_r1 : BitVec 32 := 1#32
  let v141_r1 : BitVec 32 := Scalar.addi v140_r1 c1_i32_130_r1
  let c97_i32_132_r1 : BitVec 32 := 97#32
  let v143_r1 : BitVec 1 := Scalar.cmpi .eq v141_r1 c97_i32_132_r1
  let c672_i32_133_r1 : BitVec 32 := 672#32
  let c1024_i32_134_r1 : BitVec 32 := 1024#32
  let v144_r1 : BitVec 32 := Scalar.select v143_r1 c672_i32_133_r1 c1024_i32_134_r1
  v144_r1

def k0_chk11 (v97_8_r1 : BitVec 32) : Prop :=
  (8 ∣ (k0_mult35 v97_8_r1).toNat) ∧
  (8 ∣ (k0_mult36 v97_8_r1).toNat)
theorem k0_mult35_dvd : ∀ (v97_8_r1 : BitVec 32) (k0_hw11 : k0_chk11 v97_8_r1), 8 ∣ (k0_mult35 v97_8_r1).toNat := fun v97_8_r1 k0_hw11 => k0_hw11.1
theorem k0_mult36_dvd : ∀ (v97_8_r1 : BitVec 32) (k0_hw11 : k0_chk11 v97_8_r1), 8 ∣ (k0_mult36 v97_8_r1).toNat := fun v97_8_r1 k0_hw11 => k0_hw11.2

def k0_off104 (v97_7_r1 : BitVec 32) : Fin 1 → Nat :=
  let c2_i32_128_r1 : BitVec 32 := 2#32
  let v139_r1 : BitVec 32 := Scalar.remui v97_7_r1 c2_i32_128_r1
  ![v139_r1.toNat]

def k0_off105 (v97_8_r1 : BitVec 32) : (Fin 2 → Nat) × (Fin 2 → Nat) :=
  let c1024_i32_131_r1 : BitVec 32 := 1024#32
  let c2_i32_129_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v140_r1 : BitVec 32 := Scalar.muli c2_i32_129_r1 v102_r1
  let c1_i32_130_r1 : BitVec 32 := 1#32
  let v141_r1 : BitVec 32 := Scalar.addi v140_r1 c1_i32_130_r1
  let v142_r1 : BitVec 32 := Scalar.muli c1024_i32_131_r1 v141_r1
  let c0_i32_135_r1 : BitVec 32 := 0#32
  let c97_i32_132_r1 : BitVec 32 := 97#32
  let v143_r1 : BitVec 1 := Scalar.cmpi .eq v141_r1 c97_i32_132_r1
  let c672_i32_133_r1 : BitVec 32 := 672#32
  let c1024_i32_134_r1 : BitVec 32 := 1024#32
  let v144_r1 : BitVec 32 := Scalar.select v143_r1 c672_i32_133_r1 c1024_i32_134_r1
  let v145_r1 : BitVec 32 := v144_r1
  ⟨![v142_r1.toNat, 0], ![v145_r1.toNat, 128]⟩

def k0_off106 (v97_8_r1 : BitVec 32) (v97_7_r1 : BitVec 32) : (Fin 3 → Nat) × (Fin 3 → Nat) :=
  let c2_i32_128_r1 : BitVec 32 := 2#32
  let v139_r1 : BitVec 32 := Scalar.remui v97_7_r1 c2_i32_128_r1
  let c0_i32_136_r1 : BitVec 32 := 0#32
  let c0_i32_137_r1 : BitVec 32 := 0#32
  let c2_i32_129_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v140_r1 : BitVec 32 := Scalar.muli c2_i32_129_r1 v102_r1
  let c1_i32_130_r1 : BitVec 32 := 1#32
  let v141_r1 : BitVec 32 := Scalar.addi v140_r1 c1_i32_130_r1
  let c97_i32_132_r1 : BitVec 32 := 97#32
  let v143_r1 : BitVec 1 := Scalar.cmpi .eq v141_r1 c97_i32_132_r1
  let c672_i32_133_r1 : BitVec 32 := 672#32
  let c1024_i32_134_r1 : BitVec 32 := 1024#32
  let v144_r1 : BitVec 32 := Scalar.select v143_r1 c672_i32_133_r1 c1024_i32_134_r1
  let v145_r1 : BitVec 32 := v144_r1
  ⟨![v139_r1.toNat, 0, 0], ![1, v145_r1.toNat, 128]⟩

def k0_sz31 (v97_8_r1 : BitVec 32) : Fin 2 → Nat :=
  let c2_i32_129_r1 : BitVec 32 := 2#32
  let true_91_r1 : BitVec 1 := 1#1
  let c1_i32_90_r1 : BitVec 32 := 1#32
  let v98_r1 : BitVec 32 := Scalar.subi v97_8_r1 c1_i32_90_r1
  let v99_r1 : BitVec 32 := Scalar.select true_91_r1 v98_r1 v97_8_r1
  let c_m1_i32_92_r1 : BitVec 32 := 4294967295#32
  let v100_r1 : BitVec 1 := Scalar.cmpi .eq v99_r1 c_m1_i32_92_r1
  let c48_i32_93_r1 : BitVec 32 := 48#32
  let v101_r1 : BitVec 32 := Scalar.select v100_r1 c48_i32_93_r1 v99_r1
  let c0_i32_94_r1 : BitVec 32 := 0#32
  let v102_r1 : BitVec 32 := Scalar.addi v101_r1 c0_i32_94_r1
  let v140_r1 : BitVec 32 := Scalar.muli c2_i32_129_r1 v102_r1
  let c1_i32_130_r1 : BitVec 32 := 1#32
  let v141_r1 : BitVec 32 := Scalar.addi v140_r1 c1_i32_130_r1
  let c97_i32_132_r1 : BitVec 32 := 97#32
  let v143_r1 : BitVec 1 := Scalar.cmpi .eq v141_r1 c97_i32_132_r1
  let c672_i32_133_r1 : BitVec 32 := 672#32
  let c1024_i32_134_r1 : BitVec 32 := 1024#32
  let v144_r1 : BitVec 32 := Scalar.select v143_r1 c672_i32_133_r1 c1024_i32_134_r1
  let v145_r1 : BitVec 32 := v144_r1
  ![v145_r1.toNat, 128]

def k0_chk13 (v97_8_r1 : BitVec 32) (v97_7_r1 : BitVec 32) : Prop :=
  (∀ a, (k0_off104 v97_7_r1) a + S1.size a ≤ S2.size a) ∧
  ((⟨3, (k0_off106 v97_8_r1 v97_7_r1).2⟩ : Shape).Squeezes ⟨2, k0_sz31 v97_8_r1⟩)
theorem k0_off104_inb : ∀ (v97_8_r1 : BitVec 32) (v97_7_r1 : BitVec 32) (k0_hw13 : k0_chk13 v97_8_r1 v97_7_r1), ∀ a, (k0_off104 v97_7_r1) a + S1.size a ≤ S2.size a := fun v97_8_r1 v97_7_r1 k0_hw13 => k0_hw13.1
theorem k0_sz31_squeezes : ∀ (v97_8_r1 : BitVec 32) (v97_7_r1 : BitVec 32) (k0_hw13 : k0_chk13 v97_8_r1 v97_7_r1), (⟨3, (k0_off106 v97_8_r1 v97_7_r1).2⟩ : Shape).Squeezes ⟨2, k0_sz31 v97_8_r1⟩ := fun v97_8_r1 v97_7_r1 k0_hw13 => k0_hw13.2

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S100000 : Shape := ⟨1, ![100000]⟩
abbrev S1x100000 : Shape := ⟨2, ![1, 100000]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 310
  | .vmem => 0
  | .smem => 0
  | _ => 0

abbrev hbmTy0_0 (i : Nat) : BufTy := match i % 128 with
  | 0 => ⟨S128x100000, .f32⟩
  | 1 => ⟨S128x100000, .f32⟩
  | 2 => ⟨S_, .f32⟩
  | 3 => ⟨S100000, .f32⟩
  | 4 => ⟨S_, .f32⟩
  | 5 => ⟨S100000, .f32⟩
  | 6 => ⟨S100000, .f32⟩
  | 7 => ⟨S1x100000, .f32⟩
  | 8 => ⟨S128x100000, .f32⟩
  | 9 => ⟨S128x100000, .f32⟩
  | 10 => ⟨S128x100000, .f32⟩
  | 11 => ⟨S_, .f32⟩
  | 12 => ⟨S100000, .f32⟩
  | 13 => ⟨S1x100000, .f32⟩
  | 14 => ⟨S128x100000, .f32⟩
  | 15 => ⟨S128x100000, .f32⟩
  | 16 => ⟨S128x100000, .f32⟩
  | 17 => ⟨S_, .f32⟩
  | 18 => ⟨S128, .f32⟩
  | 19 => ⟨S128x1, .f32⟩
  | 20 => ⟨S128x100000, .f32⟩
  | 21 => ⟨S128x100000, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S128x100000, .f32⟩
  | 34 => ⟨S128x100000, .f32⟩
  | 35 => ⟨S128x100000, .f32⟩
  | 36 => ⟨S_, .f32⟩
  | 37 => ⟨S_, .f32⟩
  | 38 => ⟨S_, .f32⟩
  | 39 => ⟨S1x1, .f32⟩
  | 40 => ⟨S1x1, .f32⟩
  | 41 => ⟨S1, .i32⟩
  | 42 => ⟨S_, .i32⟩
  | 43 => ⟨S1, .i32⟩
  | 44 => ⟨S_, .i32⟩
  | 45 => ⟨S128x100000, .i64⟩
  | 46 => ⟨S128x100000, .i64⟩
  | 47 => ⟨S_, .i64⟩
  | 48 => ⟨S128x100000, .i64⟩
  | 49 => ⟨S128x100000, .i64⟩
  | 50 => ⟨S_, .i64⟩
  | 51 => ⟨S128x100000, .i64⟩
  | 52 => ⟨S128x100000, .i64⟩
  | 53 => ⟨S128x100000, .i64⟩
  | 54 => ⟨S_, .i64⟩
  | 55 => ⟨S128x100000, .i64⟩
  | 56 => ⟨S128x100000, .i64⟩
  | 57 => ⟨S128x100000, .i32⟩
  | 58 => ⟨S128x100000, .i32⟩
  | 59 => ⟨S_, .i32⟩
  | 60 => ⟨S_, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S128x100000, .f32⟩
  | 33 => ⟨S_, .f32⟩
  | 34 => ⟨S128x100000, .f32⟩
  | 35 => ⟨S128x100000, .f32⟩
  | 36 => ⟨S1x1, .f32⟩
  | 37 => ⟨S128x100000, .f32⟩
  | 38 => ⟨S128x100000, .f32⟩
  | 39 => ⟨S128x100000, .f32⟩
  | 40 => ⟨S128x100000, .f32⟩
  | 41 => ⟨S128x100000, .f32⟩
  | 42 => ⟨S128x100000, .f32⟩
  | 43 => ⟨S128x100000, .f32⟩
  | 44 => ⟨S128x100000, .f32⟩
  | 45 => ⟨S128x100000, .f32⟩
  | 46 => ⟨S128x100000, .f32⟩
  | 47 => ⟨S128x100000, .f32⟩
  | 48 => ⟨S128x100000, .i32⟩
  | 49 => ⟨S_, .f32⟩
  | 50 => ⟨S_, .i32⟩
  | 51 => ⟨S128, .f32⟩
  | 52 => ⟨S128, .i32⟩
  | 53 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_cst_0 : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_c_0 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_1 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_call0_v0 : Ref sig .tc := ⟨.hbm, 59, rfl⟩
abbrev main_call0_call0_call0_c : Ref sig .tc := ⟨.hbm, 60, rfl⟩
abbrev main_call0_call0_call0_v1 : Ref sig .tc := ⟨.hbm, 61, rfl⟩
abbrev main_call0_call0_call0_v2 : Ref sig .tc := ⟨.hbm, 62, rfl⟩
abbrev main_call0_call0_call0_v3 : Ref sig .tc := ⟨.hbm, 63, rfl⟩
abbrev main_call0_call0_call0_v4 : Ref sig .tc := ⟨.hbm, 64, rfl⟩
abbrev main_call0_call0_call0_v5 : Ref sig .tc := ⟨.hbm, 65, rfl⟩
abbrev main_call0_call0_call0_v6 : Ref sig .tc := ⟨.hbm, 66, rfl⟩
abbrev main_call0_call0_call0_c_0 : Ref sig .tc := ⟨.hbm, 67, rfl⟩
abbrev main_call0_call0_call0_v7 : Ref sig .tc := ⟨.hbm, 68, rfl⟩
abbrev main_call0_call0_call0_v8 : Ref sig .tc := ⟨.hbm, 69, rfl⟩
abbrev main_call0_call0_call0_c_1 : Ref sig .tc := ⟨.hbm, 70, rfl⟩
abbrev main_call0_call0_call0_v9 : Ref sig .tc := ⟨.hbm, 71, rfl⟩
abbrev main_call0_call0_call0_v10 : Ref sig .tc := ⟨.hbm, 72, rfl⟩
abbrev main_call0_call0_call0_v11 : Ref sig .tc := ⟨.hbm, 73, rfl⟩
abbrev main_call0_call0_call0_v12 : Ref sig .tc := ⟨.hbm, 74, rfl⟩
abbrev main_call0_call0_call0_v13 : Ref sig .tc := ⟨.hbm, 75, rfl⟩
abbrev main_call0_call0_call0_c_2 : Ref sig .tc := ⟨.hbm, 76, rfl⟩
abbrev main_call0_call0_call0_v14 : Ref sig .tc := ⟨.hbm, 77, rfl⟩
abbrev main_call0_call0_call0_v15 : Ref sig .tc := ⟨.hbm, 78, rfl⟩
abbrev main_call0_call0_call0_c_3 : Ref sig .tc := ⟨.hbm, 79, rfl⟩
abbrev main_call0_call0_call0_v16 : Ref sig .tc := ⟨.hbm, 80, rfl⟩
abbrev main_call0_call0_call0_v17 : Ref sig .tc := ⟨.hbm, 81, rfl⟩
abbrev main_call0_call0_call0_v18 : Ref sig .tc := ⟨.hbm, 82, rfl⟩
abbrev main_call0_call0_call0_v19 : Ref sig .tc := ⟨.hbm, 83, rfl⟩
abbrev main_call0_call0_call0_v20 : Ref sig .tc := ⟨.hbm, 84, rfl⟩
abbrev main_call0_call0_call0_c_4 : Ref sig .tc := ⟨.hbm, 85, rfl⟩
abbrev main_call0_call0_call0_v21 : Ref sig .tc := ⟨.hbm, 86, rfl⟩
abbrev main_call0_call0_call0_v22 : Ref sig .tc := ⟨.hbm, 87, rfl⟩
abbrev main_call0_call0_call0_c_5 : Ref sig .tc := ⟨.hbm, 88, rfl⟩
abbrev main_call0_call0_call0_v23 : Ref sig .tc := ⟨.hbm, 89, rfl⟩
abbrev main_call0_call0_call0_v24 : Ref sig .tc := ⟨.hbm, 90, rfl⟩
abbrev main_call0_call0_call0_v25 : Ref sig .tc := ⟨.hbm, 91, rfl⟩
abbrev main_call0_call0_call0_v26 : Ref sig .tc := ⟨.hbm, 92, rfl⟩
abbrev main_call0_call0_call0_v27 : Ref sig .tc := ⟨.hbm, 93, rfl⟩
abbrev main_call0_call0_call0_c_6 : Ref sig .tc := ⟨.hbm, 94, rfl⟩
abbrev main_call0_call0_call0_v28 : Ref sig .tc := ⟨.hbm, 95, rfl⟩
abbrev main_call0_call0_call0_v29 : Ref sig .tc := ⟨.hbm, 96, rfl⟩
abbrev main_call0_call0_call0_c_7 : Ref sig .tc := ⟨.hbm, 97, rfl⟩
abbrev main_call0_call0_call0_v30 : Ref sig .tc := ⟨.hbm, 98, rfl⟩
abbrev main_call0_call0_call0_v31 : Ref sig .tc := ⟨.hbm, 99, rfl⟩
abbrev main_call0_call0_call0_v32 : Ref sig .tc := ⟨.hbm, 100, rfl⟩
abbrev main_call0_call0_call0_v33 : Ref sig .tc := ⟨.hbm, 101, rfl⟩
abbrev main_call0_call0_call0_v34 : Ref sig .tc := ⟨.hbm, 102, rfl⟩
abbrev main_call0_call0_call0_v35 : Ref sig .tc := ⟨.hbm, 103, rfl⟩
abbrev main_call0_call0_call0_v36 : Ref sig .tc := ⟨.hbm, 104, rfl⟩
abbrev main_call0_call0_call0_v37 : Ref sig .tc := ⟨.hbm, 105, rfl⟩
abbrev main_call0_call0_call0_c_8 : Ref sig .tc := ⟨.hbm, 106, rfl⟩
abbrev main_call0_call0_call0_v38 : Ref sig .tc := ⟨.hbm, 107, rfl⟩
abbrev main_call0_call0_call0_v39 : Ref sig .tc := ⟨.hbm, 108, rfl⟩
abbrev main_call0_call0_call0_v40 : Ref sig .tc := ⟨.hbm, 109, rfl⟩
abbrev main_call0_call0_call0_c_9 : Ref sig .tc := ⟨.hbm, 110, rfl⟩
abbrev main_call0_call0_call0_v41 : Ref sig .tc := ⟨.hbm, 111, rfl⟩
abbrev main_call0_call0_call0_v42 : Ref sig .tc := ⟨.hbm, 112, rfl⟩
abbrev main_call0_call0_call0_c_10 : Ref sig .tc := ⟨.hbm, 113, rfl⟩
abbrev main_call0_call0_call0_v43 : Ref sig .tc := ⟨.hbm, 114, rfl⟩
abbrev main_call0_call0_call0_v44 : Ref sig .tc := ⟨.hbm, 115, rfl⟩
abbrev main_call0_call0_call0_v45 : Ref sig .tc := ⟨.hbm, 116, rfl⟩
abbrev main_call0_call0_call0_v46 : Ref sig .tc := ⟨.hbm, 117, rfl⟩
abbrev main_call0_call0_call0_v47 : Ref sig .tc := ⟨.hbm, 118, rfl⟩
abbrev main_call0_call0_call0_c_11 : Ref sig .tc := ⟨.hbm, 119, rfl⟩
abbrev main_call0_call0_call0_v48 : Ref sig .tc := ⟨.hbm, 120, rfl⟩
abbrev main_call0_call0_call0_v49 : Ref sig .tc := ⟨.hbm, 121, rfl⟩
abbrev main_call0_call0_call0_c_12 : Ref sig .tc := ⟨.hbm, 122, rfl⟩
abbrev main_call0_call0_call0_v50 : Ref sig .tc := ⟨.hbm, 123, rfl⟩
abbrev main_call0_call0_call0_v51 : Ref sig .tc := ⟨.hbm, 124, rfl⟩
abbrev main_call0_call0_call0_v52 : Ref sig .tc := ⟨.hbm, 125, rfl⟩
abbrev main_call0_call0_call0_v53 : Ref sig .tc := ⟨.hbm, 126, rfl⟩
abbrev main_call0_call0_call0_v54 : Ref sig .tc := ⟨.hbm, 127, rfl⟩
abbrev main_call0_call0_call0_c_13 : Ref sig .tc := ⟨.hbm, 128, rfl⟩
abbrev main_call0_call0_call0_v55 : Ref sig .tc := ⟨.hbm, 129, rfl⟩
abbrev main_call0_call0_call0_v56 : Ref sig .tc := ⟨.hbm, 130, rfl⟩
abbrev main_call0_call0_call0_c_14 : Ref sig .tc := ⟨.hbm, 131, rfl⟩
abbrev main_call0_call0_call0_v57 : Ref sig .tc := ⟨.hbm, 132, rfl⟩
abbrev main_call0_call0_call0_v58 : Ref sig .tc := ⟨.hbm, 133, rfl⟩
abbrev main_call0_call0_call0_v59 : Ref sig .tc := ⟨.hbm, 134, rfl⟩
abbrev main_call0_call0_call0_v60 : Ref sig .tc := ⟨.hbm, 135, rfl⟩
abbrev main_call0_call0_call0_v61 : Ref sig .tc := ⟨.hbm, 136, rfl⟩
abbrev main_call0_call0_call0_c_15 : Ref sig .tc := ⟨.hbm, 137, rfl⟩
abbrev main_call0_call0_call0_v62 : Ref sig .tc := ⟨.hbm, 138, rfl⟩
abbrev main_call0_call0_call0_v63 : Ref sig .tc := ⟨.hbm, 139, rfl⟩
abbrev main_call0_call0_call0_c_16 : Ref sig .tc := ⟨.hbm, 140, rfl⟩
abbrev main_call0_call0_call0_v64 : Ref sig .tc := ⟨.hbm, 141, rfl⟩
abbrev main_call0_call0_call0_v65 : Ref sig .tc := ⟨.hbm, 142, rfl⟩
abbrev main_call0_call0_call0_v66 : Ref sig .tc := ⟨.hbm, 143, rfl⟩
abbrev main_call0_call0_call0_v67 : Ref sig .tc := ⟨.hbm, 144, rfl⟩
abbrev main_call0_call0_call0_v68 : Ref sig .tc := ⟨.hbm, 145, rfl⟩
abbrev main_call0_call0_call0_v69 : Ref sig .tc := ⟨.hbm, 146, rfl⟩
abbrev main_call0_call0_call0_v70 : Ref sig .tc := ⟨.hbm, 147, rfl⟩
abbrev main_call0_call0_call0_v71 : Ref sig .tc := ⟨.hbm, 148, rfl⟩
abbrev main_call0_call0_call0_c_17 : Ref sig .tc := ⟨.hbm, 149, rfl⟩
abbrev main_call0_call0_call0_v72 : Ref sig .tc := ⟨.hbm, 150, rfl⟩
abbrev main_call0_call0_call0_v73 : Ref sig .tc := ⟨.hbm, 151, rfl⟩
abbrev main_call0_call0_call0_v74 : Ref sig .tc := ⟨.hbm, 152, rfl⟩
abbrev main_call0_call0_call0_c_18 : Ref sig .tc := ⟨.hbm, 153, rfl⟩
abbrev main_call0_call0_call0_v75 : Ref sig .tc := ⟨.hbm, 154, rfl⟩
abbrev main_call0_call0_call0_v76 : Ref sig .tc := ⟨.hbm, 155, rfl⟩
abbrev main_call0_call0_call0_c_19 : Ref sig .tc := ⟨.hbm, 156, rfl⟩
abbrev main_call0_call0_call0_v77 : Ref sig .tc := ⟨.hbm, 157, rfl⟩
abbrev main_call0_call0_call0_v78 : Ref sig .tc := ⟨.hbm, 158, rfl⟩
abbrev main_call0_call0_call0_v79 : Ref sig .tc := ⟨.hbm, 159, rfl⟩
abbrev main_call0_call0_call0_v80 : Ref sig .tc := ⟨.hbm, 160, rfl⟩
abbrev main_call0_call0_call0_v81 : Ref sig .tc := ⟨.hbm, 161, rfl⟩
abbrev main_call0_call0_call0_c_20 : Ref sig .tc := ⟨.hbm, 162, rfl⟩
abbrev main_call0_call0_call0_v82 : Ref sig .tc := ⟨.hbm, 163, rfl⟩
abbrev main_call0_call0_call0_v83 : Ref sig .tc := ⟨.hbm, 164, rfl⟩
abbrev main_call0_call0_call0_c_21 : Ref sig .tc := ⟨.hbm, 165, rfl⟩
abbrev main_call0_call0_call0_v84 : Ref sig .tc := ⟨.hbm, 166, rfl⟩
abbrev main_call0_call0_call0_v85 : Ref sig .tc := ⟨.hbm, 167, rfl⟩
abbrev main_call0_call0_call0_v86 : Ref sig .tc := ⟨.hbm, 168, rfl⟩
abbrev main_call0_call0_call0_v87 : Ref sig .tc := ⟨.hbm, 169, rfl⟩
abbrev main_call0_call0_call0_v88 : Ref sig .tc := ⟨.hbm, 170, rfl⟩
abbrev main_call0_call0_call0_c_22 : Ref sig .tc := ⟨.hbm, 171, rfl⟩
abbrev main_call0_call0_call0_v89 : Ref sig .tc := ⟨.hbm, 172, rfl⟩
abbrev main_call0_call0_call0_v90 : Ref sig .tc := ⟨.hbm, 173, rfl⟩
abbrev main_call0_call0_call0_c_23 : Ref sig .tc := ⟨.hbm, 174, rfl⟩
abbrev main_call0_call0_call0_v91 : Ref sig .tc := ⟨.hbm, 175, rfl⟩
abbrev main_call0_call0_call0_v92 : Ref sig .tc := ⟨.hbm, 176, rfl⟩
abbrev main_call0_call0_call0_v93 : Ref sig .tc := ⟨.hbm, 177, rfl⟩
abbrev main_call0_call0_call0_v94 : Ref sig .tc := ⟨.hbm, 178, rfl⟩
abbrev main_call0_call0_call0_v95 : Ref sig .tc := ⟨.hbm, 179, rfl⟩
abbrev main_call0_call0_call0_c_24 : Ref sig .tc := ⟨.hbm, 180, rfl⟩
abbrev main_call0_call0_call0_v96 : Ref sig .tc := ⟨.hbm, 181, rfl⟩
abbrev main_call0_call0_call0_v97 : Ref sig .tc := ⟨.hbm, 182, rfl⟩
abbrev main_call0_call0_call0_c_25 : Ref sig .tc := ⟨.hbm, 183, rfl⟩
abbrev main_call0_call0_call0_v98 : Ref sig .tc := ⟨.hbm, 184, rfl⟩
abbrev main_call0_call0_call0_v99 : Ref sig .tc := ⟨.hbm, 185, rfl⟩
abbrev main_call0_call0_call0_v100 : Ref sig .tc := ⟨.hbm, 186, rfl⟩
abbrev main_call0_call0_call0_v101 : Ref sig .tc := ⟨.hbm, 187, rfl⟩
abbrev main_call0_call0_call0_v102 : Ref sig .tc := ⟨.hbm, 188, rfl⟩
abbrev main_call0_call0_call0_v103 : Ref sig .tc := ⟨.hbm, 189, rfl⟩
abbrev main_call0_call0_call0_v104 : Ref sig .tc := ⟨.hbm, 190, rfl⟩
abbrev main_call0_call0_call0_v105 : Ref sig .tc := ⟨.hbm, 191, rfl⟩
abbrev main_call0_call0_call0_c_26 : Ref sig .tc := ⟨.hbm, 192, rfl⟩
abbrev main_call0_call0_call0_v106 : Ref sig .tc := ⟨.hbm, 193, rfl⟩
abbrev main_call0_call0_call0_v107 : Ref sig .tc := ⟨.hbm, 194, rfl⟩
abbrev main_call0_call0_call0_v108 : Ref sig .tc := ⟨.hbm, 195, rfl⟩
abbrev main_call0_call0_call0_c_27 : Ref sig .tc := ⟨.hbm, 196, rfl⟩
abbrev main_call0_call0_call0_v109 : Ref sig .tc := ⟨.hbm, 197, rfl⟩
abbrev main_call0_call0_call0_v110 : Ref sig .tc := ⟨.hbm, 198, rfl⟩
abbrev main_call0_call0_call0_c_28 : Ref sig .tc := ⟨.hbm, 199, rfl⟩
abbrev main_call0_call0_call0_v111 : Ref sig .tc := ⟨.hbm, 200, rfl⟩
abbrev main_call0_call0_call0_v112 : Ref sig .tc := ⟨.hbm, 201, rfl⟩
abbrev main_call0_call0_call0_v113 : Ref sig .tc := ⟨.hbm, 202, rfl⟩
abbrev main_call0_call0_call0_v114 : Ref sig .tc := ⟨.hbm, 203, rfl⟩
abbrev main_call0_call0_call0_v115 : Ref sig .tc := ⟨.hbm, 204, rfl⟩
abbrev main_call0_call0_call0_c_29 : Ref sig .tc := ⟨.hbm, 205, rfl⟩
abbrev main_call0_call0_call0_v116 : Ref sig .tc := ⟨.hbm, 206, rfl⟩
abbrev main_call0_call0_call0_v117 : Ref sig .tc := ⟨.hbm, 207, rfl⟩
abbrev main_call0_call0_call0_c_30 : Ref sig .tc := ⟨.hbm, 208, rfl⟩
abbrev main_call0_call0_call0_v118 : Ref sig .tc := ⟨.hbm, 209, rfl⟩
abbrev main_call0_call0_call0_v119 : Ref sig .tc := ⟨.hbm, 210, rfl⟩
abbrev main_call0_call0_call0_v120 : Ref sig .tc := ⟨.hbm, 211, rfl⟩
abbrev main_call0_call0_call0_v121 : Ref sig .tc := ⟨.hbm, 212, rfl⟩
abbrev main_call0_call0_call0_v122 : Ref sig .tc := ⟨.hbm, 213, rfl⟩
abbrev main_call0_call0_call0_c_31 : Ref sig .tc := ⟨.hbm, 214, rfl⟩
abbrev main_call0_call0_call0_v123 : Ref sig .tc := ⟨.hbm, 215, rfl⟩
abbrev main_call0_call0_call0_v124 : Ref sig .tc := ⟨.hbm, 216, rfl⟩
abbrev main_call0_call0_call0_c_32 : Ref sig .tc := ⟨.hbm, 217, rfl⟩
abbrev main_call0_call0_call0_v125 : Ref sig .tc := ⟨.hbm, 218, rfl⟩
abbrev main_call0_call0_call0_v126 : Ref sig .tc := ⟨.hbm, 219, rfl⟩
abbrev main_call0_call0_call0_v127 : Ref sig .tc := ⟨.hbm, 220, rfl⟩
abbrev main_call0_call0_call0_v128 : Ref sig .tc := ⟨.hbm, 221, rfl⟩
abbrev main_call0_call0_call0_v129 : Ref sig .tc := ⟨.hbm, 222, rfl⟩
abbrev main_call0_call0_call0_c_33 : Ref sig .tc := ⟨.hbm, 223, rfl⟩
abbrev main_call0_call0_call0_v130 : Ref sig .tc := ⟨.hbm, 224, rfl⟩
abbrev main_call0_call0_call0_v131 : Ref sig .tc := ⟨.hbm, 225, rfl⟩
abbrev main_call0_call0_call0_c_34 : Ref sig .tc := ⟨.hbm, 226, rfl⟩
abbrev main_call0_call0_call0_v132 : Ref sig .tc := ⟨.hbm, 227, rfl⟩
abbrev main_call0_call0_call0_v133 : Ref sig .tc := ⟨.hbm, 228, rfl⟩
abbrev main_call0_call0_call0_v134 : Ref sig .tc := ⟨.hbm, 229, rfl⟩
abbrev main_call0_call0_call0_v135 : Ref sig .tc := ⟨.hbm, 230, rfl⟩
abbrev main_call0_call0_call0_v136 : Ref sig .tc := ⟨.hbm, 231, rfl⟩
abbrev main_call0_call0_call0_v137 : Ref sig .tc := ⟨.hbm, 232, rfl⟩
abbrev main_call0_call0_call0_v138 : Ref sig .tc := ⟨.hbm, 233, rfl⟩
abbrev main_call0_call0_call0_v139 : Ref sig .tc := ⟨.hbm, 234, rfl⟩
abbrev main_call0_call0_call0_c_35 : Ref sig .tc := ⟨.hbm, 235, rfl⟩
abbrev main_call0_call0_call0_v140 : Ref sig .tc := ⟨.hbm, 236, rfl⟩
abbrev main_call0_call0_call0_v141 : Ref sig .tc := ⟨.hbm, 237, rfl⟩
abbrev main_call0_call0_call0_v142 : Ref sig .tc := ⟨.hbm, 238, rfl⟩
abbrev main_call0_call0_call0_c_36 : Ref sig .tc := ⟨.hbm, 239, rfl⟩
abbrev main_call0_call0_call0_v143 : Ref sig .tc := ⟨.hbm, 240, rfl⟩
abbrev main_call0_call0_call0_v144 : Ref sig .tc := ⟨.hbm, 241, rfl⟩
abbrev main_call0_call0_call0_c_37 : Ref sig .tc := ⟨.hbm, 242, rfl⟩
abbrev main_call0_call0_call0_v145 : Ref sig .tc := ⟨.hbm, 243, rfl⟩
abbrev main_call0_call0_call0_v146 : Ref sig .tc := ⟨.hbm, 244, rfl⟩
abbrev main_call0_call0_call0_v147 : Ref sig .tc := ⟨.hbm, 245, rfl⟩
abbrev main_call0_call0_call0_v148 : Ref sig .tc := ⟨.hbm, 246, rfl⟩
abbrev main_call0_call0_call0_v149 : Ref sig .tc := ⟨.hbm, 247, rfl⟩
abbrev main_call0_call0_call0_c_38 : Ref sig .tc := ⟨.hbm, 248, rfl⟩
abbrev main_call0_call0_call0_v150 : Ref sig .tc := ⟨.hbm, 249, rfl⟩
abbrev main_call0_call0_call0_v151 : Ref sig .tc := ⟨.hbm, 250, rfl⟩
abbrev main_call0_call0_call0_c_39 : Ref sig .tc := ⟨.hbm, 251, rfl⟩
abbrev main_call0_call0_call0_v152 : Ref sig .tc := ⟨.hbm, 252, rfl⟩
abbrev main_call0_call0_call0_v153 : Ref sig .tc := ⟨.hbm, 253, rfl⟩
abbrev main_call0_call0_call0_v154 : Ref sig .tc := ⟨.hbm, 254, rfl⟩
abbrev main_call0_call0_call0_v155 : Ref sig .tc := ⟨.hbm, 255, rfl⟩
abbrev main_call0_call0_call0_v156 : Ref sig .tc := ⟨.hbm, 256, rfl⟩
abbrev main_call0_call0_call0_c_40 : Ref sig .tc := ⟨.hbm, 257, rfl⟩
abbrev main_call0_call0_call0_v157 : Ref sig .tc := ⟨.hbm, 258, rfl⟩
abbrev main_call0_call0_call0_v158 : Ref sig .tc := ⟨.hbm, 259, rfl⟩
abbrev main_call0_call0_call0_c_41 : Ref sig .tc := ⟨.hbm, 260, rfl⟩
abbrev main_call0_call0_call0_v159 : Ref sig .tc := ⟨.hbm, 261, rfl⟩
abbrev main_call0_call0_call0_v160 : Ref sig .tc := ⟨.hbm, 262, rfl⟩
abbrev main_call0_call0_call0_v161 : Ref sig .tc := ⟨.hbm, 263, rfl⟩
abbrev main_call0_call0_call0_v162 : Ref sig .tc := ⟨.hbm, 264, rfl⟩
abbrev main_call0_call0_call0_v163 : Ref sig .tc := ⟨.hbm, 265, rfl⟩
abbrev main_call0_call0_call0_c_42 : Ref sig .tc := ⟨.hbm, 266, rfl⟩
abbrev main_call0_call0_call0_v164 : Ref sig .tc := ⟨.hbm, 267, rfl⟩
abbrev main_call0_call0_call0_v165 : Ref sig .tc := ⟨.hbm, 268, rfl⟩
abbrev main_call0_call0_call0_c_43 : Ref sig .tc := ⟨.hbm, 269, rfl⟩
abbrev main_call0_call0_call0_v166 : Ref sig .tc := ⟨.hbm, 270, rfl⟩
abbrev main_call0_call0_call0_v167 : Ref sig .tc := ⟨.hbm, 271, rfl⟩
abbrev main_call0_call0_call0_v168 : Ref sig .tc := ⟨.hbm, 272, rfl⟩
abbrev main_call0_call0_call0_v169 : Ref sig .tc := ⟨.hbm, 273, rfl⟩
abbrev main_call0_call0_call0_v170 : Ref sig .tc := ⟨.hbm, 274, rfl⟩
abbrev main_call0_call0_v18_0 : Ref sig .tc := ⟨.hbm, 275, rfl⟩
abbrev main_call0_call0_call0_v172 : Ref sig .tc := ⟨.hbm, 276, rfl⟩
abbrev main_call0_call0_call0_v173 : Ref sig .tc := ⟨.hbm, 277, rfl⟩
abbrev main_call0_call0_call0_c_44 : Ref sig .tc := ⟨.hbm, 278, rfl⟩
abbrev main_call0_call0_call0_v174 : Ref sig .tc := ⟨.hbm, 279, rfl⟩
abbrev main_call0_call0_v18_1 : Ref sig .tc := ⟨.hbm, 280, rfl⟩
abbrev main_call0_call0_v19 : Ref sig .tc := ⟨.hbm, 281, rfl⟩
abbrev main_call0_call0_c_2 : Ref sig .tc := ⟨.hbm, 282, rfl⟩
abbrev main_call0_call0_v20 : Ref sig .tc := ⟨.hbm, 283, rfl⟩
abbrev main_call0_call0_v21 : Ref sig .tc := ⟨.hbm, 284, rfl⟩
abbrev main_call0_call0_c_3 : Ref sig .tc := ⟨.hbm, 285, rfl⟩
abbrev main_call0_call0_v22 : Ref sig .tc := ⟨.hbm, 286, rfl⟩
abbrev main_call0_call0_v23 : Ref sig .tc := ⟨.hbm, 287, rfl⟩
abbrev main_call0_call0_v24 : Ref sig .tc := ⟨.hbm, 288, rfl⟩
abbrev main_call0_call0_cst : Ref sig .tc := ⟨.hbm, 289, rfl⟩
abbrev main_call0_call0_v25 : Ref sig .tc := ⟨.hbm, 290, rfl⟩
abbrev main_call0_call0_v26 : Ref sig .tc := ⟨.hbm, 291, rfl⟩
abbrev main_call0_call0_v27 : Ref sig .tc := ⟨.hbm, 292, rfl⟩
abbrev main_call0_call0_v28 : Ref sig .tc := ⟨.hbm, 293, rfl⟩
abbrev main_call0_call0_v29 : Ref sig .tc := ⟨.hbm, 294, rfl⟩
abbrev main_call0_call0_v30 : Ref sig .tc := ⟨.hbm, 295, rfl⟩
abbrev main_call0_call0_v31 : Ref sig .tc := ⟨.hbm, 296, rfl⟩
abbrev main_call0_call0_v32 : Ref sig .tc := ⟨.hbm, 297, rfl⟩
abbrev main_call0_v0 : Ref sig .tc := ⟨.hbm, 298, rfl⟩
abbrev main_call0_v1 : Ref sig .tc := ⟨.hbm, 299, rfl⟩
abbrev main_call0_v2 : Ref sig .tc := ⟨.hbm, 300, rfl⟩
abbrev main_call0_v3 : Ref sig .tc := ⟨.hbm, 301, rfl⟩
abbrev main_v26 : Ref sig .tc := ⟨.hbm, 302, rfl⟩
abbrev main_v27 : Ref sig .tc := ⟨.hbm, 303, rfl⟩
abbrev main_call1_v0 : Ref sig .tc := ⟨.hbm, 304, rfl⟩
abbrev main_call1_cst : Ref sig .tc := ⟨.hbm, 305, rfl⟩
abbrev main_call1_c : Ref sig .tc := ⟨.hbm, 306, rfl⟩
abbrev main_call1_v1_0 : Ref sig .tc := ⟨.hbm, 307, rfl⟩
abbrev main_v28 : Ref sig .tc := ⟨.hbm, 308, rfl⟩
abbrev main_v29 : Ref sig .tc := ⟨.hbm, 309, rfl⟩

abbrev nD : Nat := 1
abbrev τ : Topo := Topo.v7x

variable {F : FTy → Type} [FloatOps F]
-- ==== Proof.Own.lean ====
/-
  Owning part of a memref: for a set of the memref's own indices, the elements under them at the full
  share, with what they hold named as a function of the index. The steps of a program — a load, a store,
  a local transfer into a ring slot or out of one, and its wait — are restated over this assertion, each
  at the head of a program written with binds.
-/
module

public import Idealize.ShloMosaic.Lib.Transfers
public import Idealize.ShloMosaic.Lib.Pipeline.Frame

@[expose] public section

noncomputable section

namespace Cert.Policy

open Idealize.ShloMosaic Idealize.ShloMosaic.Transfers
open TcCoe
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {U : Type} [URA U]

local notation "𝕄" => MT nD τ sig Unit Val ℕ U ℕ

section Own

variable {κ : Kind} {sp : Space} {s : Shape} {e : EltTy}

/-- The elements of `m` under the indices `T`, wholly owned, holding `w`. -/
def own {sp : Space} (c : Dev nD) (m : Memref sig .tc sp s e) (T : Finset s.Idx) (w : s.Idx → Val e) : sProp 𝕄 :=
  iprop(∃ f : Buf Val (m.view.loc (c : Thread nD τ)), ⌜∀ x ∈ T, m.view.read Val f x = w x⌝
    ∗ (m.view.loc (c : Thread nD τ) ↦[m.view.setOn T]{fullShare} f))

variable {c : Dev nD} {m : Memref sig .tc sp s e} {T T' : Finset s.Idx} {w w' : s.Idx → Val e}

/-- Only the values on the set matter. -/
theorem own_congr (h : ∀ x ∈ T, w x = w' x) : (own c m T w : sProp 𝕄) ⊢ own c m T w' := by
  unfold own
  iintro ⟨%f, %hf, H⟩
  iexists f
  isplitr
  · ipureintro; intro x hx; rw [hf x hx, h x hx]
  · iexact H

/-- Disjoint index sets lie over disjoint elements. -/
theorem setOn_disjoint (h : Disjoint T T') : Disjoint (m.view.setOn T) (m.view.setOn T') :=
  (Finset.disjoint_map _).mpr h

/-- Two disjoint parts come apart. -/
theorem own_split (h : Disjoint T T') (R : Finset s.Idx) (hR : R = T ∪ T') :
    (own c m R w : sProp 𝕄) ⊢ iprop(own c m T w ∗ own c m T' w) := by
  classical
  subst hR
  have hu : m.view.setOn (T ∪ T') = m.view.setOn T ∪ m.view.setOn T' := Finset.map_union _ _
  unfold own
  rw [hu]
  iintro ⟨%f, %hf, H⟩
  ihave H := (pointsTo_union (setOn_disjoint h)).1 $$ H
  icases H with ⟨H1, H2⟩
  isplitl [H1]
  · iexists f
    isplitr
    · ipureintro; intro x hx; exact hf x (Finset.mem_union_left _ hx)
    · iexact H1
  · iexists f
    isplitr
    · ipureintro; intro x hx; exact hf x (Finset.mem_union_right _ hx)
    · iexact H2

/-- Two disjoint parts go together, at any function agreeing with each on its part. -/
theorem own_join (h : Disjoint T T') (R : Finset s.Idx) (hR : R = T ∪ T') {v : s.Idx → Val e}
    (h1 : ∀ x ∈ T, v x = w x) (h2 : ∀ x ∈ T', v x = w' x) :
    iprop(own c m T w ∗ own c m T' w') ⊢ (own c m R v : sProp 𝕄) := by
  classical
  subst hR
  have hu : m.view.setOn (T ∪ T') = m.view.setOn T ∪ m.view.setOn T' := Finset.map_union _ _
  unfold own
  rw [hu]
  iintro ⟨⟨%f, %hf, H1⟩, ⟨%g, %hg, H2⟩⟩
  iexists ((m.view.setOn T').piecewise g f)
  isplitr
  · ipureintro
    intro x hx
    rcases Finset.mem_union.mp hx with hx | hx
    · have hn : m.view.emb x ∉ m.view.setOn T' := fun hc =>
        Finset.disjoint_left.mp h hx (m.view.mem_setOn.mp hc)
      rw [h1 x hx, ← hf x hx]
      simp only [View.read_apply]
      rw [Finset.piecewise_eq_of_notMem _ _ _ hn]
    · rw [h2 x hx, ← hg x hx]
      simp only [View.read_apply]
      rw [Finset.piecewise_eq_of_mem _ _ _ (m.view.mem_setOn.mpr hx)]
  · iapply (pointsTo_join (setOn_disjoint h))
    isplitl [H1]
    · iexact H1
    · iexact H2

/-- A whole memref's points-to is owning all of it. -/
theorem own_of_pointsTo (f : Buf Val (m.view.loc (c : Thread nD τ))) (S : Finset (Idx (m.view.loc (c : Thread nD τ))))
    (hS : m.view.setOn T = S) :
    (m.view.loc (c : Thread nD τ) ↦[S]{fullShare} f : sProp 𝕄) ⊢ own c m T (m.view.read Val f) := by
  subst hS
  unfold own
  iintro H
  iexists f
  isplitr
  · ipureintro; intro x _; rfl
  · iexact H

end Own

section Steps

variable {Λ : Labels} {defs : Defs nD τ sig Val Λ} (𝒱 : Variants) (c : Dev nD) (bd : Option 𝒱.V)
variable {α : Type} {Q : α → sProp (MT nD τ sig Unit Val ℕ U ℕ)} {sp : Space} {s : Shape} {e : EltTy}

/-- Running `p` and then `k`: run `p` to a result, and `k` from it. -/
theorem step_bind {β : Type} {p : Prog (TpuEff nD τ sig Val Λ .tc) β} {k : β → Prog (TpuEff nD τ sig Val Λ .tc) α} :
    wp frame (wpE defs 𝒱 (c : Thread nD τ) bd) Set.univ p (fun x => wp frame (wpE defs 𝒱 (c : Thread nD τ) bd) Set.univ (k x) Q)
      ⊢ (wp frame (wpE defs 𝒱 (c : Thread nD τ) bd) Set.univ (p >>= k) Q : sProp 𝕄) :=
  Entails.of_eq (wp_bind ..).symm

/-- An assumption that holds. -/
theorem step_assume {P : Prop} {d : Decidable P} (h : P) {k : PLift P → Prog (TpuEff nD τ sig Val Λ .tc) α} :
    (wp frame (wpE defs 𝒱 (c : Thread nD τ) bd) Set.univ (k ⟨h⟩) Q : sProp 𝕄)
      ⊢ wp frame (wpE defs 𝒱 (c : Thread nD τ) bd) Set.univ (Prog.lift (.assume P d) >>= k) Q :=
  wp_assume 𝒱 (c : Thread nD τ) bd Set.univ (k := k) h

/-- A load of owned elements. -/
theorem step_load {m : Memref sig .tc .vmem s e} {r : Rect s} {hl : m.view.LoadsAt r.toLoadRect}
    {T : Finset s.Idx} {w : s.Idx → Val e} {k : (r.shape.Idx → Val e) → Prog (TpuEff nD τ sig Val Λ .tc) α}
    (v : r.shape.Idx → Val e) (hT : ∀ x, r.emb x ∈ T) (hv : ∀ x, w (r.emb x) = v x) :
    (own c m T w : sProp 𝕄)
      ⊢ iprop((own c m T w -∗ wp frame (wpE defs 𝒱 (c : Thread nD τ) bd) Set.univ (k v) Q)
        -∗ wp frame (wpE defs 𝒱 (c : Thread nD τ) bd) Set.univ (Prog.lift (.load m r.toLoadRect hl) >>= k) Q) := by
  have hS : (m.access r).set ⊆ m.view.setOn T := by
    rw [View.set_slice]
    intro i hi
    obtain ⟨x, hx, rfl⟩ := Finset.mem_map.mp hi
    rw [← r.map_emb_univ] at hx
    obtain ⟨y, _, rfl⟩ := Finset.mem_map.mp hx
    exact m.view.mem_setOn.mpr (hT y)
  unfold own
  iintro ⟨%f, %hf, H⟩ Hk
  have hr : (m.access r).read Val f = v := funext fun x => by
    rw [← hv x, ← hf _ (hT x)]; rfl
  iapply (wp_load_rect 𝒱 (c : Thread nD τ) bd Set.univ (k := k) hS) $$ H
  iintro H
  rw [hr]
  iapply Hk
  iexists f
  isplitr
  · ipureintro; exact hf
  · iexact H

/-- A store into owned elements. -/
theorem step_store {m : Memref sig .tc .vmem s e} {r : Rect s} {v : r.shape.Idx → Val e}
    {hx : (m.access r).Stores Finset.univ} {hm : (Finset.univ : Finset r.shape.Idx) = Finset.univ ∨ ∀ a, r.stride a = 1}
    {T : Finset s.Idx} {w : s.Idx → Val e} {k : PUnit → Prog (TpuEff nD τ sig Val Λ .tc) α}
    (w' : s.Idx → Val e) (hT : ∀ x, r.emb x ∈ T) (hv : ∀ x, w' (r.emb x) = v x)
    (ho : ∀ y ∈ T, (∀ x, r.emb x ≠ y) → w' y = w y) :
    (own c m T w : sProp 𝕄)
      ⊢ iprop((own c m T w' -∗ wp frame (wpE defs 𝒱 (c : Thread nD τ) bd) Set.univ (k ⟨⟩) Q)
        -∗ wp frame (wpE defs 𝒱 (c : Thread nD τ) bd) Set.univ (Prog.lift (.store m r v Finset.univ hx hm) >>= k) Q) := by
  have hS : (m.access r).setOn Finset.univ ⊆ m.view.setOn T := by
    intro i hi
    obtain ⟨y, _, rfl⟩ := Finset.mem_map.mp hi
    exact m.view.mem_setOn.mpr (hT y)
  unfold own
  iintro ⟨%f, %hf, H⟩ Hk
  iapply (wp_store 𝒱 (c : Thread nD τ) bd Set.univ (k := k) hS) $$ H
  iintro H
  iapply Hk
  iexists ((m.access r).write Val f v Finset.univ)
  isplitr
  · ipureintro
    intro y hy
    by_cases h : ∃ x, r.emb x = y
    · obtain ⟨x, rfl⟩ := h
      rw [hv x]
      exact View.read_write_of_mem (v := m.access r) f v (Finset.mem_univ x)
    · have h' : ∀ x, r.emb x ≠ y := fun x hx => h ⟨x, hx⟩
      rw [ho y hy h', ← hf y hy]
      simp only [View.read_apply]
      rw [View.write_of_not_mem]
      intro hc
      obtain ⟨x, _, hx⟩ := Finset.mem_map.mp hc
      exact h' x (m.view.emb.injective hx)
  · iexact H

end Steps

end Cert.Policy
-- ==== Proof.Copy.lean ====
/-
  Local transfers between a ring of slots and an array, block by block. A slot is one plane of a
  rank-three ring `[L, 1024, 128]`; a block is `n ≤ 1024` rows of an array of 128 columns, beginning at
  a multiple of 1024. A fetch copies a block to the first `n` rows of a slot; a flush copies the first
  `n` rows of a slot to a block. Each completes on the slot's own cell of a semaphore array.
-/
module

public import proofs.«01_k».proof.Proof.Own

@[expose] public section

noncomputable section

namespace Cert.Policy

open Idealize.ShloMosaic Idealize.ShloMosaic.Transfers
open TcCoe
open Idealize.SL
open Idealize.SL.RA Idealize.SL.Sem Idealize.SL.ProofMode
open Idealize.SL.BI (sProp)
open scoped Idealize.SL.BI
open Idealize.SL.BI.BIBase Idealize.SL.BI.Laws

/-- The shape of a ring of `L` slots. -/
abbrev RingS (L : ℕ) : Shape := ⟨3, ![L, 1024, 128]⟩
/-- The shape of an array of `R` rows. -/
abbrev ArrS (R : ℕ) : Shape := ⟨2, ![R, 128]⟩
/-- The shape of a line of `L` semaphores. -/
abbrev LineS (L : ℕ) : Shape := ⟨1, ![L]⟩

/-- The indices of a ring's slot `j` (counted round the ring). -/
def slot (L j : ℕ) : Finset (RingS L).Idx := Finset.univ.filter fun y => (y 0 : ℕ) = j % L
/-- The first `n` rows of the slot. -/
def slotTop (L j n : ℕ) : Finset (RingS L).Idx := Finset.univ.filter fun y => (y 0 : ℕ) = j % L ∧ (y 1 : ℕ) < n
/-- The rows of the slot behind them. -/
def slotTail (L j n : ℕ) : Finset (RingS L).Idx := Finset.univ.filter fun y => (y 0 : ℕ) = j % L ∧ n ≤ (y 1 : ℕ)
/-- The `n` rows of the array that begin at row `1024 * b`. -/
def blk (R b n : ℕ) : Finset (ArrS R).Idx := Finset.univ.filter fun x => 1024 * b ≤ (x 0 : ℕ) ∧ (x 0 : ℕ) < 1024 * b + n

theorem mem_slot {L j : ℕ} {y : (RingS L).Idx} : y ∈ slot L j ↔ (y 0 : ℕ) = j % L := by simp [slot]
theorem mem_slotTop {L j n : ℕ} {y : (RingS L).Idx} : y ∈ slotTop L j n ↔ (y 0 : ℕ) = j % L ∧ (y 1 : ℕ) < n := by simp [slotTop]
theorem mem_slotTail {L j n : ℕ} {y : (RingS L).Idx} : y ∈ slotTail L j n ↔ (y 0 : ℕ) = j % L ∧ n ≤ (y 1 : ℕ) := by simp [slotTail]
theorem mem_blk {R b n : ℕ} {x : (ArrS R).Idx} : x ∈ blk R b n ↔ 1024 * b ≤ (x 0 : ℕ) ∧ (x 0 : ℕ) < 1024 * b + n := by simp [blk]

theorem slot_eq (L j n : ℕ) : slot L j = slotTop L j n ∪ slotTail L j n := by
  ext y
  simp only [Finset.mem_union, mem_slot, mem_slotTop, mem_slotTail]
  omega

theorem slotTop_disjoint (L j n : ℕ) : Disjoint (slotTop L j n) (slotTail L j n) := by
  rw [Finset.disjoint_left]
  intro y h1 h2
  rw [mem_slotTop] at h1; rw [mem_slotTail] at h2
  omega

/-- The index of a line of semaphores, counted round the line. -/
def lineIx (L : ℕ) [NeZero L] (j : ℕ) : (LineS L).Idx := fun a =>
  ⟨j % L, by
    have ha : (![L] : Fin 1 → ℕ) a = L := by rw [Fin.fin_one_eq_zero a]; rfl
    show j % L < (![L] : Fin 1 → ℕ) a
    rw [ha]; exact Nat.mod_lt _ (Nat.pos_of_ne_zero (NeZero.ne L))⟩

section

variable {nD : Nat} {τ : Topo} {sig : RefSig} {Val : EltTy → Type} {U : Type} [URA U]

local notation "𝕄" => MT nD τ sig Unit Val ℕ U ℕ

/-- The cell of slot `j`. -/
def cell {L : ℕ} [NeZero L] (v : DmaSems sig (LineS L)) (j : ℕ) : DmaSem sig := v.ix (lineIx L j)

/-- A squeezed one-element slice of a line of semaphores names the slot's cell. -/
theorem sem_eq_cell {L : ℕ} [NeZero L] (v : DmaSems sig (LineS L)) (j : ℕ) {so : Fin 1 → ℕ} {z : Fin 1 → ℕ}
    (hso : so = ![j % L]) (inb : ∀ a, so a + z a ≤ (LineS L).size a) {d : Fin 0 → ℕ} (hq : (⟨1, z⟩ : Shape).Squeezes ⟨0, d⟩)
    (hz : z = ![1]) :
    ((v.slice (Rect.unit (s := LineS L) so z inb)).squeeze ⟨0, d⟩ hq).sem = cell v j := by
  subst hso; subst hz
  show v.ix _ = v.ix _
  congr 1
  funext a
  apply Fin.ext
  have ha : a = 0 := Fin.fin_one_eq_zero a
  subst ha
  rw [Rect.emb_apply]
  have h0 : ∀ t : (⟨1, ![1]⟩ : Shape).Idx, (t 0 : ℕ) = 0 := fun t => by
    have := (t 0).isLt; change (t 0 : ℕ) < 1 at this; omega
  show j % L + 1 * _ = j % L
  erw [h0]
  omega

variable (c : Dev nD)

/-- A slot of the ring at some contents. -/
def free {L : ℕ} {e : EltTy} (ring : Memref sig .tc .vmem (RingS L) e) (j : ℕ) : sProp 𝕄 :=
  iprop(∃ w, own c ring (slot L j) w)

/-- Part of an array, its entries given by row and column. -/
def rows {R : ℕ} {sp : Space} {e : EltTy} (arr : Memref sig .tc sp (ArrS R) e) (T : Finset (ArrS R).Idx) (A : ℕ → ℕ → Val e) : sProp 𝕄 :=
  own c arr T fun x => A (x 0 : ℕ) (x 1 : ℕ)

variable {Λ : Labels} {defs : Defs nD τ sig Val Λ} (𝒱 : Variants) (bd : Option 𝒱.V)
variable {α : Type}

/-- The index of a slot's row and column, among those of the first `n` rows. -/
theorem slot_emb {L j n : ℕ} {inb} (hq : (⟨3, ![1, n, 128]⟩ : Shape).Squeezes ⟨2, ![n, 128]⟩) (x : (⟨2, ![n, 128]⟩ : Shape).Idx) :
    (((Rect.unitDyn (s := RingS L) ![j % L, 0, 0] ![1, n, 128] inb).emb (Shape.reshapeEquiv hq.numel_eq x)) 0 : ℕ) = j % L
    ∧ (((Rect.unitDyn (s := RingS L) ![j % L, 0, 0] ![1, n, 128] inb).emb (Shape.reshapeEquiv hq.numel_eq x)) 1 : ℕ) = (x 0 : ℕ)
    ∧ (((Rect.unitDyn (s := RingS L) ![j % L, 0, 0] ![1, n, 128] inb).emb (Shape.reshapeEquiv hq.numel_eq x)) 2 : ℕ) = (x 1 : ℕ) := by
  have h := Shape.reshapeEquiv_cons_one (n := 2) (d := ![n, 128]) hq.numel_eq x
  have h' : Shape.reshapeEquiv hq.numel_eq x = (Fin.cons ⟨0, Nat.one_pos⟩ x : (⟨3, ![1, n, 128]⟩ : Shape).Idx) := h
  refine ⟨?_, ?_, ?_⟩
  · rw [Rect.emb_apply, h']
    show j % L + 1 * 0 = _; omega
  · rw [Rect.emb_apply, h']
    show 0 + 1 * (x 0 : ℕ) = _; omega
  · rw [Rect.emb_apply, h']
    show 0 + 1 * (x 1 : ℕ) = _; omega

/-- An index of the ring is determined by its three coordinates. -/
theorem ring_ext {L : ℕ} {y z : (RingS L).Idx} (h0 : (y 0 : ℕ) = z 0) (h1 : (y 1 : ℕ) = z 1) (h2 : (y 2 : ℕ) = z 2) : y = z := by
  funext a
  apply Fin.ext
  fin_cases a
  · exact h0
  · exact h1
  · exact h2

/-- An index of an array is determined by its two coordinates. -/
theorem arr_ext {n m : ℕ} {y z : (⟨2, ![n, m]⟩ : Shape).Idx} (h0 : (y 0 : ℕ) = z 0) (h1 : (y 1 : ℕ) = z 1) : y = z := by
  funext a
  apply Fin.ext
  fin_cases a
  · exact h0
  · exact h1

/-- The elements under a block's view are those under the block's indices. -/
theorem set_blk {R b n : ℕ} {sp : Space} {e : EltTy} (arr : Memref sig .tc sp (ArrS R) e) {inb} :
    (arr.view.slice (Rect.unitDyn (s := ArrS R) ![1024 * b, 0] ![n, 128] inb)).set = arr.view.setOn (blk R b n) := by
  rw [View.set_slice]
  unfold View.setOn
  congr 1
  ext x
  rw [mem_blk, Rect.mem_set_unitDyn]
  constructor
  · intro h
    exact h 0
  · intro h a
    fin_cases a
    · exact h
    · exact ⟨Nat.zero_le _, (by have := (x 1).isLt; change (x 1 : ℕ) < 128 at this; show (x 1 : ℕ) < 0 + 128; omega)⟩

/-- The elements under the view of a slot's first rows. -/
theorem set_slotTop {L j n : ℕ} {sp : Space} {e : EltTy} (ring : Memref sig .tc sp (RingS L) e) {inb}
    (hq : (⟨3, ![1, n, 128]⟩ : Shape).Squeezes ⟨2, ![n, 128]⟩) :
    ((ring.view.slice (Rect.unitDyn (s := RingS L) ![j % L, 0, 0] ![1, n, 128] inb)).reshape ⟨2, ![n, 128]⟩ hq.numel_eq).set
      = ring.view.setOn (slotTop L j n) := by
  rw [View.set_reshape, View.set_slice]
  unfold View.setOn
  congr 1
  ext y
  rw [mem_slotTop, Rect.mem_set_unitDyn]
  constructor
  · intro h
    have h0 := h 0
    have h1 := h 1
    change j % L ≤ (y 0 : ℕ) ∧ (y 0 : ℕ) < j % L + 1 at h0
    change 0 ≤ (y 1 : ℕ) ∧ (y 1 : ℕ) < 0 + n at h1
    omega
  · intro h a
    fin_cases a
    · show j % L ≤ (y 0 : ℕ) ∧ (y 0 : ℕ) < j % L + 1
      omega
    · show 0 ≤ (y 1 : ℕ) ∧ (y 1 : ℕ) < 0 + n
      omega
    · have := (y 2).isLt; change (y 2 : ℕ) < 128 at this
      show 0 ≤ (y 2 : ℕ) ∧ (y 2 : ℕ) < 0 + 128
      omega

end

section Fetch

variable {nD : Nat} {τ : Topo} {sig : RefSig} {Val : EltTy → Type} {U : Type} [URA U] [CountersIn U]
variable [((countersEmb : UEmb Counters (MT nD τ sig Unit Val ℕ U ℕ))).LandsIn upEmb]
variable {Λ : Labels} {defs : Defs nD τ sig Val Λ} (𝒱 : Variants) (c : Dev nD) (bd : Option 𝒱.V)
variable {α : Type} {Q : α → sProp (MT nD τ sig Unit Val ℕ U ℕ)} {e : EltTy}

local notation "𝕄" => MT nD τ sig Unit Val ℕ U ℕ

/-- A transfer in flight on slot `j`'s cell, crediting what a transfer of `n` rows into the buffer
    `r` credits, and delivering `D`. -/
abbrev flying {L : ℕ} [NeZero L] (v : DmaSems sig (LineS L)) (j : ℕ) (r : Ref sig .tc) (e : EltTy) (n : ℕ) (D : sProp 𝕄) : sProp 𝕄 :=
  Flight countersEmb (c : Thread nD τ) (SemLoc.dma (cell v j)) () (r.dmaCredit ⟨2, ![n, 128]⟩ e) D

/-- A fetch of block `b` to slot `j`: the slot's first `n` rows become the block's, those behind stay. -/
theorem step_fetch {L R : ℕ} [NeZero L] {arr : Memref sig .tc .hbm (ArrS R) e} {ring : Memref sig .tc .vmem (RingS L) e}
    {v : DmaSems sig (LineS L)} (j b n : ℕ) (A : ℕ → ℕ → Val e) (w₀ : (RingS L).Idx → Val e) (hn : 0 < n)
    {so z : Fin 1 → ℕ} {d : Fin 0 → ℕ} {ro rz : Fin 3 → ℕ} {ao sz : Fin 2 → ℕ}
    (hso : so = ![j % L]) (hz : z = ![1]) (hro : ro = ![j % L, 0, 0]) (hrz : rz = ![1, n, 128]) (hao : ao = ![1024 * b, 0]) (hsz : sz = ![n, 128])
    {inb1} {hq1 : (⟨1, z⟩ : Shape).Squeezes ⟨0, d⟩} {inb2} {u2} {hq2 : (⟨3, rz⟩ : Shape).Squeezes ⟨2, sz⟩} {inb3} {u3}
    {hsrc} {hdst} {hsem} {k : PUnit → Prog (TpuEff nD τ sig Val Λ .tc) α} :
    iprop(rows c arr (blk R b n) A ∗ own c ring (slot L j) w₀ ∗ semVal ((c : Thread nD τ), SemLoc.dma (cell v j)) 0)
      ⊢ iprop((flying c v j ring.view.ref e n
            iprop(own c ring (slot L j) (fun y => if (y 1 : ℕ) < n then A (1024 * b + (y 1 : ℕ)) (y 2 : ℕ) else w₀ y) ∗ rows c arr (blk R b n) A)
          -∗ wp frame (wpE defs 𝒱 (c : Thread nD τ) bd) Set.univ (k ⟨⟩) Q)
        -∗ wp frame (wpE defs 𝒱 (c : Thread nD τ) bd) Set.univ
            (Prog.lift (TpuEff.enqueueDma (arr.slice (Rect.unitDyn (s := ArrS R) ao sz inb3) u3)
              (.here ((ring.slice (Rect.unitDyn (s := RingS L) ro rz inb2) u2).squeeze ⟨2, sz⟩ hq2))
              (SemLoc.dma ((v.slice (Rect.unit (s := LineS L) so z inb1)).squeeze ⟨0, d⟩ hq1).sem) hsrc hdst hsem) >>= k) Q) := by
  have hcell := sem_eq_cell v j hso inb1 hq1 hz
  revert hsem
  rw [hcell]
  intro hsem
  subst hro; subst hrz; subst hao; subst hsz
  unfold rows own
  iintro ⟨⟨%fa, %hfa, Ha⟩, ⟨%fr, %hfr, Hr⟩, Hv⟩ Hk
  have hSd : (((ring.slice (Rect.unitDyn (s := RingS L) ![j % L, 0, 0] ![1, n, 128] inb2) u2).squeeze ⟨2, ![n, 128]⟩ hq2).view).set
      ⊆ ring.view.setOn (slot L j) := by
    refine (Finset.subset_of_eq (set_slotTop ring hq2)).trans ?_
    rw [slot_eq L j n]
    exact Finset.map_subset_map.mpr Finset.subset_union_left
  have hpos : 0 < ring.view.ref.dmaCredit ⟨2, ![n, 128]⟩ e :=
    View.dmaCredit_pos (v := ((ring.slice (Rect.unitDyn (s := RingS L) ![j % L, 0, 0] ![1, n, 128] inb2) u2).squeeze ⟨2, ![n, 128]⟩ hq2).view) (by
      show 0 < Shape.numel ⟨2, ![n, 128]⟩
      simp [Shape.numel, Fin.prod_univ_succ]; exact hn)
  iapply (wp_dmaLocal countersEmb 𝒱 (c : Thread nD τ) bd (k := k) (q := fullShare) (fs := fa) (fd := fr)
    (src := arr.slice (Rect.unitDyn (s := ArrS R) ![1024 * b, 0] ![n, 128] inb3) u3) (via := .same)
    (dst := (ring.slice (Rect.unitDyn (s := RingS L) ![j % L, 0, 0] ![1, n, 128] inb2) u2).squeeze ⟨2, ![n, 128]⟩ hq2)
    () (ring.view.ref.dmaCredit ⟨2, ![n, 128]⟩ e) rfl hpos (Sd := ring.view.setOn (slot L j)) hSd) $$ [Ha Hr Hv]
  · isplitl [Ha]
    · rw [show (arr.slice (Rect.unitDyn (s := ArrS R) ![1024 * b, 0] ![n, 128] inb3) u3).view.set = arr.view.setOn (blk R b n) from set_blk arr]
      iexact Ha
    · isplitl [Hr]
      · iexact Hr
      · iexact Hv
  iintro HF
  iapply Hk
  iapply (Flight_mono countersEmb (c : Thread nD τ) (?_)) $$ HF
  iintro ⟨Hd, Hs⟩
  isplitl [Hd]
  · iexists _
    · isplitr
      rotate_left
      · iexact Hd
      · ipureintro
        intro y hyS
        have hy := hyS
        rw [mem_slot] at hy
        beta_reduce
        by_cases hyn : (y 1 : ℕ) < n
        · rw [if_pos hyn]
          set x : (⟨2, ![n, 128]⟩ : Shape).Idx := Shape.pair (d := ![n, 128]) ⟨(y 1 : ℕ), hyn⟩ ⟨(y 2 : ℕ), (y 2).isLt⟩ with hx
          have hye : (Rect.unitDyn (s := RingS L) ![j % L, 0, 0] ![1, n, 128] inb2).emb (Shape.reshapeEquiv hq2.numel_eq x) = y := by
            obtain ⟨h0, h1, h2⟩ := slot_emb (L := L) (j := j) (inb := inb2) hq2 x
            exact ring_ext (h0.trans hy.symm) h1 h2
          have := View.read_write_of_mem (Val := Val)
            (v := ((ring.slice (Rect.unitDyn (s := RingS L) ![j % L, 0, 0] ![1, n, 128] inb2) u2).squeeze ⟨2, ![n, 128]⟩ hq2).view)
            fr ((arr.slice (Rect.unitDyn (s := ArrS R) ![1024 * b, 0] ![n, 128] inb3) u3).view.read Val fa) (Finset.mem_univ x)
          rw [← hye]
          refine this.trans ?_
          set z := (Rect.unitDyn (s := ArrS R) ![1024 * b, 0] ![n, 128] inb3).emb x with hz
          have hz0 : (z 0 : ℕ) = 1024 * b + (x 0 : ℕ) := by
            rw [hz, Rect.emb_apply]; show 1024 * b + 1 * (x 0 : ℕ) = _; omega
          have hz1 : (z 1 : ℕ) = (x 1 : ℕ) := by
            rw [hz, Rect.emb_apply]; show 0 + 1 * (x 1 : ℕ) = _; omega
          have hzm : z ∈ blk R b n := by
            rw [mem_blk]
            have : (x 0 : ℕ) < n := hyn
            omega
          have hrd : arr.view.read Val fa z = A (z 0 : ℕ) (z 1 : ℕ) := hfa z hzm
          rw [hz0, hz1] at hrd
          obtain ⟨_, h1, h2⟩ := slot_emb (L := L) (j := j) (inb := inb2) hq2 x
          rw [h1, h2]
          exact hrd
        · rw [if_neg hyn, ← hfr y hyS]
          simp only [View.read_apply]
          rw [View.write_of_not_mem]
          intro hc
          have hc' : ring.view.emb y ∈ ring.view.setOn (slotTop L j n) := by
            rw [← set_slotTop (inb := inb2) ring hq2]; exact hc
          rw [View.mem_setOn, mem_slotTop] at hc'
          exact hyn hc'.2
  · iexists fa
    isplitr
    · ipureintro; exact hfa
    · rw [show (arr.slice (Rect.unitDyn (s := ArrS R) ![1024 * b, 0] ![n, 128] inb3) u3).view.set = arr.view.setOn (blk R b n) from set_blk arr]
      iexact Hs

/-- A flush of slot `j`'s first `n` rows to block `b`. -/
theorem step_flush {L R : ℕ} [NeZero L] {arr : Memref sig .tc .hbm (ArrS R) e} {ring : Memref sig .tc .vmem (RingS L) e}
    {v : DmaSems sig (LineS L)} (j b n : ℕ) (A : ℕ → ℕ → Val e) (w : (RingS L).Idx → Val e) (hn : 0 < n)
    (hw : ∀ y : (RingS L).Idx, (y 0 : ℕ) = j % L → (y 1 : ℕ) < n → w y = A (1024 * b + (y 1 : ℕ)) (y 2 : ℕ))
    {so z : Fin 1 → ℕ} {d : Fin 0 → ℕ} {ro rz : Fin 3 → ℕ} {ao sz : Fin 2 → ℕ}
    (hso : so = ![j % L]) (hz : z = ![1]) (hro : ro = ![j % L, 0, 0]) (hrz : rz = ![1, n, 128]) (hao : ao = ![1024 * b, 0]) (hsz : sz = ![n, 128])
    {inb1} {hq1 : (⟨1, z⟩ : Shape).Squeezes ⟨0, d⟩} {inb2} {u2} {hq2 : (⟨3, rz⟩ : Shape).Squeezes ⟨2, sz⟩} {inb3} {u3}
    {hsrc} {hdst} {hsem} {k : PUnit → Prog (TpuEff nD τ sig Val Λ .tc) α} :
    iprop(own c ring (slotTop L j n) w ∗ (∃ w₀, own c arr (blk R b n) w₀) ∗ semVal ((c : Thread nD τ), SemLoc.dma (cell v j)) 0)
      ⊢ iprop((flying c v j arr.view.ref e n iprop(own c ring (slotTop L j n) w ∗ rows c arr (blk R b n) A)
          -∗ wp frame (wpE defs 𝒱 (c : Thread nD τ) bd) Set.univ (k ⟨⟩) Q)
        -∗ wp frame (wpE defs 𝒱 (c : Thread nD τ) bd) Set.univ
            (Prog.lift (TpuEff.enqueueDma ((ring.slice (Rect.unitDyn (s := RingS L) ro rz inb2) u2).squeeze ⟨2, sz⟩ hq2)
              (.here (arr.slice (Rect.unitDyn (s := ArrS R) ao sz inb3) u3))
              (SemLoc.dma ((v.slice (Rect.unit (s := LineS L) so z inb1)).squeeze ⟨0, d⟩ hq1).sem) hsrc hdst hsem) >>= k) Q) := by
  have hcell := sem_eq_cell v j hso inb1 hq1 hz
  revert hsem
  rw [hcell]
  intro hsem
  subst hro; subst hrz; subst hao; subst hsz
  unfold rows own
  iintro ⟨⟨%fr, %hfr, Hr⟩, ⟨%w₀, %fa, %hfa, Ha⟩, Hv⟩ Hk
  have hpos : 0 < arr.view.ref.dmaCredit ⟨2, ![n, 128]⟩ e :=
    View.dmaCredit_pos (v := (arr.slice (Rect.unitDyn (s := ArrS R) ![1024 * b, 0] ![n, 128] inb3) u3).view) (by
      show 0 < Shape.numel ⟨2, ![n, 128]⟩
      simp [Shape.numel, Fin.prod_univ_succ]; exact hn)
  iapply (wp_dmaLocal countersEmb 𝒱 (c : Thread nD τ) bd (k := k) (q := fullShare) (fs := fr) (fd := fa)
    (dst := arr.slice (Rect.unitDyn (s := ArrS R) ![1024 * b, 0] ![n, 128] inb3) u3) (via := .same)
    (src := (ring.slice (Rect.unitDyn (s := RingS L) ![j % L, 0, 0] ![1, n, 128] inb2) u2).squeeze ⟨2, ![n, 128]⟩ hq2)
    () (arr.view.ref.dmaCredit ⟨2, ![n, 128]⟩ e) rfl hpos (Sd := arr.view.setOn (blk R b n)) (Finset.subset_of_eq (set_blk arr))) $$ [Ha Hr Hv]
  · isplitl [Hr]
    · rw [show ((ring.slice (Rect.unitDyn (s := RingS L) ![j % L, 0, 0] ![1, n, 128] inb2) u2).squeeze ⟨2, ![n, 128]⟩ hq2).view.set
        = ring.view.setOn (slotTop L j n) from set_slotTop ring hq2]
      iexact Hr
    · isplitl [Ha]
      · iexact Ha
      · iexact Hv
  iintro HF
  iapply Hk
  iapply (Flight_mono countersEmb (c : Thread nD τ) (?_)) $$ HF
  iintro ⟨Hd, Hs⟩
  isplitl [Hs]
  · iexists fr
    isplitr
    · ipureintro; exact hfr
    · rw [show ((ring.slice (Rect.unitDyn (s := RingS L) ![j % L, 0, 0] ![1, n, 128] inb2) u2).squeeze ⟨2, ![n, 128]⟩ hq2).view.set
        = ring.view.setOn (slotTop L j n) from set_slotTop ring hq2]
      iexact Hs
  · iexists _
    isplitr
    rotate_left
    · iexact Hd
    · ipureintro
      intro z hz
      rw [mem_blk] at hz
      set x : (⟨2, ![n, 128]⟩ : Shape).Idx := Shape.pair (d := ![n, 128]) ⟨(z 0 : ℕ) - 1024 * b, by show _ < n; omega⟩ ⟨(z 1 : ℕ), (z 1).isLt⟩ with hx
      have hze : (Rect.unitDyn (s := ArrS R) ![1024 * b, 0] ![n, 128] inb3).emb x = z := by
        refine arr_ext ?_ ?_
        · rw [Rect.emb_apply]; show 1024 * b + 1 * ((z 0 : ℕ) - 1024 * b) = _; omega
        · rw [Rect.emb_apply]; show 0 + 1 * (z 1 : ℕ) = _; omega
      have := View.read_write_of_mem (Val := Val)
        (v := (arr.slice (Rect.unitDyn (s := ArrS R) ![1024 * b, 0] ![n, 128] inb3) u3).view)
        fa (((ring.slice (Rect.unitDyn (s := RingS L) ![j % L, 0, 0] ![1, n, 128] inb2) u2).squeeze ⟨2, ![n, 128]⟩ hq2).view.read Val fr) (Finset.mem_univ x)
      obtain ⟨h0, h1, h2⟩ := slot_emb (L := L) (j := j) (inb := inb2) hq2 x
      set y := (Rect.unitDyn (s := RingS L) ![j % L, 0, 0] ![1, n, 128] inb2).emb (Shape.reshapeEquiv hq2.numel_eq x) with hy
      have hx0 : (x 0 : ℕ) = (z 0 : ℕ) - 1024 * b := rfl
      have hx1 : (x 1 : ℕ) = (z 1 : ℕ) := rfl
      have hym : y ∈ slotTop L j n := by rw [mem_slotTop]; exact ⟨h0, by omega⟩
      have hrd := (hfr y hym).trans (hw y h0 (by omega))
      rw [h1, h2, hx0, hx1, show 1024 * b + ((z 0 : ℕ) - 1024 * b) = (z 0 : ℕ) by omega] at hrd
      have e1 : arr.view.read Val ((arr.slice (Rect.unitDyn (s := ArrS R) ![1024 * b, 0] ![n, 128] inb3) u3).view.write Val fa
          (((ring.slice (Rect.unitDyn (s := RingS L) ![j % L, 0, 0] ![1, n, 128] inb2) u2).squeeze ⟨2, ![n, 128]⟩ hq2).view.read Val fr) Finset.univ)
          ((Rect.unitDyn (s := ArrS R) ![1024 * b, 0] ![n, 128] inb3).emb x) = A (z 0 : ℕ) (z 1 : ℕ) := this.trans hrd
      rw [hze] at e1
      exact e1

/-- The wait for a transfer in flight. -/
theorem step_wait {L : ℕ} [NeZero L] {v : DmaSems sig (LineS L)} (j n : ℕ) {r : Ref sig .tc} {D : sProp 𝕄}
    {so z : Fin 1 → ℕ} {d : Fin 0 → ℕ} {sz : Fin 2 → ℕ} (hso : so = ![j % L]) (hz : z = ![1]) (hsz : sz = ![n, 128])
    {inb1} {hq1 : (⟨1, z⟩ : Shape).Squeezes ⟨0, d⟩} {hk} {k : PUnit → Prog (TpuEff nD τ sig Val Λ .tc) α} :
    iprop(flying c v j r e n D ∗ (∃ W, owes (c : Thread nD τ) 0 W))
      ⊢ iprop((iprop(D ∗ semVal ((c : Thread nD τ), SemLoc.dma (cell v j)) 0 ∗ (∃ W, owes (c : Thread nD τ) 0 W))
            -∗ wp frame (wpE defs 𝒱 (c : Thread nD τ) bd) Set.univ (k ⟨⟩) Q)
        -∗ wp frame (wpE defs 𝒱 (c : Thread nD τ) bd) Set.univ
            (Prog.lift (TpuEff.waitDma ((v.slice (Rect.unit (s := LineS L) so z inb1)).squeeze ⟨0, d⟩ hq1).sem r ⟨2, sz⟩ e hk) >>= k) Q) := by
  rw [sem_eq_cell v j hso inb1 hq1 hz]
  subst hsz
  iintro ⟨HF, ⟨%W, HO⟩⟩ Hk
  iapply (wp_waitLocalSized countersEmb 𝒱 (c : Thread nD τ) bd (k := k) () rfl) $$ [HF HO]
  · isplitl [HF]
    · iexact HF
    · iexact HO
  iintro ⟨HD, Hv, HO⟩
  iapply Hk
  isplitl [HD]
  · iexact HD
  · isplitl [Hv]
    · iexact Hv
    · iexists _
      iexact HO

end Fetch

end Cert.Policy
-- ==== Proof.Streams.lean ====
/-
  Streams of blocks. The blocks of an array of 100000 rows — ninety-eight of them, the last of 672
  rows — are dealt to two streams by the parity of their number, forty-nine to each. An incoming stream
  carries its blocks one after another to a ring of four slots, three of them under way at a time; an
  outgoing stream carries a ring of two slots to its blocks, one under way at a time. What a stream owns
  between two steps is named here, and what each kind of step does to it.
-/
module

public import proofs.«01_k».proof.Proof.Copy

@[expose] public section

noncomputable section

namespace Cert.Policy

open Idealize.ShloMosaic Idealize.ShloMosaic.Transfers
open TcCoe
open Idealize.SL
open Idealize.SL.RA Idealize.SL.Sem Idealize.SL.ProofMode
open Idealize.SL.BI (sProp)
open scoped Idealize.SL.BI
open Idealize.SL.BI.BIBase Idealize.SL.BI.Laws

/-- The number of rows of a block. -/
def blkSz (b : ℕ) : ℕ := if b = 97 then 672 else 1024

theorem blkSz_pos (b : ℕ) : 0 < blkSz b := by unfold blkSz; split <;> omega
theorem blkSz_le (b : ℕ) : blkSz b ≤ 1024 := by unfold blkSz; split <;> omega

/-- The rows of a stream's blocks numbered `j`. -/
abbrev strBlk (p j : ℕ) : Finset (ArrS 100000).Idx := blk 100000 (2 * j + p) (blkSz (2 * j + p))
/-- The rows of a stream outside its blocks from `lo` up to `hi`. -/
def homeSet (p lo hi : ℕ) : Finset (ArrS 100000).Idx :=
  Finset.univ.filter fun x => (x 0 : ℕ) / 1024 % 2 = p ∧ ¬ (lo ≤ (x 0 : ℕ) / 1024 / 2 ∧ (x 0 : ℕ) / 1024 / 2 < hi)
/-- The rows of a stream's blocks from `k` on. -/
def todoSet (p k : ℕ) : Finset (ArrS 100000).Idx := Finset.univ.filter fun x => (x 0 : ℕ) / 1024 % 2 = p ∧ k ≤ (x 0 : ℕ) / 1024 / 2
/-- The rows of a stream's blocks before `k`. -/
def doneSet (p k : ℕ) : Finset (ArrS 100000).Idx := Finset.univ.filter fun x => (x 0 : ℕ) / 1024 % 2 = p ∧ (x 0 : ℕ) / 1024 / 2 < k

theorem mem_homeSet {p lo hi : ℕ} {x : (ArrS 100000).Idx} :
    x ∈ homeSet p lo hi ↔ (x 0 : ℕ) / 1024 % 2 = p ∧ ¬ (lo ≤ (x 0 : ℕ) / 1024 / 2 ∧ (x 0 : ℕ) / 1024 / 2 < hi) := by simp [homeSet]
theorem mem_todoSet {p k : ℕ} {x : (ArrS 100000).Idx} : x ∈ todoSet p k ↔ (x 0 : ℕ) / 1024 % 2 = p ∧ k ≤ (x 0 : ℕ) / 1024 / 2 := by simp [todoSet]
theorem mem_doneSet {p k : ℕ} {x : (ArrS 100000).Idx} : x ∈ doneSet p k ↔ (x 0 : ℕ) / 1024 % 2 = p ∧ (x 0 : ℕ) / 1024 / 2 < k := by simp [doneSet]

theorem row_lt (x : (ArrS 100000).Idx) : (x 0 : ℕ) < 100000 := (x 0).isLt

/-- A row is in block `j` of stream `p` just when its number says so. -/
theorem mem_strBlk {p j : ℕ} (hp : p < 2) {x : (ArrS 100000).Idx} :
    x ∈ strBlk p j ↔ (x 0 : ℕ) / 1024 % 2 = p ∧ (x 0 : ℕ) / 1024 / 2 = j := by
  have hx := row_lt x
  rw [mem_blk]
  unfold blkSz
  split <;> omega

section

variable {nD : Nat} {τ : Topo} {sig : RefSig} {Val : EltTy → Type} {U : Type} [URA U] [CountersIn U]
variable [((countersEmb : UEmb Counters (MT nD τ sig Unit Val ℕ U ℕ))).LandsIn upEmb]
variable {e : EltTy} (c : Dev nD)

local notation "𝕄" => MT nD τ sig Unit Val ℕ U ℕ

/-- A slot at some contents, nothing under way on its cell. -/
def idle {L : ℕ} [NeZero L] (ring : Memref sig .tc .vmem (RingS L) e) (v : DmaSems sig (LineS L)) (j : ℕ) : sProp 𝕄 :=
  iprop(free c ring j ∗ semVal ((c : Thread nD τ), SemLoc.dma (cell v j)) 0)

theorem idle_congr {L : ℕ} [NeZero L] (ring : Memref sig .tc .vmem (RingS L) e) (v : DmaSems sig (LineS L)) {i j : ℕ} (h : i % L = j % L) :
    (idle c ring v i : sProp 𝕄) = idle c ring v j := by
  have h1 : slot L i = slot L j := by unfold slot; rw [h]
  have h2 : lineIx L i = lineIx L j := by
    funext a; apply Fin.ext; exact h
  unfold idle free cell
  rw [h1, h2]

/-- A slot's rows when block `b` has come: the block's, and behind them what came eight blocks before. -/
def came (A : ℕ → ℕ → Val e) (b : ℕ) {L : ℕ} (y : (RingS L).Idx) : Val e :=
  if (y 1 : ℕ) < blkSz b then A (1024 * b + (y 1 : ℕ)) (y 2 : ℕ) else A (1024 * (b - 8) + (y 1 : ℕ)) (y 2 : ℕ)

/-- An incoming stream's slot waiting for block `j`, at what block `j - 4` left. -/
def spare (ring : Memref sig .tc .vmem (RingS 4) e) (v : DmaSems sig (LineS 4)) (p : ℕ) (A : ℕ → ℕ → Val e) (j : ℕ) : sProp 𝕄 :=
  iprop((∃ w, ⌜4 ≤ j → ∀ y ∈ slot 4 j, w y = came A (2 * (j - 4) + p) y⌝ ∗ own c ring (slot 4 j) w)
    ∗ semVal ((c : Thread nD τ), SemLoc.dma (cell v j)) 0)

theorem spare_of_idle (ring : Memref sig .tc .vmem (RingS 4) e) (v : DmaSems sig (LineS 4)) (p : ℕ) (A : ℕ → ℕ → Val e) {j : ℕ} (hj : j < 4) :
    (idle c ring v j : sProp 𝕄) ⊢ spare c ring v p A j := by
  unfold idle free spare
  iintro ⟨⟨%w, H⟩, Hv⟩
  isplitl [H]
  · iexists w
    isplitr
    · ipureintro; intro h; omega
    · iexact H
  · iexact Hv

theorem idle_of_spare (ring : Memref sig .tc .vmem (RingS 4) e) (v : DmaSems sig (LineS 4)) (p : ℕ) (A : ℕ → ℕ → Val e) (j : ℕ) :
    (spare c ring v p A j : sProp 𝕄) ⊢ idle c ring v j := by
  unfold idle free spare
  iintro ⟨⟨%w, %_, H⟩, Hv⟩
  isplitl [H]
  · iexists w; iexact H
  · iexact Hv

/-- A slot used is spare for the block four on. -/
theorem spare_of_used (ring : Memref sig .tc .vmem (RingS 4) e) (v : DmaSems sig (LineS 4)) (p : ℕ) (A : ℕ → ℕ → Val e) (j : ℕ) :
    iprop(own c ring (slot 4 j) (came A (2 * j + p)) ∗ semVal ((c : Thread nD τ), SemLoc.dma (cell v j)) 0)
      ⊢ (spare c ring v p A (j + 4) : sProp 𝕄) := by
  have h1 : slot 4 (j + 4) = slot 4 j := by unfold slot; rw [Nat.add_mod_right]
  have h2 : lineIx 4 (j + 4) = lineIx 4 j := by
    funext a; apply Fin.ext; exact Nat.add_mod_right _ _
  unfold spare cell
  rw [h1, h2]
  iintro ⟨H, Hv⟩
  isplitl [H]
  · iexists _
    isplitr
    rotate_left
    · iexact H
    · ipureintro
      intro _ y _
      rw [show j + 4 - 4 = j from Nat.add_sub_cancel _ _]
  · iexact Hv

/-- Block `j` of a stream come to its slot, and the rows it was read from. -/
def back (arr : Memref sig .tc .hbm (ArrS 100000) e) (ring : Memref sig .tc .vmem (RingS 4) e) (p : ℕ) (A : ℕ → ℕ → Val e) (j : ℕ) : sProp 𝕄 :=
  iprop(own c ring (slot 4 j) (came A (2 * j + p)) ∗ rows c arr (strBlk p j) A)

/-- Block `j` of a stream on its way, if there is one. -/
def coming (arr : Memref sig .tc .hbm (ArrS 100000) e) (ring : Memref sig .tc .vmem (RingS 4) e) (v : DmaSems sig (LineS 4))
    (p : ℕ) (A : ℕ → ℕ → Val e) (j : ℕ) : sProp 𝕄 :=
  if j < 49 then flying c v j ring.view.ref e (blkSz (2 * j + p)) (back c arr ring p A j) else spare c ring v p A j

/-- An incoming stream's rows that are not under way. -/
abbrev home (arr : Memref sig .tc .hbm (ArrS 100000) e) (p : ℕ) (A : ℕ → ℕ → Val e) (lo hi : ℕ) : sProp 𝕄 := rows c arr (homeSet p lo hi) A

theorem coming_of_lt (arr : Memref sig .tc .hbm (ArrS 100000) e) (ring : Memref sig .tc .vmem (RingS 4) e) (v : DmaSems sig (LineS 4))
    (p : ℕ) (A : ℕ → ℕ → Val e) {j : ℕ} (h : j < 49) :
    (coming c arr ring v p A j : sProp 𝕄) = flying c v j ring.view.ref e (blkSz (2 * j + p)) (back c arr ring p A j) := if_pos h
theorem coming_of_ge (arr : Memref sig .tc .hbm (ArrS 100000) e) (ring : Memref sig .tc .vmem (RingS 4) e) (v : DmaSems sig (LineS 4))
    (p : ℕ) (A : ℕ → ℕ → Val e) {j : ℕ} (h : 49 ≤ j) : (coming c arr ring v p A j : sProp 𝕄) = spare c ring v p A j := if_neg (by omega)

/-- The next block leaves home. -/
theorem home_take (arr : Memref sig .tc .hbm (ArrS 100000) e) {p : ℕ} (hp : p < 2) (A : ℕ → ℕ → Val e) {lo hi : ℕ} (h : lo ≤ hi) :
    (home c arr p A lo hi : sProp 𝕄) ⊢ iprop(rows c arr (strBlk p hi) A ∗ home c arr p A lo (hi + 1)) := by
  refine own_split ?_ _ ?_
  · rw [Finset.disjoint_left]
    intro x h1 h2
    rw [mem_strBlk hp] at h1; rw [mem_homeSet] at h2
    omega
  · ext x
    rw [Finset.mem_union, mem_strBlk hp, mem_homeSet, mem_homeSet]
    omega

/-- Beyond the last block nothing leaves. -/
theorem home_skip (arr : Memref sig .tc .hbm (ArrS 100000) e) (p : ℕ) (A : ℕ → ℕ → Val e) {lo hi : ℕ} (h : 49 ≤ hi) :
    (home c arr p A lo hi : sProp 𝕄) = home c arr p A lo (hi + 1) := by
  have : homeSet p lo hi = homeSet p lo (hi + 1) := by
    ext x
    have hx := row_lt x
    rw [mem_homeSet, mem_homeSet]
    omega
  unfold home
  rw [this]

/-- The oldest block comes home. -/
theorem home_give (arr : Memref sig .tc .hbm (ArrS 100000) e) {p : ℕ} (hp : p < 2) (A : ℕ → ℕ → Val e) {lo hi : ℕ} (h : lo < hi) :
    iprop(rows c arr (strBlk p lo) A ∗ home c arr p A lo hi) ⊢ (home c arr p A (lo + 1) hi : sProp 𝕄) := by
  refine own_join ?_ _ ?_ (fun _ _ => rfl) (fun _ _ => rfl)
  · rw [Finset.disjoint_left]
    intro x h1 h2
    rw [mem_strBlk hp] at h1; rw [mem_homeSet] at h2
    omega
  · ext x
    rw [Finset.mem_union, mem_strBlk hp, mem_homeSet, mem_homeSet]
    omega

/-- An array at rest is its two streams at home. -/
theorem home_split (arr : Memref sig .tc .hbm (ArrS 100000) e) (A : ℕ → ℕ → Val e) :
    (rows c arr Finset.univ A : sProp 𝕄) ⊢ iprop(home c arr 0 A 0 0 ∗ home c arr 1 A 0 0) := by
  refine own_split ?_ _ ?_
  · rw [Finset.disjoint_left]
    intro x h1 h2
    rw [mem_homeSet] at h1 h2
    omega
  · ext x
    rw [Finset.mem_union, mem_homeSet, mem_homeSet]
    simp only [Finset.mem_univ, true_iff]
    omega

theorem home_join (arr : Memref sig .tc .hbm (ArrS 100000) e) (A : ℕ → ℕ → Val e) :
    iprop(home c arr 0 A 49 52 ∗ home c arr 1 A 49 52) ⊢ (rows c arr Finset.univ A : sProp 𝕄) := by
  refine own_join ?_ _ ?_ (fun _ _ => rfl) (fun _ _ => rfl)
  · rw [Finset.disjoint_left]
    intro x h1 h2
    rw [mem_homeSet] at h1 h2
    omega
  · ext x
    have hx := row_lt x
    rw [Finset.mem_union, mem_homeSet, mem_homeSet]
    simp only [Finset.mem_univ, true_iff]
    omega

/-- The slot's rows a block does not reach, and those it does, are the slot. -/
theorem slot_cut {L : ℕ} (ring : Memref sig .tc .vmem (RingS L) e) (j n : ℕ) (w : (RingS L).Idx → Val e) :
    (own c ring (slot L j) w : sProp 𝕄) ⊢ iprop(own c ring (slotTop L j n) w ∗ own c ring (slotTail L j n) w) :=
  own_split (slotTop_disjoint L j n) _ (slot_eq L j n)

theorem slot_mend {L : ℕ} (ring : Memref sig .tc .vmem (RingS L) e) (j n : ℕ) :
    iprop((∃ w, own c ring (slotTop L j n) w) ∗ (∃ w, own c ring (slotTail L j n) w)) ⊢ (free c ring j : sProp 𝕄) := by
  classical
  iintro ⟨⟨%w, H⟩, ⟨%w', H'⟩⟩
  unfold free
  iexists (fun x => if x ∈ slotTop L j n then w x else w' x)
  iapply (own_join (slotTop_disjoint L j n) _ (slot_eq L j n) (fun x hx => if_pos hx)
    (fun x hx => if_neg (fun h => Finset.disjoint_left.mp (slotTop_disjoint L j n) h hx)))
  isplitl [H]
  · iexact H
  · iexact H'

/-- What a flush in flight brings back: the slot's rows, and the block written. -/
def gone {L : ℕ} (arr : Memref sig .tc .hbm (ArrS 100000) e) (ring : Memref sig .tc .vmem (RingS L) e) (p : ℕ) (A : ℕ → ℕ → Val e) (j : ℕ) : sProp 𝕄 :=
  iprop((∃ w, own c ring (slotTop L j (blkSz (2 * j + p))) w) ∗ rows c arr (strBlk p j) A)

/-- Block `j` of an outgoing stream under way. -/
def going {L : ℕ} [NeZero L] (arr : Memref sig .tc .hbm (ArrS 100000) e) (ring : Memref sig .tc .vmem (RingS L) e) (v : DmaSems sig (LineS L))
    (p : ℕ) (A : ℕ → ℕ → Val e) (j : ℕ) : sProp 𝕄 :=
  iprop(flying c v j arr.view.ref e (blkSz (2 * j + p)) (gone c arr ring p A j) ∗ (∃ w, own c ring (slotTail L j (blkSz (2 * j + p))) w))

/-- The block before `k` under way, if there is one. -/
def leaving {L : ℕ} [NeZero L] (arr : Memref sig .tc .hbm (ArrS 100000) e) (ring : Memref sig .tc .vmem (RingS L) e) (v : DmaSems sig (LineS L))
    (p : ℕ) (A : ℕ → ℕ → Val e) (k : ℕ) : sProp 𝕄 :=
  match k with
  | 0 => idle c ring v 1
  | j + 1 => going c arr ring v p A j

/-- The blocks from `k` on, not yet written. -/
def todo (arr : Memref sig .tc .hbm (ArrS 100000) e) (p k : ℕ) : sProp 𝕄 := iprop(∃ w, own c arr (todoSet p k) w)
/-- The blocks before `k`, written. -/
abbrev done (arr : Memref sig .tc .hbm (ArrS 100000) e) (p : ℕ) (A : ℕ → ℕ → Val e) (k : ℕ) : sProp 𝕄 := rows c arr (doneSet p k) A

theorem todo_take (arr : Memref sig .tc .hbm (ArrS 100000) e) {p : ℕ} (hp : p < 2) (k : ℕ) :
    (todo c arr p k : sProp 𝕄) ⊢ iprop((∃ w, own c arr (strBlk p k) w) ∗ todo c arr p (k + 1)) := by
  unfold todo
  iintro ⟨%w, H⟩
  ihave H := (own_split (T := strBlk p k) (T' := todoSet p (k + 1)) (by
    rw [Finset.disjoint_left]
    intro x h1 h2
    rw [mem_strBlk hp] at h1; rw [mem_todoSet] at h2
    omega) _ (by
    ext x
    rw [Finset.mem_union, mem_strBlk hp, mem_todoSet, mem_todoSet]
    omega)) $$ H
  icases H with ⟨H1, H2⟩
  isplitl [H1]
  · iexists w; iexact H1
  · iexists w; iexact H2

theorem done_give (arr : Memref sig .tc .hbm (ArrS 100000) e) {p : ℕ} (hp : p < 2) (A : ℕ → ℕ → Val e) (k : ℕ) :
    iprop(rows c arr (strBlk p k) A ∗ done c arr p A k) ⊢ (done c arr p A (k + 1) : sProp 𝕄) := by
  refine own_join ?_ _ ?_ (fun _ _ => rfl) (fun _ _ => rfl)
  · rw [Finset.disjoint_left]
    intro x h1 h2
    rw [mem_strBlk hp] at h1; rw [mem_doneSet] at h2
    omega
  · ext x
    rw [Finset.mem_union, mem_strBlk hp, mem_doneSet, mem_doneSet]
    omega

/-- An array to be written is its two streams, all to do. -/
theorem todo_split (arr : Memref sig .tc .hbm (ArrS 100000) e) (A : ℕ → ℕ → Val e) (w : (ArrS 100000).Idx → Val e) :
    (own c arr Finset.univ w : sProp 𝕄) ⊢ iprop((todo c arr 0 0 ∗ done c arr 0 A 0) ∗ (todo c arr 1 0 ∗ done c arr 1 A 0)) := by
  have hd : ∀ p, doneSet p 0 = ∅ := fun p => by ext x; rw [mem_doneSet]; simp
  have he : ∀ p, (own c arr (todoSet p 0) w : sProp 𝕄) ⊢ iprop(todo c arr p 0 ∗ done c arr p A 0) := fun p => by
    iintro H
    ihave H := (own_split (T := todoSet p 0) (T' := ∅) (Finset.disjoint_empty_right _) _ (Finset.union_empty _).symm) $$ H
    icases H with ⟨H1, H2⟩
    isplitl [H1]
    · unfold todo; iexists w; iexact H1
    · unfold done rows
      rw [hd p]
      iapply (own_congr (fun x hx => absurd hx (Finset.notMem_empty x)))
      iexact H2
  iintro H
  ihave H := (own_split (T := todoSet 0 0) (T' := todoSet 1 0) (by
    rw [Finset.disjoint_left]
    intro x h1 h2
    rw [mem_todoSet] at h1 h2
    omega) _ (by
    ext x
    rw [Finset.mem_union, mem_todoSet, mem_todoSet]
    simp only [Finset.mem_univ, true_iff]
    omega)) $$ H
  icases H with ⟨H1, H2⟩
  isplitl [H1]
  · iapply (he 0); iexact H1
  · iapply (he 1); iexact H2

theorem done_join (arr : Memref sig .tc .hbm (ArrS 100000) e) (A : ℕ → ℕ → Val e) :
    iprop(done c arr 0 A 49 ∗ done c arr 1 A 49) ⊢ (rows c arr Finset.univ A : sProp 𝕄) := by
  refine own_join ?_ _ ?_ (fun _ _ => rfl) (fun _ _ => rfl)
  · rw [Finset.disjoint_left]
    intro x h1 h2
    rw [mem_doneSet] at h1 h2
    omega
  · ext x
    have hx := row_lt x
    rw [Finset.mem_union, mem_doneSet, mem_doneSet]
    simp only [Finset.mem_univ, true_iff]
    omega

/-- The slots of a ring from `j` on are its slot `j` and those behind it. -/
theorem ring_peel {L : ℕ} (ring : Memref sig .tc .vmem (RingS L) e) {j : ℕ} (hj : j < L) (w : (RingS L).Idx → Val e) :
    (own c ring (Finset.univ.filter fun y => j ≤ (y 0 : ℕ)) w : sProp 𝕄)
      ⊢ iprop(free c ring j ∗ own c ring (Finset.univ.filter fun y => j + 1 ≤ (y 0 : ℕ)) w) := by
  iintro H
  ihave H := (own_split (T := slot L j) (T' := Finset.univ.filter fun y => j + 1 ≤ (y 0 : ℕ)) (by
    rw [Finset.disjoint_left]
    intro y h1 h2
    rw [mem_slot, Nat.mod_eq_of_lt hj] at h1
    simp only [Finset.mem_filter, Finset.mem_univ, true_and] at h2
    omega) _ (by
    ext y
    rw [Finset.mem_union, mem_slot, Nat.mod_eq_of_lt hj]
    simp only [Finset.mem_filter, Finset.mem_univ, true_and]
    omega)) $$ H
  icases H with ⟨H1, H2⟩
  isplitl [H1]
  · unfold free; iexists w; iexact H1
  · iexact H2

theorem ring_grow {L : ℕ} (ring : Memref sig .tc .vmem (RingS L) e) {j : ℕ} (hj : j < L) :
    iprop(free c ring j ∗ (∃ w, own c ring (Finset.univ.filter fun y => j + 1 ≤ (y 0 : ℕ)) w))
      ⊢ (iprop(∃ w, own c ring (Finset.univ.filter fun y => j ≤ (y 0 : ℕ)) w) : sProp 𝕄) := by
  classical
  unfold free
  iintro ⟨⟨%w, H⟩, ⟨%w', H'⟩⟩
  iexists (fun y => if (y 0 : ℕ) = j then w y else w' y)
  iapply (own_join (T := slot L j) (T' := Finset.univ.filter fun y => j + 1 ≤ (y 0 : ℕ)) (w := w) (w' := w') (by
    rw [Finset.disjoint_left]
    intro y h1 h2
    rw [mem_slot, Nat.mod_eq_of_lt hj] at h1
    simp only [Finset.mem_filter, Finset.mem_univ, true_and] at h2
    omega) _ (by
    ext y
    rw [Finset.mem_union, mem_slot, Nat.mod_eq_of_lt hj]
    simp only [Finset.mem_filter, Finset.mem_univ, true_and]
    omega) (fun y hy => by
      rw [mem_slot, Nat.mod_eq_of_lt hj] at hy
      exact if_pos hy) (fun y hy => by
      simp only [Finset.mem_filter, Finset.mem_univ, true_and] at hy
      exact if_neg (by omega)))
  isplitl [H]
  · iexact H
  · iexact H'

end

section Steps

variable {nD : Nat} {τ : Topo} {sig : RefSig} {Val : EltTy → Type} {U : Type} [URA U] [CountersIn U]
variable [((countersEmb : UEmb Counters (MT nD τ sig Unit Val ℕ U ℕ))).LandsIn upEmb]
variable {Λ : Labels} {defs : Defs nD τ sig Val Λ} (𝒱 : Variants) (c : Dev nD) (bd : Option 𝒱.V)
variable {α : Type} {Q : α → sProp (MT nD τ sig Unit Val ℕ U ℕ)} {e : EltTy}

local notation "𝕄" => MT nD τ sig Unit Val ℕ U ℕ

/-- A choice whose condition holds. -/
theorem step_yes {C : Prop} [hd : Decidable C] (h : C) {p : C → Prog (TpuEff nD τ sig Val Λ .tc) α} {q : ¬C → Prog (TpuEff nD τ sig Val Λ .tc) α} :
    (wp frame (wpE defs 𝒱 (c : Thread nD τ) bd) Set.univ (p h) Q : sProp 𝕄)
      ⊢ wp frame (wpE defs 𝒱 (c : Thread nD τ) bd) Set.univ (dite C p q) Q :=
  Entails.of_eq (by rw [dif_pos h])

/-- A choice whose sides agree. -/
theorem step_either {C : Prop} [hd : Decidable C] {p : Prog (TpuEff nD τ sig Val Λ .tc) α} :
    (wp frame (wpE defs 𝒱 (c : Thread nD τ) bd) Set.univ p Q : sProp 𝕄)
      ⊢ wp frame (wpE defs 𝒱 (c : Thread nD τ) bd) Set.univ (ite C p p) Q :=
  Entails.of_eq (by rw [ite_self])

/-- An effect taken if the condition holds, and otherwise not. -/
theorem step_maybe {C : Prop} [hd : Decidable C] {p : C → Prog (TpuEff nD τ sig Val Λ .tc) α} {q : Prog (TpuEff nD τ sig Val Λ .tc) α} (P R : sProp 𝕄)
    (h1 : ∀ h : C, P ⊢ iprop((R -∗ wp frame (wpE defs 𝒱 (c : Thread nD τ) bd) Set.univ q Q)
      -∗ wp frame (wpE defs 𝒱 (c : Thread nD τ) bd) Set.univ (p h) Q))
    (h2 : ¬C → P ⊢ R) :
    P ⊢ iprop((R -∗ wp frame (wpE defs 𝒱 (c : Thread nD τ) bd) Set.univ q Q)
      -∗ wp frame (wpE defs 𝒱 (c : Thread nD τ) bd) Set.univ (dite C p (fun _ => q)) Q) := by
  by_cases h : C
  · rw [dif_pos h]; exact h1 h
  · rw [dif_neg h]
    iintro HP Hk
    iapply Hk
    iapply (h2 h)
    iexact HP

/-- An incoming stream sends for its block `j`. -/
theorem step_send {arr : Memref sig .tc .hbm (ArrS 100000) e} {ring : Memref sig .tc .vmem (RingS 4) e}
    {v : DmaSems sig (LineS 4)} {p : ℕ} (hp : p < 2) (A : ℕ → ℕ → Val e) (lo j : ℕ) (hlo : lo ≤ j) (hj : j < 49)
    {so z : Fin 1 → ℕ} {d : Fin 0 → ℕ} {ro rz : Fin 3 → ℕ} {ao sz : Fin 2 → ℕ}
    (hso : so = ![j % 4]) (hz : z = ![1]) (hro : ro = ![j % 4, 0, 0]) (hrz : rz = ![1, blkSz (2 * j + p), 128])
    (hao : ao = ![1024 * (2 * j + p), 0]) (hsz : sz = ![blkSz (2 * j + p), 128])
    {inb1} {hq1 : (⟨1, z⟩ : Shape).Squeezes ⟨0, d⟩} {inb2} {u2} {hq2 : (⟨3, rz⟩ : Shape).Squeezes ⟨2, sz⟩} {inb3} {u3}
    {hsrc} {hdst} {hsem} {k : PUnit → Prog (TpuEff nD τ sig Val Λ .tc) α} :
    iprop(spare c ring v p A j ∗ home c arr p A lo j)
      ⊢ iprop((iprop(coming c arr ring v p A j ∗ home c arr p A lo (j + 1))
          -∗ wp frame (wpE defs 𝒱 (c : Thread nD τ) bd) Set.univ (k ⟨⟩) Q)
        -∗ wp frame (wpE defs 𝒱 (c : Thread nD τ) bd) Set.univ
            (Prog.lift (TpuEff.enqueueDma (arr.slice (Rect.unitDyn (s := ArrS 100000) ao sz inb3) u3)
              (.here ((ring.slice (Rect.unitDyn (s := RingS 4) ro rz inb2) u2).squeeze ⟨2, sz⟩ hq2))
              (SemLoc.dma ((v.slice (Rect.unit (s := LineS 4) so z inb1)).squeeze ⟨0, d⟩ hq1).sem) hsrc hdst hsem) >>= k) Q) := by
  iintro ⟨HI, HH⟩ Hk
  unfold spare
  icases HI with ⟨⟨%w, %hw, HF⟩, Hv⟩
  ihave HH := (home_take c arr hp A hlo) $$ HH
  icases HH with ⟨Hb, HH⟩
  iapply (step_fetch 𝒱 c bd j (2 * j + p) (blkSz (2 * j + p)) A w (blkSz_pos _) hso hz hro hrz hao hsz) $$ [HF Hv Hb]
  · isplitl [Hb]
    · iexact Hb
    · isplitl [HF]
      · iexact HF
      · iexact Hv
  iintro HF
  iapply Hk
  isplitl [HF]
  · rw [coming_of_lt c arr ring v p A hj]
    iapply (Flight_mono countersEmb (c : Thread nD τ) (?_)) $$ HF
    unfold back
    iintro ⟨H1, H2⟩
    isplitl [H1]
    · iapply (own_congr (fun y hy => ?_)) $$ H1
      unfold came
      by_cases hn : (y 1 : ℕ) < blkSz (2 * j + p)
      · rw [if_pos hn, if_pos hn]
      · have hy1 : (y 1 : ℕ) < 1024 := (y 1).isLt
        have hb : 2 * j + p = 97 := by
          unfold blkSz at hn
          by_contra hc
          rw [if_neg hc] at hn
          omega
        have hj48 : j = 48 := by omega
        rw [if_neg hn, if_neg hn, hw (by omega) y hy]
        unfold came
        rw [if_pos (by unfold blkSz; rw [if_neg (by omega)]; exact hy1)]
        rw [show 2 * (j - 4) + p = 2 * j + p - 8 by omega]
    · iexact H2
  · iexact HH

/-- An incoming stream's block `j` has come. -/
theorem step_come {arr : Memref sig .tc .hbm (ArrS 100000) e} {ring : Memref sig .tc .vmem (RingS 4) e}
    {v : DmaSems sig (LineS 4)} (p : ℕ) (A : ℕ → ℕ → Val e) (j : ℕ) (hj : j < 49)
    {so z : Fin 1 → ℕ} {d : Fin 0 → ℕ} {sz : Fin 2 → ℕ} (hso : so = ![j % 4]) (hz : z = ![1]) (hsz : sz = ![blkSz (2 * j + p), 128])
    {inb1} {hq1 : (⟨1, z⟩ : Shape).Squeezes ⟨0, d⟩} {hk} {k : PUnit → Prog (TpuEff nD τ sig Val Λ .tc) α} :
    iprop(coming c arr ring v p A j ∗ (∃ W, owes (c : Thread nD τ) 0 W))
      ⊢ iprop((iprop(back c arr ring p A j ∗ semVal ((c : Thread nD τ), SemLoc.dma (cell v j)) 0 ∗ (∃ W, owes (c : Thread nD τ) 0 W))
            -∗ wp frame (wpE defs 𝒱 (c : Thread nD τ) bd) Set.univ (k ⟨⟩) Q)
        -∗ wp frame (wpE defs 𝒱 (c : Thread nD τ) bd) Set.univ
            (Prog.lift (TpuEff.waitDma ((v.slice (Rect.unit (s := LineS 4) so z inb1)).squeeze ⟨0, d⟩ hq1).sem ring.view.ref ⟨2, sz⟩ e hk) >>= k) Q) := by
  rw [coming_of_lt c arr ring v p A hj]
  exact step_wait 𝒱 c bd j (blkSz (2 * j + p)) hso hz hsz

/-- An outgoing stream sends off its block `k`. -/
theorem step_leave {arr : Memref sig .tc .hbm (ArrS 100000) e} {ring : Memref sig .tc .vmem (RingS 2) e}
    {v : DmaSems sig (LineS 2)} {p : ℕ} (hp : p < 2) (A : ℕ → ℕ → Val e) (j : ℕ) (w : (RingS 2).Idx → Val e)
    (hw : ∀ y : (RingS 2).Idx, (y 0 : ℕ) = j % 2 → (y 1 : ℕ) < blkSz (2 * j + p) → w y = A (1024 * (2 * j + p) + (y 1 : ℕ)) (y 2 : ℕ))
    {so z : Fin 1 → ℕ} {d : Fin 0 → ℕ} {ro rz : Fin 3 → ℕ} {ao sz : Fin 2 → ℕ}
    (hso : so = ![j % 2]) (hz : z = ![1]) (hro : ro = ![j % 2, 0, 0]) (hrz : rz = ![1, blkSz (2 * j + p), 128])
    (hao : ao = ![1024 * (2 * j + p), 0]) (hsz : sz = ![blkSz (2 * j + p), 128])
    {inb1} {hq1 : (⟨1, z⟩ : Shape).Squeezes ⟨0, d⟩} {inb2} {u2} {hq2 : (⟨3, rz⟩ : Shape).Squeezes ⟨2, sz⟩} {inb3} {u3}
    {hsrc} {hdst} {hsem} {k : PUnit → Prog (TpuEff nD τ sig Val Λ .tc) α} :
    iprop(own c ring (slot 2 j) w ∗ semVal ((c : Thread nD τ), SemLoc.dma (cell v j)) 0 ∗ todo c arr p j)
      ⊢ iprop((iprop(going c arr ring v p A j ∗ todo c arr p (j + 1))
          -∗ wp frame (wpE defs 𝒱 (c : Thread nD τ) bd) Set.univ (k ⟨⟩) Q)
        -∗ wp frame (wpE defs 𝒱 (c : Thread nD τ) bd) Set.univ
            (Prog.lift (TpuEff.enqueueDma ((ring.slice (Rect.unitDyn (s := RingS 2) ro rz inb2) u2).squeeze ⟨2, sz⟩ hq2)
              (.here (arr.slice (Rect.unitDyn (s := ArrS 100000) ao sz inb3) u3))
              (SemLoc.dma ((v.slice (Rect.unit (s := LineS 2) so z inb1)).squeeze ⟨0, d⟩ hq1).sem) hsrc hdst hsem) >>= k) Q) := by
  iintro ⟨HR, Hv, HT⟩ Hk
  ihave HR := (slot_cut c ring j (blkSz (2 * j + p)) w) $$ HR
  icases HR with ⟨HR, HL⟩
  ihave HT := (todo_take c arr hp j) $$ HT
  icases HT with ⟨Hb, HT⟩
  iapply (step_flush 𝒱 c bd j (2 * j + p) (blkSz (2 * j + p)) A w (blkSz_pos _) hw hso hz hro hrz hao hsz) $$ [HR Hv Hb]
  · isplitl [HR]
    · iexact HR
    · isplitl [Hb]
      · iexact Hb
      · iexact Hv
  iintro HF
  iapply Hk
  isplitr [HT]
  · unfold going gone
    isplitl [HF]
    · iapply (Flight_mono countersEmb (c : Thread nD τ) (?_)) $$ HF
      iintro ⟨H1, H2⟩
      isplitl [H1]
      · iexists w; iexact H1
      · iexact H2
    · iexists w; iexact HL
  · iexact HT

/-- An outgoing stream's block `j` is written. -/
theorem step_gone {arr : Memref sig .tc .hbm (ArrS 100000) e} {ring : Memref sig .tc .vmem (RingS 2) e}
    {v : DmaSems sig (LineS 2)} {p : ℕ} (hp : p < 2) (A : ℕ → ℕ → Val e) (j : ℕ)
    {so z : Fin 1 → ℕ} {d : Fin 0 → ℕ} {sz : Fin 2 → ℕ} (hso : so = ![j % 2]) (hz : z = ![1]) (hsz : sz = ![blkSz (2 * j + p), 128])
    {inb1} {hq1 : (⟨1, z⟩ : Shape).Squeezes ⟨0, d⟩} {hk} {k : PUnit → Prog (TpuEff nD τ sig Val Λ .tc) α} :
    iprop(going c arr ring v p A j ∗ done c arr p A j ∗ (∃ W, owes (c : Thread nD τ) 0 W))
      ⊢ iprop((iprop((idle c ring v j ∗ done c arr p A (j + 1)) ∗ (∃ W, owes (c : Thread nD τ) 0 W))
            -∗ wp frame (wpE defs 𝒱 (c : Thread nD τ) bd) Set.univ (k ⟨⟩) Q)
        -∗ wp frame (wpE defs 𝒱 (c : Thread nD τ) bd) Set.univ
            (Prog.lift (TpuEff.waitDma ((v.slice (Rect.unit (s := LineS 2) so z inb1)).squeeze ⟨0, d⟩ hq1).sem arr.view.ref ⟨2, sz⟩ e hk) >>= k) Q) := by
  unfold going
  iintro ⟨⟨HF, HL⟩, HD, HO⟩ Hk
  iapply (step_wait 𝒱 c bd j (blkSz (2 * j + p)) hso hz hsz) $$ [HF HO]
  · isplitl [HF]
    · iexact HF
    · iexact HO
  unfold gone
  iintro ⟨⟨HT, HB⟩, Hv, HO⟩
  iapply Hk
  isplitr [HO]
  · isplitr [HB HD]
    · unfold idle
      isplitr [Hv]
      · iapply (slot_mend c ring j (blkSz (2 * j + p)))
        isplitl [HT]
        · iexact HT
        · iexact HL
      · iexact Hv
    · iapply (done_give c arr hp A j)
      isplitl [HB]
      · iexact HB
      · iexact HD
  · iexact HO

/-- The block before `k` is written, if there is one. -/
theorem leaving_zero {L : ℕ} [NeZero L] (arr : Memref sig .tc .hbm (ArrS 100000) e) (ring : Memref sig .tc .vmem (RingS L) e) (v : DmaSems sig (LineS L))
    (p : ℕ) (A : ℕ → ℕ → Val e) : (leaving c arr ring v p A 0 : sProp 𝕄) = idle c ring v 1 := rfl
theorem leaving_succ {L : ℕ} [NeZero L] (arr : Memref sig .tc .hbm (ArrS 100000) e) (ring : Memref sig .tc .vmem (RingS L) e) (v : DmaSems sig (LineS L))
    (p : ℕ) (A : ℕ → ℕ → Val e) (j : ℕ) : (leaving c arr ring v p A (j + 1) : sProp 𝕄) = going c arr ring v p A j := rfl

end Steps

end Cert.Policy
-- ==== Proof.Cells.lean ====
/-
  Loads and stores of whole slots, of blocks of rows of a scratch array, and of a whole scratch row.
-/
module

public import proofs.«01_k».proof.Proof.Streams

@[expose] public section

noncomputable section

namespace Cert.Policy

open Idealize.ShloMosaic Idealize.ShloMosaic.Transfers
open TcCoe
open Idealize.SL
open Idealize.SL.RA Idealize.SL.Sem Idealize.SL.ProofMode
open Idealize.SL.BI (sProp)
open scoped Idealize.SL.BI
open Idealize.SL.BI.BIBase Idealize.SL.BI.Laws

/-- The one-plane index with the row and column of a ring's index. -/
def planeIx {L : ℕ} (y : (RingS L).Idx) : (RingS 1).Idx :=
  (Fin.cons ⟨0, Nat.one_pos⟩ (Shape.pair (d := ![1024, 128]) ⟨(y 1 : ℕ), (y 1).isLt⟩ ⟨(y 2 : ℕ), (y 2).isLt⟩) : (⟨3, ![1, 1024, 128]⟩ : Shape).Idx)

theorem planeIx_1 {L : ℕ} (y : (RingS L).Idx) : ((planeIx y) 1 : ℕ) = y 1 := rfl
theorem planeIx_2 {L : ℕ} (y : (RingS L).Idx) : ((planeIx y) 2 : ℕ) = y 2 := rfl

/-- Where a whole slot's index lies in its ring. -/
theorem plane_emb {L j : ℕ} {inb} (x : (RingS 1).Idx) :
    (((Rect.unit (s := RingS L) ![j % L, 0, 0] (RingS 1).size inb).emb x) 0 : ℕ) = j % L
    ∧ (((Rect.unit (s := RingS L) ![j % L, 0, 0] (RingS 1).size inb).emb x) 1 : ℕ) = (x 1 : ℕ)
    ∧ (((Rect.unit (s := RingS L) ![j % L, 0, 0] (RingS 1).size inb).emb x) 2 : ℕ) = (x 2 : ℕ) := by
  have h0 : (x 0 : ℕ) = 0 := by have := (x 0).isLt; change (x 0 : ℕ) < 1 at this; omega
  refine ⟨?_, ?_, ?_⟩
  · rw [Rect.emb_apply]; show j % L + 1 * (x 0 : ℕ) = _; omega
  · rw [Rect.emb_apply]; show 0 + 1 * (x 1 : ℕ) = _; omega
  · rw [Rect.emb_apply]; show 0 + 1 * (x 2 : ℕ) = _; omega

/-- Where a block's index lies among the rows of its array. -/
theorem block_emb {R b : ℕ} {inb} (x : (ArrS 1024).Idx) :
    (((Rect.unit (s := ArrS R) ![1024 * b, 0] (ArrS 1024).size inb).emb x) 0 : ℕ) = 1024 * b + (x 0 : ℕ)
    ∧ (((Rect.unit (s := ArrS R) ![1024 * b, 0] (ArrS 1024).size inb).emb x) 1 : ℕ) = (x 1 : ℕ) := by
  refine ⟨?_, ?_⟩
  · rw [Rect.emb_apply]; show 1024 * b + 1 * (x 0 : ℕ) = _; omega
  · rw [Rect.emb_apply]; show 0 + 1 * (x 1 : ℕ) = _; omega

/-- The row-and-column index of given coordinates, read round the array. -/
def arrIx (R : ℕ) [NeZero R] (i j : ℕ) : (ArrS R).Idx :=
  Shape.pair (d := ![R, 128]) ⟨i % R, Nat.mod_lt _ (Nat.pos_of_ne_zero (NeZero.ne R))⟩ ⟨j % 128, Nat.mod_lt _ (by decide)⟩

theorem arrIx_self {R : ℕ} [NeZero R] (x : (ArrS R).Idx) : arrIx R (x 0 : ℕ) (x 1 : ℕ) = x := by
  refine arr_ext ?_ ?_
  · show (x 0 : ℕ) % R = _; exact Nat.mod_eq_of_lt (x 0).isLt
  · show (x 1 : ℕ) % 128 = _; exact Nat.mod_eq_of_lt (x 1).isLt

variable {nD : Nat} {τ : Topo} {sig : RefSig} {Val : EltTy → Type} {U : Type} [URA U]
variable {Λ : Labels} {defs : Defs nD τ sig Val Λ} (𝒱 : Variants) (c : Dev nD) (bd : Option 𝒱.V)
variable {α : Type} {Q : α → sProp (MT nD τ sig Unit Val ℕ U ℕ)} {e : EltTy}

local notation "𝕄" => MT nD τ sig Unit Val ℕ U ℕ

/-- A load of the slot a block has come to. -/
theorem step_read {L : ℕ} {ring : Memref sig .tc .vmem (RingS L) e} (j b : ℕ) (A : ℕ → ℕ → Val e)
    {ro : Fin 3 → ℕ} (hro : ro = ![j % L, 0, 0]) {inb}
    {hl : ring.view.LoadsAt (Rect.unit (s := RingS L) ro (RingS 1).size inb).toLoadRect}
    {k : ((RingS 1).Idx → Val e) → Prog (TpuEff nD τ sig Val Λ .tc) α} :
    (own c ring (slot L j) (came A b) : sProp 𝕄)
      ⊢ iprop((own c ring (slot L j) (came A b) -∗ wp frame (wpE defs 𝒱 (c : Thread nD τ) bd) Set.univ (k (came A b)) Q)
        -∗ wp frame (wpE defs 𝒱 (c : Thread nD τ) bd) Set.univ
          (Prog.lift (.load ring (Rect.unit (s := RingS L) ro (RingS 1).size inb).toLoadRect hl) >>= k) Q) := by
  subst hro
  refine step_load 𝒱 c bd (r := Rect.unit (s := RingS L) ![j % L, 0, 0] (RingS 1).size inb) (hl := hl) (k := k) (came A b)
    (fun x => mem_slot.mpr (plane_emb x).1) (fun x => ?_)
  obtain ⟨h0, h1, h2⟩ := plane_emb (L := L) (j := j) (inb := inb) x
  unfold came
  rw [h1, h2]

/-- A load of a free slot: whatever it holds. -/
theorem step_peek {L : ℕ} {ring : Memref sig .tc .vmem (RingS L) e} (j : ℕ)
    {ro : Fin 3 → ℕ} (hro : ro = ![j % L, 0, 0]) {inb}
    {hl : ring.view.LoadsAt (Rect.unit (s := RingS L) ro (RingS 1).size inb).toLoadRect}
    {k : ((RingS 1).Idx → Val e) → Prog (TpuEff nD τ sig Val Λ .tc) α} :
    (free c ring j : sProp 𝕄)
      ⊢ iprop((∀ v : (RingS 1).Idx → Val e, free c ring j
          -∗ wp frame (wpE defs 𝒱 (c : Thread nD τ) bd) Set.univ (k v) Q)
        -∗ wp frame (wpE defs 𝒱 (c : Thread nD τ) bd) Set.univ
          (Prog.lift (.load ring (Rect.unit (s := RingS L) ro (RingS 1).size inb).toLoadRect hl) >>= k) Q) := by
  subst hro
  unfold free
  iintro ⟨%w, H⟩ Hk
  iapply (step_load 𝒱 c bd (k := k) (fun x => w ((Rect.unit (s := RingS L) ![j % L, 0, 0] (RingS 1).size inb).emb x))
    (fun x => mem_slot.mpr (plane_emb x).1) (fun _ => rfl)) $$ H
  iintro H
  iapply Hk
  iexists w
  iexact H

/-- A store of a whole slot. -/
theorem step_fill {L : ℕ} {ring : Memref sig .tc .vmem (RingS L) e} (j : ℕ)
    {ro : Fin 3 → ℕ} (hro : ro = ![j % L, 0, 0]) {inb} {v : (RingS 1).Idx → Val e}
    {hx : (ring.access (Rect.unit (s := RingS L) ro (RingS 1).size inb)).Stores Finset.univ}
    {hm : (Finset.univ : Finset (Rect.unit (s := RingS L) ro (RingS 1).size inb).shape.Idx) = Finset.univ ∨ ∀ a, (Rect.unit (s := RingS L) ro (RingS 1).size inb).stride a = 1}
    {k : PUnit → Prog (TpuEff nD τ sig Val Λ .tc) α} :
    (free c ring j : sProp 𝕄)
      ⊢ iprop((own c ring (slot L j) (fun y => v (planeIx y)) -∗ wp frame (wpE defs 𝒱 (c : Thread nD τ) bd) Set.univ (k ⟨⟩) Q)
        -∗ wp frame (wpE defs 𝒱 (c : Thread nD τ) bd) Set.univ
          (Prog.lift (.store ring (Rect.unit (s := RingS L) ro (RingS 1).size inb) v Finset.univ hx hm) >>= k) Q) := by
  subst hro
  unfold free
  iintro ⟨%w, H⟩ Hk
  iapply (step_store 𝒱 c bd (k := k) (T := slot L j) (w := w) (fun y => v (planeIx y))
    (fun x => mem_slot.mpr (plane_emb x).1)
    (fun x => by
      obtain ⟨h0, h1, h2⟩ := plane_emb (L := L) (j := j) (inb := inb) x
      have hx0 : (x 0 : ℕ) = 0 := by have := (x 0).isLt; change (x 0 : ℕ) < 1 at this; omega
      have : planeIx ((Rect.unit (s := RingS L) ![j % L, 0, 0] (RingS 1).size inb).emb x) = x := ring_ext hx0.symm h1 h2
      beta_reduce
      rw [this])
    (fun y hy hn => by
      exfalso
      rw [mem_slot] at hy
      obtain ⟨h0, h1, h2⟩ := plane_emb (L := L) (j := j) (inb := inb) (planeIx y)
      exact hn (planeIx y) (ring_ext (h0.trans hy.symm) h1 h2))) $$ H
  iintro H
  iapply Hk
  iexact H

/-- The rows of a scratch array up to block `b`, holding the entries `P`. -/
def filled {R : ℕ} (m : Memref sig .tc .vmem (ArrS R) e) (P : ℕ → ℕ → Val e) (b : ℕ) : sProp 𝕄 :=
  iprop(∃ w, ⌜∀ x : (ArrS R).Idx, (x 0 : ℕ) < 1024 * b → w x = P (x 0 : ℕ) (x 1 : ℕ)⌝ ∗ own c m Finset.univ w)

/-- A load of block `b`, and what is known of it. -/
theorem step_loadBlock {R : ℕ} {m : Memref sig .tc .vmem (ArrS R) e} (P : ℕ → ℕ → Val e) (b0 b : ℕ)
    {ao : Fin 2 → ℕ} (hao : ao = ![1024 * b, 0]) {inb}
    {hl : m.view.LoadsAt (Rect.unit (s := ArrS R) ao (ArrS 1024).size inb).toLoadRect}
    {k : ((ArrS 1024).Idx → Val e) → Prog (TpuEff nD τ sig Val Λ .tc) α} :
    (filled c m P b0 : sProp 𝕄)
      ⊢ iprop((∀ v : (ArrS 1024).Idx → Val e, ⌜b < b0 → v = fun x => P (1024 * b + (x 0 : ℕ)) (x 1 : ℕ)⌝ -∗ filled c m P b0
          -∗ wp frame (wpE defs 𝒱 (c : Thread nD τ) bd) Set.univ (k v) Q)
        -∗ wp frame (wpE defs 𝒱 (c : Thread nD τ) bd) Set.univ
          (Prog.lift (.load m (Rect.unit (s := ArrS R) ao (ArrS 1024).size inb).toLoadRect hl) >>= k) Q) := by
  subst hao
  unfold filled
  iintro ⟨%w, %hw, H⟩ Hk
  iapply (step_load 𝒱 c bd (k := k) (fun x => w ((Rect.unit (s := ArrS R) ![1024 * b, 0] (ArrS 1024).size inb).emb x))
    (fun x => Finset.mem_univ _) (fun _ => rfl)) $$ H
  iintro H
  iapply Hk $$ %_
  · ipureintro
    intro hb
    funext x
    obtain ⟨h0, h1⟩ := block_emb (R := R) (b := b) (inb := inb) x
    have hx : (x 0 : ℕ) < 1024 := (x 0).isLt
    rw [hw _ (by rw [h0]; omega), h0, h1]
  · iexists w
    isplitr
    · ipureintro; exact hw
    · iexact H

/-- A store of the next block. -/
theorem step_storeBlock {R : ℕ} {m : Memref sig .tc .vmem (ArrS R) e} (P : ℕ → ℕ → Val e) (b : ℕ)
    {ao : Fin 2 → ℕ} (hao : ao = ![1024 * b, 0]) {inb} {v : (ArrS 1024).Idx → Val e}
    (hv : ∀ x : (ArrS 1024).Idx, v x = P (1024 * b + (x 0 : ℕ)) (x 1 : ℕ))
    {hx : (m.access (Rect.unit (s := ArrS R) ao (ArrS 1024).size inb)).Stores Finset.univ}
    {hm : (Finset.univ : Finset (Rect.unit (s := ArrS R) ao (ArrS 1024).size inb).shape.Idx) = Finset.univ ∨ ∀ a, (Rect.unit (s := ArrS R) ao (ArrS 1024).size inb).stride a = 1}
    {k : PUnit → Prog (TpuEff nD τ sig Val Λ .tc) α} :
    (filled c m P b : sProp 𝕄)
      ⊢ iprop((filled c m P (b + 1) -∗ wp frame (wpE defs 𝒱 (c : Thread nD τ) bd) Set.univ (k ⟨⟩) Q)
        -∗ wp frame (wpE defs 𝒱 (c : Thread nD τ) bd) Set.univ
          (Prog.lift (.store m (Rect.unit (s := ArrS R) ao (ArrS 1024).size inb) v Finset.univ hx hm) >>= k) Q) := by
  subst hao
  unfold filled
  iintro ⟨%w, %hw, H⟩ Hk
  iapply (step_store 𝒱 c bd (k := k) (T := Finset.univ) (w := w)
    (fun x => if 1024 * b ≤ (x 0 : ℕ) ∧ (x 0 : ℕ) < 1024 * (b + 1) then P (x 0 : ℕ) (x 1 : ℕ) else w x)
    (fun x => Finset.mem_univ _)
    (fun x => by
      obtain ⟨h0, h1⟩ := block_emb (R := R) (b := b) (inb := inb) x
      have hx : (x 0 : ℕ) < 1024 := (x 0).isLt
      beta_reduce
      rw [if_pos (by rw [h0]; omega), h0, h1, hv])
    (fun y _ hn => by
      beta_reduce
      rw [if_neg]
      intro hc
      let x : (ArrS 1024).Idx := Shape.pair (d := ![1024, 128]) ⟨(y 0 : ℕ) - 1024 * b, by show _ < 1024; omega⟩ ⟨(y 1 : ℕ), (y 1).isLt⟩
      obtain ⟨h0, h1⟩ := block_emb (R := R) (b := b) (inb := inb) x
      refine hn x (arr_ext ?_ ?_)
      · rw [h0]; show 1024 * b + ((y 0 : ℕ) - 1024 * b) = _; omega
      · rw [h1]; rfl)) $$ H
  iintro H
  iapply Hk
  iexists _
  isplitr
  rotate_left
  · iexact H
  · ipureintro
    intro x hx
    beta_reduce
    by_cases h : 1024 * b ≤ (x 0 : ℕ) ∧ (x 0 : ℕ) < 1024 * (b + 1)
    · rw [if_pos h]
    · rw [if_neg h]; exact hw x (by omega)

/-- The index of a whole row lies where it is. -/
theorem row_emb {a : ℕ} {inb} (x : (ArrS a).Idx) : (Rect.unit (s := ArrS a) ![0, 0] (ArrS a).size inb).emb x = x := by
  refine arr_ext ?_ ?_
  · rw [Rect.emb_apply]; show 0 + 1 * (x 0 : ℕ) = _; omega
  · rw [Rect.emb_apply]; show 0 + 1 * (x 1 : ℕ) = _; omega

/-- A load of all of a small memref. -/
theorem step_get {a : ℕ} {m : Memref sig .tc .vmem (ArrS a) e} (w : (ArrS a).Idx → Val e) {inb}
    {hl : m.view.LoadsAt (Rect.unit (s := ArrS a) ![0, 0] (ArrS a).size inb).toLoadRect}
    {k : ((ArrS a).Idx → Val e) → Prog (TpuEff nD τ sig Val Λ .tc) α} :
    (own c m Finset.univ w : sProp 𝕄)
      ⊢ iprop((own c m Finset.univ w -∗ wp frame (wpE defs 𝒱 (c : Thread nD τ) bd) Set.univ (k w) Q)
        -∗ wp frame (wpE defs 𝒱 (c : Thread nD τ) bd) Set.univ
          (Prog.lift (.load m (Rect.unit (s := ArrS a) ![0, 0] (ArrS a).size inb).toLoadRect hl) >>= k) Q) :=
  step_load 𝒱 c bd (r := Rect.unit (s := ArrS a) ![0, 0] (ArrS a).size inb) (hl := hl) (T := Finset.univ) (w := w) (k := k) w
    (fun x => Finset.mem_univ _) (fun x => congrArg w (row_emb (inb := inb) x))

/-- A store of all of a small memref. -/
theorem step_set {a : ℕ} {m : Memref sig .tc .vmem (ArrS a) e} {w : (ArrS a).Idx → Val e} {inb} {v : (ArrS a).Idx → Val e}
    {hx : (m.access (Rect.unit (s := ArrS a) ![0, 0] (ArrS a).size inb)).Stores Finset.univ}
    {hm : (Finset.univ : Finset (Rect.unit (s := ArrS a) ![0, 0] (ArrS a).size inb).shape.Idx) = Finset.univ ∨ ∀ i, (Rect.unit (s := ArrS a) ![0, 0] (ArrS a).size inb).stride i = 1}
    {k : PUnit → Prog (TpuEff nD τ sig Val Λ .tc) α} :
    (own c m Finset.univ w : sProp 𝕄)
      ⊢ iprop((own c m Finset.univ v -∗ wp frame (wpE defs 𝒱 (c : Thread nD τ) bd) Set.univ (k ⟨⟩) Q)
        -∗ wp frame (wpE defs 𝒱 (c : Thread nD τ) bd) Set.univ
          (Prog.lift (.store m (Rect.unit (s := ArrS a) ![0, 0] (ArrS a).size inb) v Finset.univ hx hm) >>= k) Q) :=
  step_store 𝒱 c bd (r := Rect.unit (s := ArrS a) ![0, 0] (ArrS a).size inb) (hx := hx) (hm := hm) (k := k) (T := Finset.univ) (w := w) (v := v) v
    (fun x => Finset.mem_univ _) (fun x => congrArg v (row_emb (inb := inb) x))
    (fun y _ hn => absurd (row_emb (inb := inb) y) (hn y))

end Cert.Policy
-- ==== Proof.Words.lean ====
/-
  The words of the kernel's two loops. In trip `k` of either loop the words carried are the numbers of
  the blocks next to be sent for (`up k`), next to come (`k`) and the trip's own (`k`, back to zero at
  the end); here are the conditions, the offsets and the sizes the body computes from them, decided for
  the forty-nine trips.
-/
module

public import proofs.«01_k».proof.Proof.Cells
public import proofs.«01_k».proof.Proof.Gen.KernelIdeal.Skeleton

@[expose] public section

set_option maxRecDepth 100000

noncomputable section

namespace Cert.KernelIdeal.Policy

open Idealize.ShloMosaic Cert.KernelIdeal Cert.KernelIdeal.Gen Cert.Policy

/-- A number as a word. -/
abbrev w32 (n : ℕ) : BitVec 32 := BitVec.ofNat 32 n
/-- The number of the block next to be sent for in trip `k`. -/
abbrev up (k : ℕ) : BitVec 32 := w32 (min (k + 3) 49)
/-- The trip's own number, back to zero after the last. -/
abbrev own' (k : ℕ) : BitVec 32 := w32 (k % 49)

/-! ## The first loop -/

theorem chk2_ok : ∀ k : Fin k0_t1_loop.trips, k0_chk2 (w32 k) := by decide +kernel
theorem chk3_ok : ∀ k : Fin k0_t1_loop.trips, k0_chk3 (w32 k) := by decide +kernel
theorem chk4_ok : ∀ k : Fin k0_t1_loop.trips, k0_chk4 (w32 k) := by decide +kernel
theorem chk5_ok : ∀ k : Fin k0_t1_loop.trips, k0_chk5 (w32 k) := by decide +kernel
theorem chk1_ok : ∀ k : Fin k0_t1_loop.trips, k0_chk1 k (up k) (w32 k) (up k) (w32 k) (up k) (w32 k) (up k) (w32 k) (w32 k) := by decide +kernel
theorem cond9_iff : ∀ k : Fin k0_t1_loop.trips, k0_cond9 k (w32 k) = 1#1 ↔ (k : ℕ) + 3 < 49 := by decide +kernel
theorem off29_eq : ∀ k : Fin k0_t1_loop.trips, (k : ℕ) + 3 < 49 → k0_off29 (up k) = ![((k : ℕ) + 3) % 4] := by decide +kernel
theorem off30_eq : ∀ k : Fin k0_t1_loop.trips, (k : ℕ) + 3 < 49 → k0_off30 (up k) (w32 k) = (![((k : ℕ) + 3) % 4, 0, 0], ![1, blkSz (2 * ((k : ℕ) + 3) + 0), 128]) := by decide +kernel
theorem sz10_eq : ∀ k : Fin k0_t1_loop.trips, (k : ℕ) + 3 < 49 → k0_sz10 (w32 k) = ![blkSz (2 * ((k : ℕ) + 3) + 0), 128] := by decide +kernel
theorem off31_eq : ∀ k : Fin k0_t1_loop.trips, (k : ℕ) + 3 < 49 → k0_off31 (w32 k) = (![1024 * (2 * ((k : ℕ) + 3) + 0), 0], ![blkSz (2 * ((k : ℕ) + 3) + 0), 128]) := by decide +kernel
theorem cond10_iff : ∀ k : Fin k0_t1_loop.trips, k0_cond10 k (w32 k) = 1#1 ↔ (k : ℕ) + 3 < 49 := by decide +kernel
theorem off32_eq : ∀ k : Fin k0_t1_loop.trips, (k : ℕ) + 3 < 49 → k0_off32 (up k) = ![((k : ℕ) + 3) % 4] := by decide +kernel
theorem off33_eq : ∀ k : Fin k0_t1_loop.trips, (k : ℕ) + 3 < 49 → k0_off33 (up k) (w32 k) = (![((k : ℕ) + 3) % 4, 0, 0], ![1, blkSz (2 * ((k : ℕ) + 3) + 0), 128]) := by decide +kernel
theorem sz11_eq : ∀ k : Fin k0_t1_loop.trips, (k : ℕ) + 3 < 49 → k0_sz11 (w32 k) = ![blkSz (2 * ((k : ℕ) + 3) + 0), 128] := by decide +kernel
theorem off34_eq : ∀ k : Fin k0_t1_loop.trips, (k : ℕ) + 3 < 49 → k0_off34 (w32 k) = (![1024 * (2 * ((k : ℕ) + 3) + 0), 0], ![blkSz (2 * ((k : ℕ) + 3) + 0), 128]) := by decide +kernel
theorem cond11_iff : ∀ k : Fin k0_t1_loop.trips, k0_cond11 k (w32 k) = 1#1 ↔ (k : ℕ) + 3 < 49 := by decide +kernel
theorem off35_eq : ∀ k : Fin k0_t1_loop.trips, (k : ℕ) + 3 < 49 → k0_off35 (up k) = ![((k : ℕ) + 3) % 4] := by decide +kernel
theorem off36_eq : ∀ k : Fin k0_t1_loop.trips, (k : ℕ) + 3 < 49 → k0_off36 (up k) (w32 k) = (![((k : ℕ) + 3) % 4, 0, 0], ![1, blkSz (2 * ((k : ℕ) + 3) + 1), 128]) := by decide +kernel
theorem sz12_eq : ∀ k : Fin k0_t1_loop.trips, (k : ℕ) + 3 < 49 → k0_sz12 (w32 k) = ![blkSz (2 * ((k : ℕ) + 3) + 1), 128] := by decide +kernel
theorem off37_eq : ∀ k : Fin k0_t1_loop.trips, (k : ℕ) + 3 < 49 → k0_off37 (w32 k) = (![1024 * (2 * ((k : ℕ) + 3) + 1), 0], ![blkSz (2 * ((k : ℕ) + 3) + 1), 128]) := by decide +kernel
theorem cond12_iff : ∀ k : Fin k0_t1_loop.trips, k0_cond12 k (w32 k) = 1#1 ↔ (k : ℕ) + 3 < 49 := by decide +kernel
theorem off38_eq : ∀ k : Fin k0_t1_loop.trips, (k : ℕ) + 3 < 49 → k0_off38 (up k) = ![((k : ℕ) + 3) % 4] := by decide +kernel
theorem off39_eq : ∀ k : Fin k0_t1_loop.trips, (k : ℕ) + 3 < 49 → k0_off39 (up k) (w32 k) = (![((k : ℕ) + 3) % 4, 0, 0], ![1, blkSz (2 * ((k : ℕ) + 3) + 1), 128]) := by decide +kernel
theorem sz13_eq : ∀ k : Fin k0_t1_loop.trips, (k : ℕ) + 3 < 49 → k0_sz13 (w32 k) = ![blkSz (2 * ((k : ℕ) + 3) + 1), 128] := by decide +kernel
theorem off40_eq : ∀ k : Fin k0_t1_loop.trips, (k : ℕ) + 3 < 49 → k0_off40 (w32 k) = (![1024 * (2 * ((k : ℕ) + 3) + 1), 0], ![blkSz (2 * ((k : ℕ) + 3) + 1), 128]) := by decide +kernel
theorem cond13_yes : ∀ k : Fin k0_t1_loop.trips, k0_cond13 k (w32 k) = 1#1 := by decide +kernel
theorem off41_eq : ∀ k : Fin k0_t1_loop.trips, k0_off41 (w32 k) = ![(k : ℕ) % 4] := by decide +kernel
theorem sz14_eq : ∀ k : Fin k0_t1_loop.trips, k0_sz14 (w32 k) = ![blkSz (2 * (k : ℕ) + 0), 128] := by decide +kernel
theorem cond14_yes : ∀ k : Fin k0_t1_loop.trips, k0_cond14 k (w32 k) = 1#1 := by decide +kernel
theorem off44_eq : ∀ k : Fin k0_t1_loop.trips, k0_off44 (w32 k) = ![(k : ℕ) % 4] := by decide +kernel
theorem sz15_eq : ∀ k : Fin k0_t1_loop.trips, k0_sz15 (w32 k) = ![blkSz (2 * (k : ℕ) + 0), 128] := by decide +kernel
theorem cond15_yes : ∀ k : Fin k0_t1_loop.trips, k0_cond15 k (w32 k) = 1#1 := by decide +kernel
theorem off47_eq : ∀ k : Fin k0_t1_loop.trips, k0_off47 (w32 k) = ![(k : ℕ) % 4] := by decide +kernel
theorem sz16_eq : ∀ k : Fin k0_t1_loop.trips, k0_sz16 (w32 k) = ![blkSz (2 * (k : ℕ) + 1), 128] := by decide +kernel
theorem cond16_yes : ∀ k : Fin k0_t1_loop.trips, k0_cond16 k (w32 k) = 1#1 := by decide +kernel
theorem off50_eq : ∀ k : Fin k0_t1_loop.trips, k0_off50 (w32 k) = ![(k : ℕ) % 4] := by decide +kernel
theorem sz17_eq : ∀ k : Fin k0_t1_loop.trips, k0_sz17 (w32 k) = ![blkSz (2 * (k : ℕ) + 1), 128] := by decide +kernel
theorem off53_eq : ∀ k : Fin k0_t1_loop.trips, k0_off53 (w32 k) = ![(k : ℕ) % 4, 0, 0] := by decide +kernel
theorem off54_eq : ∀ k : Fin k0_t1_loop.trips, k0_off54 (w32 k) = ![(k : ℕ) % 4, 0, 0] := by decide +kernel
theorem off56_eq : ∀ k : Fin k0_t1_loop.trips, k0_off56 (w32 k) = ![(k : ℕ) % 4, 0, 0] := by decide +kernel
theorem off57_eq : ∀ k : Fin k0_t1_loop.trips, k0_off57 (w32 k) = ![(k : ℕ) % 4, 0, 0] := by decide +kernel
theorem off55_eq : ∀ k : Fin k0_t1_loop.trips, k0_off55 (w32 k) = ![1024 * (2 * (k : ℕ)), 0] := by decide +kernel
theorem off58_eq : ∀ k : Fin k0_t1_loop.trips, k0_off58 (w32 k) = ![1024 * (2 * (k : ℕ) + 1), 0] := by decide +kernel

/-! ## Before the first loop -/

theorem off1_at0_0 : k0_off1 = ![0] := by decide +kernel
theorem off2_at0_0 : k0_off2 = (![0, 0, 0], ![1, 1024, 128]) := by decide +kernel
theorem sz1_at0_0 : k0_sz1 = ![1024, 128] := by decide +kernel
theorem off3_at0_0 : k0_off3 = (![1024 * 0, 0], ![1024, 128]) := by decide +kernel
theorem off4_at0_1 : k0_off4 = (![1024 * 1, 0], ![1024, 128]) := by decide +kernel
theorem cond1_yes : k0_cond1 = 1#1 := by decide +kernel
theorem off5_at1_0 : k0_off5 = ![1] := by decide +kernel
theorem off6_at1_0 : k0_off6 = (![1, 0, 0], ![1, 1024, 128]) := by decide +kernel
theorem sz2_at1_0 : k0_sz2 = ![1024, 128] := by decide +kernel
theorem off7_at1_0 : k0_off7 = (![1024 * 2, 0], ![1024, 128]) := by decide +kernel
theorem cond2_yes : k0_cond2 = 1#1 := by decide +kernel
theorem off8_at1_0 : k0_off8 = ![1] := by decide +kernel
theorem off9_at1_0 : k0_off9 = (![1, 0, 0], ![1, 1024, 128]) := by decide +kernel
theorem sz3_at1_0 : k0_sz3 = ![1024, 128] := by decide +kernel
theorem off10_at1_0 : k0_off10 = (![1024 * 2, 0], ![1024, 128]) := by decide +kernel
theorem cond3_yes : k0_cond3 = 1#1 := by decide +kernel
theorem off11_at1_1 : k0_off11 = ![1] := by decide +kernel
theorem off12_at1_1 : k0_off12 = (![1, 0, 0], ![1, 1024, 128]) := by decide +kernel
theorem sz4_at1_1 : k0_sz4 = ![1024, 128] := by decide +kernel
theorem off13_at1_1 : k0_off13 = (![1024 * 3, 0], ![1024, 128]) := by decide +kernel
theorem cond4_yes : k0_cond4 = 1#1 := by decide +kernel
theorem off14_at1_1 : k0_off14 = ![1] := by decide +kernel
theorem off15_at1_1 : k0_off15 = (![1, 0, 0], ![1, 1024, 128]) := by decide +kernel
theorem sz5_at1_1 : k0_sz5 = ![1024, 128] := by decide +kernel
theorem off16_at1_1 : k0_off16 = (![1024 * 3, 0], ![1024, 128]) := by decide +kernel
theorem cond5_yes : k0_cond5 = 1#1 := by decide +kernel
theorem off17_at2_0 : k0_off17 = ![2] := by decide +kernel
theorem off18_at2_0 : k0_off18 = (![2, 0, 0], ![1, 1024, 128]) := by decide +kernel
theorem sz6_at2_0 : k0_sz6 = ![1024, 128] := by decide +kernel
theorem off19_at2_0 : k0_off19 = (![1024 * 4, 0], ![1024, 128]) := by decide +kernel
theorem cond6_yes : k0_cond6 = 1#1 := by decide +kernel
theorem off20_at2_0 : k0_off20 = ![2] := by decide +kernel
theorem off21_at2_0 : k0_off21 = (![2, 0, 0], ![1, 1024, 128]) := by decide +kernel
theorem sz7_at2_0 : k0_sz7 = ![1024, 128] := by decide +kernel
theorem off22_at2_0 : k0_off22 = (![1024 * 4, 0], ![1024, 128]) := by decide +kernel
theorem cond7_yes : k0_cond7 = 1#1 := by decide +kernel
theorem off23_at2_1 : k0_off23 = ![2] := by decide +kernel
theorem off24_at2_1 : k0_off24 = (![2, 0, 0], ![1, 1024, 128]) := by decide +kernel
theorem sz8_at2_1 : k0_sz8 = ![1024, 128] := by decide +kernel
theorem off25_at2_1 : k0_off25 = (![1024 * 5, 0], ![1024, 128]) := by decide +kernel
theorem cond8_yes : k0_cond8 = 1#1 := by decide +kernel
theorem off26_at2_1 : k0_off26 = ![2] := by decide +kernel
theorem off27_at2_1 : k0_off27 = (![2, 0, 0], ![1, 1024, 128]) := by decide +kernel
theorem sz9_at2_1 : k0_sz9 = ![1024, 128] := by decide +kernel
theorem off28_at2_1 : k0_off28 = (![1024 * 5, 0], ![1024, 128]) := by decide +kernel

/-! ## Before the second loop -/

theorem cond25_yes : k0_cond25 = 1#1 := by decide +kernel
theorem off59_at1_0 : k0_off59 = ![1] := by decide +kernel
theorem off60_at1_0 : k0_off60 = (![1, 0, 0], ![1, 1024, 128]) := by decide +kernel
theorem sz18_at1_0 : k0_sz18 = ![1024, 128] := by decide +kernel
theorem off61_at1_0 : k0_off61 = (![1024 * 2, 0], ![1024, 128]) := by decide +kernel
theorem cond26_yes : k0_cond26 = 1#1 := by decide +kernel
theorem off62_at1_1 : k0_off62 = ![1] := by decide +kernel
theorem off63_at1_1 : k0_off63 = (![1, 0, 0], ![1, 1024, 128]) := by decide +kernel
theorem sz19_at1_1 : k0_sz19 = ![1024, 128] := by decide +kernel
theorem off64_at1_1 : k0_off64 = (![1024 * 3, 0], ![1024, 128]) := by decide +kernel
theorem cond27_yes : k0_cond27 = 1#1 := by decide +kernel
theorem off65_at2_0 : k0_off65 = ![2] := by decide +kernel
theorem off66_at2_0 : k0_off66 = (![2, 0, 0], ![1, 1024, 128]) := by decide +kernel
theorem sz20_at2_0 : k0_sz20 = ![1024, 128] := by decide +kernel
theorem off67_at2_0 : k0_off67 = (![1024 * 4, 0], ![1024, 128]) := by decide +kernel
theorem cond28_yes : k0_cond28 = 1#1 := by decide +kernel
theorem off68_at2_1 : k0_off68 = ![2] := by decide +kernel
theorem off69_at2_1 : k0_off69 = (![2, 0, 0], ![1, 1024, 128]) := by decide +kernel
theorem sz21_at2_1 : k0_sz21 = ![1024, 128] := by decide +kernel
theorem off70_at2_1 : k0_off70 = (![1024 * 5, 0], ![1024, 128]) := by decide +kernel

/-! ## The second loop -/

theorem chk7_ok : ∀ k : Fin k0_t2_loop.trips, k0_chk7 (w32 k) := by decide +kernel
theorem chk8_ok : ∀ k : Fin k0_t2_loop.trips, k0_chk8 (w32 k) := by decide +kernel
theorem chk9_ok : ∀ k : Fin k0_t2_loop.trips, k0_chk9 (w32 k) := by decide +kernel
theorem chk10_ok : ∀ k : Fin k0_t2_loop.trips, k0_chk10 (w32 k) := by decide +kernel
theorem chk6_ok : ∀ k : Fin k0_t2_loop.trips, k0_chk6 k (up k) (w32 k) (up k) (w32 k) (w32 k) (w32 ((k : ℕ) - 1)) (w32 k) (w32 ((k : ℕ) - 1)) (w32 k) := by decide +kernel
theorem cond29_iff : ∀ k : Fin k0_t2_loop.trips, k0_cond29 k (w32 k) = 1#1 ↔ (k : ℕ) + 3 < 49 := by decide +kernel
theorem off71_eq : ∀ k : Fin k0_t2_loop.trips, (k : ℕ) + 3 < 49 → k0_off71 (up k) = ![((k : ℕ) + 3) % 4] := by decide +kernel
theorem off72_eq : ∀ k : Fin k0_t2_loop.trips, (k : ℕ) + 3 < 49 → k0_off72 (up k) (w32 k) = (![((k : ℕ) + 3) % 4, 0, 0], ![1, blkSz (2 * ((k : ℕ) + 3) + 0), 128]) := by decide +kernel
theorem sz22_eq : ∀ k : Fin k0_t2_loop.trips, (k : ℕ) + 3 < 49 → k0_sz22 (w32 k) = ![blkSz (2 * ((k : ℕ) + 3) + 0), 128] := by decide +kernel
theorem off73_eq : ∀ k : Fin k0_t2_loop.trips, (k : ℕ) + 3 < 49 → k0_off73 (w32 k) = (![1024 * (2 * ((k : ℕ) + 3) + 0), 0], ![blkSz (2 * ((k : ℕ) + 3) + 0), 128]) := by decide +kernel
theorem cond30_iff : ∀ k : Fin k0_t2_loop.trips, k0_cond30 k (w32 k) = 1#1 ↔ (k : ℕ) + 3 < 49 := by decide +kernel
theorem off74_eq : ∀ k : Fin k0_t2_loop.trips, (k : ℕ) + 3 < 49 → k0_off74 (up k) = ![((k : ℕ) + 3) % 4] := by decide +kernel
theorem off75_eq : ∀ k : Fin k0_t2_loop.trips, (k : ℕ) + 3 < 49 → k0_off75 (up k) (w32 k) = (![((k : ℕ) + 3) % 4, 0, 0], ![1, blkSz (2 * ((k : ℕ) + 3) + 1), 128]) := by decide +kernel
theorem sz23_eq : ∀ k : Fin k0_t2_loop.trips, (k : ℕ) + 3 < 49 → k0_sz23 (w32 k) = ![blkSz (2 * ((k : ℕ) + 3) + 1), 128] := by decide +kernel
theorem off76_eq : ∀ k : Fin k0_t2_loop.trips, (k : ℕ) + 3 < 49 → k0_off76 (w32 k) = (![1024 * (2 * ((k : ℕ) + 3) + 1), 0], ![blkSz (2 * ((k : ℕ) + 3) + 1), 128]) := by decide +kernel
theorem cond31_yes : ∀ k : Fin k0_t2_loop.trips, k0_cond31 k (w32 k) = 1#1 := by decide +kernel
theorem off77_eq : ∀ k : Fin k0_t2_loop.trips, k0_off77 (w32 k) = ![(k : ℕ) % 4] := by decide +kernel
theorem sz24_eq : ∀ k : Fin k0_t2_loop.trips, k0_sz24 (w32 k) = ![blkSz (2 * (k : ℕ) + 0), 128] := by decide +kernel
theorem cond32_yes : ∀ k : Fin k0_t2_loop.trips, k0_cond32 k (w32 k) = 1#1 := by decide +kernel
theorem off80_eq : ∀ k : Fin k0_t2_loop.trips, k0_off80 (w32 k) = ![(k : ℕ) % 4] := by decide +kernel
theorem sz25_eq : ∀ k : Fin k0_t2_loop.trips, k0_sz25 (w32 k) = ![blkSz (2 * (k : ℕ) + 1), 128] := by decide +kernel
theorem off83_eq : ∀ k : Fin k0_t2_loop.trips, k0_off83 (w32 k) = ![(k : ℕ) % 4, 0, 0] := by decide +kernel
theorem off84_eq : ∀ k : Fin k0_t2_loop.trips, k0_off84 (w32 k) = ![1024 * (2 * (k : ℕ)), 0] := by decide +kernel
theorem off85_eq : ∀ k : Fin k0_t2_loop.trips, k0_off85 (w32 k) = ![(k : ℕ) % 2, 0, 0] := by decide +kernel
theorem off86_eq : ∀ k : Fin k0_t2_loop.trips, k0_off86 (w32 k) = ![(k : ℕ) % 4, 0, 0] := by decide +kernel
theorem off87_eq : ∀ k : Fin k0_t2_loop.trips, k0_off87 (w32 k) = ![1024 * (2 * (k : ℕ) + 1), 0] := by decide +kernel
theorem off88_eq : ∀ k : Fin k0_t2_loop.trips, k0_off88 (w32 k) = ![(k : ℕ) % 2, 0, 0] := by decide +kernel
theorem cond37_yes : ∀ k : Fin k0_t2_loop.trips, k0_cond37 k (w32 k) = 1#1 := by decide +kernel
theorem off89_eq : ∀ k : Fin k0_t2_loop.trips, k0_off89 (w32 k) = ![(k : ℕ) % 2] := by decide +kernel
theorem off91_eq : ∀ k : Fin k0_t2_loop.trips, k0_off91 (w32 k) (w32 k) = (![(k : ℕ) % 2, 0, 0], ![1, blkSz (2 * (k : ℕ) + 0), 128]) := by decide +kernel
theorem sz26_eq : ∀ k : Fin k0_t2_loop.trips, k0_sz26 (w32 k) = ![blkSz (2 * (k : ℕ) + 0), 128] := by decide +kernel
theorem off90_eq : ∀ k : Fin k0_t2_loop.trips, k0_off90 (w32 k) = (![1024 * (2 * (k : ℕ) + 0), 0], ![blkSz (2 * (k : ℕ) + 0), 128]) := by decide +kernel
theorem cond38_yes : ∀ k : Fin k0_t2_loop.trips, k0_cond38 k (w32 k) = 1#1 := by decide +kernel
theorem off92_eq : ∀ k : Fin k0_t2_loop.trips, k0_off92 (w32 k) = ![(k : ℕ) % 2] := by decide +kernel
theorem off94_eq : ∀ k : Fin k0_t2_loop.trips, k0_off94 (w32 k) (w32 k) = (![(k : ℕ) % 2, 0, 0], ![1, blkSz (2 * (k : ℕ) + 1), 128]) := by decide +kernel
theorem sz27_eq : ∀ k : Fin k0_t2_loop.trips, k0_sz27 (w32 k) = ![blkSz (2 * (k : ℕ) + 1), 128] := by decide +kernel
theorem off93_eq : ∀ k : Fin k0_t2_loop.trips, k0_off93 (w32 k) = (![1024 * (2 * (k : ℕ) + 1), 0], ![blkSz (2 * (k : ℕ) + 1), 128]) := by decide +kernel
theorem cond41_iff : ∀ k : Fin k0_t2_loop.trips, k0_cond41 k (w32 k) = 1#1 ↔ 0 < (k : ℕ) := by decide +kernel
theorem off95_eq : ∀ k : Fin k0_t2_loop.trips, 0 < (k : ℕ) → k0_off95 (w32 ((k : ℕ) - 1)) = ![((k : ℕ) - 1) % 2] := by decide +kernel
theorem off96_eq : ∀ k : Fin k0_t2_loop.trips, 0 < (k : ℕ) → k0_off96 (w32 k) = (![1024 * (2 * ((k : ℕ) - 1) + 0), 0], ![blkSz (2 * ((k : ℕ) - 1) + 0), 128]) := by decide +kernel
theorem cond42_iff : ∀ k : Fin k0_t2_loop.trips, k0_cond42 k (w32 k) = 1#1 ↔ 0 < (k : ℕ) := by decide +kernel
theorem off98_eq : ∀ k : Fin k0_t2_loop.trips, 0 < (k : ℕ) → k0_off98 (w32 ((k : ℕ) - 1)) = ![((k : ℕ) - 1) % 2] := by decide +kernel
theorem off99_eq : ∀ k : Fin k0_t2_loop.trips, 0 < (k : ℕ) → k0_off99 (w32 k) = (![1024 * (2 * ((k : ℕ) - 1) + 1), 0], ![blkSz (2 * ((k : ℕ) - 1) + 1), 128]) := by decide +kernel

/-! ## After the second loop -/

theorem chk11_ok : k0_chk11 (w32 0) := by decide +kernel
theorem chk12_ok : k0_chk12 (w32 0) (w32 48) := by decide +kernel
theorem chk13_ok : k0_chk13 (w32 0) (w32 48) := by decide +kernel
theorem off101_at : k0_off101 (w32 48) = ![48 % 2] := by decide +kernel
theorem off102_at : k0_off102 (w32 0) = (![1024 * (2 * 48 + 0), 0], ![blkSz (2 * 48 + 0), 128]) := by decide +kernel
theorem off104_at : k0_off104 (w32 48) = ![48 % 2] := by decide +kernel
theorem off105_at : k0_off105 (w32 0) = (![1024 * (2 * 48 + 1), 0], ![blkSz (2 * 48 + 1), 128]) := by decide +kernel

end Cert.KernelIdeal.Policy
-- ==== Proof.Blocks.lean ====
/-
  What the kernel computes, block by block. The rows are taken in ninety-eight blocks of 1024 (the last
  holds 672 rows of the array, the rest of its slot is what an earlier block left there). The first pass
  turns the blocks of the two inputs into blocks of unnormalised probabilities and adds up their columns;
  the second scales each block by the inverse sums, and keeps for each column the best score so far and
  the number of the row it was met in.
-/
module

public import proofs.«01_k».proof.Proof.Words

@[expose] public section

noncomputable section

namespace Cert.KernelIdeal.Policy

open Idealize.ShloMosaic Cert.KernelIdeal Cert.KernelIdeal.Gen Cert.Policy

variable {F : FTy → Type} [FloatOps F]

/-- The row number within a block, at every element of it. -/
def rowNo : IVec S1024x128 32 := iota .tc S1024x128 32 [0] iota_S1024x128_d0_w32

/-- The index of an element of a slot's plane. -/
def plane (i j : ℕ) : (RingS 1).Idx :=
  planeIx (L := 1) (Fin.cons (0 : Fin 1) (Shape.pair (d := ![1024, 128]) ⟨i % 1024, Nat.mod_lt _ (by decide)⟩ ⟨j % 128, Nat.mod_lt _ (by decide)⟩) : (⟨3, ![1, 1024, 128]⟩ : Shape).Idx)

theorem plane_eq {L : ℕ} (b : ℕ) (y : (RingS L).Idx) : plane (1024 * b + (y 1 : ℕ)) (y 2 : ℕ) = planeIx y := by
  have h1 : (y 1 : ℕ) < 1024 := (y 1).isLt
  have h2 : (y 2 : ℕ) < 128 := (y 2).isLt
  refine ring_ext rfl ?_ ?_
  · show (1024 * b + (y 1 : ℕ)) % 1024 = (y 1 : ℕ); omega
  · show (y 2 : ℕ) % 128 = (y 2 : ℕ); omega

/-- An element of an array held as a function of row and column, from its block. -/
theorem block_at {α : Type} (f : ℕ → S1024x128.Idx → α) (b : ℕ) (x : S1024x128.Idx) :
    f ((1024 * b + (x 0 : ℕ)) / 1024) (arrIx 1024 ((1024 * b + (x 0 : ℕ)) % 1024) (x 1 : ℕ)) = f b x := by
  have h0 : (x 0 : ℕ) < 1024 := (x 0).isLt
  have e1 : (1024 * b + (x 0 : ℕ)) / 1024 = b := by omega
  have e2 : (1024 * b + (x 0 : ℕ)) % 1024 = (x 0 : ℕ) := by omega
  rw [e1, e2]
  exact congrArg (f b) (arrIx_self x)

variable (PA AA GA : ℕ → ℕ → Elt F .f32)

/-- Block `b` of the unnormalised probabilities. -/
def pBlk (b : ℕ) : FVec F S1024x128 .f32 :=
  k0_pay3 rowNo (k0_pay1 (came AA b)) (w32 b) (k0_pay2 (came PA b))

/-- The unnormalised probabilities, by row and column. -/
def prob (i j : ℕ) : Elt F .f32 := pBlk PA AA (i / 1024) (arrIx 1024 (i % 1024) j)

theorem prob_blk (b : ℕ) (x : S1024x128.Idx) : prob PA AA (1024 * b + (x 0 : ℕ)) (x 1 : ℕ) = pBlk PA AA b x :=
  block_at (pBlk PA AA) b x

/-- The column sums after `b` blocks. -/
def sums : ℕ → FVec F S1x128 .f32
  | 0 => k0_pay27
  | b + 1 => k0_pay5 rowNo (k0_pay1 (came AA b)) (w32 b) (k0_pay2 (came PA b)) (sums b)

/-- The inverses of the column sums. -/
def inv : FVec F S1x128 .f32 := k0_pay30 (sums PA AA 98)

/-- The normalised probabilities, by row and column. -/
def norm (i j : ℕ) : Elt F .f32 := k0_pay12 (inv PA AA) (pBlk PA AA (i / 1024)) (plane i j)

theorem norm_blk {L : ℕ} (b : ℕ) (y : (RingS L).Idx) :
    norm PA AA (1024 * b + (y 1 : ℕ)) (y 2 : ℕ) = k0_pay12 (inv PA AA) (pBlk PA AA b) (planeIx y) := by
  have h1 : (y 1 : ℕ) < 1024 := (y 1).isLt
  have e1 : (1024 * b + (y 1 : ℕ)) / 1024 = b := by omega
  unfold norm
  rw [plane_eq, e1]

/-- Block `b` of the scores. -/
def score (b : ℕ) : FVec F S1024x128 .f32 := k0_pay21 (inv PA AA) (came GA b) (pBlk PA AA b)

/-- The best scores after `b` blocks, and the rows they were met in. -/
def best : ℕ → FVec F S1x128 .f32 × IVec S1x128 32
  | 0 => (k0_pay28, k0_pay29)
  | b + 1 => (k0_pay26 rowNo (score PA AA GA b) (Scalar.muli (w32 b) 1024#32) 100000#32 (best b).1 (best b).1,
      k0_pay25 rowNo (w32 b) (score PA AA GA b) (Scalar.muli (w32 b) 1024#32) 100000#32 (best b).1 (best b).2)

/-- In the kernel's even blocks the same is computed from other intermediate values. -/
theorem even_idx (iv : FVec F S1x128 .f32) (u w : BitVec 32) (hw : Scalar.muli 2#32 u = w) (g : Vec F S1x1024x128 .f32)
    (p : Vec F S1024x128 .f32) (m : Vec F S1x128 .f32) (i : Vec F S1x128 .i32) :
    k0_pay17 (Scalar.muli 2#32 u) (k0_pay14 iv u g p) (k0_pay15 iv u g p) m i
      = k0_pay25 rowNo w (k0_pay21 iv g p) (Scalar.muli w 1024#32) 100000#32 m i := by
  subst hw; rfl

theorem even_best (iv : FVec F S1x128 .f32) (u w : BitVec 32) (hw : Scalar.muli 2#32 u = w) (g : Vec F S1x1024x128 .f32)
    (p : Vec F S1024x128 .f32) (m m' : Vec F S1x128 .f32) :
    k0_pay18 (k0_pay14 iv u g p) m m'
      = k0_pay26 rowNo (k0_pay21 iv g p) (Scalar.muli w 1024#32) 100000#32 m m' := by
  subst hw; rfl

/-- The number of a trip's first block and of its second, as words. -/
theorem word_even : ∀ k : Fin k0_t1_loop.trips, Scalar.muli 2#32 (Scalar.addi (w32 k) 0#32) = w32 (2 * k) := by
  decide +kernel
theorem word_odd : ∀ k : Fin k0_t1_loop.trips, Scalar.addi (Scalar.muli 2#32 (Scalar.addi (w32 k) 0#32)) 1#32 = w32 (2 * k + 1) := by
  decide +kernel

end Cert.KernelIdeal.Policy
-- ==== Proof.Trip1.lean ====
/-
  One trip of the first loop. Each of the four streams sends for its block three trips ahead and waits
  for the trip's own; the two pairs of blocks give two blocks of unnormalised probabilities, which are
  stored, and their columns are added up.
-/
module

public import proofs.«01_k».proof.Proof.Blocks
public import Idealize.ShloMosaic.Lib.Pipeline.Value

@[expose] public section

set_option maxRecDepth 100000
set_option pp.maxSteps 100

noncomputable section

namespace Cert.KernelIdeal.Policy

open Idealize.ShloMosaic Idealize.ShloMosaic.Transfers Cert.KernelIdeal Cert.KernelIdeal.Gen Cert.Policy
open TcCoe
open Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F] {U : Type} [URA U] [CountersIn U]
variable [((countersEmb : UEmb Counters (MT nD τ sig Unit (Elt F) ℕ U ℕ))).LandsIn upEmb]
variable {defs : Defs nD τ sig (Elt F) Λ₀} (𝒱 : Variants) (c : Dev nD) (bd : Option 𝒱.V)

local notation "𝕄" => MT nD τ sig Unit (Elt F) ℕ U ℕ

/-- An incoming stream at the start of trip `k`: three blocks under way, the fourth slot to spare, and
    the rows of the array that are not under way. -/
def stream (arr : Memref sig .tc .hbm (ArrS 100000) .f32) (ring : Memref sig .tc .vmem (RingS 4) .f32)
    (v : DmaSems sig (LineS 4)) (p : ℕ) (A : ℕ → ℕ → Elt F .f32) (k : ℕ) : sProp 𝕄 :=
  iprop(coming c arr ring v p A k ∗ coming c arr ring v p A (k + 1) ∗ coming c arr ring v p A (k + 2)
    ∗ spare c ring v p A (k + 3) ∗ home c arr p A k (k + 3))

theorem stream_parts (arr : Memref sig .tc .hbm (ArrS 100000) .f32) (ring : Memref sig .tc .vmem (RingS 4) .f32)
    (v : DmaSems sig (LineS 4)) (p : ℕ) (A : ℕ → ℕ → Elt F .f32) (k : ℕ) :
    (stream c arr ring v p A k : sProp 𝕄)
      ⊢ iprop(coming c arr ring v p A k ∗ coming c arr ring v p A (k + 1) ∗ coming c arr ring v p A (k + 2)
        ∗ spare c ring v p A (k + 3) ∗ home c arr p A k (k + 3)) := Entails.of_eq rfl

/-- With no block left to send for, the slot stays to spare. -/
theorem dry (arr : Memref sig .tc .hbm (ArrS 100000) .f32) (ring : Memref sig .tc .vmem (RingS 4) .f32)
    (v : DmaSems sig (LineS 4)) (p : ℕ) (A : ℕ → ℕ → Elt F .f32) (k : ℕ) (h : ¬ k + 3 < 49) :
    iprop(spare c ring v p A (k + 3) ∗ home c arr p A k (k + 3))
      ⊢ (iprop(coming c arr ring v p A (k + 3) ∗ home c arr p A k (k + 3 + 1)) : sProp 𝕄) := by
  rw [coming_of_ge c arr ring v p A (by omega : 49 ≤ k + 3), home_skip c arr p A (by omega : 49 ≤ k + 3)]

/-- A trip's end: the slot of the block that came is to spare, and its rows are home. -/
theorem stream_next (arr : Memref sig .tc .hbm (ArrS 100000) .f32) (ring : Memref sig .tc .vmem (RingS 4) .f32)
    (v : DmaSems sig (LineS 4)) (p : ℕ) (hp : p < 2) (A : ℕ → ℕ → Elt F .f32) (k : ℕ) :
    iprop((own c ring (slot 4 k) (came A (2 * k + p)) ∗ rows c arr (strBlk p k) A ∗ semVal ((c : Thread nD τ), SemLoc.dma (cell v k)) 0)
        ∗ coming c arr ring v p A (k + 1) ∗ coming c arr ring v p A (k + 2) ∗ coming c arr ring v p A (k + 3) ∗ home c arr p A k (k + 3 + 1))
      ⊢ (stream c arr ring v p A (k + 1) : sProp 𝕄) := by
  unfold stream
  iintro ⟨⟨H, R, S⟩, B, C, D, E⟩
  isplitl [B]
  · iexact B
  · isplitl [C]
    · iexact C
    · isplitl [D]
      · iexact D
      · isplitl [H S]
        · iapply (spare_of_used c ring v p A k)
          isplitl [H]
          · iexact H
          · iexact S
        · iapply (home_give c arr hp A (by omega : k < k + 3 + 1))
          isplitl [R]
          · iexact R
          · iexact E

/-- A program that is over. -/
theorem step_done {Λ : Labels} {defs : Defs nD τ sig (Elt F) Λ} {α : Type} {Q : α → sProp 𝕄} {x : α} :
    (Q x : sProp 𝕄) ⊢ wp frame (wpE defs 𝒱 (c : Thread nD τ) bd) Set.univ (pure x) Q :=
  le_wp_ret _ _ _ _ _

/-- The words carried at the start of trip `k`. -/
def st1 (k : ℕ) : BitVec 32 × BitVec 32 × BitVec 32 × BitVec 32 × BitVec 32 × BitVec 32 × BitVec 32 × BitVec 32 × BitVec 32 :=
  (up k, w32 k, up k, w32 k, up k, w32 k, up k, w32 k, w32 (k % 49))

variable (arg0 : Memref sig .tc .hbm S100000x128 .f32) (harg0 : arg0.IsWhole) (arg1 : Memref sig .tc .hbm S100000x128 .f32) (harg1 : arg1.IsWhole) (arg2 : Memref sig .tc .hbm S100000x128 .f32) (harg2 : arg2.IsWhole) (arg3 : Memref sig .tc .hbm S100000x128 .f32) (harg3 : arg3.IsWhole) (arg4 : Memref sig .tc .vmem S1x128 .i32) (harg4 : arg4.IsWhole) (arg5 : Memref sig .tc .vmem S100352x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .i32) (harg8 : arg8.IsWhole) (alloca_r0 : Memref sig .tc .vmem S4x1024x128 .f32) (halloca_r0 : alloca_r0.IsWhole) (v17_r0 : DmaSems sig S4) (alloca_13_r0 : Memref sig .tc .vmem S4x1024x128 .f32) (halloca_13_r0 : alloca_13_r0.IsWhole) (v18_r0 : DmaSems sig S4) (alloca_14_r0 : Memref sig .tc .vmem S4x1024x128 .f32) (halloca_14_r0 : alloca_14_r0.IsWhole) (v19_r0 : DmaSems sig S4) (alloca_15_r0 : Memref sig .tc .vmem S4x1024x128 .f32) (halloca_15_r0 : alloca_15_r0.IsWhole) (v20_r0 : DmaSems sig S4) (alloca_r1 : Memref sig .tc .vmem S4x1024x128 .f32) (halloca_r1 : alloca_r1.IsWhole) (v17_r1 : DmaSems sig S4) (alloca_13_r1 : Memref sig .tc .vmem S4x1024x128 .f32) (halloca_13_r1 : alloca_13_r1.IsWhole) (v18_r1 : DmaSems sig S4) (alloca_14_r1 : Memref sig .tc .vmem S2x1024x128 .f32) (halloca_14_r1 : alloca_14_r1.IsWhole) (v19_r1 : DmaSems sig S2) (alloca_15_r1 : Memref sig .tc .vmem S2x1024x128 .f32) (halloca_15_r1 : alloca_15_r1.IsWhole) (v20_r1 : DmaSems sig S2)
variable (PA AA : ℕ → ℕ → Elt F .f32)

/-- What the body owns at the start of trip `k` of the first loop. -/
def I1 (k : ℕ) (acc : BitVec 32 × BitVec 32 × BitVec 32 × BitVec 32 × BitVec 32 × BitVec 32 × BitVec 32 × BitVec 32 × BitVec 32) : sProp 𝕄 :=
  iprop(⌜acc = st1 k⌝ ∗ stream c arg0 alloca_r0 v17_r0 0 PA k ∗ stream c arg1 alloca_13_r0 v18_r0 0 AA k
    ∗ stream c arg0 alloca_14_r0 v19_r0 1 PA k ∗ stream c arg1 alloca_15_r0 v20_r0 1 AA k
    ∗ filled c arg5 (prob PA AA) (2 * k) ∗ own c arg6 Finset.univ (sums PA AA (2 * k))
    ∗ (∃ W, owes (c : Thread nD τ) 0 W))

theorem store_even (k : Fin k0_t1_loop.trips) (x : S1024x128.Idx) :
    k0_pay4 rowNo (k0_pay1 (came AA (2 * (k : ℕ) + 0))) (Scalar.muli 2#32 (Scalar.addi (w32 k) 0#32)) (k0_pay2 (came PA (2 * (k : ℕ) + 0))) x
      = prob PA AA (1024 * (2 * (k : ℕ)) + (x 0 : ℕ)) (x 1 : ℕ) := by
  rw [prob_blk, word_even]; unfold pBlk k0_pay4; exact congrFun (shapeCast_self _ _) x

theorem store_odd (k : Fin k0_t1_loop.trips) (x : S1024x128.Idx) :
    k0_pay9 rowNo (k0_pay6 (came AA (2 * (k : ℕ) + 1))) (Scalar.addi (Scalar.muli 2#32 (Scalar.addi (w32 k) 0#32)) 1#32) (k0_pay7 (came PA (2 * (k : ℕ) + 1))) x
      = prob PA AA (1024 * (2 * (k : ℕ) + 1) + (x 0 : ℕ)) (x 1 : ℕ) := by
  rw [prob_blk, word_odd]; unfold pBlk k0_pay9; exact congrFun (shapeCast_self _ _) x

theorem sums_even (k : Fin k0_t1_loop.trips) (x : S1x128.Idx) :
    k0_pay5 rowNo (k0_pay1 (came AA (2 * (k : ℕ) + 0))) (Scalar.muli 2#32 (Scalar.addi (w32 k) 0#32)) (k0_pay2 (came PA (2 * (k : ℕ) + 0))) (sums PA AA (2 * k)) x
      = sums PA AA (2 * (k : ℕ) + 1) x := by
  rw [word_even]; rfl

theorem sums_odd (k : Fin k0_t1_loop.trips) (x : S1x128.Idx) :
    k0_pay10 rowNo (k0_pay6 (came AA (2 * (k : ℕ) + 1))) (Scalar.addi (Scalar.muli 2#32 (Scalar.addi (w32 k) 0#32)) 1#32) (k0_pay7 (came PA (2 * (k : ℕ) + 1))) (sums PA AA (2 * (k : ℕ) + 1)) x
      = sums PA AA (2 * ((k : ℕ) + 1)) x := by
  rw [word_odd]; rfl

set_option maxHeartbeats 4000000 in
theorem trip1 (x1 x2 x3 x4 x5 x6 : BitVec 32) (x7 x8 : BitVec 1) (k : Fin k0_t1_loop.trips) :
    (I1 c arg0 arg1 arg5 arg6 alloca_r0 v17_r0 alloca_13_r0 v18_r0 alloca_14_r0 v19_r0 alloca_15_r0 v20_r0 PA AA k (st1 k) : sProp 𝕄)
      ⊢ wp frame (wpE defs 𝒱 (c : Thread nD τ) bd) Set.univ (k0_t1_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 x1 x2 x3 x4 x5 x6 x7 x8 k (st1 k))
        (fun acc => I1 c arg0 arg1 arg5 arg6 alloca_r0 v17_r0 alloca_13_r0 v18_r0 alloca_14_r0 v19_r0 alloca_15_r0 v20_r0 PA AA (k + 1) acc) := by
  have hk : (k : ℕ) < 49 := k.isLt
  have hm : (k : ℕ) % 49 = k := Nat.mod_eq_of_lt hk
  unfold I1
  iintro ⟨%_, T0, T1, T2, T3, P, S, O⟩
  ihave T0 := (stream_parts c _ _ _ _ _ _) $$ T0
  icases T0 with ⟨a0, b0, c0, s0, h0⟩
  ihave T1 := (stream_parts c _ _ _ _ _ _) $$ T1
  icases T1 with ⟨a1, b1, c1, s1, h1⟩
  ihave T2 := (stream_parts c _ _ _ _ _ _) $$ T2
  icases T2 with ⟨a2, b2, c2, s2, h2⟩
  ihave T3 := (stream_parts c _ _ _ _ _ _) $$ T3
  icases T3 with ⟨a3, b3, c3, s3, h3⟩
  unfold k0_t1_body st1
  rw [hm]
  iapply (step_bind 𝒱 c bd)
  rw [k0_part1_eq_skeleton]
  unfold k0_part1_skel
  iapply (step_assume 𝒱 c bd (chk5_ok k))
  iapply (step_assume 𝒱 c bd (chk4_ok k))
  iapply (step_assume 𝒱 c bd (chk3_ok k))
  iapply (step_assume 𝒱 c bd (chk2_ok k))
  iapply (step_assume 𝒱 c bd (chk1_ok k))
  iapply (step_done 𝒱 c bd)
  iapply (step_bind 𝒱 c bd)
  rw [k0_part2_eq_skeleton]
  unfold k0_part2_skel
  iapply (step_maybe 𝒱 c bd iprop(spare c alloca_r0 v17_r0 0 PA (k + 3) ∗ home c arg0 0 PA k (k + 3))
    iprop(coming c arg0 alloca_r0 v17_r0 0 PA (k + 3) ∗ home c arg0 0 PA k (k + 3 + 1))
    (fun h => step_send 𝒱 c bd (by decide) PA k (k + 3) (by omega) ((cond9_iff k).1 h) (off29_eq k ((cond9_iff k).1 h)) rfl
      (congrArg Prod.fst (off30_eq k ((cond9_iff k).1 h))) (congrArg Prod.snd (off30_eq k ((cond9_iff k).1 h)))
      (congrArg Prod.fst (off31_eq k ((cond9_iff k).1 h))) (sz10_eq k ((cond9_iff k).1 h)))
    (fun h => dry c arg0 alloca_r0 v17_r0 0 PA k (fun h' => h ((cond9_iff k).2 h')))) $$ [s0 h0]
  · isplitl [s0]
    · iexact s0
    · iexact h0
  iintro ⟨d0, h0⟩
  iapply (step_maybe 𝒱 c bd iprop(spare c alloca_13_r0 v18_r0 0 AA (k + 3) ∗ home c arg1 0 AA k (k + 3))
    iprop(coming c arg1 alloca_13_r0 v18_r0 0 AA (k + 3) ∗ home c arg1 0 AA k (k + 3 + 1))
    (fun h => step_send 𝒱 c bd (by decide) AA k (k + 3) (by omega) ((cond10_iff k).1 h) (off32_eq k ((cond10_iff k).1 h)) rfl
      (congrArg Prod.fst (off33_eq k ((cond10_iff k).1 h))) (congrArg Prod.snd (off33_eq k ((cond10_iff k).1 h)))
      (congrArg Prod.fst (off34_eq k ((cond10_iff k).1 h))) (sz11_eq k ((cond10_iff k).1 h)))
    (fun h => dry c arg1 alloca_13_r0 v18_r0 0 AA k (fun h' => h ((cond10_iff k).2 h')))) $$ [s1 h1]
  · isplitl [s1]
    · iexact s1
    · iexact h1
  iintro ⟨d1, h1⟩
  iapply (step_done 𝒱 c bd)
  iapply (step_bind 𝒱 c bd)
  rw [k0_part3_eq_skeleton]
  unfold k0_part3_skel
  iapply (step_maybe 𝒱 c bd iprop(spare c alloca_14_r0 v19_r0 1 PA (k + 3) ∗ home c arg0 1 PA k (k + 3))
    iprop(coming c arg0 alloca_14_r0 v19_r0 1 PA (k + 3) ∗ home c arg0 1 PA k (k + 3 + 1))
    (fun h => step_send 𝒱 c bd (by decide) PA k (k + 3) (by omega) ((cond11_iff k).1 h) (off35_eq k ((cond11_iff k).1 h)) rfl
      (congrArg Prod.fst (off36_eq k ((cond11_iff k).1 h))) (congrArg Prod.snd (off36_eq k ((cond11_iff k).1 h)))
      (congrArg Prod.fst (off37_eq k ((cond11_iff k).1 h))) (congrArg Prod.snd (off37_eq k ((cond11_iff k).1 h))))
    (fun h => dry c arg0 alloca_14_r0 v19_r0 1 PA k (fun h' => h ((cond11_iff k).2 h')))) $$ [s2 h2]
  · isplitl [s2]
    · iexact s2
    · iexact h2
  iintro ⟨d2, h2⟩
  iapply (step_maybe 𝒱 c bd iprop(spare c alloca_15_r0 v20_r0 1 AA (k + 3) ∗ home c arg1 1 AA k (k + 3))
    iprop(coming c arg1 alloca_15_r0 v20_r0 1 AA (k + 3) ∗ home c arg1 1 AA k (k + 3 + 1))
    (fun h => step_send 𝒱 c bd (by decide) AA k (k + 3) (by omega) ((cond12_iff k).1 h) (off38_eq k ((cond12_iff k).1 h)) rfl
      (congrArg Prod.fst (off39_eq k ((cond12_iff k).1 h))) (congrArg Prod.snd (off39_eq k ((cond12_iff k).1 h)))
      (congrArg Prod.fst (off40_eq k ((cond12_iff k).1 h))) (congrArg Prod.snd (off40_eq k ((cond12_iff k).1 h))))
    (fun h => dry c arg1 alloca_15_r0 v20_r0 1 AA k (fun h' => h ((cond12_iff k).2 h')))) $$ [s3 h3]
  · isplitl [s3]
    · iexact s3
    · iexact h3
  iintro ⟨d3, h3⟩
  iapply (step_yes 𝒱 c bd (cond13_yes k))
  iapply (step_come 𝒱 c bd 0 PA k hk (off41_eq k) rfl (sz14_eq k)) $$ [a0 O]
  · isplitl [a0]
    · iexact a0
    · iexact O
  iintro ⟨a0, a0s, O⟩
  unfold back
  icases a0 with ⟨a0, a0r⟩
  iapply (step_yes 𝒱 c bd (cond14_yes k))
  iapply (step_come 𝒱 c bd 0 AA k hk (off44_eq k) rfl (sz15_eq k)) $$ [a1 O]
  · isplitl [a1]
    · iexact a1
    · iexact O
  iintro ⟨a1, a1s, O⟩
  unfold back
  icases a1 with ⟨a1, a1r⟩
  iapply (step_done 𝒱 c bd)
  iapply (step_bind 𝒱 c bd)
  rw [k0_part4_eq_skeleton]
  unfold k0_part4_skel
  iapply (step_yes 𝒱 c bd (cond15_yes k))
  iapply (step_come 𝒱 c bd 1 PA k hk (off47_eq k) rfl (sz16_eq k)) $$ [a2 O]
  · isplitl [a2]
    · iexact a2
    · iexact O
  iintro ⟨a2, a2s, O⟩
  unfold back
  icases a2 with ⟨a2, a2r⟩
  iapply (step_yes 𝒱 c bd (cond16_yes k))
  iapply (step_come 𝒱 c bd 1 AA k hk (off50_eq k) rfl (sz17_eq k)) $$ [a3 O]
  · isplitl [a3]
    · iexact a3
    · iexact O
  iintro ⟨a3, a3s, O⟩
  unfold back
  icases a3 with ⟨a3, a3r⟩
  iapply (step_read 𝒱 c bd k (2 * k + 0) PA (off53_eq k)) $$ a0
  iintro a0
  iapply (step_read 𝒱 c bd k (2 * k + 0) AA (off54_eq k)) $$ a1
  iintro a1
  iapply (step_done 𝒱 c bd)
  iapply (step_bind 𝒱 c bd)
  rw [k0_part5_eq_skeleton]
  unfold k0_part5_skel
  iapply (step_loadBlock 𝒱 c bd (prob PA AA) (2 * k) (2 * k) (off55_eq k)) $$ P
  iintro %_ %_ P
  iapply (step_storeBlock 𝒱 c bd (prob PA AA) (2 * k) (off55_eq k) (store_even PA AA k)) $$ P
  iintro P
  iapply (step_get 𝒱 c bd (sums PA AA (2 * k))) $$ S
  iintro S
  iapply (step_get 𝒱 c bd (sums PA AA (2 * k))) $$ S
  iintro S
  iapply (step_set 𝒱 c bd) $$ S
  iintro S
  ihave S := (own_congr (fun x _ => sums_even PA AA k x)) $$ S
  iapply (step_read 𝒱 c bd k (2 * k + 1) PA (off56_eq k)) $$ a2
  iintro a2
  iapply (step_read 𝒱 c bd k (2 * k + 1) AA (off57_eq k)) $$ a3
  iintro a3
  iapply (step_done 𝒱 c bd)
  iapply (step_bind 𝒱 c bd)
  rw [k0_part6_eq_skeleton]
  unfold k0_part6_skel
  iapply (step_loadBlock 𝒱 c bd (prob PA AA) (2 * k + 1) (2 * k + 1) (off58_eq k)) $$ P
  iintro %_ %_ P
  iapply (step_storeBlock 𝒱 c bd (prob PA AA) (2 * k + 1) (off58_eq k) (store_odd PA AA k)) $$ P
  iintro P
  iapply (step_get 𝒱 c bd (sums PA AA (2 * k + 1))) $$ S
  iintro S
  iapply (step_get 𝒱 c bd (sums PA AA (2 * k + 1))) $$ S
  iintro S
  iapply (step_set 𝒱 c bd) $$ S
  iintro S
  ihave S := (own_congr (fun x _ => sums_odd PA AA k x)) $$ S
  iapply (step_either 𝒱 c bd)
  iapply (step_either 𝒱 c bd)
  iapply (step_done 𝒱 c bd)
  iapply (step_bind 𝒱 c bd)
  rw [k0_part7_eq_skeleton]
  unfold k0_part7_skel
  iapply (step_either 𝒱 c bd)
  iapply (step_either 𝒱 c bd)
  iapply (step_either 𝒱 c bd)
  iapply (step_either 𝒱 c bd)
  iapply (step_either 𝒱 c bd)
  iapply (step_done 𝒱 c bd)
  iapply (step_either 𝒱 c bd)
  iapply (step_done 𝒱 c bd)
  isplitr
  · ipureintro
    clear * - k
    simp only [Prod.mk.injEq]
    refine ⟨?_, ?_, ?_, ?_, ?_, ?_, ?_, ?_, ?_⟩ <;> (revert k; decide +kernel)
  isplitl [a0 a0r a0s b0 c0 d0 h0]
  · iapply (stream_next c arg0 alloca_r0 v17_r0 0 (by decide) PA k)
    isplitl [a0 a0r a0s]
    · isplitl [a0]
      · iexact a0
      · isplitl [a0r]
        · iexact a0r
        · iexact a0s
    · isplitl [b0]
      · iexact b0
      · isplitl [c0]
        · iexact c0
        · isplitl [d0]
          · iexact d0
          · iexact h0
  isplitl [a1 a1r a1s b1 c1 d1 h1]
  · iapply (stream_next c arg1 alloca_13_r0 v18_r0 0 (by decide) AA k)
    isplitl [a1 a1r a1s]
    · isplitl [a1]
      · iexact a1
      · isplitl [a1r]
        · iexact a1r
        · iexact a1s
    · isplitl [b1]
      · iexact b1
      · isplitl [c1]
        · iexact c1
        · isplitl [d1]
          · iexact d1
          · iexact h1
  isplitl [a2 a2r a2s b2 c2 d2 h2]
  · iapply (stream_next c arg0 alloca_14_r0 v19_r0 1 (by decide) PA k)
    isplitl [a2 a2r a2s]
    · isplitl [a2]
      · iexact a2
      · isplitl [a2r]
        · iexact a2r
        · iexact a2s
    · isplitl [b2]
      · iexact b2
      · isplitl [c2]
        · iexact c2
        · isplitl [d2]
          · iexact d2
          · iexact h2
  isplitl [a3 a3r a3s b3 c3 d3 h3]
  · iapply (stream_next c arg1 alloca_15_r0 v20_r0 1 (by decide) AA k)
    isplitl [a3 a3r a3s]
    · isplitl [a3]
      · iexact a3
      · isplitl [a3r]
        · iexact a3r
        · iexact a3s
    · isplitl [b3]
      · iexact b3
      · isplitl [c3]
        · iexact c3
        · isplitl [d3]
          · iexact d3
          · iexact h3
  isplitl [P]
  · iexact P
  isplitl [S]
  · iexact S
  · iexact O

end Cert.KernelIdeal.Policy
-- ==== Proof.Trip2.lean ====
/-
  One trip of the second loop. Each of the two streams of noise sends for its block three trips ahead and
  waits for the trip's own. Each block of probabilities is scaled and sent off to the result, and the best
  score of each column is kept with the number of its row. From the second trip on the block sent off in the
  trip before is waited for.
-/
module

public import proofs.«01_k».proof.Proof.Trip1

@[expose] public section

set_option maxRecDepth 100000
set_option pp.maxSteps 100

noncomputable section

namespace Cert.KernelIdeal.Policy

open Idealize.ShloMosaic Idealize.ShloMosaic.Transfers Cert.KernelIdeal Cert.KernelIdeal.Gen Cert.Policy
open TcCoe
open Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F] {U : Type} [URA U] [CountersIn U]
variable [((countersEmb : UEmb Counters (MT nD τ sig Unit (Elt F) ℕ U ℕ))).LandsIn upEmb]
variable {defs : Defs nD τ sig (Elt F) Λ₀} (𝒱 : Variants) (c : Dev nD) (bd : Option 𝒱.V)

local notation "𝕄" => MT nD τ sig Unit (Elt F) ℕ U ℕ

/-- An outgoing stream at the start of trip `k`: the block before under way, the other slot free. -/
def outflow (arr : Memref sig .tc .hbm (ArrS 100000) .f32) (ring : Memref sig .tc .vmem (RingS 2) .f32)
    (v : DmaSems sig (LineS 2)) (p : ℕ) (A : ℕ → ℕ → Elt F .f32) (k : ℕ) : sProp 𝕄 :=
  iprop(leaving c arr ring v p A k ∗ idle c ring v k ∗ todo c arr p k ∗ done c arr p A (k - 1))

theorem outflow_parts (arr : Memref sig .tc .hbm (ArrS 100000) .f32) (ring : Memref sig .tc .vmem (RingS 2) .f32)
    (v : DmaSems sig (LineS 2)) (p : ℕ) (A : ℕ → ℕ → Elt F .f32) (k : ℕ) :
    (outflow c arr ring v p A k : sProp 𝕄)
      ⊢ iprop(leaving c arr ring v p A k ∗ (free c ring k ∗ semVal ((c : Thread nD τ), SemLoc.dma (cell v k)) 0)
          ∗ todo c arr p k ∗ done c arr p A (k - 1)) := Entails.of_eq rfl

theorem outflow_next (arr : Memref sig .tc .hbm (ArrS 100000) .f32) (ring : Memref sig .tc .vmem (RingS 2) .f32)
    (v : DmaSems sig (LineS 2)) (p : ℕ) (A : ℕ → ℕ → Elt F .f32) (k : ℕ) :
    iprop(going c arr ring v p A k ∗ idle c ring v (k + 1) ∗ todo c arr p (k + 1) ∗ done c arr p A k)
      ⊢ (outflow c arr ring v p A (k + 1) : sProp 𝕄) := Entails.of_eq rfl

/-- Before the first trip there is no block to wait for. -/
theorem fresh (arr : Memref sig .tc .hbm (ArrS 100000) .f32) (ring : Memref sig .tc .vmem (RingS 2) .f32)
    (v : DmaSems sig (LineS 2)) (p : ℕ) (A : ℕ → ℕ → Elt F .f32) (k : ℕ) (h : ¬ 0 < k) :
    iprop(leaving c arr ring v p A k ∗ done c arr p A (k - 1) ∗ (∃ W, owes (c : Thread nD τ) 0 W))
      ⊢ (iprop((idle c ring v (k + 1) ∗ done c arr p A k) ∗ (∃ W, owes (c : Thread nD τ) 0 W)) : sProp 𝕄) := by
  obtain rfl : k = 0 := by omega
  rw [leaving_zero]
  iintro ⟨A, B, C⟩
  isplitr [C]
  · isplitl [A]
    · iexact A
    · iexact B
  · iexact C

/-- The block of the trip before is written. -/
theorem step_past {α : Type} {Q : α → sProp 𝕄} {arr : Memref sig .tc .hbm (ArrS 100000) .f32} {ring : Memref sig .tc .vmem (RingS 2) .f32}
    {v : DmaSems sig (LineS 2)} {p : ℕ} (hp : p < 2) (A : ℕ → ℕ → Elt F .f32) (k : ℕ) (h : 0 < k)
    {so z : Fin 1 → ℕ} {d : Fin 0 → ℕ} {sz : Fin 2 → ℕ} (hso : so = ![(k - 1) % 2]) (hz : z = ![1]) (hsz : sz = ![blkSz (2 * (k - 1) + p), 128])
    {inb1} {hq1 : (⟨1, z⟩ : Shape).Squeezes ⟨0, d⟩} {hk} {kk : PUnit → Prog (TpuEff nD τ sig (Elt F) Λ₀ .tc) α} :
    iprop(leaving c arr ring v p A k ∗ done c arr p A (k - 1) ∗ (∃ W, owes (c : Thread nD τ) 0 W))
      ⊢ iprop((iprop((idle c ring v (k + 1) ∗ done c arr p A k) ∗ (∃ W, owes (c : Thread nD τ) 0 W))
            -∗ wp frame (wpE defs 𝒱 (c : Thread nD τ) bd) Set.univ (kk ⟨⟩) Q)
        -∗ wp frame (wpE defs 𝒱 (c : Thread nD τ) bd) Set.univ
            (Prog.lift (TpuEff.waitDma ((v.slice (Rect.unit (s := LineS 2) so z inb1)).squeeze ⟨0, d⟩ hq1).sem arr.view.ref ⟨2, sz⟩ .f32 hk) >>= kk) Q) := by
  obtain ⟨j, rfl⟩ : ∃ j, k = j + 1 := ⟨k - 1, by omega⟩
  rw [leaving_succ, idle_congr c ring v (show (j + 1 + 1) % 2 = j % 2 by omega)]
  exact step_gone 𝒱 c bd hp A j hso hz hsz

/-- The words carried at the start of trip `k`. -/
def st2 (k : ℕ) : BitVec 32 × BitVec 32 × BitVec 32 × BitVec 32 × BitVec 32 × BitVec 32 × BitVec 32 × BitVec 32 × BitVec 32 :=
  (up k, w32 k, up k, w32 k, w32 k, w32 (k - 1), w32 k, w32 (k - 1), w32 (k % 49))

variable (arg0 : Memref sig .tc .hbm S100000x128 .f32) (harg0 : arg0.IsWhole) (arg1 : Memref sig .tc .hbm S100000x128 .f32) (harg1 : arg1.IsWhole) (arg2 : Memref sig .tc .hbm S100000x128 .f32) (harg2 : arg2.IsWhole) (arg3 : Memref sig .tc .hbm S100000x128 .f32) (harg3 : arg3.IsWhole) (arg4 : Memref sig .tc .vmem S1x128 .i32) (harg4 : arg4.IsWhole) (arg5 : Memref sig .tc .vmem S100352x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .i32) (harg8 : arg8.IsWhole) (alloca_r0 : Memref sig .tc .vmem S4x1024x128 .f32) (halloca_r0 : alloca_r0.IsWhole) (v17_r0 : DmaSems sig S4) (alloca_13_r0 : Memref sig .tc .vmem S4x1024x128 .f32) (halloca_13_r0 : alloca_13_r0.IsWhole) (v18_r0 : DmaSems sig S4) (alloca_14_r0 : Memref sig .tc .vmem S4x1024x128 .f32) (halloca_14_r0 : alloca_14_r0.IsWhole) (v19_r0 : DmaSems sig S4) (alloca_15_r0 : Memref sig .tc .vmem S4x1024x128 .f32) (halloca_15_r0 : alloca_15_r0.IsWhole) (v20_r0 : DmaSems sig S4) (alloca_r1 : Memref sig .tc .vmem S4x1024x128 .f32) (halloca_r1 : alloca_r1.IsWhole) (v17_r1 : DmaSems sig S4) (alloca_13_r1 : Memref sig .tc .vmem S4x1024x128 .f32) (halloca_13_r1 : alloca_13_r1.IsWhole) (v18_r1 : DmaSems sig S4) (alloca_14_r1 : Memref sig .tc .vmem S2x1024x128 .f32) (halloca_14_r1 : alloca_14_r1.IsWhole) (v19_r1 : DmaSems sig S2) (alloca_15_r1 : Memref sig .tc .vmem S2x1024x128 .f32) (halloca_15_r1 : alloca_15_r1.IsWhole) (v20_r1 : DmaSems sig S2)
variable (PA AA GA : ℕ → ℕ → Elt F .f32)

/-- What the body owns at the start of trip `k` of the second loop. -/
def I2 (k : ℕ) (acc : BitVec 32 × BitVec 32 × BitVec 32 × BitVec 32 × BitVec 32 × BitVec 32 × BitVec 32 × BitVec 32 × BitVec 32) : sProp 𝕄 :=
  iprop(⌜acc = st2 k⌝ ∗ stream c arg2 alloca_r1 v17_r1 0 GA k ∗ stream c arg2 alloca_13_r1 v18_r1 1 GA k
    ∗ outflow c arg3 alloca_14_r1 v19_r1 0 (norm PA AA) k ∗ outflow c arg3 alloca_15_r1 v20_r1 1 (norm PA AA) k
    ∗ filled c arg5 (prob PA AA) 98 ∗ own c arg7 Finset.univ (best PA AA GA (2 * k)).1 ∗ own c arg8 Finset.univ (best PA AA GA (2 * k)).2
    ∗ (∃ W, owes (c : Thread nD τ) 0 W))

theorem best_even (k : Fin k0_t2_loop.trips) (x : S1x128.Idx) :
    k0_pay18 (k0_pay14 (inv PA AA) (Scalar.addi (w32 k) 0#32) (came GA (2 * (k : ℕ) + 0)) (pBlk PA AA (2 * k))) (best PA AA GA (2 * k)).1 (best PA AA GA (2 * k)).1 x
      = (best PA AA GA (2 * (k : ℕ) + 1)).1 x := by
  rw [even_best (hw := word_even k)]; rfl

theorem idx_even (k : Fin k0_t2_loop.trips) (x : S1x128.Idx) :
    k0_pay17 (Scalar.muli 2#32 (Scalar.addi (w32 k) 0#32)) (k0_pay14 (inv PA AA) (Scalar.addi (w32 k) 0#32) (came GA (2 * (k : ℕ) + 0)) (pBlk PA AA (2 * k)))
        (k0_pay15 (inv PA AA) (Scalar.addi (w32 k) 0#32) (came GA (2 * (k : ℕ) + 0)) (pBlk PA AA (2 * k))) (best PA AA GA (2 * k)).1 (best PA AA GA (2 * k)).2 x
      = (best PA AA GA (2 * (k : ℕ) + 1)).2 x := by
  rw [even_idx (hw := word_even k)]; rfl

theorem best_odd (k : Fin k0_t2_loop.trips) (x : S1x128.Idx) :
    k0_pay26 rowNo (k0_pay21 (inv PA AA) (came GA (2 * (k : ℕ) + 1)) (pBlk PA AA (2 * k + 1))) (Scalar.muli (Scalar.addi (Scalar.muli 2#32 (Scalar.addi (w32 k) 0#32)) 1#32) 1024#32) 100000#32
        (best PA AA GA (2 * (k : ℕ) + 1)).1 (best PA AA GA (2 * (k : ℕ) + 1)).1 x
      = (best PA AA GA (2 * ((k : ℕ) + 1))).1 x := by
  rw [word_odd]; rfl

theorem idx_odd (k : Fin k0_t2_loop.trips) (x : S1x128.Idx) :
    k0_pay25 rowNo (Scalar.addi (Scalar.muli 2#32 (Scalar.addi (w32 k) 0#32)) 1#32) (k0_pay21 (inv PA AA) (came GA (2 * (k : ℕ) + 1)) (pBlk PA AA (2 * k + 1))) (Scalar.muli (Scalar.addi (Scalar.muli 2#32 (Scalar.addi (w32 k) 0#32)) 1#32) 1024#32) 100000#32
        (best PA AA GA (2 * (k : ℕ) + 1)).1 (best PA AA GA (2 * (k : ℕ) + 1)).2 x
      = (best PA AA GA (2 * ((k : ℕ) + 1))).2 x := by
  rw [word_odd]; rfl

set_option maxHeartbeats 4000000 in
theorem trip2 (x1 x2 x3 x4 x5 : BitVec 32) (x6 : BitVec 1) (k : Fin k0_t2_loop.trips) :
    (I2 c arg2 arg3 arg5 arg7 arg8 alloca_r1 v17_r1 alloca_13_r1 v18_r1 alloca_14_r1 v19_r1 alloca_15_r1 v20_r1 PA AA GA k (st2 k) : sProp 𝕄)
      ⊢ wp frame (wpE defs 𝒱 (c : Thread nD τ) bd) Set.univ (k0_t2_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 (inv PA AA) x1 x2 x3 x4 x5 x6 k (st2 k))
        (fun acc => I2 c arg2 arg3 arg5 arg7 arg8 alloca_r1 v17_r1 alloca_13_r1 v18_r1 alloca_14_r1 v19_r1 alloca_15_r1 v20_r1 PA AA GA (k + 1) acc) := by
  have hk : (k : ℕ) < 49 := k.isLt
  have hm : (k : ℕ) % 49 = k := Nat.mod_eq_of_lt hk
  unfold I2
  iintro ⟨%_, T0, T1, V0, V1, P, M, N, O⟩
  ihave T0 := (stream_parts c _ _ _ _ _ _) $$ T0
  icases T0 with ⟨a0, b0, c0, s0, h0⟩
  ihave T1 := (stream_parts c _ _ _ _ _ _) $$ T1
  icases T1 with ⟨a1, b1, c1, s1, h1⟩
  ihave V0 := (outflow_parts c _ _ _ _ _ _) $$ V0
  icases V0 with ⟨l0, ⟨f0, z0⟩, t0, e0⟩
  ihave V1 := (outflow_parts c _ _ _ _ _ _) $$ V1
  icases V1 with ⟨l1, ⟨f1, z1⟩, t1, e1⟩
  unfold k0_t2_body st2
  rw [hm]
  iapply (step_bind 𝒱 c bd)
  rw [k0_part8_eq_skeleton]
  unfold k0_part8_skel
  iapply (step_assume 𝒱 c bd (chk10_ok k))
  iapply (step_assume 𝒱 c bd (chk9_ok k))
  iapply (step_assume 𝒱 c bd (chk8_ok k))
  iapply (step_assume 𝒱 c bd (chk7_ok k))
  iapply (step_assume 𝒱 c bd (chk6_ok k))
  iapply (step_done 𝒱 c bd)
  iapply (step_bind 𝒱 c bd)
  rw [k0_part9_eq_skeleton]
  unfold k0_part9_skel
  iapply (step_maybe 𝒱 c bd iprop(spare c alloca_r1 v17_r1 0 GA (k + 3) ∗ home c arg2 0 GA k (k + 3))
    iprop(coming c arg2 alloca_r1 v17_r1 0 GA (k + 3) ∗ home c arg2 0 GA k (k + 3 + 1))
    (fun h => step_send 𝒱 c bd (by decide) GA k (k + 3) (by omega) ((cond29_iff k).1 h) (off71_eq k ((cond29_iff k).1 h)) rfl
      (congrArg Prod.fst (off72_eq k ((cond29_iff k).1 h))) (congrArg Prod.snd (off72_eq k ((cond29_iff k).1 h)))
      (congrArg Prod.fst (off73_eq k ((cond29_iff k).1 h))) (congrArg Prod.snd (off73_eq k ((cond29_iff k).1 h))))
    (fun h => dry c arg2 alloca_r1 v17_r1 0 GA k (fun h' => h ((cond29_iff k).2 h')))) $$ [s0 h0]
  · isplitl [s0]
    · iexact s0
    · iexact h0
  iintro ⟨d0, h0⟩
  iapply (step_maybe 𝒱 c bd iprop(spare c alloca_13_r1 v18_r1 1 GA (k + 3) ∗ home c arg2 1 GA k (k + 3))
    iprop(coming c arg2 alloca_13_r1 v18_r1 1 GA (k + 3) ∗ home c arg2 1 GA k (k + 3 + 1))
    (fun h => step_send 𝒱 c bd (by decide) GA k (k + 3) (by omega) ((cond30_iff k).1 h) (off74_eq k ((cond30_iff k).1 h)) rfl
      (congrArg Prod.fst (off75_eq k ((cond30_iff k).1 h))) (congrArg Prod.snd (off75_eq k ((cond30_iff k).1 h)))
      (congrArg Prod.fst (off76_eq k ((cond30_iff k).1 h))) (congrArg Prod.snd (off76_eq k ((cond30_iff k).1 h))))
    (fun h => dry c arg2 alloca_13_r1 v18_r1 1 GA k (fun h' => h ((cond30_iff k).2 h')))) $$ [s1 h1]
  · isplitl [s1]
    · iexact s1
    · iexact h1
  iintro ⟨d1, h1⟩
  iapply (step_done 𝒱 c bd)
  iapply (step_bind 𝒱 c bd)
  rw [k0_part10_eq_skeleton]
  unfold k0_part10_skel
  iapply (step_yes 𝒱 c bd (cond31_yes k))
  iapply (step_come 𝒱 c bd 0 GA k hk (off77_eq k) rfl (sz24_eq k)) $$ [a0 O]
  · isplitl [a0]
    · iexact a0
    · iexact O
  iintro ⟨a0, a0s, O⟩
  unfold back
  icases a0 with ⟨a0, a0r⟩
  iapply (step_yes 𝒱 c bd (cond32_yes k))
  iapply (step_come 𝒱 c bd 1 GA k hk (off80_eq k) rfl (sz25_eq k)) $$ [a1 O]
  · isplitl [a1]
    · iexact a1
    · iexact O
  iintro ⟨a1, a1s, O⟩
  unfold back
  icases a1 with ⟨a1, a1r⟩
  iapply (step_either 𝒱 c bd)
  iapply (step_done 𝒱 c bd)
  iapply (step_bind 𝒱 c bd)
  rw [k0_part11_eq_skeleton]
  unfold k0_part11_skel
  iapply (step_either 𝒱 c bd)
  iapply (step_read 𝒱 c bd k (2 * k + 0) GA (off83_eq k)) $$ a0
  iintro a0
  iapply (step_loadBlock 𝒱 c bd (prob PA AA) 98 (2 * k) (off84_eq k)) $$ P
  iintro %p %hp P
  have hp := (hp (by omega)).trans (funext (prob_blk PA AA (2 * k)))
  subst hp
  iapply (step_peek 𝒱 c bd k (off85_eq k)) $$ f0
  iintro %_ f0
  iapply (step_fill 𝒱 c bd k (off85_eq k)) $$ f0
  iintro f0
  iapply (step_done 𝒱 c bd)
  iapply (step_bind 𝒱 c bd)
  rw [k0_part12_eq_skeleton]
  unfold k0_part12_skel
  iapply (step_get 𝒱 c bd (best PA AA GA (2 * k)).1) $$ M
  iintro M
  iapply (step_get 𝒱 c bd (best PA AA GA (2 * k)).2) $$ N
  iintro N
  iapply (step_get 𝒱 c bd (best PA AA GA (2 * k)).2) $$ N
  iintro N
  iapply (step_set 𝒱 c bd) $$ N
  iintro N
  ihave N := (own_congr (fun x _ => idx_even PA AA GA k x)) $$ N
  iapply (step_get 𝒱 c bd (best PA AA GA (2 * k)).1) $$ M
  iintro M
  iapply (step_get 𝒱 c bd (best PA AA GA (2 * k)).1) $$ M
  iintro M
  iapply (step_set 𝒱 c bd) $$ M
  iintro M
  ihave M := (own_congr (fun x _ => best_even PA AA GA k x)) $$ M
  iapply (step_read 𝒱 c bd k (2 * k + 1) GA (off86_eq k)) $$ a1
  iintro a1
  iapply (step_loadBlock 𝒱 c bd (prob PA AA) 98 (2 * k + 1) (off87_eq k)) $$ P
  iintro %p %hp P
  have hp := (hp (by omega)).trans (funext (prob_blk PA AA (2 * k + 1)))
  subst hp
  iapply (step_peek 𝒱 c bd k (off88_eq k)) $$ f1
  iintro %_ f1
  iapply (step_fill 𝒱 c bd k (off88_eq k)) $$ f1
  iintro f1
  iapply (step_done 𝒱 c bd)
  iapply (step_bind 𝒱 c bd)
  rw [k0_part13_eq_skeleton]
  unfold k0_part13_skel
  iapply (step_get 𝒱 c bd (best PA AA GA (2 * k + 1)).1) $$ M
  iintro M
  iapply (step_get 𝒱 c bd (best PA AA GA (2 * k + 1)).2) $$ N
  iintro N
  iapply (step_get 𝒱 c bd (best PA AA GA (2 * k + 1)).2) $$ N
  iintro N
  iapply (step_set 𝒱 c bd) $$ N
  iintro N
  ihave N := (own_congr (fun x _ => idx_odd PA AA GA k x)) $$ N
  iapply (step_get 𝒱 c bd (best PA AA GA (2 * k + 1)).1) $$ M
  iintro M
  iapply (step_get 𝒱 c bd (best PA AA GA (2 * k + 1)).1) $$ M
  iintro M
  iapply (step_set 𝒱 c bd) $$ M
  iintro M
  ihave M := (own_congr (fun x _ => best_odd PA AA GA k x)) $$ M
  iapply (step_either 𝒱 c bd)
  iapply (step_done 𝒱 c bd)
  iapply (step_bind 𝒱 c bd)
  rw [k0_part14_eq_skeleton]
  unfold k0_part14_skel
  iapply (step_either 𝒱 c bd)
  iapply (step_yes 𝒱 c bd (cond37_yes k))
  iapply (step_leave 𝒱 c bd (by decide) (norm PA AA) k (fun y => k0_pay12 (inv PA AA) (pBlk PA AA (2 * (k : ℕ) + 0)) (planeIx y))
    (fun y _ _ => (norm_blk PA AA (2 * (k : ℕ) + 0) y).symm) (off89_eq k) rfl
    (congrArg Prod.fst (off91_eq k)) (congrArg Prod.snd (off91_eq k)) (congrArg Prod.fst (off90_eq k)) (congrArg Prod.snd (off90_eq k))) $$ [f0 z0 t0]
  · isplitl [f0]
    · iexact f0
    · isplitl [z0]
      · iexact z0
      · iexact t0
  iintro ⟨g0, t0⟩
  iapply (step_yes 𝒱 c bd (cond38_yes k))
  iapply (step_leave 𝒱 c bd (by decide) (norm PA AA) k (fun y => k0_pay12 (inv PA AA) (pBlk PA AA (2 * (k : ℕ) + 1)) (planeIx y))
    (fun y _ _ => (norm_blk PA AA (2 * (k : ℕ) + 1) y).symm) (off92_eq k) rfl
    (congrArg Prod.fst (off94_eq k)) (congrArg Prod.snd (off94_eq k)) (congrArg Prod.fst (off93_eq k)) (congrArg Prod.snd (off93_eq k))) $$ [f1 z1 t1]
  · isplitl [f1]
    · iexact f1
    · isplitl [z1]
      · iexact z1
      · iexact t1
  iintro ⟨g1, t1⟩
  iapply (step_either 𝒱 c bd)
  iapply (step_either 𝒱 c bd)
  iapply (step_maybe 𝒱 c bd iprop(leaving c arg3 alloca_14_r1 v19_r1 0 (norm PA AA) k ∗ done c arg3 0 (norm PA AA) (k - 1) ∗ (∃ W, owes (c : Thread nD τ) 0 W))
    iprop((idle c alloca_14_r1 v19_r1 (k + 1) ∗ done c arg3 0 (norm PA AA) k) ∗ (∃ W, owes (c : Thread nD τ) 0 W))
    (fun h => step_past 𝒱 c bd (by decide) (norm PA AA) k ((cond41_iff k).1 h) (off95_eq k ((cond41_iff k).1 h)) rfl (congrArg Prod.snd (off96_eq k ((cond41_iff k).1 h))))
    (fun h => fresh c arg3 alloca_14_r1 v19_r1 0 (norm PA AA) k (fun h' => h ((cond41_iff k).2 h')))) $$ [l0 e0 O]
  · isplitl [l0]
    · iexact l0
    · isplitl [e0]
      · iexact e0
      · iexact O
  iintro ⟨⟨l0, e0⟩, O⟩
  iapply (step_done 𝒱 c bd)
  iapply (step_maybe 𝒱 c bd iprop(leaving c arg3 alloca_15_r1 v20_r1 1 (norm PA AA) k ∗ done c arg3 1 (norm PA AA) (k - 1) ∗ (∃ W, owes (c : Thread nD τ) 0 W))
    iprop((idle c alloca_15_r1 v20_r1 (k + 1) ∗ done c arg3 1 (norm PA AA) k) ∗ (∃ W, owes (c : Thread nD τ) 0 W))
    (fun h => step_past 𝒱 c bd (by decide) (norm PA AA) k ((cond42_iff k).1 h) (off98_eq k ((cond42_iff k).1 h)) rfl (congrArg Prod.snd (off99_eq k ((cond42_iff k).1 h))))
    (fun h => fresh c arg3 alloca_15_r1 v20_r1 1 (norm PA AA) k (fun h' => h ((cond42_iff k).2 h')))) $$ [l1 e1 O]
  · isplitl [l1]
    · iexact l1
    · isplitl [e1]
      · iexact e1
      · iexact O
  iintro ⟨⟨l1, e1⟩, O⟩
  iapply (step_done 𝒱 c bd)
  isplitr
  · ipureintro
    clear * - k
    simp only [Prod.mk.injEq]
    refine ⟨?_, ?_, ?_, ?_, ?_, ?_, ?_, ?_, ?_⟩ <;> (revert k; decide +kernel)
  isplitl [a0 a0r a0s b0 c0 d0 h0]
  · iapply (stream_next c arg2 alloca_r1 v17_r1 0 (by decide) GA k)
    isplitl [a0 a0r a0s]
    · isplitl [a0]
      · iexact a0
      · isplitl [a0r]
        · iexact a0r
        · iexact a0s
    · isplitl [b0]
      · iexact b0
      · isplitl [c0]
        · iexact c0
        · isplitl [d0]
          · iexact d0
          · iexact h0
  isplitl [a1 a1r a1s b1 c1 d1 h1]
  · iapply (stream_next c arg2 alloca_13_r1 v18_r1 1 (by decide) GA k)
    isplitl [a1 a1r a1s]
    · isplitl [a1]
      · iexact a1
      · isplitl [a1r]
        · iexact a1r
        · iexact a1s
    · isplitl [b1]
      · iexact b1
      · isplitl [c1]
        · iexact c1
        · isplitl [d1]
          · iexact d1
          · iexact h1
  isplitl [g0 l0 t0 e0]
  · iapply (outflow_next c arg3 alloca_14_r1 v19_r1 0 (norm PA AA) k)
    isplitl [g0]
    · iexact g0
    · isplitl [l0]
      · iexact l0
      · isplitl [t0]
        · iexact t0
        · iexact e0
  isplitl [g1 l1 t1 e1]
  · iapply (outflow_next c arg3 alloca_15_r1 v20_r1 1 (norm PA AA) k)
    isplitl [g1]
    · iexact g1
    · isplitl [l1]
      · iexact l1
      · isplitl [t1]
        · iexact t1
        · iexact e1
  isplitl [P]
  · iexact P
  isplitl [M]
  · iexact M
  isplitl [N]
  · iexact N
  · iexact O

end Cert.KernelIdeal.Policy
-- ==== Proof.Body.lean ====
/-
  The kernel's body as a whole: the sums set to zero, the streams of the first loop started, the loop, the
  sums inverted, the second loop's streams started, the loop, the last two blocks waited for, and the rows of
  the best scores stored as the second result.
-/
module

public import proofs.«01_k».proof.Proof.Trip2

@[expose] public section

set_option maxRecDepth 100000
set_option pp.maxSteps 100

noncomputable section

namespace Cert.KernelIdeal.Policy

open Idealize.ShloMosaic Idealize.ShloMosaic.Transfers Cert.KernelIdeal Cert.KernelIdeal.Gen Cert.Policy
open TcCoe
open Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F] {U : Type} [URA U] [CountersIn U]
variable [((countersEmb : UEmb Counters (MT nD τ sig Unit (Elt F) ℕ U ℕ))).LandsIn upEmb]
variable {defs : Defs nD τ sig (Elt F) Λ₀} (𝒱 : Variants) (c : Dev nD) (bd : Option 𝒱.V)

local notation "𝕄" => MT nD τ sig Unit (Elt F) ℕ U ℕ

/-- A ring of four slots and its semaphores, at rest. -/
def rest4 (ring : Memref sig .tc .vmem (RingS 4) .f32) (v : DmaSems sig (LineS 4)) : sProp 𝕄 :=
  iprop(idle c ring v 0 ∗ idle c ring v 1 ∗ idle c ring v 2 ∗ idle c ring v 3)

/-- A ring of two slots and its semaphores, at rest. -/
def rest2 (ring : Memref sig .tc .vmem (RingS 2) .f32) (v : DmaSems sig (LineS 2)) : sProp 𝕄 :=
  iprop(idle c ring v 0 ∗ idle c ring v 1)

/-- A ring at rest has four slots to spare. -/
theorem spares (ring : Memref sig .tc .vmem (RingS 4) .f32) (v : DmaSems sig (LineS 4)) (p : ℕ) (A : ℕ → ℕ → Elt F .f32) :
    (rest4 c ring v : sProp 𝕄) ⊢ iprop(spare c ring v p A 0 ∗ spare c ring v p A 1 ∗ spare c ring v p A 2 ∗ spare c ring v p A 3) := by
  unfold rest4
  iintro ⟨A, B, C, D⟩
  isplitl [A]
  · iapply (spare_of_idle c ring v p A (by decide : 0 < 4)) $$ A
  · isplitl [B]
    · iapply (spare_of_idle c ring v p A (by decide : 1 < 4)) $$ B
    · isplitl [C]
      · iapply (spare_of_idle c ring v p A (by decide : 2 < 4)) $$ C
      · iapply (spare_of_idle c ring v p A (by decide : 3 < 4)) $$ D

/-- A slot to spare is at rest. -/
theorem idle_at (ring : Memref sig .tc .vmem (RingS 4) .f32) (v : DmaSems sig (LineS 4)) (p : ℕ) (A : ℕ → ℕ → Elt F .f32) {i j : ℕ} (h : j % 4 = i % 4) :
    (spare c ring v p A j : sProp 𝕄) ⊢ idle c ring v i :=
  (idle_of_spare c ring v p A j).trans (Entails.of_eq (idle_congr c ring v h))

/-- After the last trip a stream is at rest and all its rows are home. -/
theorem stream_end (arr : Memref sig .tc .hbm (ArrS 100000) .f32) (ring : Memref sig .tc .vmem (RingS 4) .f32)
    (v : DmaSems sig (LineS 4)) (p : ℕ) (A : ℕ → ℕ → Elt F .f32) :
    (stream c arr ring v p A 49 : sProp 𝕄) ⊢ iprop(rest4 c ring v ∗ home c arr p A 49 52) := by
  unfold stream rest4
  rw [coming_of_ge c arr ring v p A (by decide : 49 ≤ 49), coming_of_ge c arr ring v p A (by decide : 49 ≤ 49 + 1),
    coming_of_ge c arr ring v p A (by decide : 49 ≤ 49 + 2)]
  iintro ⟨A, B, C, D, E⟩
  isplitr [E]
  · isplitl [D]
    · iapply (idle_at c ring v p A (i := 0) (j := 52) (by decide)) $$ D
    · isplitl [A]
      · iapply (idle_at c ring v p A (i := 1) (j := 49) (by decide)) $$ A
      · isplitl [B]
        · iapply (idle_at c ring v p A (i := 2) (j := 50) (by decide)) $$ B
        · iapply (idle_at c ring v p A (i := 3) (j := 51) (by decide)) $$ C
  · iexact E

/-- A stream at its start. -/
theorem stream_start (arr : Memref sig .tc .hbm (ArrS 100000) .f32) (ring : Memref sig .tc .vmem (RingS 4) .f32)
    (v : DmaSems sig (LineS 4)) (p : ℕ) (A : ℕ → ℕ → Elt F .f32) :
    iprop(coming c arr ring v p A 0 ∗ coming c arr ring v p A 1 ∗ coming c arr ring v p A 2 ∗ spare c ring v p A 3 ∗ home c arr p A 0 3)
      ⊢ (stream c arr ring v p A 0 : sProp 𝕄) := Entails.of_eq rfl

/-- An outgoing stream at its start. -/
theorem outflow_start (arr : Memref sig .tc .hbm (ArrS 100000) .f32) (ring : Memref sig .tc .vmem (RingS 2) .f32)
    (v : DmaSems sig (LineS 2)) (p : ℕ) (A : ℕ → ℕ → Elt F .f32) :
    iprop(rest2 c ring v ∗ todo c arr p 0 ∗ done c arr p A 0) ⊢ (outflow c arr ring v p A 0 : sProp 𝕄) := by
  unfold rest2 outflow
  rw [leaving_zero]
  iintro ⟨⟨A, B⟩, T, D⟩
  isplitl [B]
  · iexact B
  · isplitl [A]
    · iexact A
    · isplitl [T]
      · iexact T
      · iexact D

/-- An outgoing stream after its last trip: the last block under way. -/
theorem outflow_end (arr : Memref sig .tc .hbm (ArrS 100000) .f32) (ring : Memref sig .tc .vmem (RingS 2) .f32)
    (v : DmaSems sig (LineS 2)) (p : ℕ) (A : ℕ → ℕ → Elt F .f32) :
    (outflow c arr ring v p A 49 : sProp 𝕄) ⊢ iprop(going c arr ring v p A 48 ∗ idle c ring v 1 ∗ done c arr p A 48) := by
  unfold outflow
  rw [leaving_succ, idle_congr c ring v (show 49 % 2 = 1 % 2 by decide)]
  iintro ⟨A, B, T, D⟩
  iclear T
  isplitl [A]
  · iexact A
  · isplitl [B]
    · iexact B
    · iexact D

/-- Nothing of the scratch array is filled yet. -/
theorem filled_zero {R : ℕ} (m : Memref sig .tc .vmem (ArrS R) .f32) (P : ℕ → ℕ → Elt F .f32) (w : (ArrS R).Idx → Elt F .f32) :
    (own c m Finset.univ w : sProp 𝕄) ⊢ filled c m P (2 * 0) := by
  unfold filled
  iintro H
  iexists w
  isplitr
  · ipureintro
    intro x hx
    exact absurd hx (by omega)
  · iexact H

variable (arg0 : Memref sig .tc .hbm S100000x128 .f32) (harg0 : arg0.IsWhole) (arg1 : Memref sig .tc .hbm S100000x128 .f32) (harg1 : arg1.IsWhole) (arg2 : Memref sig .tc .hbm S100000x128 .f32) (harg2 : arg2.IsWhole) (arg3 : Memref sig .tc .hbm S100000x128 .f32) (harg3 : arg3.IsWhole) (arg4 : Memref sig .tc .vmem S1x128 .i32) (harg4 : arg4.IsWhole) (arg5 : Memref sig .tc .vmem S100352x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .i32) (harg8 : arg8.IsWhole) (alloca_r0 : Memref sig .tc .vmem S4x1024x128 .f32) (halloca_r0 : alloca_r0.IsWhole) (v17_r0 : DmaSems sig S4) (alloca_13_r0 : Memref sig .tc .vmem S4x1024x128 .f32) (halloca_13_r0 : alloca_13_r0.IsWhole) (v18_r0 : DmaSems sig S4) (alloca_14_r0 : Memref sig .tc .vmem S4x1024x128 .f32) (halloca_14_r0 : alloca_14_r0.IsWhole) (v19_r0 : DmaSems sig S4) (alloca_15_r0 : Memref sig .tc .vmem S4x1024x128 .f32) (halloca_15_r0 : alloca_15_r0.IsWhole) (v20_r0 : DmaSems sig S4) (alloca_r1 : Memref sig .tc .vmem S4x1024x128 .f32) (halloca_r1 : alloca_r1.IsWhole) (v17_r1 : DmaSems sig S4) (alloca_13_r1 : Memref sig .tc .vmem S4x1024x128 .f32) (halloca_13_r1 : alloca_13_r1.IsWhole) (v18_r1 : DmaSems sig S4) (alloca_14_r1 : Memref sig .tc .vmem S2x1024x128 .f32) (halloca_14_r1 : alloca_14_r1.IsWhole) (v19_r1 : DmaSems sig S2) (alloca_15_r1 : Memref sig .tc .vmem S2x1024x128 .f32) (halloca_15_r1 : alloca_15_r1.IsWhole) (v20_r1 : DmaSems sig S2)
variable (PA AA GA : ℕ → ℕ → Elt F .f32)

/-- The first loop, from its start to its end. -/
theorem loop1 {α : Type} {Q : α → sProp 𝕄} (x1 x2 x3 x4 x5 x6 : BitVec 32) (x7 x8 : BitVec 1) (init : BitVec 32 × BitVec 32 × BitVec 32 × BitVec 32 × BitVec 32 × BitVec 32 × BitVec 32 × BitVec 32 × BitVec 32)
    {kk : BitVec 32 × BitVec 32 × BitVec 32 × BitVec 32 × BitVec 32 × BitVec 32 × BitVec 32 × BitVec 32 × BitVec 32 → Prog (TpuEff nD τ sig (Elt F) Λ₀ .tc) α} :
    (I1 c arg0 arg1 arg5 arg6 alloca_r0 v17_r0 alloca_13_r0 v18_r0 alloca_14_r0 v19_r0 alloca_15_r0 v20_r0 PA AA 0 init : sProp 𝕄)
      ⊢ iprop((I1 c arg0 arg1 arg5 arg6 alloca_r0 v17_r0 alloca_13_r0 v18_r0 alloca_14_r0 v19_r0 alloca_15_r0 v20_r0 PA AA 49 (st1 49) -∗ wp frame (wpE defs 𝒱 (c : Thread nD τ) bd) Set.univ (kk (st1 49)) Q)
        -∗ wp frame (wpE defs 𝒱 (c : Thread nD τ) bd) Set.univ
          (Scf.Loop.for k0_t1_loop k0_t1_ok init (k0_t1_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 x1 x2 x3 x4 x5 x6 x7 x8) >>= kk) Q) := by
  iintro H Hk
  iapply (Scf.wp_for_bind frame (wpE defs 𝒱 (c : Thread nD τ) bd) Set.univ _ _ _ k0_t1_ok init
    (k0_t1_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 x1 x2 x3 x4 x5 x6 x7 x8) (I1 c arg0 arg1 arg5 arg6 alloca_r0 v17_r0 alloca_13_r0 v18_r0 alloca_14_r0 v19_r0 alloca_15_r0 v20_r0 PA AA) (fun k acc => by
      by_cases h : acc = st1 k
      · subst h
        exact trip1 𝒱 c bd arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 PA AA x1 x2 x3 x4 x5 x6 x7 x8 k
      · unfold I1
        iintro ⟨%hh, H⟩
        exact absurd hh h)) $$ H
  iintro %acc H
  have ht : Scf.trips k0_t1_loop.lb k0_t1_loop.ub k0_t1_loop.st = 49 := by decide +kernel
  rw [ht]
  unfold I1
  icases H with ⟨%hacc, H⟩
  subst hacc
  iapply Hk
  isplitr
  · ipureintro; rfl
  · iexact H

/-- The second loop, from its start to its end. -/
theorem loop2 {α : Type} {Q : α → sProp 𝕄} (x1 x2 x3 x4 x5 : BitVec 32) (x6 : BitVec 1) (init : BitVec 32 × BitVec 32 × BitVec 32 × BitVec 32 × BitVec 32 × BitVec 32 × BitVec 32 × BitVec 32 × BitVec 32)
    {kk : BitVec 32 × BitVec 32 × BitVec 32 × BitVec 32 × BitVec 32 × BitVec 32 × BitVec 32 × BitVec 32 × BitVec 32 → Prog (TpuEff nD τ sig (Elt F) Λ₀ .tc) α} :
    (I2 c arg2 arg3 arg5 arg7 arg8 alloca_r1 v17_r1 alloca_13_r1 v18_r1 alloca_14_r1 v19_r1 alloca_15_r1 v20_r1 PA AA GA 0 init : sProp 𝕄)
      ⊢ iprop((I2 c arg2 arg3 arg5 arg7 arg8 alloca_r1 v17_r1 alloca_13_r1 v18_r1 alloca_14_r1 v19_r1 alloca_15_r1 v20_r1 PA AA GA 49 (st2 49) -∗ wp frame (wpE defs 𝒱 (c : Thread nD τ) bd) Set.univ (kk (st2 49)) Q)
        -∗ wp frame (wpE defs 𝒱 (c : Thread nD τ) bd) Set.univ
          (Scf.Loop.for k0_t2_loop k0_t2_ok init (k0_t2_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 (inv PA AA) x1 x2 x3 x4 x5 x6) >>= kk) Q) := by
  iintro H Hk
  iapply (Scf.wp_for_bind frame (wpE defs 𝒱 (c : Thread nD τ) bd) Set.univ _ _ _ k0_t2_ok init
    (k0_t2_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 (inv PA AA) x1 x2 x3 x4 x5 x6) (I2 c arg2 arg3 arg5 arg7 arg8 alloca_r1 v17_r1 alloca_13_r1 v18_r1 alloca_14_r1 v19_r1 alloca_15_r1 v20_r1 PA AA GA) (fun k acc => by
      by_cases h : acc = st2 k
      · subst h
        exact trip2 𝒱 c bd arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 PA AA GA x1 x2 x3 x4 x5 x6 k
      · unfold I2
        iintro ⟨%hh, H⟩
        exact absurd hh h)) $$ H
  iintro %acc H
  have ht : Scf.trips k0_t2_loop.lb k0_t2_loop.ub k0_t2_loop.st = 49 := by decide +kernel
  rw [ht]
  unfold I2
  icases H with ⟨%hacc, H⟩
  subst hacc
  iapply Hk
  isplitr
  · ipureintro; rfl
  · iexact H

/-- The scratch memory of the body: four arrays whatever they hold, and the eight rings at rest. -/
def scratch : sProp 𝕄 :=
  iprop((∃ w, own c arg5 Finset.univ w) ∗ (∃ w, own c arg6 Finset.univ w) ∗ (∃ w, own c arg7 Finset.univ w) ∗ (∃ w, own c arg8 Finset.univ w)
    ∗ rest4 c alloca_r0 v17_r0 ∗ rest4 c alloca_13_r0 v18_r0 ∗ rest4 c alloca_14_r0 v19_r0 ∗ rest4 c alloca_15_r0 v20_r0 ∗ rest4 c alloca_r1 v17_r1 ∗ rest4 c alloca_13_r1 v18_r1 ∗ rest2 c alloca_14_r1 v19_r1 ∗ rest2 c alloca_15_r1 v20_r1)

set_option maxHeartbeats 4000000 in
/-- What the whole body does. -/
theorem body_wp :
    (iprop((rows c arg0 Finset.univ PA ∗ rows c arg1 Finset.univ AA ∗ rows c arg2 Finset.univ GA)
        ∗ (∃ w, own c arg3 Finset.univ w) ∗ (∃ w, own c arg4 Finset.univ w) ∗ scratch c arg5 arg6 arg7 arg8 alloca_r0 v17_r0 alloca_13_r0 v18_r0 alloca_14_r0 v19_r0 alloca_15_r0 v20_r0 alloca_r1 v17_r1 alloca_13_r1 v18_r1 alloca_14_r1 v19_r1 alloca_15_r1 v20_r1 ∗ (∃ W, owes (c : Thread nD τ) 0 W)) : sProp 𝕄)
      ⊢ wp frame (wpE defs 𝒱 (c : Thread nD τ) bd) Set.univ (cc0__ffpolicy_body (F := F) arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1)
        (fun _ => iprop((rows c arg0 Finset.univ PA ∗ rows c arg1 Finset.univ AA ∗ rows c arg2 Finset.univ GA)
          ∗ rows c arg3 Finset.univ (norm PA AA) ∗ own c arg4 Finset.univ (best PA AA GA 98).2 ∗ scratch c arg5 arg6 arg7 arg8 alloca_r0 v17_r0 alloca_13_r0 v18_r0 alloca_14_r0 v19_r0 alloca_15_r0 v20_r0 alloca_r1 v17_r1 alloca_13_r1 v18_r1 alloca_14_r1 v19_r1 alloca_15_r1 v20_r1
          ∗ (∃ W, owes (c : Thread nD τ) 0 W))) := by
  unfold scratch
  iintro ⟨⟨A0, A1, A2⟩, ⟨%w3, A3⟩, ⟨%w4, A4⟩, ⟨⟨%w5, P⟩, ⟨%w6, S⟩, ⟨%w7, M⟩, ⟨%w8, N⟩, R0, R1, R2, R3, R4, R5, R6, R7⟩, O⟩
  ihave A0 := (home_split c arg0 PA) $$ A0
  icases A0 with ⟨h0, h2⟩
  ihave A1 := (home_split c arg1 AA) $$ A1
  icases A1 with ⟨h1, h3⟩
  ihave A2 := (home_split c arg2 GA) $$ A2
  icases A2 with ⟨h4, h5⟩
  ihave A3 := (todo_split c arg3 (norm PA AA) w3) $$ A3
  icases A3 with ⟨⟨t6, e6⟩, ⟨t7, e7⟩⟩
  ihave R0 := (spares c alloca_r0 v17_r0 0 PA) $$ R0
  icases R0 with ⟨a0, b0, c0, d0⟩
  ihave R1 := (spares c alloca_13_r0 v18_r0 0 AA) $$ R1
  icases R1 with ⟨a1, b1, c1, d1⟩
  ihave R2 := (spares c alloca_14_r0 v19_r0 1 PA) $$ R2
  icases R2 with ⟨a2, b2, c2, d2⟩
  ihave R3 := (spares c alloca_15_r0 v20_r0 1 AA) $$ R3
  icases R3 with ⟨a3, b3, c3, d3⟩
  ihave R4 := (spares c alloca_r1 v17_r1 0 GA) $$ R4
  icases R4 with ⟨a4, b4, c4, d4⟩
  ihave R5 := (spares c alloca_13_r1 v18_r1 1 GA) $$ R5
  icases R5 with ⟨a5, b5, c5, d5⟩
  rw [cc0__ffpolicy_body_eq_skeleton]
  unfold cc0__ffpolicy_body_skel
  iapply (step_bind 𝒱 c bd)
  rw [k0_part15_eq_skeleton]
  unfold k0_part15_skel
  iapply (step_get 𝒱 c bd w6) $$ S
  iintro S
  iapply (step_set 𝒱 c bd) $$ S
  iintro S
  iapply (step_done 𝒱 c bd)
  iapply (step_bind 𝒱 c bd)
  rw [k0_part16_eq_skeleton]
  unfold k0_part16_skel
  iapply (step_send 𝒱 c bd (by decide : 0 < 2) PA 0 0 (by decide) (by decide) off1_at0_0 rfl
    (congrArg Prod.fst off2_at0_0) (congrArg Prod.snd off2_at0_0) (congrArg Prod.fst off3_at0_0) (congrArg Prod.snd off3_at0_0)) $$ [a0 h0]
  · isplitl [a0]
    · iexact a0
    · iexact h0
  iintro ⟨a0, h0⟩
  iapply (step_send 𝒱 c bd (by decide : 0 < 2) AA 0 0 (by decide) (by decide) off1_at0_0 rfl
    (congrArg Prod.fst off2_at0_0) (congrArg Prod.snd off2_at0_0) (congrArg Prod.fst off3_at0_0) (congrArg Prod.snd off3_at0_0)) $$ [a1 h1]
  · isplitl [a1]
    · iexact a1
    · iexact h1
  iintro ⟨a1, h1⟩
  iapply (step_send 𝒱 c bd (by decide : 1 < 2) PA 0 0 (by decide) (by decide) off1_at0_0 rfl
    (congrArg Prod.fst off2_at0_0) (congrArg Prod.snd off2_at0_0) (congrArg Prod.fst off4_at0_1) (congrArg Prod.snd off4_at0_1)) $$ [a2 h2]
  · isplitl [a2]
    · iexact a2
    · iexact h2
  iintro ⟨a2, h2⟩
  iapply (step_done 𝒱 c bd)
  iapply (step_bind 𝒱 c bd)
  rw [k0_part17_eq_skeleton]
  unfold k0_part17_skel
  iapply (step_send 𝒱 c bd (by decide : 1 < 2) AA 0 0 (by decide) (by decide) off1_at0_0 rfl
    (congrArg Prod.fst off2_at0_0) (congrArg Prod.snd off2_at0_0) (congrArg Prod.fst off4_at0_1) (congrArg Prod.snd off4_at0_1)) $$ [a3 h3]
  · isplitl [a3]
    · iexact a3
    · iexact h3
  iintro ⟨a3, h3⟩
  iapply (step_yes 𝒱 c bd cond1_yes)
  iapply (step_send 𝒱 c bd (by decide : 0 < 2) PA 0 1 (by decide) (by decide) off5_at1_0 rfl
    (congrArg Prod.fst off6_at1_0) (congrArg Prod.snd off6_at1_0) (congrArg Prod.fst off7_at1_0) (congrArg Prod.snd off7_at1_0)) $$ [b0 h0]
  · isplitl [b0]
    · iexact b0
    · iexact h0
  iintro ⟨b0, h0⟩
  iapply (step_yes 𝒱 c bd cond2_yes)
  iapply (step_send 𝒱 c bd (by decide : 0 < 2) AA 0 1 (by decide) (by decide) off8_at1_0 rfl
    (congrArg Prod.fst off9_at1_0) (congrArg Prod.snd off9_at1_0) (congrArg Prod.fst off10_at1_0) (congrArg Prod.snd off10_at1_0)) $$ [b1 h1]
  · isplitl [b1]
    · iexact b1
    · iexact h1
  iintro ⟨b1, h1⟩
  iapply (step_done 𝒱 c bd)
  iapply (step_bind 𝒱 c bd)
  rw [k0_part18_eq_skeleton]
  unfold k0_part18_skel
  iapply (step_yes 𝒱 c bd cond3_yes)
  iapply (step_send 𝒱 c bd (by decide : 1 < 2) PA 0 1 (by decide) (by decide) off11_at1_1 rfl
    (congrArg Prod.fst off12_at1_1) (congrArg Prod.snd off12_at1_1) (congrArg Prod.fst off13_at1_1) (congrArg Prod.snd off13_at1_1)) $$ [b2 h2]
  · isplitl [b2]
    · iexact b2
    · iexact h2
  iintro ⟨b2, h2⟩
  iapply (step_yes 𝒱 c bd cond4_yes)
  iapply (step_send 𝒱 c bd (by decide : 1 < 2) AA 0 1 (by decide) (by decide) off14_at1_1 rfl
    (congrArg Prod.fst off15_at1_1) (congrArg Prod.snd off15_at1_1) (congrArg Prod.fst off16_at1_1) (congrArg Prod.snd off16_at1_1)) $$ [b3 h3]
  · isplitl [b3]
    · iexact b3
    · iexact h3
  iintro ⟨b3, h3⟩
  iapply (step_yes 𝒱 c bd cond5_yes)
  iapply (step_send 𝒱 c bd (by decide : 0 < 2) PA 0 2 (by decide) (by decide) off17_at2_0 rfl
    (congrArg Prod.fst off18_at2_0) (congrArg Prod.snd off18_at2_0) (congrArg Prod.fst off19_at2_0) (congrArg Prod.snd off19_at2_0)) $$ [c0 h0]
  · isplitl [c0]
    · iexact c0
    · iexact h0
  iintro ⟨c0, h0⟩
  iapply (step_yes 𝒱 c bd cond6_yes)
  iapply (step_send 𝒱 c bd (by decide : 0 < 2) AA 0 2 (by decide) (by decide) off20_at2_0 rfl
    (congrArg Prod.fst off21_at2_0) (congrArg Prod.snd off21_at2_0) (congrArg Prod.fst off22_at2_0) (congrArg Prod.snd off22_at2_0)) $$ [c1 h1]
  · isplitl [c1]
    · iexact c1
    · iexact h1
  iintro ⟨c1, h1⟩
  iapply (step_done 𝒱 c bd)
  iapply (step_bind 𝒱 c bd)
  rw [k0_part19_eq_skeleton]
  unfold k0_part19_skel
  iapply (step_yes 𝒱 c bd cond7_yes)
  iapply (step_send 𝒱 c bd (by decide : 1 < 2) PA 0 2 (by decide) (by decide) off23_at2_1 rfl
    (congrArg Prod.fst off24_at2_1) (congrArg Prod.snd off24_at2_1) (congrArg Prod.fst off25_at2_1) (congrArg Prod.snd off25_at2_1)) $$ [c2 h2]
  · isplitl [c2]
    · iexact c2
    · iexact h2
  iintro ⟨c2, h2⟩
  iapply (step_yes 𝒱 c bd cond8_yes)
  iapply (step_send 𝒱 c bd (by decide : 1 < 2) AA 0 2 (by decide) (by decide) off26_at2_1 rfl
    (congrArg Prod.fst off27_at2_1) (congrArg Prod.snd off27_at2_1) (congrArg Prod.fst off28_at2_1) (congrArg Prod.snd off28_at2_1)) $$ [c3 h3]
  · isplitl [c3]
    · iexact c3
    · iexact h3
  iintro ⟨c3, h3⟩
  iapply (loop1 𝒱 c bd arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 PA AA _ _ _ _ _ _ _ _ _) $$ [a0 b0 c0 d0 h0 a1 b1 c1 d1 h1 a2 b2 c2 d2 h2 a3 b3 c3 d3 h3 P S O]
  · unfold I1
    isplitr
    · ipureintro
      clear * -
      simp only [st1, Prod.mk.injEq]
      repeat' apply And.intro
      all_goals decide +kernel
    isplitl [a0 b0 c0 d0 h0]
    · iapply (stream_start c arg0 alloca_r0 v17_r0 0 PA)
      isplitl [a0]
      · iexact a0
      · isplitl [b0]
        · iexact b0
        · isplitl [c0]
          · iexact c0
          · isplitl [d0]
            · iexact d0
            · iexact h0
    isplitl [a1 b1 c1 d1 h1]
    · iapply (stream_start c arg1 alloca_13_r0 v18_r0 0 AA)
      isplitl [a1]
      · iexact a1
      · isplitl [b1]
        · iexact b1
        · isplitl [c1]
          · iexact c1
          · isplitl [d1]
            · iexact d1
            · iexact h1
    isplitl [a2 b2 c2 d2 h2]
    · iapply (stream_start c arg0 alloca_14_r0 v19_r0 1 PA)
      isplitl [a2]
      · iexact a2
      · isplitl [b2]
        · iexact b2
        · isplitl [c2]
          · iexact c2
          · isplitl [d2]
            · iexact d2
            · iexact h2
    isplitl [a3 b3 c3 d3 h3]
    · iapply (stream_start c arg1 alloca_15_r0 v20_r0 1 AA)
      isplitl [a3]
      · iexact a3
      · isplitl [b3]
        · iexact b3
        · isplitl [c3]
          · iexact c3
          · isplitl [d3]
            · iexact d3
            · iexact h3
    isplitl [P]
    · iapply (filled_zero c arg5 (prob PA AA) w5) $$ P
    isplitl [S]
    · iexact S
    · iexact O
  iintro H
  unfold I1
  icases H with ⟨%_, T0, T1, T2, T3, P, S, O⟩
  ihave T0 := (stream_end c arg0 alloca_r0 v17_r0 0 PA) $$ T0
  icases T0 with ⟨R0, h0⟩
  ihave T1 := (stream_end c arg1 alloca_13_r0 v18_r0 0 AA) $$ T1
  icases T1 with ⟨R1, h1⟩
  ihave T2 := (stream_end c arg0 alloca_14_r0 v19_r0 1 PA) $$ T2
  icases T2 with ⟨R2, h2⟩
  ihave T3 := (stream_end c arg1 alloca_15_r0 v20_r0 1 AA) $$ T3
  icases T3 with ⟨R3, h3⟩
  iapply (step_done 𝒱 c bd)
  iapply (step_bind 𝒱 c bd)
  rw [k0_part20_eq_skeleton]
  unfold k0_part20_skel
  iapply (step_get 𝒱 c bd w7) $$ M
  iintro M
  iapply (step_set 𝒱 c bd) $$ M
  iintro M
  iapply (step_get 𝒱 c bd w8) $$ N
  iintro N
  iapply (step_set 𝒱 c bd) $$ N
  iintro N
  iapply (step_get 𝒱 c bd (sums PA AA 98)) $$ S
  iintro S
  iapply (step_done 𝒱 c bd)
  iapply (step_bind 𝒱 c bd)
  rw [k0_part21_eq_skeleton]
  unfold k0_part21_skel
  iapply (step_done 𝒱 c bd)
  iapply (step_bind 𝒱 c bd)
  rw [k0_part22_eq_skeleton]
  unfold k0_part22_skel
  iapply (step_send 𝒱 c bd (by decide : 0 < 2) GA 0 0 (by decide) (by decide) off1_at0_0 rfl
    (congrArg Prod.fst off2_at0_0) (congrArg Prod.snd off2_at0_0) (congrArg Prod.fst off3_at0_0) (congrArg Prod.snd off3_at0_0)) $$ [a4 h4]
  · isplitl [a4]
    · iexact a4
    · iexact h4
  iintro ⟨a4, h4⟩
  iapply (step_send 𝒱 c bd (by decide : 1 < 2) GA 0 0 (by decide) (by decide) off1_at0_0 rfl
    (congrArg Prod.fst off2_at0_0) (congrArg Prod.snd off2_at0_0) (congrArg Prod.fst off4_at0_1) (congrArg Prod.snd off4_at0_1)) $$ [a5 h5]
  · isplitl [a5]
    · iexact a5
    · iexact h5
  iintro ⟨a5, h5⟩
  iapply (step_yes 𝒱 c bd cond25_yes)
  iapply (step_send 𝒱 c bd (by decide : 0 < 2) GA 0 1 (by decide) (by decide) off59_at1_0 rfl
    (congrArg Prod.fst off60_at1_0) (congrArg Prod.snd off60_at1_0) (congrArg Prod.fst off61_at1_0) (congrArg Prod.snd off61_at1_0)) $$ [b4 h4]
  · isplitl [b4]
    · iexact b4
    · iexact h4
  iintro ⟨b4, h4⟩
  iapply (step_yes 𝒱 c bd cond26_yes)
  iapply (step_send 𝒱 c bd (by decide : 1 < 2) GA 0 1 (by decide) (by decide) off62_at1_1 rfl
    (congrArg Prod.fst off63_at1_1) (congrArg Prod.snd off63_at1_1) (congrArg Prod.fst off64_at1_1) (congrArg Prod.snd off64_at1_1)) $$ [b5 h5]
  · isplitl [b5]
    · iexact b5
    · iexact h5
  iintro ⟨b5, h5⟩
  iapply (step_done 𝒱 c bd)
  iapply (step_bind 𝒱 c bd)
  rw [k0_part23_eq_skeleton]
  unfold k0_part23_skel
  iapply (step_yes 𝒱 c bd cond27_yes)
  iapply (step_send 𝒱 c bd (by decide : 0 < 2) GA 0 2 (by decide) (by decide) off65_at2_0 rfl
    (congrArg Prod.fst off66_at2_0) (congrArg Prod.snd off66_at2_0) (congrArg Prod.fst off67_at2_0) (congrArg Prod.snd off67_at2_0)) $$ [c4 h4]
  · isplitl [c4]
    · iexact c4
    · iexact h4
  iintro ⟨c4, h4⟩
  iapply (step_yes 𝒱 c bd cond28_yes)
  iapply (step_send 𝒱 c bd (by decide : 1 < 2) GA 0 2 (by decide) (by decide) off68_at2_1 rfl
    (congrArg Prod.fst off69_at2_1) (congrArg Prod.snd off69_at2_1) (congrArg Prod.fst off70_at2_1) (congrArg Prod.snd off70_at2_1)) $$ [c5 h5]
  · isplitl [c5]
    · iexact c5
    · iexact h5
  iintro ⟨c5, h5⟩
  iapply (loop2 𝒱 c bd arg0 harg0 arg1 harg1 arg2 harg2 arg3 harg3 arg4 harg4 arg5 harg5 arg6 harg6 arg7 harg7 arg8 harg8 alloca_r0 halloca_r0 v17_r0 alloca_13_r0 halloca_13_r0 v18_r0 alloca_14_r0 halloca_14_r0 v19_r0 alloca_15_r0 halloca_15_r0 v20_r0 alloca_r1 halloca_r1 v17_r1 alloca_13_r1 halloca_13_r1 v18_r1 alloca_14_r1 halloca_14_r1 v19_r1 alloca_15_r1 halloca_15_r1 v20_r1 PA AA GA _ _ _ _ _ _ _) $$ [a4 b4 c4 d4 h4 a5 b5 c5 d5 h5 R6 t6 e6 R7 t7 e7 P M N O]
  · unfold I2
    isplitr
    · ipureintro
      clear * -
      simp only [st2, Prod.mk.injEq]
      repeat' apply And.intro
      all_goals decide +kernel
    isplitl [a4 b4 c4 d4 h4]
    · iapply (stream_start c arg2 alloca_r1 v17_r1 0 GA)
      isplitl [a4]
      · iexact a4
      · isplitl [b4]
        · iexact b4
        · isplitl [c4]
          · iexact c4
          · isplitl [d4]
            · iexact d4
            · iexact h4
    isplitl [a5 b5 c5 d5 h5]
    · iapply (stream_start c arg2 alloca_13_r1 v18_r1 1 GA)
      isplitl [a5]
      · iexact a5
      · isplitl [b5]
        · iexact b5
        · isplitl [c5]
          · iexact c5
          · isplitl [d5]
            · iexact d5
            · iexact h5
    isplitl [R6 t6 e6]
    · iapply (outflow_start c arg3 alloca_14_r1 v19_r1 0 (norm PA AA))
      isplitl [R6]
      · iexact R6
      · isplitl [t6]
        · iexact t6
        · iexact e6
    isplitl [R7 t7 e7]
    · iapply (outflow_start c arg3 alloca_15_r1 v20_r1 1 (norm PA AA))
      isplitl [R7]
      · iexact R7
      · isplitl [t7]
        · iexact t7
        · iexact e7
    isplitl [P]
    · iexact P
    isplitl [M]
    · iexact M
    isplitl [N]
    · iexact N
    · iexact O
  iintro H
  unfold I2
  icases H with ⟨%_, T4, T5, V6, V7, P, M, N, O⟩
  ihave T4 := (stream_end c arg2 alloca_r1 v17_r1 0 GA) $$ T4
  icases T4 with ⟨R4, h4⟩
  ihave T5 := (stream_end c arg2 alloca_13_r1 v18_r1 1 GA) $$ T5
  icases T5 with ⟨R5, h5⟩
  ihave V6 := (outflow_end c arg3 alloca_14_r1 v19_r1 0 (norm PA AA)) $$ V6
  icases V6 with ⟨g6, z6, e6⟩
  ihave V7 := (outflow_end c arg3 alloca_15_r1 v20_r1 1 (norm PA AA)) $$ V7
  icases V7 with ⟨g7, z7, e7⟩
  iapply (step_assume 𝒱 c bd chk13_ok)
  iapply (step_assume 𝒱 c bd chk12_ok)
  iapply (step_assume 𝒱 c bd chk11_ok)
  iapply (step_done 𝒱 c bd)
  iapply (step_bind 𝒱 c bd)
  rw [k0_part24_eq_skeleton]
  unfold k0_part24_skel
  iapply (step_done 𝒱 c bd)
  iapply (step_gone 𝒱 c bd (by decide : 0 < 2) (norm PA AA) 48 off101_at rfl (congrArg Prod.snd off102_at)) $$ [g6 e6 O]
  · isplitl [g6]
    · iexact g6
    · isplitl [e6]
      · iexact e6
      · iexact O
  iintro ⟨⟨y6, e6⟩, O⟩
  iapply (step_gone 𝒱 c bd (by decide : 1 < 2) (norm PA AA) 48 off104_at rfl (congrArg Prod.snd off105_at)) $$ [g7 e7 O]
  · isplitl [g7]
    · iexact g7
    · isplitl [e7]
      · iexact e7
      · iexact O
  iintro ⟨⟨y7, e7⟩, O⟩
  iapply (step_get 𝒱 c bd (best PA AA GA 98).2) $$ N
  iintro N
  iapply (step_get 𝒱 c bd w4) $$ A4
  iintro A4
  iapply (step_set 𝒱 c bd) $$ A4
  iintro A4
  iapply (step_done 𝒱 c bd)
  isplitl [h0 h1 h2 h3 h4 h5]
  · isplitl [h0 h2]
    · iapply (home_join c arg0 PA)
      isplitl [h0]
      · iexact h0
      · iexact h2
    · isplitl [h1 h3]
      · iapply (home_join c arg1 AA)
        isplitl [h1]
        · iexact h1
        · iexact h3
      · iapply (home_join c arg2 GA)
        isplitl [h4]
        · iexact h4
        · iexact h5
  isplitl [e6 e7]
  · iapply (done_join c arg3 (norm PA AA))
    isplitl [e6]
    · iexact e6
    · iexact e7
  isplitl [A4]
  · iexact A4
  isplitr [O]
  · isplitl [P]
    · unfold filled
      icases P with ⟨%w, %_, P⟩
      iexists w
      iexact P
    isplitl [S]
    · iexists _
      iexact S
    isplitl [M]
    · iexists _
      iexact M
    isplitl [N]
    · iexists _
      iexact N
    isplitl [R0]
    · iexact R0
    isplitl [R1]
    · iexact R1
    isplitl [R2]
    · iexact R2
    isplitl [R3]
    · iexact R3
    isplitl [R4]
    · iexact R4
    isplitl [R5]
    · iexact R5
    isplitl [y6 z6]
    · unfold rest2
      isplitl [y6]
      · iexact y6
      · iexact z6
    · unfold rest2
      isplitl [y7]
      · iexact y7
      · iexact z7
  · iexact O

end Cert.KernelIdeal.Policy
-- ==== Proof.Launch.lean ====
/-
  The kernel's run: what the launch gives the body, the body's own buffers and semaphores cut into the rings it
  works on and put together again, and what the run leaves in the two results.
-/
module

public import proofs.«01_k».proof.Proof.Body
public import proofs.«01_k».proof.Proof.Gen.KernelIdeal.Frame
public import Idealize.ShloMosaic.Lib.Pipeline.FrameSuffixV
public import Idealize.ShloMosaic.Lib.Pipeline.ValueKit

@[expose] public section

set_option maxRecDepth 100000
set_option pp.maxSteps 100

noncomputable section

namespace Cert.KernelIdeal.Policy

open Idealize.ShloMosaic Idealize.ShloMosaic.Transfers Cert.KernelIdeal Cert.KernelIdeal.Gen Cert.Policy
open TcCoe
open Idealize.SL
open Idealize.SL.RA Idealize.SL.Sem Idealize.SL.ProofMode
open Idealize.SL.BI (sProp)
open scoped Idealize.SL.BI
open Idealize.SL.BI.BIBase Idealize.SL.BI.Laws

open Idealize.SL.BI (bigSep)
open Idealize.ShloMosaic.Pipeline (Dat BodyObligation BodyObligationLoose)

variable {F : FTy → Type} [FloatOps F] {U : Type} [URA U] [CountersIn U]
variable [((countersEmb : UEmb Counters (MT nD τ sig Unit (Elt F) ℕ U ℕ))).LandsIn upEmb]
variable (c : Dev nD)

section Parts

local notation "𝕄" => MT nD τ sig Unit (Elt F) ℕ U ℕ

/-- A buffer held whole is all of its array. -/
theorem whole_in (b : Ref sig .tc) (f : Buf (Elt F) ((c : Thread nD τ).loc b)) :
    (((c : Thread nD τ).loc b) ↦{fullShare} f : sProp 𝕄) ⊢ own c (Memref.whole b) Finset.univ f :=
  own_of_pointsTo (m := Memref.whole b) f Finset.univ (View.setOn_whole_univ b)

/-- All of a buffer's array is the buffer held whole. -/
theorem whole_out (b : Ref sig .tc) (f : Buf (Elt F) ((c : Thread nD τ).loc b)) :
    (own c (Memref.whole b) Finset.univ f : sProp 𝕄) ⊢ (((c : Thread nD τ).loc b) ↦{fullShare} f) := by
  unfold own
  iintro ⟨%g, %hg, H⟩
  have hgf : g = f := funext fun x => hg x (Finset.mem_univ x)
  subst hgf
  rw [show (Memref.whole b).view.setOn Finset.univ = Finset.univ from View.setOn_whole_univ b]
  iexact H

/-- An array's entries by row and column. -/
theorem rows_in {R : ℕ} [NeZero R] {sp : Space} {e : EltTy} (arr : Memref sig .tc sp (ArrS R) e) (w : (ArrS R).Idx → Elt F e) :
    (own c arr Finset.univ w : sProp 𝕄) ⊢ rows c arr Finset.univ fun i j => w (arrIx R i j) :=
  own_congr fun x _ => (congrArg w (arrIx_self x)).symm

theorem rows_out {R : ℕ} [NeZero R] {sp : Space} {e : EltTy} (arr : Memref sig .tc sp (ArrS R) e) (w : (ArrS R).Idx → Elt F e) :
    (rows c arr Finset.univ (fun i j => w (arrIx R i j)) : sProp 𝕄) ⊢ own c arr Finset.univ w :=
  own_congr fun x _ => congrArg w (arrIx_self x)

/-- A semaphore of a line at zero. -/
def zero {L : ℕ} [NeZero L] (v : DmaSems sig (LineS L)) (j : ℕ) : sProp 𝕄 :=
  semVal ((c : Thread nD τ), SemLoc.dma (cell v j)) 0

/-- A ring of four slots, cut. -/
theorem ring4_in (ring : Memref sig .tc .vmem (RingS 4) .f32) (v : DmaSems sig (LineS 4)) (w : (RingS 4).Idx → Elt F .f32) :
    iprop(own c ring Finset.univ w ∗ zero c v 0 ∗ zero c v 1 ∗ zero c v 2 ∗ zero c v 3) ⊢ (rest4 c ring v : sProp 𝕄) := by
  have h0 : (Finset.univ : Finset (RingS 4).Idx) = Finset.univ.filter fun y => 0 ≤ (y 0 : ℕ) := by
    ext y; simp
  have h3 : (Finset.univ.filter fun y : (RingS 4).Idx => 2 + 1 ≤ (y 0 : ℕ)) = slot 4 3 := by
    ext y
    have := (y 0).isLt
    rw [mem_slot, Finset.mem_filter]
    refine ⟨fun h => ?_, fun h => ⟨Finset.mem_univ _, ?_⟩⟩
    · have h4 : ((y 0 : ℕ)) < 4 := this
      have := h.2
      omega
    · omega
  unfold rest4 idle zero
  rw [h0]
  iintro ⟨H, z0, z1, z2, z3⟩
  ihave H := (ring_peel c ring (by decide : 0 < 4) w) $$ H
  icases H with ⟨f0, H⟩
  ihave H := (ring_peel c ring (by decide : 0 + 1 < 4) w) $$ H
  icases H with ⟨f1, H⟩
  ihave H := (ring_peel c ring (by decide : 0 + 1 + 1 < 4) w) $$ H
  icases H with ⟨f2, H⟩
  isplitl [f0 z0]
  · isplitl [f0]
    · iexact f0
    · iexact z0
  isplitl [f1 z1]
  · isplitl [f1]
    · iexact f1
    · iexact z1
  isplitl [f2 z2]
  · isplitl [f2]
    · iexact f2
    · iexact z2
  isplitl [H]
  · unfold free
    iexists w
    rw [← h3]
    iexact H
  · iexact z3

/-- A ring of four slots, put together. -/
theorem ring4_out (ring : Memref sig .tc .vmem (RingS 4) .f32) (v : DmaSems sig (LineS 4)) :
    (rest4 c ring v : sProp 𝕄) ⊢ iprop((∃ w, own c ring Finset.univ w) ∗ zero c v 0 ∗ zero c v 1 ∗ zero c v 2 ∗ zero c v 3) := by
  have h0 : (Finset.univ : Finset (RingS 4).Idx) = Finset.univ.filter fun y => 0 ≤ (y 0 : ℕ) := by
    ext y; simp
  have h3 : (Finset.univ.filter fun y : (RingS 4).Idx => 2 + 1 ≤ (y 0 : ℕ)) = slot 4 3 := by
    ext y
    have := (y 0).isLt
    rw [mem_slot, Finset.mem_filter]
    refine ⟨fun h => ?_, fun h => ⟨Finset.mem_univ _, ?_⟩⟩
    · have h4 : ((y 0 : ℕ)) < 4 := this
      have := h.2
      omega
    · omega
  unfold rest4 idle zero
  iintro ⟨⟨f0, z0⟩, ⟨f1, z1⟩, ⟨f2, z2⟩, ⟨f3, z3⟩⟩
  isplitl [f0 f1 f2 f3]
  · rw [h0]
    iapply (ring_grow c ring (by decide : 0 < 4))
    isplitl [f0]
    · iexact f0
    iapply (ring_grow c ring (by decide : 0 + 1 < 4))
    isplitl [f1]
    · iexact f1
    iapply (ring_grow c ring (by decide : 0 + 1 + 1 < 4))
    isplitl [f2]
    · iexact f2
    unfold free
    rw [← h3]
    iexact f3
  · isplitl [z0]
    · iexact z0
    isplitl [z1]
    · iexact z1
    isplitl [z2]
    · iexact z2
    · iexact z3

/-- A ring of two slots, cut. -/
theorem ring2_in (ring : Memref sig .tc .vmem (RingS 2) .f32) (v : DmaSems sig (LineS 2)) (w : (RingS 2).Idx → Elt F .f32) :
    iprop(own c ring Finset.univ w ∗ zero c v 0 ∗ zero c v 1) ⊢ (rest2 c ring v : sProp 𝕄) := by
  have h0 : (Finset.univ : Finset (RingS 2).Idx) = Finset.univ.filter fun y => 0 ≤ (y 0 : ℕ) := by
    ext y; simp
  have h1 : (Finset.univ.filter fun y : (RingS 2).Idx => 0 + 1 ≤ (y 0 : ℕ)) = slot 2 1 := by
    ext y
    have := (y 0).isLt
    rw [mem_slot, Finset.mem_filter]
    refine ⟨fun h => ?_, fun h => ⟨Finset.mem_univ _, ?_⟩⟩
    · have h4 : ((y 0 : ℕ)) < 2 := this
      have := h.2
      omega
    · omega
  unfold rest2 idle zero
  rw [h0]
  iintro ⟨H, z0, z1⟩
  ihave H := (ring_peel c ring (by decide : 0 < 2) w) $$ H
  icases H with ⟨f0, H⟩
  isplitl [f0 z0]
  · isplitl [f0]
    · iexact f0
    · iexact z0
  isplitl [H]
  · unfold free
    iexists w
    rw [← h1]
    iexact H
  · iexact z1

/-- A ring of two slots, put together. -/
theorem ring2_out (ring : Memref sig .tc .vmem (RingS 2) .f32) (v : DmaSems sig (LineS 2)) :
    (rest2 c ring v : sProp 𝕄) ⊢ iprop((∃ w, own c ring Finset.univ w) ∗ zero c v 0 ∗ zero c v 1) := by
  have h0 : (Finset.univ : Finset (RingS 2).Idx) = Finset.univ.filter fun y => 0 ≤ (y 0 : ℕ) := by
    ext y; simp
  have h1 : (Finset.univ.filter fun y : (RingS 2).Idx => 0 + 1 ≤ (y 0 : ℕ)) = slot 2 1 := by
    ext y
    have := (y 0).isLt
    rw [mem_slot, Finset.mem_filter]
    refine ⟨fun h => ?_, fun h => ⟨Finset.mem_univ _, ?_⟩⟩
    · have h4 : ((y 0 : ℕ)) < 2 := this
      have := h.2
      omega
    · omega
  unfold rest2 idle zero
  iintro ⟨⟨f0, z0⟩, ⟨f1, z1⟩⟩
  isplitl [f0 f1]
  · rw [h0]
    iapply (ring_grow c ring (by decide : 0 < 2))
    isplitl [f0]
    · iexact f0
    unfold free
    rw [← h1]
    iexact f1
  · isplitl [z0]
    · iexact z0
    · iexact z1

end Parts

/-! ## What the launch gives -/

/-- The kernel's own semaphores. -/
def osem : Fin 28 → SemLoc sig := fun k => .dma (![cell cc0_scoped1 0, cell cc0_scoped1 1, cell cc0_scoped1 2, cell cc0_scoped1 3, cell cc0_scoped3 0, cell cc0_scoped3 1, cell cc0_scoped3 2, cell cc0_scoped3 3, cell cc0_scoped5 0, cell cc0_scoped5 1, cell cc0_scoped5 2, cell cc0_scoped5 3, cell cc0_scoped7 0, cell cc0_scoped7 1, cell cc0_scoped7 2, cell cc0_scoped7 3, cell cc0_scoped9 0, cell cc0_scoped9 1, cell cc0_scoped9 2, cell cc0_scoped9 3, cell cc0_scoped11 0, cell cc0_scoped11 1, cell cc0_scoped11 2, cell cc0_scoped11 3, cell cc0_scoped13 0, cell cc0_scoped13 1, cell cc0_scoped15 0, cell cc0_scoped15 1] k)

theorem osem_facts : Pipeline.OwnSemFacts spec0 osem := by decide +kernel

theorem ownSems0_eq : (Pipeline.ownSems0 (Ix := Unit) (Name := ℕ) (U := U) (Lvl := ℕ) (Val := Elt F) (τ := τ) osem c : sProp (MT nD τ sig Unit (Elt F) ℕ U ℕ))
    = iprop(zero c cc0_scoped1 0 ∗ zero c cc0_scoped1 1 ∗ zero c cc0_scoped1 2 ∗ zero c cc0_scoped1 3 ∗ zero c cc0_scoped3 0 ∗ zero c cc0_scoped3 1 ∗ zero c cc0_scoped3 2 ∗ zero c cc0_scoped3 3 ∗ zero c cc0_scoped5 0 ∗ zero c cc0_scoped5 1 ∗ zero c cc0_scoped5 2 ∗ zero c cc0_scoped5 3 ∗ zero c cc0_scoped7 0 ∗ zero c cc0_scoped7 1 ∗ zero c cc0_scoped7 2 ∗ zero c cc0_scoped7 3 ∗ zero c cc0_scoped9 0 ∗ zero c cc0_scoped9 1 ∗ zero c cc0_scoped9 2 ∗ zero c cc0_scoped9 3 ∗ zero c cc0_scoped11 0 ∗ zero c cc0_scoped11 1 ∗ zero c cc0_scoped11 2 ∗ zero c cc0_scoped11 3 ∗ zero c cc0_scoped13 0 ∗ zero c cc0_scoped13 1 ∗ zero c cc0_scoped15 0 ∗ zero c cc0_scoped15 1) := by
  unfold Pipeline.ownSems0
  rw [BI.bigSep_univ_eq_bigSepL [((0) : Fin 28), 1, 2, 3, 4, 5, 6, 7, 8, 9, 10, 11, 12, 13, 14, 15, 16, 17, 18, 19, 20, 21, 22, 23, 24, 25, 26, 27] (by decide) (by decide)]
  rfl

/-- The arrays read and the array written. -/
def readSet : Finset (Ref sig .tc) := [main_v8, main_v9, main_v10].toFinset
def writeSet : Finset (Ref sig .tc) := [main_v11_0].toFinset

theorem readSet_eq {M : Type} [URA M] (Φ : Ref sig .tc → sProp M) : bigSep readSet Φ = iprop(Φ main_v8 ∗ Φ main_v9 ∗ Φ main_v10) :=
  BI.bigSep_eq_bigSepL_of_eq [main_v8, main_v9, main_v10] rfl (by decide) Φ
theorem writeSet_eq {M : Type} [URA M] (Φ : Ref sig .tc → sProp M) : bigSep writeSet Φ = Φ main_v11_0 :=
  BI.bigSep_eq_bigSepL_of_eq [main_v11_0] rfl (by decide) Φ

/-- The body's scratch buffers and semaphores as the launch gives them. -/
def given : sProp (MT nD τ sig Unit (Elt F) ℕ U ℕ) :=
  iprop(Pipeline.scopedRest (Ix := Unit) (Name := ℕ) (U := U) (Lvl := ℕ) (Val := Elt F) spec0 c
    ∗ Pipeline.ownSems0 (Ix := Unit) (Name := ℕ) (U := U) (Lvl := ℕ) (Val := Elt F) (τ := τ) osem c)

/-- The same as the body takes them. -/
abbrev taken : sProp (MT nD τ sig Unit (Elt F) ℕ U ℕ) :=
  scratch c (Memref.whole cc0_scratch0) (Memref.whole cc0_scratch1) (Memref.whole cc0_scratch2) (Memref.whole cc0_scratch3) (Memref.whole cc0_scoped0) cc0_scoped1 (Memref.whole cc0_scoped2) cc0_scoped3 (Memref.whole cc0_scoped4) cc0_scoped5 (Memref.whole cc0_scoped6) cc0_scoped7 (Memref.whole cc0_scoped8) cc0_scoped9 (Memref.whole cc0_scoped10) cc0_scoped11 (Memref.whole cc0_scoped12) cc0_scoped13 (Memref.whole cc0_scoped14) cc0_scoped15

set_option maxHeartbeats 1000000 in
theorem given_taken : (given c : sProp (MT nD τ sig Unit (Elt F) ℕ U ℕ)) ⊢ taken c := by
  unfold given taken scratch
  rw [scopedRest0_eq, ownSems0_eq]
  iintro ⟨⟨⟨%w0, B0⟩, ⟨%w1, B1⟩, ⟨%w2, B2⟩, ⟨%w3, B3⟩, ⟨%w4, B4⟩, ⟨%w5, B5⟩, ⟨%w6, B6⟩, ⟨%w7, B7⟩, ⟨%w8, B8⟩, ⟨%w9, B9⟩, ⟨%w10, B10⟩, ⟨%w11, B11⟩⟩, Z0, Z1, Z2, Z3, Z4, Z5, Z6, Z7, Z8, Z9, Z10, Z11, Z12, Z13, Z14, Z15, Z16, Z17, Z18, Z19, Z20, Z21, Z22, Z23, Z24, Z25, Z26, Z27⟩
  isplitl [B0]
  · iexists w0
    iapply (whole_in c cc0_scratch0 w0) $$ B0
  isplitl [B1]
  · iexists w1
    iapply (whole_in c cc0_scratch1 w1) $$ B1
  isplitl [B2]
  · iexists w2
    iapply (whole_in c cc0_scratch2 w2) $$ B2
  isplitl [B3]
  · iexists w3
    iapply (whole_in c cc0_scratch3 w3) $$ B3
  isplitl [B4 Z0 Z1 Z2 Z3]
  · iapply (ring4_in c (Memref.whole cc0_scoped0) cc0_scoped1 w4)
    isplitl [B4]
    · iapply (whole_in c cc0_scoped0 w4) $$ B4
    isplitl [Z0]
    · iexact Z0
    isplitl [Z1]
    · iexact Z1
    isplitl [Z2]
    · iexact Z2
    iexact Z3
  isplitl [B5 Z4 Z5 Z6 Z7]
  · iapply (ring4_in c (Memref.whole cc0_scoped2) cc0_scoped3 w5)
    isplitl [B5]
    · iapply (whole_in c cc0_scoped2 w5) $$ B5
    isplitl [Z4]
    · iexact Z4
    isplitl [Z5]
    · iexact Z5
    isplitl [Z6]
    · iexact Z6
    iexact Z7
  isplitl [B6 Z8 Z9 Z10 Z11]
  · iapply (ring4_in c (Memref.whole cc0_scoped4) cc0_scoped5 w6)
    isplitl [B6]
    · iapply (whole_in c cc0_scoped4 w6) $$ B6
    isplitl [Z8]
    · iexact Z8
    isplitl [Z9]
    · iexact Z9
    isplitl [Z10]
    · iexact Z10
    iexact Z11
  isplitl [B7 Z12 Z13 Z14 Z15]
  · iapply (ring4_in c (Memref.whole cc0_scoped6) cc0_scoped7 w7)
    isplitl [B7]
    · iapply (whole_in c cc0_scoped6 w7) $$ B7
    isplitl [Z12]
    · iexact Z12
    isplitl [Z13]
    · iexact Z13
    isplitl [Z14]
    · iexact Z14
    iexact Z15
  isplitl [B8 Z16 Z17 Z18 Z19]
  · iapply (ring4_in c (Memref.whole cc0_scoped8) cc0_scoped9 w8)
    isplitl [B8]
    · iapply (whole_in c cc0_scoped8 w8) $$ B8
    isplitl [Z16]
    · iexact Z16
    isplitl [Z17]
    · iexact Z17
    isplitl [Z18]
    · iexact Z18
    iexact Z19
  isplitl [B9 Z20 Z21 Z22 Z23]
  · iapply (ring4_in c (Memref.whole cc0_scoped10) cc0_scoped11 w9)
    isplitl [B9]
    · iapply (whole_in c cc0_scoped10 w9) $$ B9
    isplitl [Z20]
    · iexact Z20
    isplitl [Z21]
    · iexact Z21
    isplitl [Z22]
    · iexact Z22
    iexact Z23
  isplitl [B10 Z24 Z25]
  · iapply (ring2_in c (Memref.whole cc0_scoped12) cc0_scoped13 w10)
    isplitl [B10]
    · iapply (whole_in c cc0_scoped12 w10) $$ B10
    isplitl [Z24]
    · iexact Z24
    iexact Z25
  · iapply (ring2_in c (Memref.whole cc0_scoped14) cc0_scoped15 w11)
    isplitl [B11]
    · iapply (whole_in c cc0_scoped14 w11) $$ B11
    isplitl [Z26]
    · iexact Z26
    iexact Z27

set_option maxHeartbeats 1000000 in
theorem taken_given : (taken c : sProp (MT nD τ sig Unit (Elt F) ℕ U ℕ)) ⊢ given c := by
  unfold given taken scratch
  rw [scopedRest0_eq, ownSems0_eq]
  iintro ⟨⟨%w0, B0⟩, ⟨%w1, B1⟩, ⟨%w2, B2⟩, ⟨%w3, B3⟩, R0, R1, R2, R3, R4, R5, R6, R7⟩
  ihave R0 := (ring4_out c (Memref.whole cc0_scoped0) cc0_scoped1) $$ R0
  icases R0 with ⟨⟨%w4, B4⟩, Z0, Z1, Z2, Z3⟩
  ihave R1 := (ring4_out c (Memref.whole cc0_scoped2) cc0_scoped3) $$ R1
  icases R1 with ⟨⟨%w5, B5⟩, Z4, Z5, Z6, Z7⟩
  ihave R2 := (ring4_out c (Memref.whole cc0_scoped4) cc0_scoped5) $$ R2
  icases R2 with ⟨⟨%w6, B6⟩, Z8, Z9, Z10, Z11⟩
  ihave R3 := (ring4_out c (Memref.whole cc0_scoped6) cc0_scoped7) $$ R3
  icases R3 with ⟨⟨%w7, B7⟩, Z12, Z13, Z14, Z15⟩
  ihave R4 := (ring4_out c (Memref.whole cc0_scoped8) cc0_scoped9) $$ R4
  icases R4 with ⟨⟨%w8, B8⟩, Z16, Z17, Z18, Z19⟩
  ihave R5 := (ring4_out c (Memref.whole cc0_scoped10) cc0_scoped11) $$ R5
  icases R5 with ⟨⟨%w9, B9⟩, Z20, Z21, Z22, Z23⟩
  ihave R6 := (ring2_out c (Memref.whole cc0_scoped12) cc0_scoped13) $$ R6
  icases R6 with ⟨⟨%w10, B10⟩, Z24, Z25⟩
  ihave R7 := (ring2_out c (Memref.whole cc0_scoped14) cc0_scoped15) $$ R7
  icases R7 with ⟨⟨%w11, B11⟩, Z26, Z27⟩
  isplitl [B0 B1 B2 B3 B4 B5 B6 B7 B8 B9 B10 B11]
  · isplitl [B0]
    · iexists w0
      iapply (whole_out c cc0_scratch0 w0) $$ B0
    isplitl [B1]
    · iexists w1
      iapply (whole_out c cc0_scratch1 w1) $$ B1
    isplitl [B2]
    · iexists w2
      iapply (whole_out c cc0_scratch2 w2) $$ B2
    isplitl [B3]
    · iexists w3
      iapply (whole_out c cc0_scratch3 w3) $$ B3
    isplitl [B4]
    · iexists w4
      iapply (whole_out c cc0_scoped0 w4) $$ B4
    isplitl [B5]
    · iexists w5
      iapply (whole_out c cc0_scoped2 w5) $$ B5
    isplitl [B6]
    · iexists w6
      iapply (whole_out c cc0_scoped4 w6) $$ B6
    isplitl [B7]
    · iexists w7
      iapply (whole_out c cc0_scoped6 w7) $$ B7
    isplitl [B8]
    · iexists w8
      iapply (whole_out c cc0_scoped8 w8) $$ B8
    isplitl [B9]
    · iexists w9
      iapply (whole_out c cc0_scoped10 w9) $$ B9
    isplitl [B10]
    · iexists w10
      iapply (whole_out c cc0_scoped12 w10) $$ B10
    iexists w11
    iapply (whole_out c cc0_scoped14 w11) $$ B11
  · isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    isplitl [Z9]
    · iexact Z9
    isplitl [Z10]
    · iexact Z10
    isplitl [Z11]
    · iexact Z11
    isplitl [Z12]
    · iexact Z12
    isplitl [Z13]
    · iexact Z13
    isplitl [Z14]
    · iexact Z14
    isplitl [Z15]
    · iexact Z15
    isplitl [Z16]
    · iexact Z16
    isplitl [Z17]
    · iexact Z17
    isplitl [Z18]
    · iexact Z18
    isplitl [Z19]
    · iexact Z19
    isplitl [Z20]
    · iexact Z20
    isplitl [Z21]
    · iexact Z21
    isplitl [Z22]
    · iexact Z22
    isplitl [Z23]
    · iexact Z23
    isplitl [Z24]
    · iexact Z24
    isplitl [Z25]
    · iexact Z25
    isplitl [Z26]
    · iexact Z26
    iexact Z27

end Cert.KernelIdeal.Policy
-- ==== Proof.Run.lean ====
/-
  The kernel's run from the launch to the end: its arguments unchanged, its semaphores at zero again, and its two
  results read off the norms and the best rows that the body computes.
-/
module

public import proofs.«01_k».proof.Proof.Launch
public import proofs.«01_k».proof.Proof.Gen.KernelIdeal.Frame
public import Idealize.ShloMosaic.Lib.Pipeline.FrameSuffixV
public import Idealize.ShloMosaic.Lib.Pipeline.ValueKit

@[expose] public section

set_option maxRecDepth 100000
set_option pp.maxSteps 100

noncomputable section

namespace Cert.KernelIdeal.Policy

open Idealize.ShloMosaic Idealize.ShloMosaic.Transfers Cert.KernelIdeal Cert.KernelIdeal.Gen Cert.Policy
open TcCoe
open Idealize.SL
open Idealize.SL.RA Idealize.SL.Sem Idealize.SL.ProofMode
open Idealize.SL.BI (sProp)
open scoped Idealize.SL.BI
open Idealize.SL.BI.BIBase Idealize.SL.BI.Laws

open Idealize.SL.BI (bigSep)
open Idealize.ShloMosaic.Pipeline (Dat BodyObligation BodyObligationLoose)

variable {F : FTy → Type} [FloatOps F]

abbrev UU : Type := Pipeline.UD sig nD τ

local notation "𝕄" => MT nD τ sig Unit (Elt F) ℕ UU ℕ

variable (m : (ℓ : Loc nD τ sig) → Buf (Elt F) ℓ) (ρ : Dev nD → PrngReg) (c : Dev nD)

/-- The three arrays as the region finds them, by row and column. -/
def polAt : ℕ → ℕ → Elt F .f32 := fun i j => V m c main_v8 (arrIx 100000 i j)
def avlAt : ℕ → ℕ → Elt F .f32 := fun i j => V m c main_v9 (arrIx 100000 i j)
def gumAt : ℕ → ℕ → Elt F .f32 := fun i j => V m c main_v10 (arrIx 100000 i j)

/-- The array of norms the body writes. -/
def normArr : Buf (Elt F) ((c : Thread nD τ).loc main_v11_0) :=
  fun x : (ArrS 100000).Idx => norm (polAt m c) (avlAt m c) (x 0 : ℕ) (x 1 : ℕ)
/-- The row of best scores' rows. -/
def bestArr : Buf (Elt F) ((c : Thread nD τ).loc main_v11_1) := (best (polAt m c) (avlAt m c) (gumAt m c) 98).2

/-- The buffers after the region. -/
def G (b : Ref sig .tc) : Buf (Elt F) ((c : Thread nD τ).loc b) :=
  Function.update (β := fun b => Buf (Elt F) ((c : Thread nD τ).loc b)) (V m c) main_v11_0 (normArr m c) b

theorem G_self : G m c main_v11_0 = normArr m c := Function.update_self _ _ _

def dats (_ : Fin 1) (c : Dev nD) : Dat τ (Elt F) Unit ℕ UU ℕ cfg0 c where
  A w := V m c (Pipeline.arrRef spec0 w)
  after w t := match w with
    | ⟨0, _⟩ => bestArr m c
  Φ i := if i.val = 0 then Pipeline.ΦDRV osem spec0 readSet writeSet (fun c b => V m c b) (fun c b => V m c b) c
    else Pipeline.ΦDRV osem spec0 readSet writeSet (fun c b => V m c b) (G m) c
  q _ := fullShare
  owed _ := 0

theorem after_w0 (t : Fin cfg0.N) : (dats m 0 c).after 0 t = bestArr m c := rfl

/-- The body as the launch calls it, the staging buffer of the second result apart. -/
def bodyOn (st : Memref sig .tc .vmem S1x128 .i32) (hst : st.IsWhole) : Prog (TpuEff nD τ sig (Elt F) Λ₀ .tc) PUnit :=
  cc0__ffpolicy_body (Memref.whole main_v8) (Memref.isWhole_whole _) (Memref.whole main_v9) (Memref.isWhole_whole _) (Memref.whole main_v10) (Memref.isWhole_whole _) (Memref.whole main_v11_0) (Memref.isWhole_whole _) st hst (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15

theorem defs_tc : (defs₀ (F := F)) .tc cfg0.body = fun a => bodyOn (win0_0.stage (a.2 0)) (hstage0_0 0) := rfl
abbrev st0 (t : Fin cfg0.N) : Memref sig .tc .vmem S1x128 .i32 := win0_0.stage (cfg0.slots t 0)
abbrev hst0 (t : Fin cfg0.N) : (st0 t).IsWhole := hstage0_0 0
theorem prog_eq (t : Fin cfg0.N) : (defs₀ (F := F)) .tc cfg0.body (cfg0.bodyArgs t (cfg0.slots t)) = bodyOn (st0 t) (hst0 t) :=
  (congrFun defs_tc _).trans rfl

/-- The norms by row and column are the array of norms. -/
theorem norm_out : (rows c (Memref.whole main_v11_0) Finset.univ (norm (polAt m c) (avlAt m c)) : sProp 𝕄)
    ⊢ own c (Memref.whole main_v11_0) Finset.univ (normArr m c) := own_congr fun _ _ => rfl

/-- What the body does at the launch, from the buffers the launch gives. -/
theorem bodyOn_wp (st : Memref sig .tc .vmem S1x128 .i32) (hst : st.IsWhole) :
    (iprop((((c : Thread nD τ).loc main_v8 ↦{fullShare} V m c main_v8) ∗ ((c : Thread nD τ).loc main_v9 ↦{fullShare} V m c main_v9)
          ∗ ((c : Thread nD τ).loc main_v10 ↦{fullShare} V m c main_v10))
        ∗ ((c : Thread nD τ).loc main_v11_0 ↦{fullShare} V m c main_v11_0) ∗ (∃ w, own c st Finset.univ w) ∗ given c
        ∗ (∃ W, owes (c : Thread nD τ) 0 W)) : sProp 𝕄)
      ⊢ wp frame (wpE (defs₀ (F := F)) Variants.none (c : Thread nD τ) none) Set.univ (bodyOn st hst)
        (fun _ => iprop((((c : Thread nD τ).loc main_v8 ↦{fullShare} V m c main_v8) ∗ ((c : Thread nD τ).loc main_v9 ↦{fullShare} V m c main_v9)
          ∗ ((c : Thread nD τ).loc main_v10 ↦{fullShare} V m c main_v10))
          ∗ ((c : Thread nD τ).loc main_v11_0 ↦{fullShare} normArr m c) ∗ own c st Finset.univ (bestArr m c) ∗ given c
          ∗ (∃ W, owes (c : Thread nD τ) 0 W))) := by
  iintro ⟨⟨A0, A1, A2⟩, A3, A4, G, O⟩
  ihave A0 := (whole_in c main_v8 _) $$ A0
  ihave A0 := (rows_in c (Memref.whole main_v8) _) $$ A0
  ihave A1 := (whole_in c main_v9 _) $$ A1
  ihave A1 := (rows_in c (Memref.whole main_v9) _) $$ A1
  ihave A2 := (whole_in c main_v10 _) $$ A2
  ihave A2 := (rows_in c (Memref.whole main_v10) _) $$ A2
  ihave A3 := (whole_in c main_v11_0 _) $$ A3
  ihave G := (given_taken c) $$ G
  unfold bodyOn
  iapply (wp_wand_r frame (wpE (defs₀ (F := F)) Variants.none (c : Thread nD τ) none) Set.univ)
  isplitl [A0 A1 A2 A3 A4 G O]
  · iapply (body_wp Variants.none c none (Memref.whole main_v8) (Memref.isWhole_whole _) (Memref.whole main_v9) (Memref.isWhole_whole _) (Memref.whole main_v10) (Memref.isWhole_whole _) (Memref.whole main_v11_0) (Memref.isWhole_whole _) st hst (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (polAt m c) (avlAt m c) (gumAt m c))
    isplitl [A0 A1 A2]
    · isplitl [A0]
      · iexact A0
      isplitl [A1]
      · iexact A1
      · iexact A2
    isplitl [A3]
    · iexists _
      iexact A3
    isplitl [A4]
    · iexact A4
    isplitl [G]
    · iexact G
    · iexact O
  · iintro %_ ⟨⟨A0, A1, A2⟩, A3, A4, G, O⟩
    isplitl [A0 A1 A2]
    · isplitl [A0]
      · iapply (whole_out c main_v8 _)
        iapply (rows_out c (Memref.whole main_v8) _)
        iexact A0
      isplitl [A1]
      · iapply (whole_out c main_v9 _)
        iapply (rows_out c (Memref.whole main_v9) _)
        iexact A1
      · iapply (whole_out c main_v10 _)
        iapply (rows_out c (Memref.whole main_v10) _)
        iexact A2
    isplitl [A3]
    · iapply (whole_out c main_v11_0 _)
      iapply (norm_out m c)
      iexact A3
    isplitl [A4]
    · iexact A4
    isplitl [G]
    · iapply (taken_given c) $$ G
    · iexact O

/-- The body at the launch's one point. -/
theorem body_obligation (c : Dev nD) : BodyObligation (dats m 0 c) (defs₀ (F := F)) Variants.none () Set.univ := fun t => by
  have ht : t = t0_0 := fin_N0 t
  subst ht
  rw [bigSep_W0, bigSep_W0]
  dsimp only
  simp only [after_w0]
  rw [show (dats m 0 c).Φ t0_0.castSucc = Pipeline.ΦDRV osem spec0 readSet writeSet (fun c b => V m c b) (fun c b => V m c b) c from rfl,
    show (dats m 0 c).Φ t0_0.succ = Pipeline.ΦDRV osem spec0 readSet writeSet (fun c b => V m c b) (G m) c from rfl]
  unfold Dat.owesAt Pipeline.owesWithin
  rw [show (dats m 0 c).owed t0_0.castSucc = 0 from rfl, show (dats m 0 c).owed t0_0.succ = 0 from rfl]
  unfold Pipeline.ΦDRV owns
  rw [readSet_eq, writeSet_eq, writeSet_eq, G_self]
  iintro ⟨⟨HS, HZ, ⟨A0, A1, A2⟩, A3⟩, ⟨%W, %_, HW⟩, ⟨%d0, %g0, %hg0, A4⟩⟩
  rw [prog_eq t0_0]
  iapply (wp_wand_r frame (wpE (defs₀ (F := F)) Variants.none (c : Thread nD τ) none) Set.univ)
  isplitl [HS HZ A0 A1 A2 A3 HW A4]
  · iapply (bodyOn_wp m c (st0 t0_0) (hst0 t0_0))
    isplitl [A0 A1 A2]
    · isplitl [A0]
      · iexact A0
      isplitl [A1]
      · iexact A1
      · iexact A2
    isplitl [A3]
    · iexact A3
    isplitl [A4]
    · iexists _
      iapply (own_of_pointsTo (m := st0 t0_0) g0 (st0 t0_0).view.set rfl)
      iexact A4
    isplitl [HS HZ]
    · unfold given
      isplitl [HS]
      · iexact HS
      · iexact HZ
    · iexists W
      iexact HW
  · iintro %_ ⟨⟨A0, A1, A2⟩, A3, A4, G, ⟨%W', HW⟩⟩
    unfold given
    icases G with ⟨HS, HZ⟩
    isplitl [HS HZ A0 A1 A2 A3]
    · isplitl [HS]
      · iexact HS
      isplitl [HZ]
      · iexact HZ
      isplitl [A0 A1 A2]
      · isplitl [A0]
        · iexact A0
        isplitl [A1]
        · iexact A1
        · iexact A2
      · iexact A3
    isplitl [HW]
    · iexists W'
      isplitr
      · ipureintro
        exact fun _ _ => Or.inl trivial
      · iexact HW
    · unfold own
      icases A4 with ⟨%f, %hf, A4⟩
      iexists f
      isplitr
      · ipureintro
        exact funext fun x => hf x (Finset.mem_univ x)
      · iexact A4

/-! ## The run -/

/-- The host's lines and the region. -/
theorem main_around : Pipeline.HMainK (Ix := Unit) (Name := ℕ) (U := UU) (Lvl := ℕ) cfgs 0 defs₀ Variants.none m (main (F := F)) (V m)
    (fun _ => Pipeline.chain ([hostOps1].map StableHlo.seq)) :=
  Pipeline.hmain_around cfgs 0 defs₀ Variants.none m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The second result's array ends at the best rows. -/
theorem arr_end : (dats m 0 c).arrAt 0 cfg0.N = bestArr m c :=
  (dats m 0 c).arrAt_eq_of_after_last 0 t0_0 (by decide +kernel) (bestArr m c) (fun j => rfl)

/-- The buffers when the last host lines begin. -/
abbrev W0 : Valuation τ sig (Elt F) :=
  Pipeline.withArrays spec0 c (Pipeline.withR (V0 m c) writeSet c (G m c)) fun w => (dats m 0 c).arrAt w cfg0.N

theorem W0_arr : W0 m c (Proc.devRef .tc main_v11_1) = bestArr m c :=
  (Pipeline.withArrays_arr spec0 launch0.win.arr_inj c _ _ 0).trans (arr_end m c)

theorem W0_out : W0 m c (Proc.devRef .tc main_v11_0) = normArr m c := by
  unfold W0
  rw [Pipeline.withArrays_of_ne _ c _ _ main_v11_0 (by decide), Pipeline.withR_of_mem _ _ _ _ main_v11_0 (by decide), G_self]

theorem W0_arg (b : Ref sig .tc) (h : ∀ w, Pipeline.arrRef spec0 w ≠ b) (h' : b ∉ writeSet) : W0 m c (Proc.devRef .tc b) = V m c b := by
  unfold W0
  rw [Pipeline.withArrays_of_ne _ c _ _ b h, Pipeline.withR_of_not_mem _ _ _ _ b h']

/-- The first result: the norms, transposed. -/
def result0 : Buf (Elt F) ((c : Thread nD τ).loc main_v12) := transpose S128x100000 [1, 0] (normArr m c) transposes_S100000x128_S128x100000_1_0
/-- The second result: the best rows, as a column. -/
def result1 : Buf (Elt F) ((c : Thread nD τ).loc main_v13) := shapeCast S128x1 (bestArr m c) shapeCasts_S1x128_S128x1

theorem end_v4 : StableHlo.after (List.flatten [hostOps1]) (W0 m c) (Proc.devRef .tc main_v12) = result0 m c := by
  simp only [List.flatten_cons, List.flatten_nil, List.append_nil]
  after_results
  rw [W0_out]
  rfl

theorem end_v5 : StableHlo.after (List.flatten [hostOps1]) (W0 m c) (Proc.devRef .tc main_v13) = result1 m c := by
  simp only [List.flatten_cons, List.flatten_nil, List.append_nil]
  after_results
  rw [W0_arr]
  rfl

theorem end_arg (b : Ref sig .tc) (hb : b ∉ [main_v12, main_v13]) :
    StableHlo.after (List.flatten [hostOps1]) (W0 m c) (Proc.devRef .tc b) = W0 m c (Proc.devRef .tc b) :=
  StableHlo.after_of_writes_sub (W := [main_v12, main_v13]) _ _ (StableHlo.forall_writes_sub_of_map rfl) hb

set_option maxHeartbeats 4000000 in
/-- The run. -/
theorem run_main : θ_run defs (onTc (τ := τ) (main (F := F))) (s₀ m ρ) (fun r => (∀ c : Dev nD,
      r.2.mem ((c : Thread nD τ).loc main_v12) = result0 m c ∧ r.2.mem ((c : Thread nD τ).loc main_v13) = result1 m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_frame_dmaR_aroundV cfgs (dats m) (0 : Fin 1) launch0 osem defs₀ Variants.none osem_facts readSet writeSet
    (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := main_around m) (hA := fun _ _ => rfl) (hin := fun _ => .rfl) (hout := fun _ => .rfl)
    (Q' := _)
    (hQ' := fun r ⟨h, hz⟩ => ⟨fun c => ⟨
      ((h c).2 main_v12 (Pipeline.mem_restRefs_of main_v12 (by decide) (by decide))).trans (end_v4 m c),
      ((h c).2 main_v13 (Pipeline.mem_restRefs_of main_v13 (by decide) (by decide))).trans (end_v5 m c),
      ((h c).2 main_arg0 (Pipeline.mem_restRefs_of main_arg0 (by decide) (by decide))).trans
        (((end_arg m c main_arg0 (by decide)).trans (W0_arg m c main_arg0 (by decide) (by decide))).trans (V_main_arg0 m c)),
      ((h c).2 main_arg1 (Pipeline.mem_restRefs_of main_arg1 (by decide) (by decide))).trans
        (((end_arg m c main_arg1 (by decide)).trans (W0_arg m c main_arg1 (by decide) (by decide))).trans (V_main_arg1 m c))⟩, hz⟩)

end Cert.KernelIdeal.Policy
-- ==== Proof.Alike.lean ====
/-
  Two lines of operations, over the buffers of two programs, that are alike step by step: what one leaves at a buffer the
  other leaves at the buffer that goes with it. Which buffers go together is read off the lines as they run, as a record
  of pairs; one check of that record says no buffer is written twice and none is read before it is paired.
-/
module

public import Idealize.ShloMosaic.Lib.StableHlo.Run

@[expose] public section

noncomputable section

namespace Cert.Policy

open Idealize.ShloMosaic Idealize.ShloMosaic.StableHlo

variable {τ τ' : Topo} {sig sig' : RefSig} {Val : EltTy → Type}

/-- Two buffers that go together, one of each program. -/
abbrev Pair (sig sig' : RefSig) : Type := Ref sig .tc × Ref sig' .tc

/-- Two valuations hold the same at a pair. -/
def Same (F : Valuation τ sig Val) (F' : Valuation τ' sig' Val) (p : Pair sig sig') : Prop :=
  HEq (F (Proc.devRef .tc p.1)) (F' (Proc.devRef .tc p.2))

/-- Two operations alike: each writes its buffer of the pair `y` alone, and the same there if they read the same at the
pairs `ins`. -/
structure Step (o : HloOp τ sig Val) (o' : HloOp τ' sig' Val) (y : Pair sig sig') (ins : List (Pair sig sig')) : Prop where
  same : ∀ F F', (∀ p ∈ ins, Same F F' p) → Same (o.result F) (o'.result F') y
  left : ∀ F r, r ≠ y.1 → o.result F (Proc.devRef .tc r) = F (Proc.devRef .tc r)
  right : ∀ F r, r ≠ y.2 → o'.result F (Proc.devRef .tc r) = F (Proc.devRef .tc r)

/-- A buffer's contents read at the value's type are those contents. -/
theorem ofBuf_heq {T : BufTy} (x : TRef sig T) (v : x.ref.ty.Contents Val) : HEq (x.ofBuf v) v := cast_heq _ _
/-- And a value as the buffer's contents is that value. -/
theorem toBuf_heq {T : BufTy} (x : TRef sig T) (v : T.Contents Val) : HEq (x.toBuf v) v := cast_heq _ _

/-- Two buffers written with one value. -/
theorem toBuf_same {T : BufTy} (x : TRef sig T) (x' : TRef sig' T) {v v' : T.Contents Val} (h : v = v') :
    HEq (x.toBuf v) (x'.toBuf v') := by
  subst h
  exact (toBuf_heq x v).trans (toBuf_heq x' v).symm

/-- Buffers that hold the same are read as one value. -/
theorem ofBuf_same {T : BufTy} (x : TRef sig T) (x' : TRef sig' T) {F : Valuation τ sig Val} {F' : Valuation τ' sig' Val}
    (h : Same F F' (x.ref, x'.ref)) : x.ofBuf (F (Proc.devRef .tc x.ref)) = x'.ofBuf (F' (Proc.devRef .tc x'.ref)) :=
  eq_of_heq ((ofBuf_heq x _).trans (HEq.trans h (ofBuf_heq x' _).symm))

section Steps

variable {Ta Tb Ty : BufTy}

theorem step_n (y : TRef sig Ty) (y' : TRef sig' Ty) (v : Ty.Contents Val) :
    Step (TRef.nullary (τ := τ) y v) (TRef.nullary (τ := τ') y' v) (y.ref, y'.ref) [] where
  same F F' _ := by
    unfold Same
    rw [nullary_result, nullary_result]
    exact toBuf_same y y' rfl
  left F r h := nullary_result_ne (h := h) ..
  right F r h := nullary_result_ne (h := h) ..

theorem step_u (a : TRef sig Ta) (y : TRef sig Ty) (a' : TRef sig' Ta) (y' : TRef sig' Ty)
    (f : Ta.Contents Val → Ty.Contents Val) :
    Step (TRef.unary (τ := τ) a y f) (TRef.unary (τ := τ') a' y' f) (y.ref, y'.ref) [(a.ref, a'.ref)] where
  same F F' h := by
    unfold Same
    rw [unary_result, unary_result]
    exact toBuf_same y y' (congrArg f (ofBuf_same a a' (h _ (by simp))))
  left F r h := unary_result_ne (h := h) ..
  right F r h := unary_result_ne (h := h) ..

theorem step_b (a : TRef sig Ta) (b : TRef sig Tb) (y : TRef sig Ty) (a' : TRef sig' Ta) (b' : TRef sig' Tb)
    (y' : TRef sig' Ty) (f : Ta.Contents Val → Tb.Contents Val → Ty.Contents Val) :
    Step (TRef.binary (τ := τ) a b y f) (TRef.binary (τ := τ') a' b' y' f) (y.ref, y'.ref)
      [(a.ref, a'.ref), (b.ref, b'.ref)] where
  same F F' h := by
    unfold Same
    rw [binary_result, binary_result]
    exact toBuf_same y y' (congrArg₂ f (ofBuf_same a a' (h _ (by simp))) (ofBuf_same b b' (h _ (by simp))))
  left F r h := binary_result_ne (h := h) ..
  right F r h := binary_result_ne (h := h) ..

/-- A reshape's result at the value's types. -/
theorem reshape_at (a : TRef sig Ta) (y : TRef sig Ty) (he : Ta.elt = Ty.elt) (hn : Ta.shape.ShapeCasts Ty.shape)
    (F : Valuation τ sig Val) :
    (TRef.reshape a y he hn).result F (Proc.devRef .tc y.ref)
      = y.toBuf (fun i => he ▸ shapeCast Ty.shape (a.ofBuf (F (Proc.devRef .tc a.ref))) hn i) := by
  obtain ⟨ra, rfl, _, _⟩ := a
  obtain ⟨ry, rfl, _, _⟩ := y
  rw [reshape_result]
  rfl

theorem step_r (a : TRef sig Ta) (y : TRef sig Ty) (a' : TRef sig' Ta) (y' : TRef sig' Ty)
    (he : Ta.elt = Ty.elt) (hn : Ta.shape.ShapeCasts Ty.shape) :
    Step (TRef.reshape (τ := τ) (Val := Val) a y he hn) (TRef.reshape (τ := τ') a' y' he hn) (y.ref, y'.ref)
      [(a.ref, a'.ref)] where
  same F F' h := by
    unfold Same
    rw [reshape_at, reshape_at, ofBuf_same a a' (h _ (by simp))]
    exact toBuf_same y y' rfl
  left F r h := reshape_result_ne (h := h) ..
  right F r h := reshape_result_ne (h := h) ..

end Steps

/-- What a pair of lines writes and reads, step by step. -/
abbrev Record (sig sig' : RefSig) : Type := List (Pair sig sig' × List (Pair sig sig'))

/-- Two lines alike, step by step. -/
inductive Alike : List (HloOp τ sig Val) → List (HloOp τ' sig' Val) → Type
  | done : Alike [] []
  | step {o o' l l'} (y : Pair sig sig') (ins : List (Pair sig sig')) : Step o o' y ins → Alike l l' → Alike (o :: l) (o' :: l')

/-- The record of their steps. -/
def Alike.record {l : List (HloOp τ sig Val)} {l' : List (HloOp τ' sig' Val)} : Alike l l' → Record sig sig'
  | .done => []
  | .step y ins _ h => (y, ins) :: h.record

/-- The check of a record from the pairs already known: what a step reads is known, what it writes is new on both sides,
and the wanted pair is known at the end. -/
def sound (want : Pair sig sig') : List (Pair sig sig') → Record sig sig' → Bool
  | known, [] => known.contains want
  | known, (y, ins) :: c =>
    ins.all known.contains && known.all (fun p => p.1 != y.1 && p.2 != y.2) && sound want (y :: known) c

/-- Alike lines keep what is known the same, and end the same at the wanted pair. -/
theorem alike_same {want : Pair sig sig'} {l : List (HloOp τ sig Val)} {l' : List (HloOp τ' sig' Val)}
    (hl : Alike l l') : ∀ (known : List (Pair sig sig')) (F : Valuation τ sig Val)
      (F' : Valuation τ' sig' Val), sound want known hl.record = true → (∀ p ∈ known, Same F F' p) →
      Same (after l F) (after l' F') want := by
  induction hl with
  | done =>
    intro known F F' hs hk
    exact hk _ (by simpa [Alike.record, sound] using hs)
  | @step o o' l l' y ins hst hl ih =>
    intro known F F' hs hk
    simp only [Alike.record, sound, Bool.and_eq_true, List.all_eq_true, bne_iff_ne, ne_eq] at hs
    obtain ⟨⟨hi, hn⟩, hs⟩ := hs
    refine ih (y :: known) (o.result F) (o'.result F') hs fun p hp => ?_
    rcases List.mem_cons.mp hp with rfl | hp
    · exact hst.same F F' fun q hq => hk q (by simpa using hi q hq)
    · unfold Same
      rw [hst.left F p.1 (hn p hp).1, hst.right F' p.2 (hn p hp).2]
      exact hk p hp

/-- A buffer the record does not write is as it was, on the second side. -/
theorem alike_keeps {l : List (HloOp τ sig Val)} {l' : List (HloOp τ' sig' Val)}
    (hl : Alike l l') (r : Ref sig' .tc) : ∀ F' : Valuation τ' sig' Val, (hl.record.all fun s => s.1.2 != r) = true →
      after l' F' (Proc.devRef .tc r) = F' (Proc.devRef .tc r) := by
  induction hl with
  | done => exact fun _ _ => rfl
  | @step o o' l l' y ins hst hl ih =>
    intro F' h
    simp only [Alike.record, List.all_cons, Bool.and_eq_true, bne_iff_ne, ne_eq] at h
    exact (ih _ h.2).trans (hst.right F' r (Ne.symm h.1))

end Cert.Policy

end
-- ==== Proof.Draw.lean ====
/-
  The reference's drawing of the noise: the operations that make the key's two words into a 128 by 100000 array of noise,
  in order. They read the key and write buffers of their own, the last of them the noise.
-/
module

public import proofs.«01_k».proof.ReferenceIdeal
public import proofs.«01_k».proof.Proof.Gen.ReferenceIdeal
public import Idealize.ShloMosaic.Lib.StableHlo.Run

@[expose] public section

set_option maxRecDepth 100000
set_option maxHeartbeats 40000000
set_option pp.maxSteps 100

noncomputable section

namespace Cert.ReferenceIdeal.Policy

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F]

/-- The drawing. -/
abbrev drawOps : List (HloOp τ sig (Elt F)) :=
  [ TRef.nullary (.of main_call0_cst : TRef sig ⟨S_, .f32⟩) (constant S_ .f32 0x3F800000#32),
    TRef.nullary (.of main_call0_cst_0 : TRef sig ⟨S_, .f32⟩) (constant S_ .f32 0x00800000#32),
    TRef.unary (.of main_call0_cst : TRef sig ⟨S_, .f32⟩) (.of main_call0_call0_v0 : TRef sig ⟨S_, .f32⟩) id,
    TRef.unary (.of main_call0_cst_0 : TRef sig ⟨S_, .f32⟩) (.of main_call0_call0_v1 : TRef sig ⟨S1x1, .f32⟩) (broadcastInDim S1x1 ![] bcast_S_S1x1),
    TRef.unary (.of main_call0_call0_v0 : TRef sig ⟨S_, .f32⟩) (.of main_call0_call0_v2 : TRef sig ⟨S1x1, .f32⟩) (broadcastInDim S1x1 ![] bcast_S_S1x1),
    TRef.unary (.of main_v22 : TRef sig ⟨S2, .i32⟩) (.of main_call0_call0_v3 : TRef sig ⟨S1, .i32⟩) (extractStridedSlice S1 ![0] · slices_S2_S1_0),
    TRef.reshape (.of main_call0_call0_v3 : TRef sig ⟨S1, .i32⟩) (.of main_call0_call0_v4 : TRef sig ⟨S_, .i32⟩) (rfl : (.i32 : EltTy) = .i32) shapeCasts_S1_S_,
    TRef.unary (.of main_v22 : TRef sig ⟨S2, .i32⟩) (.of main_call0_call0_v5 : TRef sig ⟨S1, .i32⟩) (extractStridedSlice S1 ![1] · slices_S2_S1_1),
    TRef.reshape (.of main_call0_call0_v5 : TRef sig ⟨S1, .i32⟩) (.of main_call0_call0_v6 : TRef sig ⟨S_, .i32⟩) (rfl : (.i32 : EltTy) = .i32) shapeCasts_S1_S_,
    TRef.nullary (.of main_call0_call0_v7 : TRef sig ⟨S128x100000, .i64⟩) (iotaInDim S128x100000 64 0),
    TRef.nullary (.of main_call0_call0_v8 : TRef sig ⟨S128x100000, .i64⟩) (iotaInDim S128x100000 64 1),
    TRef.nullary (.of main_call0_call0_c : TRef sig ⟨S_, .i64⟩) (constantI S_ 64 100000#64),
    TRef.unary (.of main_call0_call0_c : TRef sig ⟨S_, .i64⟩) (.of main_call0_call0_v9 : TRef sig ⟨S128x100000, .i64⟩) (broadcastInDim S128x100000 ![] bcast_S_S128x100000),
    TRef.binary (.of main_call0_call0_v9 : TRef sig ⟨S128x100000, .i64⟩) (.of main_call0_call0_v7 : TRef sig ⟨S128x100000, .i64⟩) (.of main_call0_call0_v10 : TRef sig ⟨S128x100000, .i64⟩) muli,
    TRef.nullary (.of main_call0_call0_c_0 : TRef sig ⟨S_, .i64⟩) (constantI S_ 64 1#64),
    TRef.unary (.of main_call0_call0_c_0 : TRef sig ⟨S_, .i64⟩) (.of main_call0_call0_v11 : TRef sig ⟨S128x100000, .i64⟩) (broadcastInDim S128x100000 ![] bcast_S_S128x100000),
    TRef.binary (.of main_call0_call0_v11 : TRef sig ⟨S128x100000, .i64⟩) (.of main_call0_call0_v8 : TRef sig ⟨S128x100000, .i64⟩) (.of main_call0_call0_v12 : TRef sig ⟨S128x100000, .i64⟩) muli,
    TRef.binary (.of main_call0_call0_v10 : TRef sig ⟨S128x100000, .i64⟩) (.of main_call0_call0_v12 : TRef sig ⟨S128x100000, .i64⟩) (.of main_call0_call0_v13 : TRef sig ⟨S128x100000, .i64⟩) addi,
    TRef.nullary (.of main_call0_call0_c_1 : TRef sig ⟨S_, .i64⟩) (constantI S_ 64 32#64),
    TRef.unary (.of main_call0_call0_c_1 : TRef sig ⟨S_, .i64⟩) (.of main_call0_call0_v14 : TRef sig ⟨S128x100000, .i64⟩) (broadcastInDim S128x100000 ![] bcast_S_S128x100000),
    TRef.binary (.of main_call0_call0_v13 : TRef sig ⟨S128x100000, .i64⟩) (.of main_call0_call0_v14 : TRef sig ⟨S128x100000, .i64⟩) (.of main_call0_call0_v15 : TRef sig ⟨S128x100000, .i64⟩) Host.shrui,
    TRef.unary (.of main_call0_call0_v13 : TRef sig ⟨S128x100000, .i64⟩) (.of main_call0_call0_v16 : TRef sig ⟨S128x100000, .i32⟩) (trunci 32 · natLt_32_64),
    TRef.unary (.of main_call0_call0_v15 : TRef sig ⟨S128x100000, .i64⟩) (.of main_call0_call0_v17 : TRef sig ⟨S128x100000, .i32⟩) (trunci 32 · natLt_32_64),
    TRef.binary (.of main_call0_call0_v4 : TRef sig ⟨S_, .i32⟩) (.of main_call0_call0_v6 : TRef sig ⟨S_, .i32⟩) (.of main_call0_call0_call0_v0 : TRef sig ⟨S_, .i32⟩) xori,
    TRef.nullary (.of main_call0_call0_call0_c : TRef sig ⟨S_, .i32⟩) (constantI S_ 32 466688986#32),
    TRef.binary (.of main_call0_call0_call0_v0 : TRef sig ⟨S_, .i32⟩) (.of main_call0_call0_call0_c : TRef sig ⟨S_, .i32⟩) (.of main_call0_call0_call0_v1 : TRef sig ⟨S_, .i32⟩) xori,
    TRef.unary (.of main_call0_call0_v4 : TRef sig ⟨S_, .i32⟩) (.of main_call0_call0_call0_v2 : TRef sig ⟨S128x100000, .i32⟩) (broadcastInDim S128x100000 ![] bcast_S_S128x100000),
    TRef.binary (.of main_call0_call0_v17 : TRef sig ⟨S128x100000, .i32⟩) (.of main_call0_call0_call0_v2 : TRef sig ⟨S128x100000, .i32⟩) (.of main_call0_call0_call0_v3 : TRef sig ⟨S128x100000, .i32⟩) addi,
    TRef.unary (.of main_call0_call0_v6 : TRef sig ⟨S_, .i32⟩) (.of main_call0_call0_call0_v4 : TRef sig ⟨S128x100000, .i32⟩) (broadcastInDim S128x100000 ![] bcast_S_S128x100000),
    TRef.binary (.of main_call0_call0_v16 : TRef sig ⟨S128x100000, .i32⟩) (.of main_call0_call0_call0_v4 : TRef sig ⟨S128x100000, .i32⟩) (.of main_call0_call0_call0_v5 : TRef sig ⟨S128x100000, .i32⟩) addi,
    TRef.binary (.of main_call0_call0_call0_v3 : TRef sig ⟨S128x100000, .i32⟩) (.of main_call0_call0_call0_v5 : TRef sig ⟨S128x100000, .i32⟩) (.of main_call0_call0_call0_v6 : TRef sig ⟨S128x100000, .i32⟩) addi,
    TRef.nullary (.of main_call0_call0_call0_c_0 : TRef sig ⟨S_, .i32⟩) (constantI S_ 32 13#32),
    TRef.unary (.of main_call0_call0_call0_c_0 : TRef sig ⟨S_, .i32⟩) (.of main_call0_call0_call0_v7 : TRef sig ⟨S128x100000, .i32⟩) (broadcastInDim S128x100000 ![] bcast_S_S128x100000),
    TRef.binary (.of main_call0_call0_call0_v5 : TRef sig ⟨S128x100000, .i32⟩) (.of main_call0_call0_call0_v7 : TRef sig ⟨S128x100000, .i32⟩) (.of main_call0_call0_call0_v8 : TRef sig ⟨S128x100000, .i32⟩) Host.shli,
    TRef.nullary (.of main_call0_call0_call0_c_1 : TRef sig ⟨S_, .i32⟩) (constantI S_ 32 19#32),
    TRef.unary (.of main_call0_call0_call0_c_1 : TRef sig ⟨S_, .i32⟩) (.of main_call0_call0_call0_v9 : TRef sig ⟨S128x100000, .i32⟩) (broadcastInDim S128x100000 ![] bcast_S_S128x100000),
    TRef.binary (.of main_call0_call0_call0_v5 : TRef sig ⟨S128x100000, .i32⟩) (.of main_call0_call0_call0_v9 : TRef sig ⟨S128x100000, .i32⟩) (.of main_call0_call0_call0_v10 : TRef sig ⟨S128x100000, .i32⟩) Host.shrui,
    TRef.binary (.of main_call0_call0_call0_v8 : TRef sig ⟨S128x100000, .i32⟩) (.of main_call0_call0_call0_v10 : TRef sig ⟨S128x100000, .i32⟩) (.of main_call0_call0_call0_v11 : TRef sig ⟨S128x100000, .i32⟩) ori,
    TRef.binary (.of main_call0_call0_call0_v6 : TRef sig ⟨S128x100000, .i32⟩) (.of main_call0_call0_call0_v11 : TRef sig ⟨S128x100000, .i32⟩) (.of main_call0_call0_call0_v12 : TRef sig ⟨S128x100000, .i32⟩) xori,
    TRef.binary (.of main_call0_call0_call0_v6 : TRef sig ⟨S128x100000, .i32⟩) (.of main_call0_call0_call0_v12 : TRef sig ⟨S128x100000, .i32⟩) (.of main_call0_call0_call0_v13 : TRef sig ⟨S128x100000, .i32⟩) addi,
    TRef.nullary (.of main_call0_call0_call0_c_2 : TRef sig ⟨S_, .i32⟩) (constantI S_ 32 15#32),
    TRef.unary (.of main_call0_call0_call0_c_2 : TRef sig ⟨S_, .i32⟩) (.of main_call0_call0_call0_v14 : TRef sig ⟨S128x100000, .i32⟩) (broadcastInDim S128x100000 ![] bcast_S_S128x100000),
    TRef.binary (.of main_call0_call0_call0_v12 : TRef sig ⟨S128x100000, .i32⟩) (.of main_call0_call0_call0_v14 : TRef sig ⟨S128x100000, .i32⟩) (.of main_call0_call0_call0_v15 : TRef sig ⟨S128x100000, .i32⟩) Host.shli,
    TRef.nullary (.of main_call0_call0_call0_c_3 : TRef sig ⟨S_, .i32⟩) (constantI S_ 32 17#32),
    TRef.unary (.of main_call0_call0_call0_c_3 : TRef sig ⟨S_, .i32⟩) (.of main_call0_call0_call0_v16 : TRef sig ⟨S128x100000, .i32⟩) (broadcastInDim S128x100000 ![] bcast_S_S128x100000),
    TRef.binary (.of main_call0_call0_call0_v12 : TRef sig ⟨S128x100000, .i32⟩) (.of main_call0_call0_call0_v16 : TRef sig ⟨S128x100000, .i32⟩) (.of main_call0_call0_call0_v17 : TRef sig ⟨S128x100000, .i32⟩) Host.shrui,
    TRef.binary (.of main_call0_call0_call0_v15 : TRef sig ⟨S128x100000, .i32⟩) (.of main_call0_call0_call0_v17 : TRef sig ⟨S128x100000, .i32⟩) (.of main_call0_call0_call0_v18 : TRef sig ⟨S128x100000, .i32⟩) ori,
    TRef.binary (.of main_call0_call0_call0_v13 : TRef sig ⟨S128x100000, .i32⟩) (.of main_call0_call0_call0_v18 : TRef sig ⟨S128x100000, .i32⟩) (.of main_call0_call0_call0_v19 : TRef sig ⟨S128x100000, .i32⟩) xori,
    TRef.binary (.of main_call0_call0_call0_v13 : TRef sig ⟨S128x100000, .i32⟩) (.of main_call0_call0_call0_v19 : TRef sig ⟨S128x100000, .i32⟩) (.of main_call0_call0_call0_v20 : TRef sig ⟨S128x100000, .i32⟩) addi,
    TRef.nullary (.of main_call0_call0_call0_c_4 : TRef sig ⟨S_, .i32⟩) (constantI S_ 32 26#32),
    TRef.unary (.of main_call0_call0_call0_c_4 : TRef sig ⟨S_, .i32⟩) (.of main_call0_call0_call0_v21 : TRef sig ⟨S128x100000, .i32⟩) (broadcastInDim S128x100000 ![] bcast_S_S128x100000),
    TRef.binary (.of main_call0_call0_call0_v19 : TRef sig ⟨S128x100000, .i32⟩) (.of main_call0_call0_call0_v21 : TRef sig ⟨S128x100000, .i32⟩) (.of main_call0_call0_call0_v22 : TRef sig ⟨S128x100000, .i32⟩) Host.shli,
    TRef.nullary (.of main_call0_call0_call0_c_5 : TRef sig ⟨S_, .i32⟩) (constantI S_ 32 6#32),
    TRef.unary (.of main_call0_call0_call0_c_5 : TRef sig ⟨S_, .i32⟩) (.of main_call0_call0_call0_v23 : TRef sig ⟨S128x100000, .i32⟩) (broadcastInDim S128x100000 ![] bcast_S_S128x100000),
    TRef.binary (.of main_call0_call0_call0_v19 : TRef sig ⟨S128x100000, .i32⟩) (.of main_call0_call0_call0_v23 : TRef sig ⟨S128x100000, .i32⟩) (.of main_call0_call0_call0_v24 : TRef sig ⟨S128x100000, .i32⟩) Host.shrui,
    TRef.binary (.of main_call0_call0_call0_v22 : TRef sig ⟨S128x100000, .i32⟩) (.of main_call0_call0_call0_v24 : TRef sig ⟨S128x100000, .i32⟩) (.of main_call0_call0_call0_v25 : TRef sig ⟨S128x100000, .i32⟩) ori,
    TRef.binary (.of main_call0_call0_call0_v20 : TRef sig ⟨S128x100000, .i32⟩) (.of main_call0_call0_call0_v25 : TRef sig ⟨S128x100000, .i32⟩) (.of main_call0_call0_call0_v26 : TRef sig ⟨S128x100000, .i32⟩) xori,
    TRef.binary (.of main_call0_call0_call0_v20 : TRef sig ⟨S128x100000, .i32⟩) (.of main_call0_call0_call0_v26 : TRef sig ⟨S128x100000, .i32⟩) (.of main_call0_call0_call0_v27 : TRef sig ⟨S128x100000, .i32⟩) addi,
    TRef.nullary (.of main_call0_call0_call0_c_6 : TRef sig ⟨S_, .i32⟩) (constantI S_ 32 6#32),
    TRef.unary (.of main_call0_call0_call0_c_6 : TRef sig ⟨S_, .i32⟩) (.of main_call0_call0_call0_v28 : TRef sig ⟨S128x100000, .i32⟩) (broadcastInDim S128x100000 ![] bcast_S_S128x100000),
    TRef.binary (.of main_call0_call0_call0_v26 : TRef sig ⟨S128x100000, .i32⟩) (.of main_call0_call0_call0_v28 : TRef sig ⟨S128x100000, .i32⟩) (.of main_call0_call0_call0_v29 : TRef sig ⟨S128x100000, .i32⟩) Host.shli,
    TRef.nullary (.of main_call0_call0_call0_c_7 : TRef sig ⟨S_, .i32⟩) (constantI S_ 32 26#32),
    TRef.unary (.of main_call0_call0_call0_c_7 : TRef sig ⟨S_, .i32⟩) (.of main_call0_call0_call0_v30 : TRef sig ⟨S128x100000, .i32⟩) (broadcastInDim S128x100000 ![] bcast_S_S128x100000),
    TRef.binary (.of main_call0_call0_call0_v26 : TRef sig ⟨S128x100000, .i32⟩) (.of main_call0_call0_call0_v30 : TRef sig ⟨S128x100000, .i32⟩) (.of main_call0_call0_call0_v31 : TRef sig ⟨S128x100000, .i32⟩) Host.shrui,
    TRef.binary (.of main_call0_call0_call0_v29 : TRef sig ⟨S128x100000, .i32⟩) (.of main_call0_call0_call0_v31 : TRef sig ⟨S128x100000, .i32⟩) (.of main_call0_call0_call0_v32 : TRef sig ⟨S128x100000, .i32⟩) ori,
    TRef.binary (.of main_call0_call0_call0_v27 : TRef sig ⟨S128x100000, .i32⟩) (.of main_call0_call0_call0_v32 : TRef sig ⟨S128x100000, .i32⟩) (.of main_call0_call0_call0_v33 : TRef sig ⟨S128x100000, .i32⟩) xori,
    TRef.unary (.of main_call0_call0_v6 : TRef sig ⟨S_, .i32⟩) (.of main_call0_call0_call0_v34 : TRef sig ⟨S128x100000, .i32⟩) (broadcastInDim S128x100000 ![] bcast_S_S128x100000),
    TRef.binary (.of main_call0_call0_call0_v27 : TRef sig ⟨S128x100000, .i32⟩) (.of main_call0_call0_call0_v34 : TRef sig ⟨S128x100000, .i32⟩) (.of main_call0_call0_call0_v35 : TRef sig ⟨S128x100000, .i32⟩) addi,
    TRef.unary (.of main_call0_call0_call0_v1 : TRef sig ⟨S_, .i32⟩) (.of main_call0_call0_call0_v36 : TRef sig ⟨S128x100000, .i32⟩) (broadcastInDim S128x100000 ![] bcast_S_S128x100000),
    TRef.binary (.of main_call0_call0_call0_v33 : TRef sig ⟨S128x100000, .i32⟩) (.of main_call0_call0_call0_v36 : TRef sig ⟨S128x100000, .i32⟩) (.of main_call0_call0_call0_v37 : TRef sig ⟨S128x100000, .i32⟩) addi,
    TRef.nullary (.of main_call0_call0_call0_c_8 : TRef sig ⟨S_, .i32⟩) (constantI S_ 32 1#32),
    TRef.unary (.of main_call0_call0_call0_c_8 : TRef sig ⟨S_, .i32⟩) (.of main_call0_call0_call0_v38 : TRef sig ⟨S128x100000, .i32⟩) (broadcastInDim S128x100000 ![] bcast_S_S128x100000),
    TRef.binary (.of main_call0_call0_call0_v37 : TRef sig ⟨S128x100000, .i32⟩) (.of main_call0_call0_call0_v38 : TRef sig ⟨S128x100000, .i32⟩) (.of main_call0_call0_call0_v39 : TRef sig ⟨S128x100000, .i32⟩) addi,
    TRef.binary (.of main_call0_call0_call0_v35 : TRef sig ⟨S128x100000, .i32⟩) (.of main_call0_call0_call0_v39 : TRef sig ⟨S128x100000, .i32⟩) (.of main_call0_call0_call0_v40 : TRef sig ⟨S128x100000, .i32⟩) addi,
    TRef.nullary (.of main_call0_call0_call0_c_9 : TRef sig ⟨S_, .i32⟩) (constantI S_ 32 17#32),
    TRef.unary (.of main_call0_call0_call0_c_9 : TRef sig ⟨S_, .i32⟩) (.of main_call0_call0_call0_v41 : TRef sig ⟨S128x100000, .i32⟩) (broadcastInDim S128x100000 ![] bcast_S_S128x100000),
    TRef.binary (.of main_call0_call0_call0_v39 : TRef sig ⟨S128x100000, .i32⟩) (.of main_call0_call0_call0_v41 : TRef sig ⟨S128x100000, .i32⟩) (.of main_call0_call0_call0_v42 : TRef sig ⟨S128x100000, .i32⟩) Host.shli,
    TRef.nullary (.of main_call0_call0_call0_c_10 : TRef sig ⟨S_, .i32⟩) (constantI S_ 32 15#32),
    TRef.unary (.of main_call0_call0_call0_c_10 : TRef sig ⟨S_, .i32⟩) (.of main_call0_call0_call0_v43 : TRef sig ⟨S128x100000, .i32⟩) (broadcastInDim S128x100000 ![] bcast_S_S128x100000),
    TRef.binary (.of main_call0_call0_call0_v39 : TRef sig ⟨S128x100000, .i32⟩) (.of main_call0_call0_call0_v43 : TRef sig ⟨S128x100000, .i32⟩) (.of main_call0_call0_call0_v44 : TRef sig ⟨S128x100000, .i32⟩) Host.shrui,
    TRef.binary (.of main_call0_call0_call0_v42 : TRef sig ⟨S128x100000, .i32⟩) (.of main_call0_call0_call0_v44 : TRef sig ⟨S128x100000, .i32⟩) (.of main_call0_call0_call0_v45 : TRef sig ⟨S128x100000, .i32⟩) ori,
    TRef.binary (.of main_call0_call0_call0_v40 : TRef sig ⟨S128x100000, .i32⟩) (.of main_call0_call0_call0_v45 : TRef sig ⟨S128x100000, .i32⟩) (.of main_call0_call0_call0_v46 : TRef sig ⟨S128x100000, .i32⟩) xori,
    TRef.binary (.of main_call0_call0_call0_v40 : TRef sig ⟨S128x100000, .i32⟩) (.of main_call0_call0_call0_v46 : TRef sig ⟨S128x100000, .i32⟩) (.of main_call0_call0_call0_v47 : TRef sig ⟨S128x100000, .i32⟩) addi,
    TRef.nullary (.of main_call0_call0_call0_c_11 : TRef sig ⟨S_, .i32⟩) (constantI S_ 32 29#32),
    TRef.unary (.of main_call0_call0_call0_c_11 : TRef sig ⟨S_, .i32⟩) (.of main_call0_call0_call0_v48 : TRef sig ⟨S128x100000, .i32⟩) (broadcastInDim S128x100000 ![] bcast_S_S128x100000),
    TRef.binary (.of main_call0_call0_call0_v46 : TRef sig ⟨S128x100000, .i32⟩) (.of main_call0_call0_call0_v48 : TRef sig ⟨S128x100000, .i32⟩) (.of main_call0_call0_call0_v49 : TRef sig ⟨S128x100000, .i32⟩) Host.shli,
    TRef.nullary (.of main_call0_call0_call0_c_12 : TRef sig ⟨S_, .i32⟩) (constantI S_ 32 3#32),
    TRef.unary (.of main_call0_call0_call0_c_12 : TRef sig ⟨S_, .i32⟩) (.of main_call0_call0_call0_v50 : TRef sig ⟨S128x100000, .i32⟩) (broadcastInDim S128x100000 ![] bcast_S_S128x100000),
    TRef.binary (.of main_call0_call0_call0_v46 : TRef sig ⟨S128x100000, .i32⟩) (.of main_call0_call0_call0_v50 : TRef sig ⟨S128x100000, .i32⟩) (.of main_call0_call0_call0_v51 : TRef sig ⟨S128x100000, .i32⟩) Host.shrui,
    TRef.binary (.of main_call0_call0_call0_v49 : TRef sig ⟨S128x100000, .i32⟩) (.of main_call0_call0_call0_v51 : TRef sig ⟨S128x100000, .i32⟩) (.of main_call0_call0_call0_v52 : TRef sig ⟨S128x100000, .i32⟩) ori,
    TRef.binary (.of main_call0_call0_call0_v47 : TRef sig ⟨S128x100000, .i32⟩) (.of main_call0_call0_call0_v52 : TRef sig ⟨S128x100000, .i32⟩) (.of main_call0_call0_call0_v53 : TRef sig ⟨S128x100000, .i32⟩) xori,
    TRef.binary (.of main_call0_call0_call0_v47 : TRef sig ⟨S128x100000, .i32⟩) (.of main_call0_call0_call0_v53 : TRef sig ⟨S128x100000, .i32⟩) (.of main_call0_call0_call0_v54 : TRef sig ⟨S128x100000, .i32⟩) addi,
    TRef.nullary (.of main_call0_call0_call0_c_13 : TRef sig ⟨S_, .i32⟩) (constantI S_ 32 16#32),
    TRef.unary (.of main_call0_call0_call0_c_13 : TRef sig ⟨S_, .i32⟩) (.of main_call0_call0_call0_v55 : TRef sig ⟨S128x100000, .i32⟩) (broadcastInDim S128x100000 ![] bcast_S_S128x100000),
    TRef.binary (.of main_call0_call0_call0_v53 : TRef sig ⟨S128x100000, .i32⟩) (.of main_call0_call0_call0_v55 : TRef sig ⟨S128x100000, .i32⟩) (.of main_call0_call0_call0_v56 : TRef sig ⟨S128x100000, .i32⟩) Host.shli,
    TRef.nullary (.of main_call0_call0_call0_c_14 : TRef sig ⟨S_, .i32⟩) (constantI S_ 32 16#32),
    TRef.unary (.of main_call0_call0_call0_c_14 : TRef sig ⟨S_, .i32⟩) (.of main_call0_call0_call0_v57 : TRef sig ⟨S128x100000, .i32⟩) (broadcastInDim S128x100000 ![] bcast_S_S128x100000),
    TRef.binary (.of main_call0_call0_call0_v53 : TRef sig ⟨S128x100000, .i32⟩) (.of main_call0_call0_call0_v57 : TRef sig ⟨S128x100000, .i32⟩) (.of main_call0_call0_call0_v58 : TRef sig ⟨S128x100000, .i32⟩) Host.shrui,
    TRef.binary (.of main_call0_call0_call0_v56 : TRef sig ⟨S128x100000, .i32⟩) (.of main_call0_call0_call0_v58 : TRef sig ⟨S128x100000, .i32⟩) (.of main_call0_call0_call0_v59 : TRef sig ⟨S128x100000, .i32⟩) ori,
    TRef.binary (.of main_call0_call0_call0_v54 : TRef sig ⟨S128x100000, .i32⟩) (.of main_call0_call0_call0_v59 : TRef sig ⟨S128x100000, .i32⟩) (.of main_call0_call0_call0_v60 : TRef sig ⟨S128x100000, .i32⟩) xori,
    TRef.binary (.of main_call0_call0_call0_v54 : TRef sig ⟨S128x100000, .i32⟩) (.of main_call0_call0_call0_v60 : TRef sig ⟨S128x100000, .i32⟩) (.of main_call0_call0_call0_v61 : TRef sig ⟨S128x100000, .i32⟩) addi,
    TRef.nullary (.of main_call0_call0_call0_c_15 : TRef sig ⟨S_, .i32⟩) (constantI S_ 32 24#32),
    TRef.unary (.of main_call0_call0_call0_c_15 : TRef sig ⟨S_, .i32⟩) (.of main_call0_call0_call0_v62 : TRef sig ⟨S128x100000, .i32⟩) (broadcastInDim S128x100000 ![] bcast_S_S128x100000),
    TRef.binary (.of main_call0_call0_call0_v60 : TRef sig ⟨S128x100000, .i32⟩) (.of main_call0_call0_call0_v62 : TRef sig ⟨S128x100000, .i32⟩) (.of main_call0_call0_call0_v63 : TRef sig ⟨S128x100000, .i32⟩) Host.shli,
    TRef.nullary (.of main_call0_call0_call0_c_16 : TRef sig ⟨S_, .i32⟩) (constantI S_ 32 8#32),
    TRef.unary (.of main_call0_call0_call0_c_16 : TRef sig ⟨S_, .i32⟩) (.of main_call0_call0_call0_v64 : TRef sig ⟨S128x100000, .i32⟩) (broadcastInDim S128x100000 ![] bcast_S_S128x100000),
    TRef.binary (.of main_call0_call0_call0_v60 : TRef sig ⟨S128x100000, .i32⟩) (.of main_call0_call0_call0_v64 : TRef sig ⟨S128x100000, .i32⟩) (.of main_call0_call0_call0_v65 : TRef sig ⟨S128x100000, .i32⟩) Host.shrui,
    TRef.binary (.of main_call0_call0_call0_v63 : TRef sig ⟨S128x100000, .i32⟩) (.of main_call0_call0_call0_v65 : TRef sig ⟨S128x100000, .i32⟩) (.of main_call0_call0_call0_v66 : TRef sig ⟨S128x100000, .i32⟩) ori,
    TRef.binary (.of main_call0_call0_call0_v61 : TRef sig ⟨S128x100000, .i32⟩) (.of main_call0_call0_call0_v66 : TRef sig ⟨S128x100000, .i32⟩) (.of main_call0_call0_call0_v67 : TRef sig ⟨S128x100000, .i32⟩) xori,
    TRef.unary (.of main_call0_call0_call0_v1 : TRef sig ⟨S_, .i32⟩) (.of main_call0_call0_call0_v68 : TRef sig ⟨S128x100000, .i32⟩) (broadcastInDim S128x100000 ![] bcast_S_S128x100000),
    TRef.binary (.of main_call0_call0_call0_v61 : TRef sig ⟨S128x100000, .i32⟩) (.of main_call0_call0_call0_v68 : TRef sig ⟨S128x100000, .i32⟩) (.of main_call0_call0_call0_v69 : TRef sig ⟨S128x100000, .i32⟩) addi,
    TRef.unary (.of main_call0_call0_v4 : TRef sig ⟨S_, .i32⟩) (.of main_call0_call0_call0_v70 : TRef sig ⟨S128x100000, .i32⟩) (broadcastInDim S128x100000 ![] bcast_S_S128x100000),
    TRef.binary (.of main_call0_call0_call0_v67 : TRef sig ⟨S128x100000, .i32⟩) (.of main_call0_call0_call0_v70 : TRef sig ⟨S128x100000, .i32⟩) (.of main_call0_call0_call0_v71 : TRef sig ⟨S128x100000, .i32⟩) addi,
    TRef.nullary (.of main_call0_call0_call0_c_17 : TRef sig ⟨S_, .i32⟩) (constantI S_ 32 2#32),
    TRef.unary (.of main_call0_call0_call0_c_17 : TRef sig ⟨S_, .i32⟩) (.of main_call0_call0_call0_v72 : TRef sig ⟨S128x100000, .i32⟩) (broadcastInDim S128x100000 ![] bcast_S_S128x100000),
    TRef.binary (.of main_call0_call0_call0_v71 : TRef sig ⟨S128x100000, .i32⟩) (.of main_call0_call0_call0_v72 : TRef sig ⟨S128x100000, .i32⟩) (.of main_call0_call0_call0_v73 : TRef sig ⟨S128x100000, .i32⟩) addi,
    TRef.binary (.of main_call0_call0_call0_v69 : TRef sig ⟨S128x100000, .i32⟩) (.of main_call0_call0_call0_v73 : TRef sig ⟨S128x100000, .i32⟩) (.of main_call0_call0_call0_v74 : TRef sig ⟨S128x100000, .i32⟩) addi,
    TRef.nullary (.of main_call0_call0_call0_c_18 : TRef sig ⟨S_, .i32⟩) (constantI S_ 32 13#32),
    TRef.unary (.of main_call0_call0_call0_c_18 : TRef sig ⟨S_, .i32⟩) (.of main_call0_call0_call0_v75 : TRef sig ⟨S128x100000, .i32⟩) (broadcastInDim S128x100000 ![] bcast_S_S128x100000),
    TRef.binary (.of main_call0_call0_call0_v73 : TRef sig ⟨S128x100000, .i32⟩) (.of main_call0_call0_call0_v75 : TRef sig ⟨S128x100000, .i32⟩) (.of main_call0_call0_call0_v76 : TRef sig ⟨S128x100000, .i32⟩) Host.shli,
    TRef.nullary (.of main_call0_call0_call0_c_19 : TRef sig ⟨S_, .i32⟩) (constantI S_ 32 19#32),
    TRef.unary (.of main_call0_call0_call0_c_19 : TRef sig ⟨S_, .i32⟩) (.of main_call0_call0_call0_v77 : TRef sig ⟨S128x100000, .i32⟩) (broadcastInDim S128x100000 ![] bcast_S_S128x100000),
    TRef.binary (.of main_call0_call0_call0_v73 : TRef sig ⟨S128x100000, .i32⟩) (.of main_call0_call0_call0_v77 : TRef sig ⟨S128x100000, .i32⟩) (.of main_call0_call0_call0_v78 : TRef sig ⟨S128x100000, .i32⟩) Host.shrui,
    TRef.binary (.of main_call0_call0_call0_v76 : TRef sig ⟨S128x100000, .i32⟩) (.of main_call0_call0_call0_v78 : TRef sig ⟨S128x100000, .i32⟩) (.of main_call0_call0_call0_v79 : TRef sig ⟨S128x100000, .i32⟩) ori,
    TRef.binary (.of main_call0_call0_call0_v74 : TRef sig ⟨S128x100000, .i32⟩) (.of main_call0_call0_call0_v79 : TRef sig ⟨S128x100000, .i32⟩) (.of main_call0_call0_call0_v80 : TRef sig ⟨S128x100000, .i32⟩) xori,
    TRef.binary (.of main_call0_call0_call0_v74 : TRef sig ⟨S128x100000, .i32⟩) (.of main_call0_call0_call0_v80 : TRef sig ⟨S128x100000, .i32⟩) (.of main_call0_call0_call0_v81 : TRef sig ⟨S128x100000, .i32⟩) addi,
    TRef.nullary (.of main_call0_call0_call0_c_20 : TRef sig ⟨S_, .i32⟩) (constantI S_ 32 15#32),
    TRef.unary (.of main_call0_call0_call0_c_20 : TRef sig ⟨S_, .i32⟩) (.of main_call0_call0_call0_v82 : TRef sig ⟨S128x100000, .i32⟩) (broadcastInDim S128x100000 ![] bcast_S_S128x100000),
    TRef.binary (.of main_call0_call0_call0_v80 : TRef sig ⟨S128x100000, .i32⟩) (.of main_call0_call0_call0_v82 : TRef sig ⟨S128x100000, .i32⟩) (.of main_call0_call0_call0_v83 : TRef sig ⟨S128x100000, .i32⟩) Host.shli,
    TRef.nullary (.of main_call0_call0_call0_c_21 : TRef sig ⟨S_, .i32⟩) (constantI S_ 32 17#32),
    TRef.unary (.of main_call0_call0_call0_c_21 : TRef sig ⟨S_, .i32⟩) (.of main_call0_call0_call0_v84 : TRef sig ⟨S128x100000, .i32⟩) (broadcastInDim S128x100000 ![] bcast_S_S128x100000),
    TRef.binary (.of main_call0_call0_call0_v80 : TRef sig ⟨S128x100000, .i32⟩) (.of main_call0_call0_call0_v84 : TRef sig ⟨S128x100000, .i32⟩) (.of main_call0_call0_call0_v85 : TRef sig ⟨S128x100000, .i32⟩) Host.shrui,
    TRef.binary (.of main_call0_call0_call0_v83 : TRef sig ⟨S128x100000, .i32⟩) (.of main_call0_call0_call0_v85 : TRef sig ⟨S128x100000, .i32⟩) (.of main_call0_call0_call0_v86 : TRef sig ⟨S128x100000, .i32⟩) ori,
    TRef.binary (.of main_call0_call0_call0_v81 : TRef sig ⟨S128x100000, .i32⟩) (.of main_call0_call0_call0_v86 : TRef sig ⟨S128x100000, .i32⟩) (.of main_call0_call0_call0_v87 : TRef sig ⟨S128x100000, .i32⟩) xori,
    TRef.binary (.of main_call0_call0_call0_v81 : TRef sig ⟨S128x100000, .i32⟩) (.of main_call0_call0_call0_v87 : TRef sig ⟨S128x100000, .i32⟩) (.of main_call0_call0_call0_v88 : TRef sig ⟨S128x100000, .i32⟩) addi,
    TRef.nullary (.of main_call0_call0_call0_c_22 : TRef sig ⟨S_, .i32⟩) (constantI S_ 32 26#32),
    TRef.unary (.of main_call0_call0_call0_c_22 : TRef sig ⟨S_, .i32⟩) (.of main_call0_call0_call0_v89 : TRef sig ⟨S128x100000, .i32⟩) (broadcastInDim S128x100000 ![] bcast_S_S128x100000),
    TRef.binary (.of main_call0_call0_call0_v87 : TRef sig ⟨S128x100000, .i32⟩) (.of main_call0_call0_call0_v89 : TRef sig ⟨S128x100000, .i32⟩) (.of main_call0_call0_call0_v90 : TRef sig ⟨S128x100000, .i32⟩) Host.shli,
    TRef.nullary (.of main_call0_call0_call0_c_23 : TRef sig ⟨S_, .i32⟩) (constantI S_ 32 6#32),
    TRef.unary (.of main_call0_call0_call0_c_23 : TRef sig ⟨S_, .i32⟩) (.of main_call0_call0_call0_v91 : TRef sig ⟨S128x100000, .i32⟩) (broadcastInDim S128x100000 ![] bcast_S_S128x100000),
    TRef.binary (.of main_call0_call0_call0_v87 : TRef sig ⟨S128x100000, .i32⟩) (.of main_call0_call0_call0_v91 : TRef sig ⟨S128x100000, .i32⟩) (.of main_call0_call0_call0_v92 : TRef sig ⟨S128x100000, .i32⟩) Host.shrui,
    TRef.binary (.of main_call0_call0_call0_v90 : TRef sig ⟨S128x100000, .i32⟩) (.of main_call0_call0_call0_v92 : TRef sig ⟨S128x100000, .i32⟩) (.of main_call0_call0_call0_v93 : TRef sig ⟨S128x100000, .i32⟩) ori,
    TRef.binary (.of main_call0_call0_call0_v88 : TRef sig ⟨S128x100000, .i32⟩) (.of main_call0_call0_call0_v93 : TRef sig ⟨S128x100000, .i32⟩) (.of main_call0_call0_call0_v94 : TRef sig ⟨S128x100000, .i32⟩) xori,
    TRef.binary (.of main_call0_call0_call0_v88 : TRef sig ⟨S128x100000, .i32⟩) (.of main_call0_call0_call0_v94 : TRef sig ⟨S128x100000, .i32⟩) (.of main_call0_call0_call0_v95 : TRef sig ⟨S128x100000, .i32⟩) addi,
    TRef.nullary (.of main_call0_call0_call0_c_24 : TRef sig ⟨S_, .i32⟩) (constantI S_ 32 6#32),
    TRef.unary (.of main_call0_call0_call0_c_24 : TRef sig ⟨S_, .i32⟩) (.of main_call0_call0_call0_v96 : TRef sig ⟨S128x100000, .i32⟩) (broadcastInDim S128x100000 ![] bcast_S_S128x100000),
    TRef.binary (.of main_call0_call0_call0_v94 : TRef sig ⟨S128x100000, .i32⟩) (.of main_call0_call0_call0_v96 : TRef sig ⟨S128x100000, .i32⟩) (.of main_call0_call0_call0_v97 : TRef sig ⟨S128x100000, .i32⟩) Host.shli,
    TRef.nullary (.of main_call0_call0_call0_c_25 : TRef sig ⟨S_, .i32⟩) (constantI S_ 32 26#32),
    TRef.unary (.of main_call0_call0_call0_c_25 : TRef sig ⟨S_, .i32⟩) (.of main_call0_call0_call0_v98 : TRef sig ⟨S128x100000, .i32⟩) (broadcastInDim S128x100000 ![] bcast_S_S128x100000),
    TRef.binary (.of main_call0_call0_call0_v94 : TRef sig ⟨S128x100000, .i32⟩) (.of main_call0_call0_call0_v98 : TRef sig ⟨S128x100000, .i32⟩) (.of main_call0_call0_call0_v99 : TRef sig ⟨S128x100000, .i32⟩) Host.shrui,
    TRef.binary (.of main_call0_call0_call0_v97 : TRef sig ⟨S128x100000, .i32⟩) (.of main_call0_call0_call0_v99 : TRef sig ⟨S128x100000, .i32⟩) (.of main_call0_call0_call0_v100 : TRef sig ⟨S128x100000, .i32⟩) ori,
    TRef.binary (.of main_call0_call0_call0_v95 : TRef sig ⟨S128x100000, .i32⟩) (.of main_call0_call0_call0_v100 : TRef sig ⟨S128x100000, .i32⟩) (.of main_call0_call0_call0_v101 : TRef sig ⟨S128x100000, .i32⟩) xori,
    TRef.unary (.of main_call0_call0_v4 : TRef sig ⟨S_, .i32⟩) (.of main_call0_call0_call0_v102 : TRef sig ⟨S128x100000, .i32⟩) (broadcastInDim S128x100000 ![] bcast_S_S128x100000),
    TRef.binary (.of main_call0_call0_call0_v95 : TRef sig ⟨S128x100000, .i32⟩) (.of main_call0_call0_call0_v102 : TRef sig ⟨S128x100000, .i32⟩) (.of main_call0_call0_call0_v103 : TRef sig ⟨S128x100000, .i32⟩) addi,
    TRef.unary (.of main_call0_call0_v6 : TRef sig ⟨S_, .i32⟩) (.of main_call0_call0_call0_v104 : TRef sig ⟨S128x100000, .i32⟩) (broadcastInDim S128x100000 ![] bcast_S_S128x100000),
    TRef.binary (.of main_call0_call0_call0_v101 : TRef sig ⟨S128x100000, .i32⟩) (.of main_call0_call0_call0_v104 : TRef sig ⟨S128x100000, .i32⟩) (.of main_call0_call0_call0_v105 : TRef sig ⟨S128x100000, .i32⟩) addi,
    TRef.nullary (.of main_call0_call0_call0_c_26 : TRef sig ⟨S_, .i32⟩) (constantI S_ 32 3#32),
    TRef.unary (.of main_call0_call0_call0_c_26 : TRef sig ⟨S_, .i32⟩) (.of main_call0_call0_call0_v106 : TRef sig ⟨S128x100000, .i32⟩) (broadcastInDim S128x100000 ![] bcast_S_S128x100000),
    TRef.binary (.of main_call0_call0_call0_v105 : TRef sig ⟨S128x100000, .i32⟩) (.of main_call0_call0_call0_v106 : TRef sig ⟨S128x100000, .i32⟩) (.of main_call0_call0_call0_v107 : TRef sig ⟨S128x100000, .i32⟩) addi,
    TRef.binary (.of main_call0_call0_call0_v103 : TRef sig ⟨S128x100000, .i32⟩) (.of main_call0_call0_call0_v107 : TRef sig ⟨S128x100000, .i32⟩) (.of main_call0_call0_call0_v108 : TRef sig ⟨S128x100000, .i32⟩) addi,
    TRef.nullary (.of main_call0_call0_call0_c_27 : TRef sig ⟨S_, .i32⟩) (constantI S_ 32 17#32),
    TRef.unary (.of main_call0_call0_call0_c_27 : TRef sig ⟨S_, .i32⟩) (.of main_call0_call0_call0_v109 : TRef sig ⟨S128x100000, .i32⟩) (broadcastInDim S128x100000 ![] bcast_S_S128x100000),
    TRef.binary (.of main_call0_call0_call0_v107 : TRef sig ⟨S128x100000, .i32⟩) (.of main_call0_call0_call0_v109 : TRef sig ⟨S128x100000, .i32⟩) (.of main_call0_call0_call0_v110 : TRef sig ⟨S128x100000, .i32⟩) Host.shli,
    TRef.nullary (.of main_call0_call0_call0_c_28 : TRef sig ⟨S_, .i32⟩) (constantI S_ 32 15#32),
    TRef.unary (.of main_call0_call0_call0_c_28 : TRef sig ⟨S_, .i32⟩) (.of main_call0_call0_call0_v111 : TRef sig ⟨S128x100000, .i32⟩) (broadcastInDim S128x100000 ![] bcast_S_S128x100000),
    TRef.binary (.of main_call0_call0_call0_v107 : TRef sig ⟨S128x100000, .i32⟩) (.of main_call0_call0_call0_v111 : TRef sig ⟨S128x100000, .i32⟩) (.of main_call0_call0_call0_v112 : TRef sig ⟨S128x100000, .i32⟩) Host.shrui,
    TRef.binary (.of main_call0_call0_call0_v110 : TRef sig ⟨S128x100000, .i32⟩) (.of main_call0_call0_call0_v112 : TRef sig ⟨S128x100000, .i32⟩) (.of main_call0_call0_call0_v113 : TRef sig ⟨S128x100000, .i32⟩) ori,
    TRef.binary (.of main_call0_call0_call0_v108 : TRef sig ⟨S128x100000, .i32⟩) (.of main_call0_call0_call0_v113 : TRef sig ⟨S128x100000, .i32⟩) (.of main_call0_call0_call0_v114 : TRef sig ⟨S128x100000, .i32⟩) xori,
    TRef.binary (.of main_call0_call0_call0_v108 : TRef sig ⟨S128x100000, .i32⟩) (.of main_call0_call0_call0_v114 : TRef sig ⟨S128x100000, .i32⟩) (.of main_call0_call0_call0_v115 : TRef sig ⟨S128x100000, .i32⟩) addi,
    TRef.nullary (.of main_call0_call0_call0_c_29 : TRef sig ⟨S_, .i32⟩) (constantI S_ 32 29#32),
    TRef.unary (.of main_call0_call0_call0_c_29 : TRef sig ⟨S_, .i32⟩) (.of main_call0_call0_call0_v116 : TRef sig ⟨S128x100000, .i32⟩) (broadcastInDim S128x100000 ![] bcast_S_S128x100000),
    TRef.binary (.of main_call0_call0_call0_v114 : TRef sig ⟨S128x100000, .i32⟩) (.of main_call0_call0_call0_v116 : TRef sig ⟨S128x100000, .i32⟩) (.of main_call0_call0_call0_v117 : TRef sig ⟨S128x100000, .i32⟩) Host.shli,
    TRef.nullary (.of main_call0_call0_call0_c_30 : TRef sig ⟨S_, .i32⟩) (constantI S_ 32 3#32),
    TRef.unary (.of main_call0_call0_call0_c_30 : TRef sig ⟨S_, .i32⟩) (.of main_call0_call0_call0_v118 : TRef sig ⟨S128x100000, .i32⟩) (broadcastInDim S128x100000 ![] bcast_S_S128x100000),
    TRef.binary (.of main_call0_call0_call0_v114 : TRef sig ⟨S128x100000, .i32⟩) (.of main_call0_call0_call0_v118 : TRef sig ⟨S128x100000, .i32⟩) (.of main_call0_call0_call0_v119 : TRef sig ⟨S128x100000, .i32⟩) Host.shrui,
    TRef.binary (.of main_call0_call0_call0_v117 : TRef sig ⟨S128x100000, .i32⟩) (.of main_call0_call0_call0_v119 : TRef sig ⟨S128x100000, .i32⟩) (.of main_call0_call0_call0_v120 : TRef sig ⟨S128x100000, .i32⟩) ori,
    TRef.binary (.of main_call0_call0_call0_v115 : TRef sig ⟨S128x100000, .i32⟩) (.of main_call0_call0_call0_v120 : TRef sig ⟨S128x100000, .i32⟩) (.of main_call0_call0_call0_v121 : TRef sig ⟨S128x100000, .i32⟩) xori,
    TRef.binary (.of main_call0_call0_call0_v115 : TRef sig ⟨S128x100000, .i32⟩) (.of main_call0_call0_call0_v121 : TRef sig ⟨S128x100000, .i32⟩) (.of main_call0_call0_call0_v122 : TRef sig ⟨S128x100000, .i32⟩) addi,
    TRef.nullary (.of main_call0_call0_call0_c_31 : TRef sig ⟨S_, .i32⟩) (constantI S_ 32 16#32),
    TRef.unary (.of main_call0_call0_call0_c_31 : TRef sig ⟨S_, .i32⟩) (.of main_call0_call0_call0_v123 : TRef sig ⟨S128x100000, .i32⟩) (broadcastInDim S128x100000 ![] bcast_S_S128x100000),
    TRef.binary (.of main_call0_call0_call0_v121 : TRef sig ⟨S128x100000, .i32⟩) (.of main_call0_call0_call0_v123 : TRef sig ⟨S128x100000, .i32⟩) (.of main_call0_call0_call0_v124 : TRef sig ⟨S128x100000, .i32⟩) Host.shli,
    TRef.nullary (.of main_call0_call0_call0_c_32 : TRef sig ⟨S_, .i32⟩) (constantI S_ 32 16#32),
    TRef.unary (.of main_call0_call0_call0_c_32 : TRef sig ⟨S_, .i32⟩) (.of main_call0_call0_call0_v125 : TRef sig ⟨S128x100000, .i32⟩) (broadcastInDim S128x100000 ![] bcast_S_S128x100000),
    TRef.binary (.of main_call0_call0_call0_v121 : TRef sig ⟨S128x100000, .i32⟩) (.of main_call0_call0_call0_v125 : TRef sig ⟨S128x100000, .i32⟩) (.of main_call0_call0_call0_v126 : TRef sig ⟨S128x100000, .i32⟩) Host.shrui,
    TRef.binary (.of main_call0_call0_call0_v124 : TRef sig ⟨S128x100000, .i32⟩) (.of main_call0_call0_call0_v126 : TRef sig ⟨S128x100000, .i32⟩) (.of main_call0_call0_call0_v127 : TRef sig ⟨S128x100000, .i32⟩) ori,
    TRef.binary (.of main_call0_call0_call0_v122 : TRef sig ⟨S128x100000, .i32⟩) (.of main_call0_call0_call0_v127 : TRef sig ⟨S128x100000, .i32⟩) (.of main_call0_call0_call0_v128 : TRef sig ⟨S128x100000, .i32⟩) xori,
    TRef.binary (.of main_call0_call0_call0_v122 : TRef sig ⟨S128x100000, .i32⟩) (.of main_call0_call0_call0_v128 : TRef sig ⟨S128x100000, .i32⟩) (.of main_call0_call0_call0_v129 : TRef sig ⟨S128x100000, .i32⟩) addi,
    TRef.nullary (.of main_call0_call0_call0_c_33 : TRef sig ⟨S_, .i32⟩) (constantI S_ 32 24#32),
    TRef.unary (.of main_call0_call0_call0_c_33 : TRef sig ⟨S_, .i32⟩) (.of main_call0_call0_call0_v130 : TRef sig ⟨S128x100000, .i32⟩) (broadcastInDim S128x100000 ![] bcast_S_S128x100000),
    TRef.binary (.of main_call0_call0_call0_v128 : TRef sig ⟨S128x100000, .i32⟩) (.of main_call0_call0_call0_v130 : TRef sig ⟨S128x100000, .i32⟩) (.of main_call0_call0_call0_v131 : TRef sig ⟨S128x100000, .i32⟩) Host.shli,
    TRef.nullary (.of main_call0_call0_call0_c_34 : TRef sig ⟨S_, .i32⟩) (constantI S_ 32 8#32),
    TRef.unary (.of main_call0_call0_call0_c_34 : TRef sig ⟨S_, .i32⟩) (.of main_call0_call0_call0_v132 : TRef sig ⟨S128x100000, .i32⟩) (broadcastInDim S128x100000 ![] bcast_S_S128x100000),
    TRef.binary (.of main_call0_call0_call0_v128 : TRef sig ⟨S128x100000, .i32⟩) (.of main_call0_call0_call0_v132 : TRef sig ⟨S128x100000, .i32⟩) (.of main_call0_call0_call0_v133 : TRef sig ⟨S128x100000, .i32⟩) Host.shrui,
    TRef.binary (.of main_call0_call0_call0_v131 : TRef sig ⟨S128x100000, .i32⟩) (.of main_call0_call0_call0_v133 : TRef sig ⟨S128x100000, .i32⟩) (.of main_call0_call0_call0_v134 : TRef sig ⟨S128x100000, .i32⟩) ori,
    TRef.binary (.of main_call0_call0_call0_v129 : TRef sig ⟨S128x100000, .i32⟩) (.of main_call0_call0_call0_v134 : TRef sig ⟨S128x100000, .i32⟩) (.of main_call0_call0_call0_v135 : TRef sig ⟨S128x100000, .i32⟩) xori,
    TRef.unary (.of main_call0_call0_v6 : TRef sig ⟨S_, .i32⟩) (.of main_call0_call0_call0_v136 : TRef sig ⟨S128x100000, .i32⟩) (broadcastInDim S128x100000 ![] bcast_S_S128x100000),
    TRef.binary (.of main_call0_call0_call0_v129 : TRef sig ⟨S128x100000, .i32⟩) (.of main_call0_call0_call0_v136 : TRef sig ⟨S128x100000, .i32⟩) (.of main_call0_call0_call0_v137 : TRef sig ⟨S128x100000, .i32⟩) addi,
    TRef.unary (.of main_call0_call0_call0_v1 : TRef sig ⟨S_, .i32⟩) (.of main_call0_call0_call0_v138 : TRef sig ⟨S128x100000, .i32⟩) (broadcastInDim S128x100000 ![] bcast_S_S128x100000),
    TRef.binary (.of main_call0_call0_call0_v135 : TRef sig ⟨S128x100000, .i32⟩) (.of main_call0_call0_call0_v138 : TRef sig ⟨S128x100000, .i32⟩) (.of main_call0_call0_call0_v139 : TRef sig ⟨S128x100000, .i32⟩) addi,
    TRef.nullary (.of main_call0_call0_call0_c_35 : TRef sig ⟨S_, .i32⟩) (constantI S_ 32 4#32),
    TRef.unary (.of main_call0_call0_call0_c_35 : TRef sig ⟨S_, .i32⟩) (.of main_call0_call0_call0_v140 : TRef sig ⟨S128x100000, .i32⟩) (broadcastInDim S128x100000 ![] bcast_S_S128x100000),
    TRef.binary (.of main_call0_call0_call0_v139 : TRef sig ⟨S128x100000, .i32⟩) (.of main_call0_call0_call0_v140 : TRef sig ⟨S128x100000, .i32⟩) (.of main_call0_call0_call0_v141 : TRef sig ⟨S128x100000, .i32⟩) addi,
    TRef.binary (.of main_call0_call0_call0_v137 : TRef sig ⟨S128x100000, .i32⟩) (.of main_call0_call0_call0_v141 : TRef sig ⟨S128x100000, .i32⟩) (.of main_call0_call0_call0_v142 : TRef sig ⟨S128x100000, .i32⟩) addi,
    TRef.nullary (.of main_call0_call0_call0_c_36 : TRef sig ⟨S_, .i32⟩) (constantI S_ 32 13#32),
    TRef.unary (.of main_call0_call0_call0_c_36 : TRef sig ⟨S_, .i32⟩) (.of main_call0_call0_call0_v143 : TRef sig ⟨S128x100000, .i32⟩) (broadcastInDim S128x100000 ![] bcast_S_S128x100000),
    TRef.binary (.of main_call0_call0_call0_v141 : TRef sig ⟨S128x100000, .i32⟩) (.of main_call0_call0_call0_v143 : TRef sig ⟨S128x100000, .i32⟩) (.of main_call0_call0_call0_v144 : TRef sig ⟨S128x100000, .i32⟩) Host.shli,
    TRef.nullary (.of main_call0_call0_call0_c_37 : TRef sig ⟨S_, .i32⟩) (constantI S_ 32 19#32),
    TRef.unary (.of main_call0_call0_call0_c_37 : TRef sig ⟨S_, .i32⟩) (.of main_call0_call0_call0_v145 : TRef sig ⟨S128x100000, .i32⟩) (broadcastInDim S128x100000 ![] bcast_S_S128x100000),
    TRef.binary (.of main_call0_call0_call0_v141 : TRef sig ⟨S128x100000, .i32⟩) (.of main_call0_call0_call0_v145 : TRef sig ⟨S128x100000, .i32⟩) (.of main_call0_call0_call0_v146 : TRef sig ⟨S128x100000, .i32⟩) Host.shrui,
    TRef.binary (.of main_call0_call0_call0_v144 : TRef sig ⟨S128x100000, .i32⟩) (.of main_call0_call0_call0_v146 : TRef sig ⟨S128x100000, .i32⟩) (.of main_call0_call0_call0_v147 : TRef sig ⟨S128x100000, .i32⟩) ori,
    TRef.binary (.of main_call0_call0_call0_v142 : TRef sig ⟨S128x100000, .i32⟩) (.of main_call0_call0_call0_v147 : TRef sig ⟨S128x100000, .i32⟩) (.of main_call0_call0_call0_v148 : TRef sig ⟨S128x100000, .i32⟩) xori,
    TRef.binary (.of main_call0_call0_call0_v142 : TRef sig ⟨S128x100000, .i32⟩) (.of main_call0_call0_call0_v148 : TRef sig ⟨S128x100000, .i32⟩) (.of main_call0_call0_call0_v149 : TRef sig ⟨S128x100000, .i32⟩) addi,
    TRef.nullary (.of main_call0_call0_call0_c_38 : TRef sig ⟨S_, .i32⟩) (constantI S_ 32 15#32),
    TRef.unary (.of main_call0_call0_call0_c_38 : TRef sig ⟨S_, .i32⟩) (.of main_call0_call0_call0_v150 : TRef sig ⟨S128x100000, .i32⟩) (broadcastInDim S128x100000 ![] bcast_S_S128x100000),
    TRef.binary (.of main_call0_call0_call0_v148 : TRef sig ⟨S128x100000, .i32⟩) (.of main_call0_call0_call0_v150 : TRef sig ⟨S128x100000, .i32⟩) (.of main_call0_call0_call0_v151 : TRef sig ⟨S128x100000, .i32⟩) Host.shli,
    TRef.nullary (.of main_call0_call0_call0_c_39 : TRef sig ⟨S_, .i32⟩) (constantI S_ 32 17#32),
    TRef.unary (.of main_call0_call0_call0_c_39 : TRef sig ⟨S_, .i32⟩) (.of main_call0_call0_call0_v152 : TRef sig ⟨S128x100000, .i32⟩) (broadcastInDim S128x100000 ![] bcast_S_S128x100000),
    TRef.binary (.of main_call0_call0_call0_v148 : TRef sig ⟨S128x100000, .i32⟩) (.of main_call0_call0_call0_v152 : TRef sig ⟨S128x100000, .i32⟩) (.of main_call0_call0_call0_v153 : TRef sig ⟨S128x100000, .i32⟩) Host.shrui,
    TRef.binary (.of main_call0_call0_call0_v151 : TRef sig ⟨S128x100000, .i32⟩) (.of main_call0_call0_call0_v153 : TRef sig ⟨S128x100000, .i32⟩) (.of main_call0_call0_call0_v154 : TRef sig ⟨S128x100000, .i32⟩) ori,
    TRef.binary (.of main_call0_call0_call0_v149 : TRef sig ⟨S128x100000, .i32⟩) (.of main_call0_call0_call0_v154 : TRef sig ⟨S128x100000, .i32⟩) (.of main_call0_call0_call0_v155 : TRef sig ⟨S128x100000, .i32⟩) xori,
    TRef.binary (.of main_call0_call0_call0_v149 : TRef sig ⟨S128x100000, .i32⟩) (.of main_call0_call0_call0_v155 : TRef sig ⟨S128x100000, .i32⟩) (.of main_call0_call0_call0_v156 : TRef sig ⟨S128x100000, .i32⟩) addi,
    TRef.nullary (.of main_call0_call0_call0_c_40 : TRef sig ⟨S_, .i32⟩) (constantI S_ 32 26#32),
    TRef.unary (.of main_call0_call0_call0_c_40 : TRef sig ⟨S_, .i32⟩) (.of main_call0_call0_call0_v157 : TRef sig ⟨S128x100000, .i32⟩) (broadcastInDim S128x100000 ![] bcast_S_S128x100000),
    TRef.binary (.of main_call0_call0_call0_v155 : TRef sig ⟨S128x100000, .i32⟩) (.of main_call0_call0_call0_v157 : TRef sig ⟨S128x100000, .i32⟩) (.of main_call0_call0_call0_v158 : TRef sig ⟨S128x100000, .i32⟩) Host.shli,
    TRef.nullary (.of main_call0_call0_call0_c_41 : TRef sig ⟨S_, .i32⟩) (constantI S_ 32 6#32),
    TRef.unary (.of main_call0_call0_call0_c_41 : TRef sig ⟨S_, .i32⟩) (.of main_call0_call0_call0_v159 : TRef sig ⟨S128x100000, .i32⟩) (broadcastInDim S128x100000 ![] bcast_S_S128x100000),
    TRef.binary (.of main_call0_call0_call0_v155 : TRef sig ⟨S128x100000, .i32⟩) (.of main_call0_call0_call0_v159 : TRef sig ⟨S128x100000, .i32⟩) (.of main_call0_call0_call0_v160 : TRef sig ⟨S128x100000, .i32⟩) Host.shrui,
    TRef.binary (.of main_call0_call0_call0_v158 : TRef sig ⟨S128x100000, .i32⟩) (.of main_call0_call0_call0_v160 : TRef sig ⟨S128x100000, .i32⟩) (.of main_call0_call0_call0_v161 : TRef sig ⟨S128x100000, .i32⟩) ori,
    TRef.binary (.of main_call0_call0_call0_v156 : TRef sig ⟨S128x100000, .i32⟩) (.of main_call0_call0_call0_v161 : TRef sig ⟨S128x100000, .i32⟩) (.of main_call0_call0_call0_v162 : TRef sig ⟨S128x100000, .i32⟩) xori,
    TRef.binary (.of main_call0_call0_call0_v156 : TRef sig ⟨S128x100000, .i32⟩) (.of main_call0_call0_call0_v162 : TRef sig ⟨S128x100000, .i32⟩) (.of main_call0_call0_call0_v163 : TRef sig ⟨S128x100000, .i32⟩) addi,
    TRef.nullary (.of main_call0_call0_call0_c_42 : TRef sig ⟨S_, .i32⟩) (constantI S_ 32 6#32),
    TRef.unary (.of main_call0_call0_call0_c_42 : TRef sig ⟨S_, .i32⟩) (.of main_call0_call0_call0_v164 : TRef sig ⟨S128x100000, .i32⟩) (broadcastInDim S128x100000 ![] bcast_S_S128x100000),
    TRef.binary (.of main_call0_call0_call0_v162 : TRef sig ⟨S128x100000, .i32⟩) (.of main_call0_call0_call0_v164 : TRef sig ⟨S128x100000, .i32⟩) (.of main_call0_call0_call0_v165 : TRef sig ⟨S128x100000, .i32⟩) Host.shli,
    TRef.nullary (.of main_call0_call0_call0_c_43 : TRef sig ⟨S_, .i32⟩) (constantI S_ 32 26#32),
    TRef.unary (.of main_call0_call0_call0_c_43 : TRef sig ⟨S_, .i32⟩) (.of main_call0_call0_call0_v166 : TRef sig ⟨S128x100000, .i32⟩) (broadcastInDim S128x100000 ![] bcast_S_S128x100000),
    TRef.binary (.of main_call0_call0_call0_v162 : TRef sig ⟨S128x100000, .i32⟩) (.of main_call0_call0_call0_v166 : TRef sig ⟨S128x100000, .i32⟩) (.of main_call0_call0_call0_v167 : TRef sig ⟨S128x100000, .i32⟩) Host.shrui,
    TRef.binary (.of main_call0_call0_call0_v165 : TRef sig ⟨S128x100000, .i32⟩) (.of main_call0_call0_call0_v167 : TRef sig ⟨S128x100000, .i32⟩) (.of main_call0_call0_call0_v168 : TRef sig ⟨S128x100000, .i32⟩) ori,
    TRef.binary (.of main_call0_call0_call0_v163 : TRef sig ⟨S128x100000, .i32⟩) (.of main_call0_call0_call0_v168 : TRef sig ⟨S128x100000, .i32⟩) (.of main_call0_call0_call0_v169 : TRef sig ⟨S128x100000, .i32⟩) xori,
    TRef.unary (.of main_call0_call0_call0_v1 : TRef sig ⟨S_, .i32⟩) (.of main_call0_call0_call0_v170 : TRef sig ⟨S128x100000, .i32⟩) (broadcastInDim S128x100000 ![] bcast_S_S128x100000),
    TRef.binary (.of main_call0_call0_call0_v163 : TRef sig ⟨S128x100000, .i32⟩) (.of main_call0_call0_call0_v170 : TRef sig ⟨S128x100000, .i32⟩) (.of main_call0_call0_v18_0 : TRef sig ⟨S128x100000, .i32⟩) addi,
    TRef.unary (.of main_call0_call0_v4 : TRef sig ⟨S_, .i32⟩) (.of main_call0_call0_call0_v172 : TRef sig ⟨S128x100000, .i32⟩) (broadcastInDim S128x100000 ![] bcast_S_S128x100000),
    TRef.binary (.of main_call0_call0_call0_v169 : TRef sig ⟨S128x100000, .i32⟩) (.of main_call0_call0_call0_v172 : TRef sig ⟨S128x100000, .i32⟩) (.of main_call0_call0_call0_v173 : TRef sig ⟨S128x100000, .i32⟩) addi,
    TRef.nullary (.of main_call0_call0_call0_c_44 : TRef sig ⟨S_, .i32⟩) (constantI S_ 32 5#32),
    TRef.unary (.of main_call0_call0_call0_c_44 : TRef sig ⟨S_, .i32⟩) (.of main_call0_call0_call0_v174 : TRef sig ⟨S128x100000, .i32⟩) (broadcastInDim S128x100000 ![] bcast_S_S128x100000),
    TRef.binary (.of main_call0_call0_call0_v173 : TRef sig ⟨S128x100000, .i32⟩) (.of main_call0_call0_call0_v174 : TRef sig ⟨S128x100000, .i32⟩) (.of main_call0_call0_v18_1 : TRef sig ⟨S128x100000, .i32⟩) addi,
    TRef.binary main_call0_call0_call0.v171 main_call0_call0_call0.v175 (.of main_call0_call0_v19 : TRef sig ⟨S128x100000, .i32⟩) xori,
    TRef.nullary (.of main_call0_call0_c_2 : TRef sig ⟨S_, .i32⟩) (constantI S_ 32 9#32),
    TRef.unary (.of main_call0_call0_c_2 : TRef sig ⟨S_, .i32⟩) (.of main_call0_call0_v20 : TRef sig ⟨S128x100000, .i32⟩) (broadcastInDim S128x100000 ![] bcast_S_S128x100000),
    TRef.binary (.of main_call0_call0_v19 : TRef sig ⟨S128x100000, .i32⟩) (.of main_call0_call0_v20 : TRef sig ⟨S128x100000, .i32⟩) (.of main_call0_call0_v21 : TRef sig ⟨S128x100000, .i32⟩) Host.shrui,
    TRef.nullary (.of main_call0_call0_c_3 : TRef sig ⟨S_, .i32⟩) (constantI S_ 32 1065353216#32),
    TRef.unary (.of main_call0_call0_c_3 : TRef sig ⟨S_, .i32⟩) (.of main_call0_call0_v22 : TRef sig ⟨S128x100000, .i32⟩) (broadcastInDim S128x100000 ![] bcast_S_S128x100000),
    TRef.binary (.of main_call0_call0_v21 : TRef sig ⟨S128x100000, .i32⟩) (.of main_call0_call0_v22 : TRef sig ⟨S128x100000, .i32⟩) (.of main_call0_call0_v23 : TRef sig ⟨S128x100000, .i32⟩) ori,
    TRef.unary (.of main_call0_call0_v23 : TRef sig ⟨S128x100000, .i32⟩) (.of main_call0_call0_v24 : TRef sig ⟨S128x100000, .f32⟩) (bitcastToFloat .f32),
    TRef.nullary (.of main_call0_call0_cst : TRef sig ⟨S_, .f32⟩) (constant S_ .f32 0x3F800000#32),
    TRef.unary (.of main_call0_call0_cst : TRef sig ⟨S_, .f32⟩) (.of main_call0_call0_v25 : TRef sig ⟨S128x100000, .f32⟩) (broadcastInDim S128x100000 ![] bcast_S_S128x100000),
    TRef.binary (.of main_call0_call0_v24 : TRef sig ⟨S128x100000, .f32⟩) (.of main_call0_call0_v25 : TRef sig ⟨S128x100000, .f32⟩) (.of main_call0_call0_v26 : TRef sig ⟨S128x100000, .f32⟩) subf,
    TRef.binary (.of main_call0_call0_v2 : TRef sig ⟨S1x1, .f32⟩) (.of main_call0_call0_v1 : TRef sig ⟨S1x1, .f32⟩) (.of main_call0_call0_v27 : TRef sig ⟨S1x1, .f32⟩) subf,
    TRef.unary (.of main_call0_call0_v27 : TRef sig ⟨S1x1, .f32⟩) (.of main_call0_call0_v28 : TRef sig ⟨S128x100000, .f32⟩) (broadcastInDim S128x100000 ![0, 1] bcast_S1x1_S128x100000_0_1),
    TRef.binary (.of main_call0_call0_v26 : TRef sig ⟨S128x100000, .f32⟩) (.of main_call0_call0_v28 : TRef sig ⟨S128x100000, .f32⟩) (.of main_call0_call0_v29 : TRef sig ⟨S128x100000, .f32⟩) mulf,
    TRef.unary (.of main_call0_call0_v1 : TRef sig ⟨S1x1, .f32⟩) (.of main_call0_call0_v30 : TRef sig ⟨S128x100000, .f32⟩) (broadcastInDim S128x100000 ![0, 1] bcast_S1x1_S128x100000_0_1),
    TRef.binary (.of main_call0_call0_v29 : TRef sig ⟨S128x100000, .f32⟩) (.of main_call0_call0_v30 : TRef sig ⟨S128x100000, .f32⟩) (.of main_call0_call0_v31 : TRef sig ⟨S128x100000, .f32⟩) addf,
    TRef.unary (.of main_call0_call0_v1 : TRef sig ⟨S1x1, .f32⟩) (.of main_call0_call0_v32 : TRef sig ⟨S128x100000, .f32⟩) (broadcastInDim S128x100000 ![0, 1] bcast_S1x1_S128x100000_0_1),
    TRef.binary (.of main_call0_call0_v32 : TRef sig ⟨S128x100000, .f32⟩) (.of main_call0_call0_v31 : TRef sig ⟨S128x100000, .f32⟩) (.of main_call0_v0 : TRef sig ⟨S128x100000, .f32⟩) maximumf,
    TRef.unary main_call0_call0.v33 (.of main_call0_v1 : TRef sig ⟨S128x100000, .f32⟩) Host.log,
    TRef.unary (.of main_call0_v1 : TRef sig ⟨S128x100000, .f32⟩) (.of main_call0_v2 : TRef sig ⟨S128x100000, .f32⟩) Host.negf,
    TRef.unary (.of main_call0_v2 : TRef sig ⟨S128x100000, .f32⟩) (.of main_call0_v3 : TRef sig ⟨S128x100000, .f32⟩) Host.log,
    TRef.unary (.of main_call0_v3 : TRef sig ⟨S128x100000, .f32⟩) (.of main_v26 : TRef sig ⟨S128x100000, .f32⟩) Host.negf ]

set_option maxHeartbeats 40000000 in
/-- The drawing touches the TensorCore's buffers only. -/
theorem draw_bufs : (drawOps : List (HloOp τ sig (Elt F))).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩

/-- The drawing is the body of the reference's drawing function, at its own buffers. -/
theorem draw_line : fn_gumbel.body (.of main_v22) main_call0 = seq (drawOps : List (HloOp τ sig (Elt F))) := by rfl

end Cert.ReferenceIdeal.Policy

end
-- ==== Proof.DrawAlike.lean ====
/-
  The kernel's drawing of the noise and the reference's are alike step by step.
-/
module

public import proofs.«01_k».proof.Proof.Alike
public import proofs.«01_k».proof.Proof.Draw
public import proofs.«01_k».proof.Proof.Gen.KernelIdeal.Launch
public import Idealize.ShloMosaic.Lib.Pipeline.Regions

@[expose] public section

set_option maxRecDepth 100000
set_option maxHeartbeats 40000000
set_option pp.maxSteps 100

noncomputable section

namespace Cert.Policy

open Idealize.ShloMosaic Idealize.ShloMosaic.StableHlo
open Cert.KernelIdeal.Gen (hostOps0_1)
open Cert.ReferenceIdeal.Policy (drawOps)

variable {F : FTy → Type} [FloatOps F]

/-- The key's buffers, and the noise's. -/
abbrev keyPair : Pair Cert.KernelIdeal.sig Cert.ReferenceIdeal.sig := (Cert.KernelIdeal.main_v6, Cert.ReferenceIdeal.main_v22)
abbrev noisePair : Pair Cert.KernelIdeal.sig Cert.ReferenceIdeal.sig := (Cert.KernelIdeal.main_v7, Cert.ReferenceIdeal.main_v26)

/-- The two drawings are alike. -/
def drawAlike : Alike (τ := Cert.KernelIdeal.τ) (τ' := Cert.ReferenceIdeal.τ) (Val := Elt F) hostOps0_1 drawOps := by
  refine .step _ _ (step_n ..) ?_; refine .step _ _ (step_n ..) ?_; refine .step _ _ (step_u ..) ?_
  refine .step _ _ (step_u ..) ?_; refine .step _ _ (step_u ..) ?_; refine .step _ _ (step_u ..) ?_
  refine .step _ _ (step_r ..) ?_; refine .step _ _ (step_u ..) ?_; refine .step _ _ (step_r ..) ?_
  refine .step _ _ (step_n ..) ?_; refine .step _ _ (step_n ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_n ..) ?_; refine .step _ _ (step_u ..) ?_; refine .step _ _ (step_b ..) ?_
  refine .step _ _ (step_u ..) ?_; refine .step _ _ (step_u ..) ?_; refine .step _ _ (step_b ..) ?_
  refine .step _ _ (step_n ..) ?_; refine .step _ _ (step_b ..) ?_; refine .step _ _ (step_u ..) ?_
  refine .step _ _ (step_b ..) ?_; refine .step _ _ (step_u ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_u ..) ?_; refine .step _ _ (step_b ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_u ..) ?_; refine .step _ _ (step_b ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_n ..) ?_; refine .step _ _ (step_u ..) ?_; refine .step _ _ (step_b ..) ?_
  refine .step _ _ (step_n ..) ?_; refine .step _ _ (step_u ..) ?_; refine .step _ _ (step_b ..) ?_
  refine .step _ _ (step_b ..) ?_; refine .step _ _ (step_b ..) ?_; refine .step _ _ (step_b ..) ?_
  refine .step _ _ (step_n ..) ?_; refine .step _ _ (step_u ..) ?_; refine .step _ _ (step_b ..) ?_
  refine .step _ _ (step_n ..) ?_; refine .step _ _ (step_u ..) ?_; refine .step _ _ (step_b ..) ?_
  refine .step _ _ (step_b ..) ?_; refine .step _ _ (step_b ..) ?_; refine .step _ _ (step_b ..) ?_
  refine .step _ _ (step_n ..) ?_; refine .step _ _ (step_u ..) ?_; refine .step _ _ (step_b ..) ?_
  refine .step _ _ (step_n ..) ?_; refine .step _ _ (step_u ..) ?_; refine .step _ _ (step_b ..) ?_
  refine .step _ _ (step_b ..) ?_; refine .step _ _ (step_b ..) ?_; refine .step _ _ (step_b ..) ?_
  refine .step _ _ (step_n ..) ?_; refine .step _ _ (step_u ..) ?_; refine .step _ _ (step_b ..) ?_
  refine .step _ _ (step_n ..) ?_; refine .step _ _ (step_u ..) ?_; refine .step _ _ (step_b ..) ?_
  refine .step _ _ (step_b ..) ?_; refine .step _ _ (step_b ..) ?_; refine .step _ _ (step_u ..) ?_
  refine .step _ _ (step_b ..) ?_; refine .step _ _ (step_u ..) ?_; refine .step _ _ (step_b ..) ?_
  refine .step _ _ (step_n ..) ?_; refine .step _ _ (step_u ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_b ..) ?_; refine .step _ _ (step_n ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_b ..) ?_
  refine .step _ _ (step_u ..) ?_; refine .step _ _ (step_b ..) ?_; refine .step _ _ (step_u ..) ?_
  refine .step _ _ (step_b ..) ?_; refine .step _ _ (step_n ..) ?_; refine .step _ _ (step_u ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_b ..) ?_; refine .step _ _ (step_n ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_b ..) ?_; refine .step _ _ (step_u ..) ?_; refine .step _ _ (step_b ..) ?_
  refine .step _ _ (step_u ..) ?_; refine .step _ _ (step_b ..) ?_; refine .step _ _ (step_n ..) ?_
  refine .step _ _ (step_u ..) ?_; refine .step _ _ (step_b ..) ?_; refine .step _ _ (step_b ..) ?_
  refine .step _ _ (step_n ..) ?_; refine .step _ _ (step_u ..) ?_; refine .step _ _ (step_b ..) ?_
  refine .step _ _ (step_n ..) ?_; refine .step _ _ (step_u ..) ?_; refine .step _ _ (step_b ..) ?_
  refine .step _ _ (step_u ..) ?_; refine .step _ _ (step_n ..) ?_; refine .step _ _ (step_u ..) ?_
  refine .step _ _ (step_b ..) ?_; refine .step _ _ (step_b ..) ?_; refine .step _ _ (step_u ..) ?_
  refine .step _ _ (step_b ..) ?_; refine .step _ _ (step_u ..) ?_; refine .step _ _ (step_b ..) ?_
  refine .step _ _ (step_u ..) ?_; refine .step _ _ (step_b ..) ?_; refine .step _ _ (step_u ..) ?_
  refine .step _ _ (step_u ..) ?_; refine .step _ _ (step_u ..) ?_; refine .step _ _ (step_u ..) ?_
  exact .done

/-- From the key to the noise. -/
theorem draw_sound : sound noisePair [keyPair] (drawAlike (F := F)).record = true := by chain_rfl

/-- The check that the reference's drawing does not write a buffer. -/
def unwritten (F : FTy → Type) [FloatOps F] (r : Ref Cert.ReferenceIdeal.sig .tc) : Bool :=
  (drawAlike (F := F)).record.all fun s => s.1.2 != r

/-- Not the first result, the logarithms or the arguments. -/
theorem draw_v15 : unwritten F Cert.ReferenceIdeal.main_v15 = true := by chain_rfl
theorem draw_v25 : unwritten F Cert.ReferenceIdeal.main_v25 = true := by chain_rfl
theorem draw_arg0 : unwritten F Cert.ReferenceIdeal.main_arg0 = true := by chain_rfl
theorem draw_arg1 : unwritten F Cert.ReferenceIdeal.main_arg1 = true := by chain_rfl

/-- Drawn from one key, the noise is one. -/
theorem draw_same (V : Valuation Cert.KernelIdeal.τ Cert.KernelIdeal.sig (Elt F))
    (V' : Valuation Cert.ReferenceIdeal.τ Cert.ReferenceIdeal.sig (Elt F)) (h : Same V V' keyPair) :
    Same (after hostOps0_1 V) (after drawOps V') noisePair :=
  alike_same drawAlike [keyPair] V V' draw_sound fun p hp => by
    rw [List.mem_singleton.mp hp]
    exact h

/-- What the reference's drawing does not write stays. -/
theorem draw_stays (r : Ref Cert.ReferenceIdeal.sig .tc) (h : unwritten F r = true)
    (V' : Valuation Cert.ReferenceIdeal.τ Cert.ReferenceIdeal.sig (Elt F)) :
    after drawOps V' (Proc.devRef .tc r) = V' (Proc.devRef .tc r) :=
  alike_keeps drawAlike r V' h

end Cert.Policy

end
-- ==== Proof.RefRun.lean ====
/-
  The reference's run: its line of operations, and what its two result arrays hold as terms of its arguments.
-/
module

public import proofs.«01_k».proof.ReferenceIdeal
public import proofs.«01_k».proof.Proof.Gen.ReferenceIdeal
public import proofs.«01_k».proof.Proof.DrawAlike
public import Idealize.ShloMosaic.Lib.StableHlo.Run
public import Idealize.ShloMosaic.Lib.StableHlo.RunRead
public import Idealize.ShloMosaic.Lib.Quiescent

@[expose] public section

set_option maxRecDepth 100000
set_option pp.maxSteps 100

noncomputable section

namespace Cert.ReferenceIdeal.Policy

open Idealize.ShloMosaic Idealize.ShloMosaic.TcCoe Idealize.ShloMosaic.StableHlo Idealize.SL.Sem
open Cert.ReferenceIdeal Cert.ReferenceIdeal.Facts₀ Cert.ReferenceIdeal.Facts Cert.Policy

variable {F : FTy → Type} [FloatOps F]

/-- A 128 by 100000 array of floats. -/
abbrev Rect (F : FTy → Type) : Type := FVec F S128x100000 .f32

/-- A value per column, spread over the rows. -/
def overRows (v : FVec F S100000 .f32) : Rect F :=
  broadcastInDim S128x100000 ![0, 1] bcast_S1x100000_S128x100000_0_1 (broadcastInDim S1x100000 ![1] bcast_S100000_S1x100000_1 v)

/-- The columns' maxima. -/
def colMax (x : Rect F) : FVec F S100000 .f32 :=
  maximumf (broadcastInDim S100000 ![] bcast_S_S100000 (constant S_ .f32 0xFF800000#32))
    (Host.reduce FloatOps.maximumf x (constant S_ .f32 0xFF800000#32) reducesTo_S128x100000_S100000_d0 h_S_)

/-- The exponentials of the entries less their column's maximum. -/
def expo (x : Rect F) : Rect F := Host.exp (subf x (overRows (colMax x)))

/-- The softmax down the columns, times the availability. -/
def masked (x a : Rect F) : Rect F :=
  mulf (Host.divf (expo x)
    (overRows (Host.reduceAdd (expo x) (constant S_ .f32 0x00000000#32) reducesTo_S128x100000_S100000_d0 h_S_))) a

/-- Every row's sum. -/
def rowSum (p : Rect F) : FVec F S128 .f32 :=
  Host.reduceAdd p (constant S_ .f32 0x00000000#32) reducesTo_S128x100000_S128_d1 h_S_

/-- The first result: each row over its sum. -/
def normed (x a : Rect F) : Rect F :=
  Host.divf (masked x a)
    (broadcastInDim S128x100000 ![0, 1] bcast_S128x1_S128x100000_0_1 (shapeCast S128x1 (rowSum (masked x a)) shapeCasts_S128_S128x1))

/-- The noise plus the logarithm of the normed entries. -/
def scored (x a g : Rect F) : Rect F :=
  addf g (Host.log (addf (normed x a)
    (broadcastInDim S128x100000 ![] bcast_S_S128x100000 (constant S_ .f32 0x1E3CE508#32))))

/-- The greatest pair of value and number along each row, one component of it each. -/
def pickValue (x : Rect F) (y : IVec S128x100000 32) (u : FVec F S_ .f32) (v : IVec S_ 32) : FVec F S128 .f32 := fun j =>
  (Host.argReduce reducer_argmax_f32_i32 x y u v reducesTo_S128x100000_S128_d1 h_S_ j).1
def pickIndex (x : Rect F) (y : IVec S128x100000 32) (u : FVec F S_ .f32) (v : IVec S_ 32) : IVec S128 32 := fun j =>
  (Host.argReduce reducer_argmax_f32_i32 x y u v reducesTo_S128x100000_S128_d1 h_S_ j).2

/-- The column of each row's greatest score. -/
def chosen (t : Rect F) : IVec S128 32 :=
  pickIndex t (iotaInDim S128x100000 32 1) (constant S_ .f32 0xFF800000#32) (constantI S_ 32 0#32)

/-- The second result. -/
def actions (x a g : Rect F) : IVec S128x1 32 := shapeCast S128x1 (chosen (scored x a g)) shapeCasts_S128_S128x1

/-- The operations up to the drawing of the noise. -/
abbrev opsA : List (HloOp τ sig (Elt F)) :=
  [ StableHlo.nullary main_cst (constant S_ .f32 0xFF800000#32),
    StableHlo.binary main_arg0 main_cst main_v0 ((fun x v => Host.reduce FloatOps.maximumf x v reducesTo_S128x100000_S100000_d0 h_S_) : (⟨S128x100000, .f32⟩ : BufTy).Contents (Elt F) → (⟨S_, .f32⟩ : BufTy).Contents (Elt F) → (⟨S100000, .f32⟩ : BufTy).Contents (Elt F)),
    StableHlo.nullary main_cst_0 (constant S_ .f32 0xFF800000#32),
    StableHlo.unary main_cst_0 main_v1 (broadcastInDim S100000 ![] bcast_S_S100000 : (⟨S_, .f32⟩ : BufTy).Contents (Elt F) → (⟨S100000, .f32⟩ : BufTy).Contents (Elt F)),
    StableHlo.binary main_v1 main_v0 main_v2 (maximumf : (⟨S100000, .f32⟩ : BufTy).Contents (Elt F) → (⟨S100000, .f32⟩ : BufTy).Contents (Elt F) → (⟨S100000, .f32⟩ : BufTy).Contents (Elt F)),
    StableHlo.unary main_v2 main_v3 (broadcastInDim S1x100000 ![1] bcast_S100000_S1x100000_1 : (⟨S100000, .f32⟩ : BufTy).Contents (Elt F) → (⟨S1x100000, .f32⟩ : BufTy).Contents (Elt F)),
    StableHlo.unary main_v3 main_v4 (broadcastInDim S128x100000 ![0, 1] bcast_S1x100000_S128x100000_0_1 : (⟨S1x100000, .f32⟩ : BufTy).Contents (Elt F) → (⟨S128x100000, .f32⟩ : BufTy).Contents (Elt F)),
    StableHlo.binary main_arg0 main_v4 main_v5 (subf : (⟨S128x100000, .f32⟩ : BufTy).Contents (Elt F) → (⟨S128x100000, .f32⟩ : BufTy).Contents (Elt F) → (⟨S128x100000, .f32⟩ : BufTy).Contents (Elt F)),
    StableHlo.unary main_v5 main_v6 (Host.exp : (⟨S128x100000, .f32⟩ : BufTy).Contents (Elt F) → (⟨S128x100000, .f32⟩ : BufTy).Contents (Elt F)),
    StableHlo.nullary main_cst_1 (constant S_ .f32 0x00000000#32),
    StableHlo.binary main_v6 main_cst_1 main_v7 ((fun x v => Host.reduceAdd x v reducesTo_S128x100000_S100000_d0 h_S_) : (⟨S128x100000, .f32⟩ : BufTy).Contents (Elt F) → (⟨S_, .f32⟩ : BufTy).Contents (Elt F) → (⟨S100000, .f32⟩ : BufTy).Contents (Elt F)),
    StableHlo.unary main_v7 main_v8 (broadcastInDim S1x100000 ![1] bcast_S100000_S1x100000_1 : (⟨S100000, .f32⟩ : BufTy).Contents (Elt F) → (⟨S1x100000, .f32⟩ : BufTy).Contents (Elt F)),
    StableHlo.unary main_v8 main_v9 (broadcastInDim S128x100000 ![0, 1] bcast_S1x100000_S128x100000_0_1 : (⟨S1x100000, .f32⟩ : BufTy).Contents (Elt F) → (⟨S128x100000, .f32⟩ : BufTy).Contents (Elt F)),
    StableHlo.binary main_v6 main_v9 main_v10 (Host.divf : (⟨S128x100000, .f32⟩ : BufTy).Contents (Elt F) → (⟨S128x100000, .f32⟩ : BufTy).Contents (Elt F) → (⟨S128x100000, .f32⟩ : BufTy).Contents (Elt F)),
    StableHlo.binary main_v10 main_arg1 main_v11 (mulf : (⟨S128x100000, .f32⟩ : BufTy).Contents (Elt F) → (⟨S128x100000, .f32⟩ : BufTy).Contents (Elt F) → (⟨S128x100000, .f32⟩ : BufTy).Contents (Elt F)),
    StableHlo.nullary main_cst_2 (constant S_ .f32 0x00000000#32),
    StableHlo.binary main_v11 main_cst_2 main_v12 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.reshape main_v12 main_v13 (rfl : (.f32 : EltTy) = .f32) shapeCasts_S128_S128x1,
    StableHlo.unary main_v13 main_v14 (broadcastInDim S128x100000 ![0, 1] bcast_S128x1_S128x100000_0_1 : (⟨S128x1, .f32⟩ : BufTy).Contents (Elt F) → (⟨S128x100000, .f32⟩ : BufTy).Contents (Elt F)),
    StableHlo.binary main_v11 main_v14 main_v15 (Host.divf : (⟨S128x100000, .f32⟩ : BufTy).Contents (Elt F) → (⟨S128x100000, .f32⟩ : BufTy).Contents (Elt F) → (⟨S128x100000, .f32⟩ : BufTy).Contents (Elt F)),
    StableHlo.nullary main_c (constantI S_ 32 42#32),
    StableHlo.nullary main_c_3 (constantI S_ 32 32#32),
    StableHlo.binary main_c main_c_3 main_v16 (Host.shrui : (⟨S_, .i32⟩ : BufTy).Contents (Elt F) → (⟨S_, .i32⟩ : BufTy).Contents (Elt F) → (⟨S_, .i32⟩ : BufTy).Contents (Elt F)),
    StableHlo.unary main_v16 main_v17 (id : (⟨S_, .i32⟩ : BufTy).Contents (Elt F) → (⟨S_, .i32⟩ : BufTy).Contents (Elt F)),
    StableHlo.unary main_v17 main_v18 (broadcastInDim S1 ![] bcast_S_S1 : (⟨S_, .i32⟩ : BufTy).Contents (Elt F) → (⟨S1, .i32⟩ : BufTy).Contents (Elt F)),
    StableHlo.nullary main_c_4 (constantI S_ 32 4294967295#32),
    StableHlo.binary main_c main_c_4 main_v19 (andi : (⟨S_, .i32⟩ : BufTy).Contents (Elt F) → (⟨S_, .i32⟩ : BufTy).Contents (Elt F) → (⟨S_, .i32⟩ : BufTy).Contents (Elt F)),
    StableHlo.unary main_v19 main_v20 (id : (⟨S_, .i32⟩ : BufTy).Contents (Elt F) → (⟨S_, .i32⟩ : BufTy).Contents (Elt F)),
    StableHlo.unary main_v20 main_v21 (broadcastInDim S1 ![] bcast_S_S1 : (⟨S_, .i32⟩ : BufTy).Contents (Elt F) → (⟨S1, .i32⟩ : BufTy).Contents (Elt F)),
    StableHlo.binary main_v18 main_v21 main_v22 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_5 (constant S_ .f32 0x1E3CE508#32),
    StableHlo.unary main_cst_5 main_v23 (broadcastInDim S128x100000 ![] bcast_S_S128x100000 : (⟨S_, .f32⟩ : BufTy).Contents (Elt F) → (⟨S128x100000, .f32⟩ : BufTy).Contents (Elt F)),
    StableHlo.binary main_v15 main_v23 main_v24 (addf : (⟨S128x100000, .f32⟩ : BufTy).Contents (Elt F) → (⟨S128x100000, .f32⟩ : BufTy).Contents (Elt F) → (⟨S128x100000, .f32⟩ : BufTy).Contents (Elt F)),
    StableHlo.unary main_v24 main_v25 (Host.log : (⟨S128x100000, .f32⟩ : BufTy).Contents (Elt F) → (⟨S128x100000, .f32⟩ : BufTy).Contents (Elt F)) ]

/-- The scores and the choice of the greatest. -/
abbrev choice (f₀ : Rect F → IVec S128x100000 32 → FVec F S_ .f32 → IVec S_ 32 → FVec F S128 .f32)
    (f₁ : Rect F → IVec S128x100000 32 → FVec F S_ .f32 → IVec S_ 32 → IVec S128 32) : List (HloOp τ sig (Elt F)) :=
  [ StableHlo.binary main_v26 main_v25 main_v27 (addf : (⟨S128x100000, .f32⟩ : BufTy).Contents (Elt F) → (⟨S128x100000, .f32⟩ : BufTy).Contents (Elt F) → (⟨S128x100000, .f32⟩ : BufTy).Contents (Elt F)),
    StableHlo.TRef.nullary (main_call1).v0 (iotaInDim S128x100000 32 1),
    StableHlo.TRef.nullary (main_call1).cst (constant S_ .f32 0xFF800000#32),
    StableHlo.TRef.nullary (main_call1).c (constantI S_ 32 0#32),
    StableHlo.TRef.quaternary (StableHlo.TRef.of main_v27 : StableHlo.TRef sig ⟨S128x100000, .f32⟩) (main_call1).v0 (main_call1).cst (main_call1).c (main_call1).v1_0 f₀,
    StableHlo.TRef.quaternary (StableHlo.TRef.of main_v27 : StableHlo.TRef sig ⟨S128x100000, .f32⟩) (main_call1).v0 (main_call1).cst (main_call1).c (main_call1).v1_1 f₁,
    StableHlo.reshape main_v28 main_v29 (rfl : (.i32 : EltTy) = .i32) shapeCasts_S128_S128x1 ]

/-- At the two components of the greatest pair. -/
abbrev opsB : List (HloOp τ sig (Elt F)) := choice pickValue pickIndex

/-- The operations of the reference, in order. -/
abbrev ops : List (HloOp τ sig (Elt F)) := opsA ++ (drawOps ++ opsB)

/-- The reference is that line. -/
theorem main_line (d : Dev nD) : main (F := F) d = seq ops := by chain_rfl

section Choice

variable (f₀ : Rect F → IVec S128x100000 32 → FVec F S_ .f32 → IVec S_ 32 → FVec F S128 .f32)
    (f₁ : Rect F → IVec S128x100000 32 → FVec F S_ .f32 → IVec S_ 32 → IVec S128 32) (V : Valuation τ sig (Elt F))

/-- The choice leaves the norms and the arguments as they were. -/
theorem choice_norm : after (choice f₀ f₁) V (main_v15 : DevRef τ sig) = V (main_v15 : DevRef τ sig) := by
  after_results
theorem choice_arg0 : after (choice f₀ f₁) V (main_arg0 : DevRef τ sig) = V (main_arg0 : DevRef τ sig) := by
  after_results
theorem choice_arg1 : after (choice f₀ f₁) V (main_arg1 : DevRef τ sig) = V (main_arg1 : DevRef τ sig) := by
  after_results

/-- What it chooses. -/
theorem choice_act :
    after (choice f₀ f₁) V (main_v29 : DevRef τ sig)
      = shapeCast S128x1 (f₁ (addf (V (main_v26 : DevRef τ sig) : Rect F) (V (main_v25 : DevRef τ sig))) (iotaInDim S128x100000 32 1) (constant S_ .f32 0xFF800000#32)
          (constantI S_ 32 0#32)) shapeCasts_S128_S128x1 := by
  after_results
  rfl

end Choice

/-- The fold over two lines, one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- What the operations up to the scores leave at the first result. -/
theorem line_norm (V : Valuation τ sig (Elt F)) :
    after opsA V (main_v15 : DevRef τ sig) = normed (V (main_arg0 : DevRef τ sig)) (V (main_arg1 : DevRef τ sig)) := by
  after_results
  rfl

/-- At the logarithms. -/
theorem line_log (V : Valuation τ sig (Elt F)) :
    after opsA V (main_v25 : DevRef τ sig)
      = Host.log (addf (normed (V (main_arg0 : DevRef τ sig)) (V (main_arg1 : DevRef τ sig)))
          (broadcastInDim S128x100000 ![] bcast_S_S128x100000 (constant S_ .f32 0x1E3CE508#32))) := by
  after_results
  rfl

/-- The key's two words. -/
def keyWords : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- And at the key. -/
theorem line_key (V : Valuation τ sig (Elt F)) : after opsA V (main_v22 : DevRef τ sig) = keyWords := by
  after_results
  rfl

/-- The noise the reference draws, begun from `V`. -/
def drawn (V : Valuation τ sig (Elt F)) : Rect F := after drawOps (after opsA V) (main_v26 : DevRef τ sig)

theorem line_arg0 (V : Valuation τ sig (Elt F)) : after opsA V (main_arg0 : DevRef τ sig) = V (main_arg0 : DevRef τ sig) := by
  after_results
theorem line_arg1 (V : Valuation τ sig (Elt F)) : after opsA V (main_arg1 : DevRef τ sig) = V (main_arg1 : DevRef τ sig) := by
  after_results

theorem noScopedRef : (Finset.univ.filter fun b : Ref sig .tc => b.isScoped) = ∅ := by decide
theorem noScopedSem : (Finset.univ.filter fun sm : SemLoc sig => sm.isScoped .tc) = ∅ := by decide

theorem pre_bufs : (opsA : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., reshape_bufs_sub .., unary_bufs_sub .., binary_bufs_sub ..,
    nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., unary_bufs_sub .., binary_bufs_sub .., unary_bufs_sub ..⟩
theorem post_bufs : (opsB : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., reshape_bufs_sub ..⟩

theorem line_bufs : (ops : List (HloOp τ sig (Elt F))).Forall fun op => op.bufs ⊆ tcRefs τ sig :=
  List.forall_append.mpr ⟨pre_bufs, List.forall_append.mpr ⟨draw_bufs, post_bufs⟩⟩

/-- The reference runs to its end; its results are the terms above, its arguments and its semaphores as they were. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c : Thread nD τ).loc main_v15) = normed (m ((c : Thread nD τ).loc main_arg0)) (m ((c : Thread nD τ).loc main_arg1))
        ∧ r.2.mem ((c : Thread nD τ).loc main_v29)
            = actions (m ((c : Thread nD τ).loc main_arg0)) (m ((c : Thread nD τ).loc main_arg1)) (drawn fun b => m (c, b))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  refine (θ_run defs _ _).mono
    (fun r h => ⟨fun c => ⟨(h c main_v15).trans ?_, (h c main_v29).trans ?_, (h c main_arg0).trans ?_,
        (h c main_arg1).trans ?_⟩,
      sem_eq_zero_of_no_sems (by decide) r.2⟩)
    (run_seq noScopedRef noScopedSem defs main (fun _ => ops) main_line (fun _ => line_bufs) m ρ)
  · rw [after_two, after_two, choice_norm, draw_stays _ draw_v15, line_norm]
  · rw [after_two, after_two, choice_act, draw_stays _ draw_v25, line_log]; rfl
  · rw [after_two, after_two, choice_arg0, draw_stays _ draw_arg0, line_arg0]
  · rw [after_two, after_two, choice_arg1, draw_stays _ draw_arg1, line_arg1]

end Cert.ReferenceIdeal.Policy

end
-- ==== Proof.Rows.lean ====
/-
  The mathematics of the two programs, over tables of extended reals indexed by row and column: the softmax
  of a row, a column's total, a column's share of it, the mark an entry gets, and when the divisors are
  not zero.
-/
module

public import Idealize.ShloMosaic.PureOps.Ideal.Laws

@[expose] public section

noncomputable section

namespace Cert.Policy

open Idealize.ShloMosaic

/-- The greatest of a row's 128 entries. -/
def rowMax (f : ℕ → EReal) : EReal := (Finset.univ : Finset (Fin 128)).fold max ⊥ fun k : Fin 128 => f (k : ℕ)
/-- The exponential of an entry less the greatest. -/
def rowExp (f : ℕ → EReal) (j : ℕ) : EReal := Ideal.exp (f j - rowMax f)
/-- The sum of a row's exponentials. -/
def rowTot (f : ℕ → EReal) : EReal := ∑ k : Fin 128, rowExp f k

variable (PA AA GA : ℕ → ℕ → EReal)

/-- The softmax of a row times the availability. -/
def soft (i j : ℕ) : EReal := Ideal.div (rowExp (PA i) j) (rowTot (PA i)) * AA i j
/-- A column's total. -/
def total (j : ℕ) : EReal := ∑ i ∈ Finset.range 100000, soft PA AA i j
/-- An entry's share of its column's total. -/
def share (i j : ℕ) : EReal := Ideal.div (soft PA AA i j) (total PA AA j)
/-- The noise plus the logarithm of the share. -/
def mark (i j : ℕ) : EReal := GA i j + Ideal.log (share PA AA i j + Ideal.ofBits .f32 0x1E3CE508#32)

/-- No entry is plus infinity and no row is minus infinity throughout; the availabilities are from zero up, and every column
has an availability above zero at an entry that is not minus infinity. -/
structure Fair : Prop where
  high : ∀ i j, i < 100000 → j < 128 → PA i j < ⊤
  row : ∀ i, i < 100000 → ∃ j, j < 128 ∧ ⊥ < PA i j
  avail : ∀ i j, i < 100000 → j < 128 → 0 ≤ AA i j
  some : ∀ j, j < 128 → ∃ i, i < 100000 ∧ ⊥ < PA i j ∧ 0 < AA i j

/-- A multiplication by an inverse is a division, off zero. -/
theorem mul_inverse (e s : EReal) (hs : s ≠ 0) : e * Ideal.div 1 s = Ideal.div e s := by
  unfold Ideal.div
  rw [if_neg hs, if_neg hs, one_mul]

/-- A real exponential is above zero and below infinity. -/
theorem exp_pos {x : EReal} (h₁ : ⊥ < x) (h₂ : x < ⊤) : 0 < Ideal.exp x ∧ Ideal.exp x < ⊤ := by
  induction x using EReal.rec with
  | bot => exact absurd h₁ (lt_irrefl _)
  | top => exact absurd h₂ (lt_irrefl _)
  | coe r =>
    show (0 : EReal) < (Real.exp r : EReal) ∧ (Real.exp r : EReal) < ⊤
    exact ⟨EReal.coe_pos.2 (Real.exp_pos r), EReal.coe_lt_top _⟩

/-- The difference of two finite values is finite. -/
theorem sub_finite {x y : EReal} (hx : ⊥ < x) (hx' : x < ⊤) (hy : ⊥ < y) (hy' : y < ⊤) : ⊥ < x - y ∧ x - y < ⊤ := by
  lift x to ℝ using ⟨hx'.ne, hx.ne'⟩
  lift y to ℝ using ⟨hy'.ne, hy.ne'⟩
  rw [← EReal.coe_sub]
  exact ⟨EReal.bot_lt_coe _, EReal.coe_lt_top _⟩

/-- An exponential is from zero up. -/
theorem exp_nonneg (x : EReal) : 0 ≤ Ideal.exp x := by
  induction x using EReal.rec with
  | bot => exact le_refl (0 : EReal)
  | top => exact le_top
  | coe r =>
    show (0 : EReal) ≤ (Real.exp r : EReal)
    exact EReal.coe_nonneg.2 (Real.exp_pos r).le

/-- Below infinity it is below infinity. -/
theorem exp_lt_top {x : EReal} (h : x < ⊤) : Ideal.exp x < ⊤ := by
  rcases eq_or_ne x ⊥ with rfl | h'
  · exact EReal.zero_lt_top
  · exact (exp_pos (bot_lt_iff_ne_bot.2 h') h).2

/-- A difference from a finite value is below infinity. -/
theorem sub_lt_top {x y : EReal} (hx : x < ⊤) (hy : ⊥ < y) (hy' : y < ⊤) : x - y < ⊤ := by
  rcases eq_or_ne x ⊥ with rfl | h
  · rw [sub_eq_add_neg, EReal.bot_add]
    exact bot_lt_top
  · exact (sub_finite (bot_lt_iff_ne_bot.2 h) hx hy hy').2

/-- A row below infinity, not minus infinity throughout. -/
structure RowFair (f : ℕ → EReal) : Prop where
  high : ∀ j, j < 128 → f j < ⊤
  low : ∃ j, j < 128 ∧ ⊥ < f j

/-- It has a finite greatest entry. -/
theorem rowMax_finite {f : ℕ → EReal} (h : RowFair f) : ⊥ < rowMax f ∧ rowMax f < ⊤ := by
  constructor
  · obtain ⟨j, hj, hl⟩ := h.low
    exact (Finset.lt_fold_max _).2 (.inr ⟨(⟨j, hj⟩ : Fin 128), Finset.mem_univ _, hl⟩)
  · exact (Finset.fold_max_lt _).2 ⟨bot_lt_top, fun k _ => h.high k k.isLt⟩

/-- Where an entry is not minus infinity the exponential is above zero. -/
theorem rowExp_pos {f : ℕ → EReal} (h : RowFair f) (j : ℕ) (hj : j < 128) (hl : ⊥ < f j) : 0 < rowExp f j := by
  obtain ⟨m₁, m₂⟩ := rowMax_finite h
  obtain ⟨d₁, d₂⟩ := sub_finite hl (h.high j hj) m₁ m₂
  exact (exp_pos d₁ d₂).1

theorem rowExp_lt_top {f : ℕ → EReal} (h : RowFair f) (j : ℕ) (hj : j < 128) : rowExp f j < ⊤ :=
  exp_lt_top (sub_lt_top (h.high j hj) (rowMax_finite h).1 (rowMax_finite h).2)

/-- A finite sum of values below infinity is below infinity. -/
theorem sum_lt_top {n : ℕ} (g : Fin n → EReal) (h : ∀ k, g k < ⊤) : ∑ k, g k < ⊤ := by
  refine Finset.sum_induction g (fun x => x < ⊤) (fun a b ha hb => EReal.add_lt_top ha.ne hb.ne) EReal.zero_lt_top fun k _ => h k

theorem rowTot_pos {f : ℕ → EReal} (h : RowFair f) : 0 < rowTot f ∧ rowTot f < ⊤ := by
  obtain ⟨j, hj, hl⟩ := h.low
  refine ⟨lt_of_lt_of_le (rowExp_pos h j hj hl) ?_, sum_lt_top _ fun k => rowExp_lt_top h k k.isLt⟩
  exact Finset.single_le_sum (f := fun k : Fin 128 => rowExp f k) (fun k _ => exp_nonneg _) (Finset.mem_univ (⟨j, hj⟩ : Fin 128))

variable {PA AA}

/-- Every row of a fair table is a fair row. -/
theorem Fair.rowFair (H : Fair PA AA) (i : ℕ) (hi : i < 100000) : RowFair (PA i) := ⟨fun j hj => H.high i j hi hj, H.row i hi⟩

theorem rowTot_ne (H : Fair PA AA) (i : ℕ) (hi : i < 100000) : rowTot (PA i) ≠ 0 := (rowTot_pos (H.rowFair i hi)).1.ne'

/-- A softmax entry is from zero up. -/
theorem quot_nonneg (H : Fair PA AA) (i j : ℕ) (hi : i < 100000) : 0 ≤ Ideal.div (rowExp (PA i) j) (rowTot (PA i)) := by
  obtain ⟨t₁, t₂⟩ := rowTot_pos (H.rowFair i hi)
  unfold Ideal.div
  rw [if_neg t₁.ne']
  exact mul_nonneg (exp_nonneg _) (EReal.inv_pos_of_pos_ne_top t₁ t₂.ne).le

/-- And above zero where the entry is not minus infinity. -/
theorem quot_pos (H : Fair PA AA) (i j : ℕ) (hi : i < 100000) (hj : j < 128) (hl : ⊥ < PA i j) :
    0 < Ideal.div (rowExp (PA i) j) (rowTot (PA i)) := by
  obtain ⟨t₁, t₂⟩ := rowTot_pos (H.rowFair i hi)
  unfold Ideal.div
  rw [if_neg t₁.ne']
  exact EReal.mul_pos (rowExp_pos (H.rowFair i hi) j hj hl) (EReal.inv_pos_of_pos_ne_top t₁ t₂.ne)

/-- No column's total is zero. -/
theorem total_ne (H : Fair PA AA) (j : ℕ) (hj : j < 128) : total PA AA j ≠ 0 := by
  obtain ⟨i, hi, hl, ha⟩ := H.some j hj
  refine (lt_of_lt_of_le (EReal.mul_pos (quot_pos H i j hi hj hl) ha) ?_).ne'
  exact Finset.single_le_sum (f := fun i => soft PA AA i j)
    (fun k hk => mul_nonneg (quot_nonneg H k j (Finset.mem_range.1 hk)) (H.avail k j (Finset.mem_range.1 hk) hj))
    (Finset.mem_range.2 hi)

/-- The first `n + m` terms are the first `n` and the next `m`. -/
theorem sum_block (f : ℕ → EReal) (n m : ℕ) :
    ∑ i ∈ Finset.range (n + m), f i = ∑ i ∈ Finset.range n, f i + ∑ r : Fin m, f (n + r) := by
  rw [Finset.sum_range_add, Finset.sum_range fun r => f (n + r)]

end Cert.Policy
-- ==== Proof.First.lean ====
/-
  The first place of the greatest value: what it is, that it is one, how it is found block by block, and
  how by a fold over pairs of a value and its place.
-/
module

public import Idealize.ShloMosaic.PureOps.Ideal.Laws

@[expose] public section

noncomputable section

namespace Cert.Policy

open Idealize.ShloMosaic

/-- Of the first `n` values `v` is the greatest and `k` its first place; where nothing is above `⊥`, zero. -/
structure Best (t : ℕ → EReal) (n : ℕ) (v : EReal) (k : ℕ) : Prop where
  top : ∀ i, i < n → t i ≤ v
  met : (v = ⊥ ∧ k = 0) ∨ (k < n ∧ t k = v)
  first : ∀ i, i < n → t i = v → k ≤ i

/-- There is one such value and one such place. -/
theorem Best.unique {t : ℕ → EReal} {n : ℕ} {v v' : EReal} {k k' : ℕ} (h : Best t n v k) (h' : Best t n v' k') :
    v = v' ∧ k = k' := by
  have le : ∀ {a b : EReal} {x y : ℕ}, Best t n a x → Best t n b y → a ≤ b := by
    intro a b x y p q
    rcases p.met with ⟨e, _⟩ | ⟨hx, e⟩
    · rw [e]; exact bot_le
    · rw [← e]; exact q.top x hx
  have ev : v = v' := le_antisymm (le h h') (le h' h)
  subst ev
  refine ⟨rfl, ?_⟩
  have lk : ∀ {x y : ℕ}, Best t n v x → Best t n v y → x ≤ y := by
    intro x y p q
    rcases q.met with ⟨e, e0⟩ | ⟨hy, e⟩
    · rcases p.met with ⟨_, e0'⟩ | ⟨hx, e'⟩
      · omega
      · have h0 : t 0 = v := by
          have := p.top 0 (by omega)
          rw [e] at this ⊢
          exact le_bot_iff.1 this
        exact le_trans (p.first 0 (by omega) h0) (Nat.zero_le _)
    · exact p.first y hy e
  exact le_antisymm (lk h h') (lk h' h)

/-- Before anything is seen. -/
theorem Best.start (t : ℕ → EReal) : Best t 0 ⊥ 0 :=
  ⟨fun i hi => absurd hi (Nat.not_lt_zero i), .inl ⟨rfl, rfl⟩, fun i hi _ => absurd hi (Nat.not_lt_zero i)⟩

/-- A block's greatest value and its first row take over where they are above what there was. -/
theorem Best.block {t : ℕ → EReal} {n m : ℕ} {v : EReal} {k : ℕ} (h : Best t n v k) {tm : EReal} {r : ℕ}
    (hub : ∀ i, i < m → t (n + i) ≤ tm)
    (hr : v < tm → r < m ∧ t (n + r) = tm ∧ ∀ i, i < m → t (n + i) = tm → r ≤ i) :
    Best t (n + m) (if v < tm then tm else v) (if v < tm then r + n else k) := by
  by_cases hv : v < tm
  · rw [if_pos hv, if_pos hv]
    obtain ⟨h₁, h₂, h₃⟩ := hr hv
    refine ⟨fun i hi => ?_, .inr ⟨by omega, by rw [Nat.add_comm]; exact h₂⟩, fun i hi e => ?_⟩
    · by_cases hin : i < n
      · exact le_trans (h.top i hin) hv.le
      · obtain ⟨d, rfl⟩ := Nat.exists_eq_add_of_le (Nat.le_of_not_lt hin)
        exact hub d (by omega)
    · by_cases hin : i < n
      · exact absurd (lt_of_le_of_lt (h.top i hin) hv) (by rw [e]; exact lt_irrefl _)
      · obtain ⟨d, rfl⟩ := Nat.exists_eq_add_of_le (Nat.le_of_not_lt hin)
        have := h₃ d (by omega) e
        omega
  · rw [if_neg hv, if_neg hv]
    have hv' : tm ≤ v := not_lt.1 hv
    refine ⟨fun i hi => ?_, ?_, fun i hi e => ?_⟩
    · by_cases hin : i < n
      · exact h.top i hin
      · obtain ⟨d, rfl⟩ := Nat.exists_eq_add_of_le (Nat.le_of_not_lt hin)
        exact le_trans (hub d (by omega)) hv'
    · rcases h.met with p | ⟨p, q⟩
      · exact .inl p
      · exact .inr ⟨by omega, q⟩
    · by_cases hin : i < n
      · exact h.first i hin e
      · rcases h.met with ⟨_, p⟩ | ⟨p, _⟩
        · omega
        · omega

/-! ## The fold over pairs -/

/-- The second pair is the better one, or as good. -/
def Below (p q : EReal × BitVec 32) : Prop := p.1 < q.1 ∨ (p.1 = q.1 ∧ q.2.toInt ≤ p.2.toInt)

theorem Below.refl (p : EReal × BitVec 32) : Below p p := .inr ⟨rfl, le_refl _⟩

theorem Below.trans {p q r : EReal × BitVec 32} (h : Below p q) (h' : Below q r) : Below p r := by
  rcases h with a | ⟨a, b⟩ <;> rcases h' with c | ⟨c, d⟩
  · exact .inl (lt_trans a c)
  · exact .inl (c ▸ a)
  · exact .inl (a ▸ c)
  · exact .inr ⟨a.trans c, d.trans b⟩

/-- A fold that keeps the better of two pairs ends with one of them, and none is better. -/
theorem fold_keeps {f : EReal × BitVec 32 → EReal × BitVec 32 → EReal × BitVec 32}
    (hf : ∀ a b, (f a b = a ∨ f a b = b) ∧ Below a (f a b) ∧ Below b (f a b)) (l : List (EReal × BitVec 32)) :
    ∀ a, (l.foldl f a = a ∨ l.foldl f a ∈ l) ∧ Below a (l.foldl f a) ∧ ∀ x ∈ l, Below x (l.foldl f a) := by
  induction l with
  | nil => intro a; exact ⟨.inl rfl, Below.refl a, fun x hx => absurd hx (by simp)⟩
  | cons b l ih =>
    intro a
    obtain ⟨i₁, i₂, i₃⟩ := ih (f a b)
    obtain ⟨h₁, h₂, h₃⟩ := hf a b
    show (l.foldl f (f a b) = a ∨ l.foldl f (f a b) ∈ b :: l) ∧ Below a (l.foldl f (f a b)) ∧ _
    refine ⟨?_, h₂.trans i₂, fun x hx => ?_⟩
    · rcases i₁ with e | e
      · rcases h₁ with e' | e'
        · exact .inl (e.trans e')
        · exact .inr (by rw [e, e']; exact List.mem_cons_self)
      · exact .inr (List.mem_cons_of_mem _ e)
    · rcases List.mem_cons.1 hx with rfl | hx
      · exact h₃.trans i₂
      · exact i₃ x hx

/-- Small numbers as words, read back. -/
theorem word_int (k : ℕ) (hk : k < 2 ^ 31) : (BitVec.ofNat 32 k).toInt = k := by
  rw [BitVec.toInt_eq_toNat_of_lt (by rw [BitVec.toNat_ofNat]; omega), BitVec.toNat_ofNat]
  omega

/-- Over the pairs of the values and their places, from `⊥` and zero, it finds the first place of the greatest value. -/
theorem fold_best {f : EReal × BitVec 32 → EReal × BitVec 32 → EReal × BitVec 32}
    (hf : ∀ a b, (f a b = a ∨ f a b = b) ∧ Below a (f a b) ∧ Below b (f a b)) (l : List (EReal × BitVec 32))
    (t : ℕ → EReal) (n : ℕ) (hn : n ≤ 100000) (hl : ∀ p, p ∈ l ↔ ∃ k, k < n ∧ p = (t k, BitVec.ofNat 32 k)) :
    ∃ v k, Best t n v k ∧ (l.foldl f (⊥, 0#32)).2 = BitVec.ofNat 32 k := by
  obtain ⟨h₁, h₂, h₃⟩ := fold_keeps hf l (⊥, 0#32)
  generalize l.foldl f (⊥, 0#32) = r at h₁ h₂ h₃
  rcases h₁ with rfl | h₁
  · refine ⟨⊥, 0, ⟨fun i hi => ?_, .inl ⟨rfl, rfl⟩, fun i _ _ => Nat.zero_le i⟩, rfl⟩
    rcases h₃ (t i, BitVec.ofNat 32 i) ((hl _).2 ⟨i, hi, rfl⟩) with a | ⟨a, _⟩
    · exact a.le
    · exact a.le
  · obtain ⟨k, hk, rfl⟩ := (hl _).1 h₁
    refine ⟨t k, k, ⟨fun i hi => ?_, .inr ⟨hk, rfl⟩, fun i hi e => ?_⟩, rfl⟩
    · rcases h₃ (t i, BitVec.ofNat 32 i) ((hl _).2 ⟨i, hi, rfl⟩) with a | ⟨a, _⟩
      · exact a.le
      · exact a.le
    · rcases h₃ (t i, BitVec.ofNat 32 i) ((hl _).2 ⟨i, hi, rfl⟩) with a | ⟨_, b⟩
      · exact absurd a (by show ¬ t i < t k; rw [e]; exact lt_irrefl _)
      · have b' : (BitVec.ofNat 32 k).toInt ≤ (BitVec.ofNat 32 i).toInt := b
        rw [word_int k (by omega), word_int i (by omega)] at b'
        exact_mod_cast b'

/-! ## The least of a block's row numbers -/

/-- A fold of the signed minimum ends with its start or one of the words, and none is less. -/
theorem fold_min {ι : Type} [DecidableEq ι] (S : Finset ι) (a : BitVec 32) (g : ι → BitVec 32) :
    (S.fold IKind.minsi.op a g = a ∨ ∃ k ∈ S, S.fold IKind.minsi.op a g = g k)
      ∧ ∀ k ∈ S, (S.fold IKind.minsi.op a g).toInt ≤ (g k).toInt := by
  have op : ∀ x y : BitVec 32, (IKind.minsi.op x y = x ∨ IKind.minsi.op x y = y)
      ∧ (IKind.minsi.op x y).toInt ≤ x.toInt ∧ (IKind.minsi.op x y).toInt ≤ y.toInt := by
    intro x y
    show (IntOp.minsi x y = x ∨ IntOp.minsi x y = y) ∧ (IntOp.minsi x y).toInt ≤ x.toInt ∧ (IntOp.minsi x y).toInt ≤ y.toInt
    simp only [IntOp.minsi, BitVec.slt, decide_eq_true_eq]
    split_ifs with h
    · exact ⟨.inl rfl, le_refl _, h.le⟩
    · exact ⟨.inr rfl, not_lt.1 h, le_refl _⟩
  induction S using Finset.induction_on with
  | empty => exact ⟨.inl (Finset.fold_empty), fun k hk => absurd hk (Finset.notMem_empty k)⟩
  | insert b S hb ih =>
    rw [Finset.fold_insert hb]
    obtain ⟨o₁, o₂, o₃⟩ := op (g b) (S.fold IKind.minsi.op a g)
    obtain ⟨i₁, i₂⟩ := ih
    constructor
    · rcases o₁ with e | e
      · exact .inr ⟨b, Finset.mem_insert_self _ _, e⟩
      · rcases i₁ with e' | ⟨k, hk, e'⟩
        · exact .inl (e.trans e')
        · exact .inr ⟨k, Finset.mem_insert_of_mem hk, e.trans e'⟩
    · intro k hk
      rcases Finset.mem_insert.1 hk with rfl | hk
      · exact o₂
      · exact o₃.trans (i₂ k hk)

/-- The rows where the values meet a given one, marked by their numbers and the others by a great word: the least word
    is the number of the first such row. -/
theorem first_row (u : Fin 1024 → EReal) (tm : EReal) (g : Fin 1024 → BitVec 32)
    (hg : ∀ k, g k = if u k = tm then BitVec.ofNat 32 (k : ℕ) else 1073741824#32) (hex : ∃ k, u k = tm) :
    ∃ r : Fin 1024, u r = tm ∧ (∀ k, u k = tm → r ≤ k)
      ∧ (Finset.univ : Finset (Fin 1024)).fold IKind.minsi.op 2147483647#32 g = BitVec.ofNat 32 (r : ℕ) := by
  obtain ⟨h₁, h₂⟩ := fold_min (Finset.univ : Finset (Fin 1024)) 2147483647#32 g
  generalize (Finset.univ : Finset (Fin 1024)).fold IKind.minsi.op 2147483647#32 g = w at h₁ h₂
  have le : ∀ k : Fin 1024, u k = tm → w.toInt ≤ (k : ℕ) := by
    intro k hk
    have := h₂ k (Finset.mem_univ _)
    rw [hg k, if_pos hk, word_int _ (by have := k.isLt; omega)] at this
    exact this
  obtain ⟨k₀, hk₀⟩ := hex
  have l₀ := le k₀ hk₀
  have b₀ := k₀.isLt
  rcases h₁ with rfl | ⟨k, _, rfl⟩
  · have : (2147483647#32 : BitVec 32).toInt = 2147483647 := by decide
    omega
  · have e := hg k
    by_cases hk : u k = tm
    · rw [if_pos hk] at e
      refine ⟨k, hk, fun k' hk' => ?_, e⟩
      have := le k' hk'
      rw [e, word_int _ (by have := k.isLt; omega)] at this
      exact_mod_cast this
    · rw [if_neg hk] at e
      have : (1073741824#32 : BitVec 32).toInt = 1073741824 := by decide
      rw [e] at l₀
      omega

end Cert.Policy
-- ==== Proof.RefValue.lean ====
/-
  The reference over extended reals: its first result holds the entries' shares of their rows' totals, its
  second the first place of each row's greatest mark.
-/
module

public import proofs.«01_k».proof.Proof.RefRun
public import proofs.«01_k».proof.Proof.Rows
public import proofs.«01_k».proof.Proof.First
public import Idealize.ShloMosaic.Lib.Pipeline.Value
public import Idealize.ShloMosaic.Lib.ValueIdx
public import Idealize.ShloMosaic.Lib.StableHlo.Predicate

@[expose] public section

set_option pp.maxSteps 200

noncomputable section

namespace Cert.ReferenceIdeal.Policy

open Idealize.ShloMosaic Idealize.ShloMosaic.ValueIdx Cert.Policy
open Cert.ReferenceIdeal Cert.ReferenceIdeal.Facts₀ Cert.ReferenceIdeal.Facts

/-- An array as a table by column and row, read round the array. -/
def tab (x : Rect Ideal) (i j : ℕ) : EReal :=
  x (ix2 ⟨j % 128, Nat.mod_lt _ (by decide)⟩ ⟨i % 100000, Nat.mod_lt _ (by decide)⟩)

theorem tab_at (x : Rect Ideal) (i : Fin 100000) (j : Fin 128) : tab x (i : ℕ) (j : ℕ) = x (ix2 j i) := by
  unfold tab
  refine congrArg x (Shape.idx_ext₂ ?_ ?_)
  · exact Nat.mod_eq_of_lt j.isLt
  · exact Nat.mod_eq_of_lt i.isLt

theorem drop_rows : S128x100000.Reduces [0] S100000 := by decide
theorem drop_cols : S128x100000.Reduces [1] S128 := by decide

theorem lift_rows (i : Fin 100000) (k : Fin 128) : drop_rows.lift (ix1 i) k = ix2 k i := Shape.idx_ext₂ rfl rfl
theorem lift_cols (j : Fin 128) (k : Fin 100000) : drop_cols.lift (ix1 j) k = ix2 j k := Shape.idx_ext₂ rfl rfl

theorem ninf_bits : Ideal.ofBits .f32 0xFF800000#32 = ⊥ := by
  simp [Ideal.ofBits, Ideal.ieee]

theorem quot_at {s : Shape} (a b : FVec Ideal s .f32) (i : s.Idx) : Host.divf a b i = Ideal.div (a i) (b i) := rfl
theorem logs_at {s : Shape} (a : FVec Ideal s .f32) (i : s.Idx) : Host.log a i = Ideal.log (a i) := rfl
theorem exps_at {s : Shape} (a : FVec Ideal s .f32) (i : s.Idx) : Host.exp a i = Ideal.exp (a i) := rfl

theorem over_at (v : FVec Ideal S100000 .f32) (j : Fin 128) (i : Fin 100000) : overRows v (ix2 j i) = v (ix1 i) := by
  unfold overRows
  refine (broadcastInDim_apply _ _ _ (ix2 j i) (ix2 0 i) fun a => match a with
    | ⟨0, _⟩ => rfl
    | ⟨1, _⟩ => rfl).trans ?_
  exact broadcastInDim_apply _ _ _ (ix2 0 i) (ix1 i) fun a => match a with
    | ⟨0, _⟩ => rfl

theorem colMax_at (x : Rect Ideal) (i : Fin 100000) : colMax x (ix1 i) = rowMax (tab x (i : ℕ)) := by
  unfold colMax
  rw [maximumf_apply, Host.reduce_eq_fold_single _ _ _ _ drop_rows]
  have e : broadcastInDim S100000 ![] bcast_S_S100000 (constant (F := Ideal) S_ .f32 0xFF800000#32) (ix1 i) = ⊥ := ninf_bits
  rw [e, max_eq_right bot_le]
  unfold rowMax
  show Finset.fold max (Ideal.ofBits .f32 0xFF800000#32) _ _ = _
  rw [ninf_bits]
  refine Finset.fold_congr fun (k : Fin 128) _ => ?_
  exact (congrArg x (lift_rows i k)).trans (tab_at x i k).symm

theorem expo_at (x : Rect Ideal) (j : Fin 128) (i : Fin 100000) : expo x (ix2 j i) = rowExp (tab x (i : ℕ)) (j : ℕ) := by
  unfold expo
  rw [exps_at, subf_apply, over_at, colMax_at, ← tab_at x i j]
  rfl

theorem sumDown_at (y : Rect Ideal) (i : Fin 100000) :
    Host.reduceAdd y (constant S_ .f32 0x00000000#32) reducesTo_S128x100000_S100000_d0 h_S_ (ix1 i) = ∑ k : Fin 128, y (ix2 k i) := by
  refine (Ideal.hostReduceAdd_single reducesTo_S128x100000_S100000_d0 drop_rows y _ (ix1 i)).trans ?_
  refine (congrArg (fun z => z + _) Ideal.ofBits_zero_f32).trans ?_
  rw [zero_add]
  exact Finset.sum_congr rfl fun (k : Fin 128) _ => congrArg y (lift_rows i k)

theorem sumAcross_at (y : Rect Ideal) (j : Fin 128) : rowSum y (ix1 j) = ∑ k : Fin 100000, y (ix2 j k) := by
  refine (Ideal.hostReduceAdd_single reducesTo_S128x100000_S128_d1 drop_cols y _ (ix1 j)).trans ?_
  refine (congrArg (fun z => z + _) Ideal.ofBits_zero_f32).trans ?_
  rw [zero_add]
  exact Finset.sum_congr rfl fun (k : Fin 100000) _ => congrArg y (lift_cols j k)

theorem masked_at (x a : Rect Ideal) (j : Fin 128) (i : Fin 100000) :
    masked x a (ix2 j i) = soft (tab x) (tab a) (i : ℕ) (j : ℕ) := by
  unfold masked
  rw [mulf_apply, quot_at, over_at, sumDown_at, expo_at, ← tab_at a i j, Finset.sum_congr rfl fun k _ => expo_at x k i]
  rfl

theorem rowSum_at (x a : Rect Ideal) (j : Fin 128) : rowSum (masked x a) (ix1 j) = total (tab x) (tab a) (j : ℕ) := by
  rw [sumAcross_at, Finset.sum_congr rfl fun k _ => masked_at x a j k]
  exact (Finset.sum_range fun i => soft (tab x) (tab a) i (j : ℕ)).symm

theorem spread_at (v : FVec Ideal S128 .f32) (j : Fin 128) (i : Fin 100000) :
    broadcastInDim S128x100000 ![0, 1] bcast_S128x1_S128x100000_0_1 (shapeCast S128x1 v shapeCasts_S128_S128x1) (ix2 j i) = v (ix1 j) := by
  refine (broadcastInDim_apply _ _ _ (ix2 j i) (ix2 j 0) fun a => match a with
    | ⟨0, _⟩ => rfl
    | ⟨1, _⟩ => rfl).trans ?_
  refine shapeCast_apply _ _ _ _ ?_
  rw [Shape.rowMajor_val_one, Shape.rowMajor_val_two]
  show (j : ℕ) = (j : ℕ) * 1 + 0
  omega

/-- The first result, entry by entry. -/
theorem normed_at (x a : Rect Ideal) (j : Fin 128) (i : Fin 100000) :
    normed x a (ix2 j i) = share (tab x) (tab a) (i : ℕ) (j : ℕ) := by
  unfold normed
  rw [quot_at, spread_at, rowSum_at, masked_at]
  rfl

theorem scored_at (x a g : Rect Ideal) (j : Fin 128) (i : Fin 100000) :
    scored x a g (ix2 j i) = mark (tab x) (tab a) (tab g) (i : ℕ) (j : ℕ) := by
  unfold scored
  rw [addf_apply, logs_at, addf_apply]
  have e : broadcastInDim S128x100000 ![] bcast_S_S128x100000 (constant (F := Ideal) S_ .f32 0x1E3CE508#32) (ix2 j i)
      = Ideal.ofBits .f32 0x1E3CE508#32 := rfl
  rw [e, normed_at, ← tab_at g i j]
  rfl

/-- The choice between two pairs keeps the better one. -/
theorem keeps (p q : EReal × BitVec 32) :
    (reducer_argmax_f32_i32 (F := Ideal) p q = p ∨ reducer_argmax_f32_i32 (F := Ideal) p q = q)
      ∧ Below p (reducer_argmax_f32_i32 (F := Ideal) p q) ∧ Below q (reducer_argmax_f32_i32 (F := Ideal) p q) := by
  obtain ⟨v, k⟩ := p
  obtain ⟨w, l⟩ := q
  have e : reducer_argmax_f32_i32 (F := Ideal) (v, k) (w, l)
      = (if w < v then v else w, if w < v ∨ (v = w ∧ k.slt l = true) then k else l) := by
    unfold reducer_argmax_f32_i32 Scalar.select
    simp only [Ideal.cmpf_def, Ideal.cmp, IntOp.ori, IntOp.andi, IntOp.cmpi]
    by_cases h₁ : w < v <;> by_cases h₂ : v = w <;> by_cases h₃ : k.slt l = true <;> simp [h₁, h₂, h₃]
  rw [e]
  by_cases h₁ : w < v
  · rw [if_pos h₁, if_pos (.inl h₁)]
    exact ⟨.inl rfl, Below.refl _, .inl h₁⟩
  · rw [if_neg h₁]
    by_cases h₂ : v = w ∧ k.slt l = true
    · rw [if_pos (.inr h₂)]
      obtain ⟨rfl, h⟩ := h₂
      refine ⟨.inl rfl, Below.refl _, .inr ⟨rfl, ?_⟩⟩
      rw [BitVec.slt, decide_eq_true_eq] at h
      exact h.le
    · rw [if_neg (by rintro (h | h); exacts [h₁ h, h₂ h])]
      refine ⟨.inr rfl, ?_, Below.refl _⟩
      rcases lt_or_eq_of_le (not_lt.1 h₁) with h | h
      · exact .inl h
      · refine .inr ⟨h, ?_⟩
        by_contra hn
        exact h₂ ⟨h, by rw [BitVec.slt, decide_eq_true_eq]; exact not_le.1 hn⟩

/-- The pairs along a row. -/
theorem pairs (t : Rect Ideal) (f : ℕ → EReal) (j : Fin 128) (hf : ∀ i : Fin 100000, t (ix2 j i) = f (i : ℕ)) (p : EReal × BitVec 32) :
    p ∈ Host.argReduceFiber t (iotaInDim S128x100000 32 1) reducesTo_S128x100000_S128_d1 (ix1 j)
      ↔ ∃ k, k < 100000 ∧ p = (f k, BitVec.ofNat 32 k) := by
  unfold Host.argReduceFiber
  rw [List.mem_map]
  have drop : ∀ y : S128x100000.Idx, reducesTo_S128x100000_S128_d1.drop y = ix1 (y 0) := fun y => by
    funext a
    match a with
    | ⟨0, _⟩ => exact Fin.ext rfl
  constructor
  · rintro ⟨n, hn, rfl⟩
    rw [List.mem_filter, decide_eq_true_eq, drop] at hn
    generalize S128x100000.rowMajor.symm n = y at hn ⊢
    have hy : y 0 = j := congrFun hn.2 0
    refine ⟨(y 1 : ℕ), (y 1).isLt, ?_⟩
    refine Prod.ext ?_ rfl
    refine Eq.trans ?_ (hf (y 1))
    refine congrArg t (Shape.idx_ext₂ ?_ rfl)
    exact congrArg Fin.val hy
  · rintro ⟨k, hk, rfl⟩
    refine ⟨S128x100000.rowMajor (ix2 j ⟨k, hk⟩), ?_, ?_⟩
    · rw [List.mem_filter, decide_eq_true_eq, Equiv.symm_apply_apply, drop]
      exact ⟨List.mem_finRange _, rfl⟩
    · rw [Equiv.symm_apply_apply]
      exact Prod.ext (hf ⟨k, hk⟩) rfl

/-- The choice along an axis, at any shapes, is the first place of the greatest. -/
theorem place_at {s t u : Shape} {axes : List (Fin s.rank)} (x : FVec Ideal s .f32) (y : IVec s 32) (ix : FVec Ideal u .f32) (iy : IVec u 32)
    (h : s.ReducesTo axes t) (hu : 0 < u.numel) (j : t.Idx) (hx : ix (Shape.Idx.first hu) = ⊥) (hy : iy (Shape.Idx.first hu) = 0#32)
    (f : ℕ → EReal) (n : ℕ) (hn : n ≤ 100000) (hl : ∀ p, p ∈ Host.argReduceFiber x y h j ↔ ∃ k, k < n ∧ p = (f k, BitVec.ofNat 32 k)) :
    ∃ v k, Best f n v k ∧ (Host.argReduce (reducer_argmax_f32_i32 (F := Ideal)) x y ix iy h hu j).2 = BitVec.ofNat 32 k := by
  rw [Ideal.argReduce_eq_reduce2, Host.reduce2_eq_foldl_fiber, hx, hy]
  exact fold_best keeps _ f n hn hl

/-- The choice, unfolded as a function: its value at one row is never opened. -/
theorem pick_fun : pickIndex (F := Ideal) = fun x y u v j =>
    (Host.argReduce (reducer_argmax_f32_i32 (F := Ideal)) x y u v reducesTo_S128x100000_S128_d1 h_S_ j).2 := rfl

/-- The choice along a row is the first place of the greatest. -/
theorem pick_place (x : Rect Ideal) (y : IVec S128x100000 32) (u : FVec Ideal S_ .f32) (v : IVec S_ 32) (j : S128.Idx)
    (hx : u (Shape.Idx.first h_S_) = ⊥) (hy : v (Shape.Idx.first h_S_) = 0#32)
    (f : ℕ → EReal) (n : ℕ) (hn : n ≤ 100000) (hl : ∀ p, p ∈ Host.argReduceFiber x y reducesTo_S128x100000_S128_d1 j ↔ ∃ k, k < n ∧ p = (f k, BitVec.ofNat 32 k)) :
    ∃ w k, Best f n w k ∧ pickIndex x y u v j = BitVec.ofNat 32 k := by
  rw [pick_fun]
  exact place_at x y u v reducesTo_S128x100000_S128_d1 h_S_ j hx hy f n hn hl

/-- The value the choice starts from. -/
theorem first_value : constant (F := Ideal) S_ .f32 0xFF800000#32 (Shape.Idx.first h_S_) = (⊥ : EReal) := ninf_bits

/-- The place the choice starts from. -/
theorem first_place : constantI S_ 32 0#32 (Shape.Idx.first h_S_) = 0#32 := rfl

/-- The second result before its last cast, as the choice. -/
theorem chosen_fun : chosen (F := Ideal) = fun t =>
    pickIndex t (iotaInDim S128x100000 32 1) (constant S_ .f32 0xFF800000#32) (constantI S_ 32 0#32) := rfl

/-- The second result before its last cast: the first place of the greatest. -/
theorem chosen_at (t : Rect Ideal) (f : ℕ → EReal) (j : Fin 128) (hf : ∀ i : Fin 100000, t (ix2 j i) = f (i : ℕ)) :
    ∃ v k, Best f 100000 v k ∧ chosen t (ix1 j) = BitVec.ofNat 32 k := by
  rw [chosen_fun]
  exact pick_place t _ _ _ (ix1 j) first_value first_place f 100000 (le_refl _) (pairs t f j hf)

end Cert.ReferenceIdeal.Policy
-- ==== Proof.Pre.lean ====
/-
  What the precondition says over extended reals: the tables of the policy and of the availability are fair, in the
  sense of `Proof/Rows.lean`.
-/
module

public import proofs.«01_k».proof.Pre_fair
public import proofs.«01_k».proof.Proof.RefValue

@[expose] public section

set_option pp.maxSteps 200

noncomputable section

namespace Cert.Policy

open Idealize.ShloMosaic Idealize.ShloMosaic.ValueIdx
open Cert.ReferenceIdeal.Policy (tab tab_at drop_cols lift_cols drop_rows lift_rows ninf_bits)
open Cert.Pre_fair Cert.Pre_fair.Facts

variable [Cert.Pre_fair.Facts]

/-- A meet of two bits is set when both are. -/
theorem bits_meet : ∀ p q : BitVec 1, p &&& q = 1#1 → p = 1#1 ∧ q = 1#1 := by decide

theorem meet_at {s : Shape} {p q : IVec s 1} {i : s.Idx} (h : andi p q i = 1#1) : p i = 1#1 ∧ q i = 1#1 := bits_meet _ _ h

theorem greater_at {s : Shape} {x y : FVec Ideal s .f32} {i : s.Idx} (h : cmpf .ogt x y i = 1#1) : y i < x i :=
  decide_eq_true_iff.1 ((StableHlo.Predicate.ofBool_eq_one_iff _).1 h)
theorem less_at {s : Shape} {x y : FVec Ideal s .f32} {i : s.Idx} (h : cmpf .olt x y i = 1#1) : x i < y i :=
  decide_eq_true_iff.1 ((StableHlo.Predicate.ofBool_eq_one_iff _).1 h)
theorem atleast_at {s : Shape} {x y : FVec Ideal s .f32} {i : s.Idx} (h : cmpf .oge x y i = 1#1) : y i ≤ x i :=
  decide_eq_true_iff.1 ((StableHlo.Predicate.ofBool_eq_one_iff _).1 h)

theorem inf_bits : Ideal.ofBits .f32 0x7F800000#32 = ⊤ := by
  simp [Ideal.ofBits, Ideal.ieee]

/-- A row whose greatest entry is above zero has an entry above zero. -/
theorem some_of_greatest (a : FVec Ideal S128x100000 .f32) (j : Fin 128)
    (h : (0 : EReal) < Host.reduce FloatOps.maximumf a (constant S_ .f32 0xFF800000#32) reducesTo_S128x100000_S128_d1 h_S_ (ix1 j)) :
    ∃ i : Fin 100000, 0 < a (ix2 j i) := by
  rw [Host.reduce_eq_fold_single _ _ _ _ drop_cols] at h
  have e : (0 : EReal) < (Finset.univ : Finset (Fin 100000)).fold max (Ideal.ofBits .f32 0xFF800000#32) (a ∘ drop_cols.lift (ix1 j)) := h
  rw [ninf_bits] at e
  rcases (Finset.lt_fold_max _).1 e with h₀ | ⟨i, _, hi⟩
  · exact absurd h₀ not_lt_bot
  · exact ⟨i, lt_of_lt_of_eq hi (congrArg a (lift_cols j i))⟩

/-- A column whose greatest entry is above minus infinity has such an entry. -/
theorem some_of_top (x : FVec Ideal S128x100000 .f32) (i : Fin 100000)
    (h : (⊥ : EReal) < Host.reduce FloatOps.maximumf x (constant S_ .f32 0xFF800000#32) reducesTo_S128x100000_S100000_d0 h_S_ (ix1 i)) :
    ∃ j : Fin 128, ⊥ < x (ix2 j i) := by
  rw [Host.reduce_eq_fold_single _ _ _ _ drop_rows] at h
  have e : (⊥ : EReal) < (Finset.univ : Finset (Fin 128)).fold max (Ideal.ofBits .f32 0xFF800000#32) (x ∘ drop_rows.lift (ix1 i)) := h
  rw [ninf_bits] at e
  rcases (Finset.lt_fold_max _).1 e with h₀ | ⟨j, _, hj⟩
  · exact absurd h₀ (lt_irrefl _)
  · exact ⟨j, lt_of_lt_of_eq hj (congrArg x (lift_rows i j))⟩

/-- The availability where the policy is not minus infinity, and zero elsewhere. -/
theorem open_at (x a : FVec Ideal S128x100000 .f32) (y : S128x100000.Idx)
    (h : (0 : EReal) < fn_where (F := Ideal) (cmpf .ogt x (broadcastInDim S128x100000 ![] bcast_S_S128x100000 (constant S_ .f32 0xFF800000#32)))
      a (constant S_ .f32 0x00000000#32) y) : ⊥ < x y ∧ 0 < a y := by
  unfold fn_where at h
  have h' : (0 : EReal) < if cmpf .ogt x (broadcastInDim S128x100000 ![] bcast_S_S128x100000 (constant S_ .f32 0xFF800000#32)) y = 1#1
      then a y else Ideal.ofBits .f32 0x00000000#32 := h
  split at h'
  · rename_i hc
    exact ⟨lt_of_eq_of_lt ninf_bits.symm (greater_at hc), h'⟩
  · rw [Ideal.ofBits_zero_f32] at h'
    exact absurd h' (lt_irrefl _)

/-- The greatest of a column, spread over the array. -/
theorem top_at (v : FVec Ideal S100000 .f32) (z : FVec Ideal S_ .f32) (j : Fin 128) (i : Fin 100000)
    (h : broadcastInDim S128x100000 ![0, 1] bcast_S1x100000_S128x100000_0_1
      (cmpf .ogt (broadcastInDim S1x100000 ![1] bcast_S100000_S1x100000_1 v) (broadcastInDim S1x100000 ![] bcast_S_S1x100000 z)) (ix2 j i) = 1#1) :
    broadcastInDim S1x100000 ![] bcast_S_S1x100000 z (ix2 0 i) < v (ix1 i) := by
  rw [broadcastInDim_apply _ _ _ (ix2 j i) (ix2 0 i) fun a => match a with
    | ⟨0, _⟩ => rfl
    | ⟨1, _⟩ => rfl] at h
  refine lt_of_lt_of_eq (greater_at h) ?_
  exact broadcastInDim_apply _ _ _ (ix2 0 i) (ix1 i) fun a => match a with
    | ⟨0, _⟩ => rfl

/-- The greatest of a row, spread over the array. -/
theorem greatest_at (v : FVec Ideal S128 .f32) (z : FVec Ideal S_ .f32) (j : Fin 128) (i : Fin 100000)
    (h : broadcastInDim S128x100000 ![0, 1] bcast_S128x1_S128x100000_0_1
      (cmpf .ogt (broadcastInDim S128x1 ![0] bcast_S128_S128x1_0 v) (broadcastInDim S128x1 ![] bcast_S_S128x1 z)) (ix2 j i) = 1#1) :
    broadcastInDim S128x1 ![] bcast_S_S128x1 z (ix2 j 0) < v (ix1 j) := by
  rw [broadcastInDim_apply _ _ _ (ix2 j i) (ix2 j 0) fun a => match a with
    | ⟨0, _⟩ => rfl
    | ⟨1, _⟩ => rfl] at h
  refine lt_of_lt_of_eq (greater_at h) ?_
  exact broadcastInDim_apply _ _ _ (ix2 j 0) (ix1 j) fun a => match a with
    | ⟨0, _⟩ => rfl

/-- What the precondition says of one entry, of its column and of its row. -/
theorem entry_at (x a : FVec Ideal S128x100000 .f32) (j : Fin 128) (i : Fin 100000) (h : fn (F := Ideal) x a (ix2 j i) = 1#1) :
    ((x (ix2 j i) < ⊤ ∧ 0 ≤ a (ix2 j i)) ∧ ∃ k : Fin 128, ⊥ < x (ix2 k i)) ∧ ∃ k : Fin 100000, ⊥ < x (ix2 j k) ∧ 0 < a (ix2 j k) := by
  unfold fn fn_part1 at h
  obtain ⟨h, h₄⟩ := meet_at h
  obtain ⟨h, h₃⟩ := meet_at h
  obtain ⟨h₁, h₂⟩ := meet_at h
  refine ⟨⟨⟨?_, ?_⟩, ?_⟩, ?_⟩
  · exact lt_of_lt_of_eq (less_at h₁) inf_bits
  · exact le_of_eq_of_le Ideal.ofBits_zero_f32.symm (atleast_at h₂)
  · exact some_of_top x i (lt_of_eq_of_lt ninf_bits.symm (top_at _ _ j i h₃))
  · obtain ⟨k, hk⟩ := some_of_greatest _ j (lt_of_eq_of_lt Ideal.ofBits_zero_f32.symm (greatest_at _ _ j i h₄))
    exact ⟨k, open_at x a _ hk⟩

/-- The precondition makes the tables fair. -/
theorem fair_of_pre (x a : FVec Ideal S128x100000 .f32) (h : fn (F := Ideal) x a = fun _ => 1#1) : Fair (tab x) (tab a) := by
  have e := fun (j : Fin 128) (i : Fin 100000) => entry_at x a j i (congrFun h (ix2 j i))
  refine ⟨fun i j hi hj => ?_, fun i hi => ?_, fun i j hi hj => ?_, fun j hj => ?_⟩
  · exact lt_of_eq_of_lt (tab_at x ⟨i, hi⟩ ⟨j, hj⟩) (e ⟨j, hj⟩ ⟨i, hi⟩).1.1.1
  · obtain ⟨k, hk⟩ := (e 0 ⟨i, hi⟩).1.2
    exact ⟨k, k.isLt, lt_of_lt_of_eq hk (tab_at x ⟨i, hi⟩ k).symm⟩
  · exact le_of_le_of_eq (e ⟨j, hj⟩ ⟨i, hi⟩).1.1.2 (tab_at a ⟨i, hi⟩ ⟨j, hj⟩).symm
  · obtain ⟨k, hl, hk⟩ := (e ⟨j, hj⟩ 0).2
    exact ⟨k, k.isLt, lt_of_lt_of_eq hl (tab_at x k ⟨j, hj⟩).symm, lt_of_lt_of_eq hk (tab_at a k ⟨j, hj⟩).symm⟩

end Cert.Policy
-- ==== Proof.Pass1.lean ====
/-
  The first pass over extended reals: its blocks of probabilities are the softmax times the availability, its
  column sums the columns' totals.
-/
module

public import proofs.«01_k».proof.Proof.Blocks
public import proofs.«01_k».proof.Proof.Rows
public import Idealize.ShloMosaic.Lib.Pipeline.Value
public import Idealize.ShloMosaic.Lib.ValueIdx
public import Idealize.ShloMosaic.Lib.StableHlo.Predicate

@[expose] public section

set_option pp.maxSteps 200

noncomputable section

namespace Cert.KernelIdeal.Policy

open Idealize.ShloMosaic Idealize.ShloMosaic.ValueIdx Cert.KernelIdeal Cert.KernelIdeal.Gen Cert.Policy

/-! ## Layouts read at an index -/

variable {α : Type}

theorem flat_at (v : S1x1024x128.Idx → α) (r : Fin 1024) (q : Fin 128) :
    shapeCast S1024x128 v shapeCasts_S1x1024x128_S1024x128 (ix2 r q) = v (ix3 0 r q) := by
  refine shapeCast_apply _ _ _ _ ?_
  rw [Shape.rowMajor_val_three, Shape.rowMajor_val_two]
  show ((0 : ℕ) * 1024 + (r : ℕ)) * 128 + (q : ℕ) = (r : ℕ) * 128 + (q : ℕ)
  omega

theorem unflat_at (v : S1024x128.Idx → α) (r : Fin 1024) (q : Fin 128) :
    shapeCast S1x1024x128 v shapeCasts_S1024x128_S1x1024x128 (ix3 0 r q) = v (ix2 r q) := by
  refine shapeCast_apply _ _ _ _ ?_
  rw [Shape.rowMajor_val_three, Shape.rowMajor_val_two]
  show (r : ℕ) * 128 + (q : ℕ) = ((0 : ℕ) * 1024 + (r : ℕ)) * 128 + (q : ℕ)
  omega

theorem upright_at (v : S1024.Idx → α) (r : Fin 1024) :
    shapeCast S1024x1 v shapeCasts_S1024_S1024x1 (ix2 r 0) = v (ix1 r) := by
  refine shapeCast_apply _ _ _ _ ?_
  rw [Shape.rowMajor_val_one, Shape.rowMajor_val_two]
  show (r : ℕ) = (r : ℕ) * 1 + 0
  omega

theorem lying_at (v : S128.Idx → α) (q : Fin 128) :
    shapeCast S1x128 v shapeCasts_S128_S1x128 (ix2 0 q) = v (ix1 q) := by
  refine shapeCast_apply _ _ _ _ ?_
  rw [Shape.rowMajor_val_one, Shape.rowMajor_val_two]
  show (q : ℕ) = 0 * 128 + (q : ℕ)
  omega

theorem across_at (v : S1024x1.Idx → α) (r : Fin 1024) (q : Fin 128) :
    broadcastTo S1024x128 v broadcasts_S1024x1_S1024x128 (ix2 r q) = v (ix2 r 0) :=
  broadcastTo_apply _ _ _ _ fun a => match a with
    | ⟨0, _⟩ => rfl
    | ⟨1, _⟩ => rfl

theorem down_at (v : S1x128.Idx → α) (r : Fin 1024) (q : Fin 128) :
    broadcastTo S1024x128 v broadcasts_S1x128_S1024x128 (ix2 r q) = v (ix2 0 q) :=
  broadcastTo_apply _ _ _ _ fun a => match a with
    | ⟨0, _⟩ => rfl
    | ⟨1, _⟩ => rfl

theorem lift_row (r : Fin 1024) (k : Fin 128) : reduces_S1024x128_S1024.lift (ix1 r) k = ix2 r k :=
  Shape.idx_ext₂ rfl rfl

theorem lift_col (q : Fin 128) (k : Fin 1024) : reduces_S1024x128_S128.lift (ix1 q) k = ix2 k q :=
  Shape.idx_ext₂ rfl rfl

/-! ## Constants and row numbers -/

theorem one_bits : Ideal.ofBits .f32 0x3F800000#32 = 1 := by
  simp [Ideal.ofBits, Ideal.ieee, -EReal.coe_mul]; norm_num

theorem ninf_bits : Ideal.ofBits .f32 0xFF800000#32 = ⊥ := by
  simp [Ideal.ofBits, Ideal.ieee]

theorem room : ∀ b : Fin 98, Scalar.subi 100000#32 (Scalar.muli (w32 b) 1024#32) = w32 (100000 - 1024 * (b : ℕ)) := by
  decide +kernel

/-- A block's row is one of the array's. -/
theorem inside (b : ℕ) (hb : b < 98) (r : Fin 1024) :
    IntOp.cmpi .slt (w32 (r : ℕ)) (Scalar.subi 100000#32 (Scalar.muli (w32 b) 1024#32)) = 1#1 ↔ 1024 * b + (r : ℕ) < 100000 := by
  have hr := r.isLt
  rw [room ⟨b, hb⟩]
  refine (StableHlo.Predicate.slt_ofNat_iff (r : ℕ) (100000 - 1024 * b) (by omega) (by omega)).trans ?_
  omega

theorem rowNo_at (r : Fin 1024) (q : Fin 128) : rowNo (ix2 r q) = w32 (r : ℕ) :=
  iota_single_apply _ _ _ _ _ _

/-- A block's element that is one of the array's. -/
theorem came_at (A : ℕ → ℕ → EReal) (b : ℕ) (r : Fin 1024) (q : Fin 128) (hr : 1024 * b + (r : ℕ) < 100000) :
    came (L := 1) (e := .f32) (Val := Elt Ideal) A b (ix3 0 r q) = A (1024 * b + (r : ℕ)) (q : ℕ) := by
  unfold came
  refine if_pos ?_
  have := r.isLt
  show (r : ℕ) < blkSz b
  unfold blkSz
  split <;> omega

/-! ## A block's probabilities -/

theorem less_max (v : Vec Ideal S1x1024x128 .f32) (r : Fin 1024) (q : Fin 128) :
    k0_pay2 v (ix2 r q) = v (ix3 0 r q) - rowMax fun k => v (ix3 0 r ⟨k % 128, Nat.mod_lt _ (by decide)⟩) := by
  unfold k0_pay2
  rw [subf_apply, flat_at, across_at, upright_at]
  refine congrArg (fun z => v (ix3 0 r q) - z) ?_
  refine (Ideal.multiReduction_maximumf_single _ _ _ _ _ _).trans ?_
  unfold rowMax
  show Finset.fold max (Ideal.ofBits .f32 0xFF800000#32) _ _ = _
  rw [ninf_bits]
  refine Finset.fold_congr fun (k : Fin 128) _ => ?_
  refine (congrArg (shapeCast S1024x128 v shapeCasts_S1x1024x128_S1024x128) (lift_row r k)).trans ?_
  refine (flat_at v r k).trans (congrArg (fun z => v (ix3 0 r z)) ?_)
  exact Fin.ext (Nat.mod_eq_of_lt k.isLt).symm

theorem probs (a : FVec Ideal S1024x128 .f32) (x : FVec Ideal S1024x128 .f32) (b : ℕ) (hb : b < 98) (r : Fin 1024) (q : Fin 128) :
    k0_pay3 rowNo a (w32 b) x (ix2 r q)
      = if 1024 * b + (r : ℕ) < 100000
        then Ideal.exp (x (ix2 r q)) * Ideal.div 1 (∑ k : Fin 128, Ideal.exp (x (ix2 r k))) * a (ix2 r q) else 0 := by
  unfold k0_pay3
  rw [select_apply]
  unfold Scalar.select
  have hc : cmpi .slt rowNo (broadcast S1024x128 (Scalar.subi 100000#32 (Scalar.muli (w32 b) 1024#32))) (ix2 r q) = 1#1
      ↔ 1024 * b + (r : ℕ) < 100000 := by
    show IntOp.cmpi .slt (rowNo (ix2 r q)) _ = 1#1 ↔ _
    rw [rowNo_at, broadcast_apply]
    exact inside b hb r
  refine (if_congr hc rfl rfl).trans ?_
  refine if_congr Iff.rfl ?_ Ideal.ofBits_zero_f32
  rw [mulf_apply, mulf_apply, across_at, divf_apply, upright_at, broadcast_apply]
  refine congrArg (fun z => Ideal.exp (x (ix2 r q)) * z * a (ix2 r q)) ?_
  refine congrArg₂ Ideal.div one_bits ?_
  refine (Ideal.multiReduction_add_single _ _ _ _ _ _).trans (Finset.sum_congr rfl fun (k : Fin 128) _ => ?_)
  exact congrArg (fun z => Ideal.exp (x z)) (lift_row r k)

variable {PA AA : ℕ → ℕ → EReal}

/-- A block of probabilities holds the softmax times the availability, and zeros behind the array. -/
theorem pBlk_at (H : Fair PA AA) (b : ℕ) (hb : b < 98) (r : Fin 1024) (q : Fin 128) :
    pBlk (F := Ideal) PA AA b (ix2 r q)
      = if 1024 * b + (r : ℕ) < 100000 then soft PA AA (1024 * b + (r : ℕ)) (q : ℕ) else 0 := by
  unfold pBlk
  rw [probs _ _ b hb]
  split
  · rename_i hr
    have hx : ∀ k : Fin 128, k0_pay2 (came (L := 1) (e := .f32) (Val := Elt Ideal) PA b) (ix2 r k)
        = PA (1024 * b + (r : ℕ)) (k : ℕ) - rowMax (PA (1024 * b + (r : ℕ))) := by
      intro k
      rw [less_max, came_at PA b r k hr]
      congr 1
      unfold rowMax
      refine Finset.fold_congr fun k _ => ?_
      refine (came_at PA b r _ hr).trans ?_
      refine congrArg (PA (1024 * b + (r : ℕ))) ?_
      exact Nat.mod_eq_of_lt k.isLt
    have ha : k0_pay1 (came (L := 1) (e := .f32) (Val := Elt Ideal) AA b) (ix2 r q) = AA (1024 * b + (r : ℕ)) (q : ℕ) := by
      unfold k0_pay1
      rw [flat_at, came_at AA b r q hr]
    rw [ha, hx q, Finset.sum_congr rfl fun k _ => congrArg Ideal.exp (hx k)]
    unfold soft
    rw [← mul_inverse _ _ (rowTot_ne H _ hr)]
    rfl
  · rfl

/-- The column sums after `b` blocks. -/
theorem sums_at (H : Fair PA AA) (q : Fin 128) : ∀ b : ℕ, b ≤ 98 →
    sums (F := Ideal) PA AA b (ix2 0 q)
      = ∑ i ∈ Finset.range (1024 * b), (if i < 100000 then soft PA AA i (q : ℕ) else 0) := by
  intro b
  induction b with
  | zero =>
    intro _
    unfold sums k0_pay27
    rw [shapeCast_self, broadcast_apply]
    exact Ideal.ofBits_zero_f32
  | succ b ih =>
    intro hb
    rw [sums]
    unfold k0_pay5
    rw [shapeCast_self, addf_apply, ih (by omega), lying_at, Nat.mul_succ, sum_block]
    refine congrArg (fun z => _ + z) ?_
    refine (Ideal.multiReduction_add_single _ _ _ _ _ _).trans (Finset.sum_congr rfl fun (k : Fin 1024) _ => ?_)
    exact (congrArg (pBlk (F := Ideal) PA AA b) (lift_col q k)).trans (pBlk_at H b (by omega) k q)

theorem sums_total (H : Fair PA AA) (q : Fin 128) : sums (F := Ideal) PA AA 98 (ix2 0 q) = total PA AA (q : ℕ) := by
  rw [sums_at H q 98 (le_refl _), show (1024 * 98 : ℕ) = 100000 + 352 from rfl, sum_block]
  rw [Finset.sum_congr rfl fun i hi => if_pos (Finset.mem_range.1 hi)]
  rw [Finset.sum_congr (s₁ := (Finset.univ : Finset (Fin 352))) rfl fun i _ => if_neg (by omega : ¬ 100000 + (i : ℕ) < 100000)]
  rw [Finset.sum_const_zero, add_zero]
  rfl

theorem inv_at (H : Fair PA AA) (q : Fin 128) : inv (F := Ideal) PA AA (ix2 0 q) = Ideal.div 1 (total PA AA (q : ℕ)) := by
  unfold inv k0_pay30
  rw [divf_apply, broadcast_apply, sums_total H q]
  exact congrArg (fun z => Ideal.div z _) one_bits

/-- A probability over its column's total. -/
theorem scaled_at (H : Fair PA AA) (b : ℕ) (hb : b < 98) (r : Fin 1024) (q : Fin 128) (hr : 1024 * b + (r : ℕ) < 100000) :
    k0_pay19 (inv (F := Ideal) PA AA) (pBlk (F := Ideal) PA AA b) (ix2 r q) = share PA AA (1024 * b + (r : ℕ)) (q : ℕ) := by
  unfold k0_pay19
  rw [mulf_apply, down_at, inv_at H q, pBlk_at H b hb r q, if_pos hr, mul_inverse _ _ (total_ne H q q.isLt)]
  rfl

/-- The normalised probabilities are the shares. -/
theorem norm_at (H : Fair PA AA) (i : ℕ) (hi : i < 100000) (q : Fin 128) : norm (F := Ideal) PA AA i (q : ℕ) = share PA AA i (q : ℕ) := by
  have hb : i / 1024 < 98 := by omega
  have e : plane i (q : ℕ) = ix3 0 (⟨i % 1024, Nat.mod_lt _ (by decide)⟩ : Fin 1024) q := by
    refine ring_ext rfl rfl ?_
    show (q : ℕ) % 128 = (q : ℕ)
    exact Nat.mod_eq_of_lt q.isLt
  have ei : 1024 * (i / 1024) + i % 1024 = i := by omega
  unfold norm k0_pay12
  rw [e, unflat_at]
  refine (scaled_at H (i / 1024) hb ⟨i % 1024, Nat.mod_lt _ (by decide)⟩ q (by show 1024 * (i / 1024) + i % 1024 < 100000; omega)).trans ?_
  show share PA AA (1024 * (i / 1024) + i % 1024) _ = _
  rw [ei]

end Cert.KernelIdeal.Policy
-- ==== Proof.Pass2.lean ====
/-
  The second pass over extended reals: after all blocks each column's best score is its greatest mark, and
  the row kept with it the first one where it is met.
-/
module

public import proofs.«01_k».proof.Proof.Pass1
public import proofs.«01_k».proof.Proof.First

@[expose] public section

set_option maxRecDepth 100000
set_option pp.maxSteps 200

noncomputable section

namespace Cert.KernelIdeal.Policy

open Idealize.ShloMosaic Idealize.ShloMosaic.ValueIdx Cert.KernelIdeal Cert.KernelIdeal.Gen Cert.Policy

/-! ## The block's operations read at an index -/

section Reads

variable (s : FVec Ideal S1024x128 .f32) (w : BitVec 32)

theorem score_read (iv : FVec Ideal S1x128 .f32) (g : Vec Ideal S1x1024x128 .f32) (p : Vec Ideal S1024x128 .f32) (r : Fin 1024) (q : Fin 128) :
    k0_pay21 iv g p (ix2 r q)
      = g (ix3 0 r q) + Ideal.log (k0_pay19 iv p (ix2 r q) + Ideal.ofBits .f32 0x1E3CE508#32) := by
  unfold k0_pay21
  rw [addf_apply, flat_at]
  exact add_comm _ _

theorem mask_read (b : ℕ) (hb : b < 98) (r : Fin 1024) (q : Fin 128) :
    k0_pay22 rowNo s (Scalar.muli (w32 b) 1024#32) 100000#32 (ix2 r q)
      = if 1024 * b + (r : ℕ) < 100000 then s (ix2 r q) else ⊥ := by
  unfold k0_pay22
  rw [select_apply]
  unfold Scalar.select
  have hc : cmpi .slt rowNo (broadcast S1024x128 (Scalar.subi 100000#32 (Scalar.muli (w32 b) 1024#32))) (ix2 r q) = 1#1
      ↔ 1024 * b + (r : ℕ) < 100000 := by
    show IntOp.cmpi .slt (rowNo (ix2 r q)) _ = 1#1 ↔ _
    rw [rowNo_at, broadcast_apply]
    exact inside b hb r
  refine (if_congr hc rfl rfl).trans ?_
  exact if_congr Iff.rfl rfl ninf_bits

theorem top_read (q : Fin 128) :
    k0_pay23 rowNo s w 100000#32 (ix2 0 q)
      = (Finset.univ : Finset (Fin 1024)).fold max ⊥ fun r => k0_pay22 rowNo s w 100000#32 (ix2 r q) := by
  unfold k0_pay23
  generalize k0_pay22 rowNo s w 100000#32 = u
  refine (lying_at _ q).trans ?_
  refine (Ideal.multiReduction_maximumf_single _ _ _ _ _ _).trans ?_
  show Finset.fold max (Ideal.ofBits .f32 0xFF800000#32) _ _ = _
  rw [ninf_bits]
  refine Finset.fold_congr fun (k : Fin 1024) _ => ?_
  exact congrArg u (lift_col q k)

theorem above_read (m : Vec Ideal S1x128 .f32) (q : Fin 128) :
    k0_pay24 rowNo s w 100000#32 m (ix2 0 q) = 1#1 ↔ m (ix2 0 q) < k0_pay23 rowNo s w 100000#32 (ix2 0 q) := by
  unfold k0_pay24
  rw [cmpf_apply, Ideal.cmpf_def]
  unfold Ideal.cmp
  rw [StableHlo.Predicate.ofBool_eq_one_iff, decide_eq_true_eq]

theorem value_read (m : Vec Ideal S1x128 .f32) (q : Fin 128) :
    k0_pay26 rowNo s w 100000#32 m m (ix2 0 q)
      = if m (ix2 0 q) < k0_pay23 rowNo s w 100000#32 (ix2 0 q) then k0_pay23 rowNo s w 100000#32 (ix2 0 q) else m (ix2 0 q) := by
  unfold k0_pay26
  rw [shapeCast_self, select_apply]
  unfold Scalar.select
  exact if_congr (above_read s w m q) rfl rfl

/-- The row numbers of the elements that meet their column's given value, a great number elsewhere. -/
def firsts (u : FVec Ideal S1024x128 .f32) (t : FVec Ideal S1x128 .f32) : IVec S1024x128 32 :=
  select (cmpf .oeq u (broadcastTo S1024x128 t broadcasts_S1x128_S1024x128)) rowNo (broadcast S1024x128 1073741824#32)

theorem firsts_read (u : FVec Ideal S1024x128 .f32) (t : FVec Ideal S1x128 .f32) (r : Fin 1024) (q : Fin 128) :
    firsts u t (ix2 r q) = if u (ix2 r q) = t (ix2 0 q) then w32 (r : ℕ) else 1073741824#32 := by
  unfold firsts
  rw [select_apply, cmpf_apply, down_at, rowNo_at, broadcast_apply, Ideal.cmpf_def]
  unfold Scalar.select
  exact if_congr ((StableHlo.Predicate.ofBool_eq_one_iff _).trans decide_eq_true_iff) rfl rfl

theorem least_read (v : IVec S1024x128 32) (q : Fin 128) :
    multiReductionI .minsi [0] S128 v 2147483647#32 reduces_S1024x128_S128 rfl (ix1 q)
      = (Finset.univ : Finset (Fin 1024)).fold IKind.minsi.op 2147483647#32 fun r => v (ix2 r q) := by
  refine (multiReductionI_eq_fold .minsi v 2147483647#32 reduces_S1024x128_S128 rfl (ix1 q)).trans ?_
  refine (reduces_S1024x128_S128.fold_filter_drop_single _ _ _ _).trans ?_
  refine Finset.fold_congr fun (k : Fin 1024) _ => ?_
  exact congrArg v (lift_col q k)

theorem index_read (b m : ℕ) (hm : Scalar.muli (w32 b) 1024#32 = w32 m) (u : Vec Ideal S1x128 .f32) (i : Vec Ideal S1x128 .i32) (q : Fin 128) :
    k0_pay25 rowNo (w32 b) s w 100000#32 u i (ix2 0 q)
      = if u (ix2 0 q) < k0_pay23 rowNo s w 100000#32 (ix2 0 q)
        then (Finset.univ : Finset (Fin 1024)).fold IKind.minsi.op 2147483647#32
            (fun r => if k0_pay22 rowNo s w 100000#32 (ix2 r q) = k0_pay23 rowNo s w 100000#32 (ix2 0 q) then w32 (r : ℕ) else 1073741824#32)
          + w32 m
        else i (ix2 0 q) := by
  unfold k0_pay25
  rw [shapeCast_self, select_apply]
  unfold Scalar.select
  refine (if_congr (above_read s w u q) rfl rfl).trans ?_
  refine if_congr Iff.rfl ?_ rfl
  refine congrArg₂ (fun x y : BitVec 32 => x + y) ?_ hm
  refine (lying_at _ q).trans ((least_read (firsts (k0_pay22 rowNo s w 100000#32) (k0_pay23 rowNo s w 100000#32)) q).trans ?_)
  exact Finset.fold_congr fun k _ => firsts_read _ _ k q

end Reads

variable {PA AA : ℕ → ℕ → EReal} (GA : ℕ → ℕ → EReal)

/-- The scores of a block's rows in one column, `⊥` behind the array. -/
def col (PA AA GA : ℕ → ℕ → EReal) (b : ℕ) (q : Fin 128) (r : Fin 1024) : EReal :=
  if 1024 * b + (r : ℕ) < 100000 then mark PA AA GA (1024 * b + (r : ℕ)) (q : ℕ) else ⊥

/-- The greatest of them. -/
def colTop (PA AA GA : ℕ → ℕ → EReal) (b : ℕ) (q : Fin 128) : EReal :=
  (Finset.univ : Finset (Fin 1024)).fold max ⊥ (col PA AA GA b q)

theorem col_at (H : Fair PA AA) (b : ℕ) (hb : b < 98) (r : Fin 1024) (q : Fin 128) :
    k0_pay22 rowNo (score (F := Ideal) PA AA GA b) (Scalar.muli (w32 b) 1024#32) 100000#32 (ix2 r q) = col PA AA GA b q r := by
  rw [mask_read _ b hb r q]
  unfold col
  by_cases hr : 1024 * b + (r : ℕ) < 100000
  · rw [if_pos hr, if_pos hr]
    unfold score
    rw [score_read, scaled_at H b hb r q hr, came_at GA b r q hr]
    rfl
  · rw [if_neg hr, if_neg hr]

theorem colTop_at (H : Fair PA AA) (b : ℕ) (hb : b < 98) (q : Fin 128) :
    k0_pay23 rowNo (score (F := Ideal) PA AA GA b) (Scalar.muli (w32 b) 1024#32) 100000#32 (ix2 0 q) = colTop PA AA GA b q := by
  rw [top_read]
  exact Finset.fold_congr fun k _ => col_at GA H b hb k q

theorem start_word : ∀ b : Fin 98, Scalar.muli (w32 b) 1024#32 = w32 (1024 * (b : ℕ)) := by decide +kernel

theorem value_step (H : Fair PA AA) (b : ℕ) (hb : b < 98) (q : Fin 128) (m : Vec Ideal S1x128 .f32) :
    k0_pay26 rowNo (score (F := Ideal) PA AA GA b) (Scalar.muli (w32 b) 1024#32) 100000#32 m m (ix2 0 q)
      = if m (ix2 0 q) < colTop PA AA GA b q then colTop PA AA GA b q else m (ix2 0 q) := by
  rw [value_read, colTop_at GA H b hb q]

/-- The greatest of a block is none less than any, and one of them unless nothing is above `⊥`. -/
theorem colTop_le (b : ℕ) (q : Fin 128) (r : Fin 1024) : col PA AA GA b q r ≤ colTop PA AA GA b q :=
  (Finset.le_fold_max _).2 (.inr ⟨r, Finset.mem_univ _, le_refl _⟩)

theorem colTop_met (b : ℕ) (q : Fin 128) (h : ⊥ < colTop PA AA GA b q) : ∃ r, col PA AA GA b q r = colTop PA AA GA b q := by
  rcases (Finset.le_fold_max _).1 (le_refl (colTop PA AA GA b q)) with e | ⟨r, _, e⟩
  · exact absurd (lt_of_lt_of_le h e) (lt_irrefl _)
  · exact ⟨r, le_antisymm (colTop_le GA b q r) e⟩

theorem index_step (H : Fair PA AA) (b : ℕ) (hb : b < 98) (q : Fin 128) (m : Vec Ideal S1x128 .f32) (i : Vec Ideal S1x128 .i32) :
    ∃ r : Fin 1024, (⊥ < colTop PA AA GA b q → col PA AA GA b q r = colTop PA AA GA b q
        ∧ ∀ k, col PA AA GA b q k = colTop PA AA GA b q → r ≤ k)
      ∧ k0_pay25 rowNo (w32 b) (score (F := Ideal) PA AA GA b) (Scalar.muli (w32 b) 1024#32) 100000#32 m i (ix2 0 q)
        = if m (ix2 0 q) < colTop PA AA GA b q then w32 ((r : ℕ) + 1024 * b) else i (ix2 0 q) := by
  rw [index_read _ _ b (1024 * b) (start_word ⟨b, hb⟩), colTop_at GA H b hb q]
  have hcol : (fun r : Fin 1024 => if k0_pay22 rowNo (score (F := Ideal) PA AA GA b) (Scalar.muli (w32 b) 1024#32) 100000#32 (ix2 r q)
      = colTop PA AA GA b q then w32 (r : ℕ) else 1073741824#32)
      = fun r : Fin 1024 => if col PA AA GA b q r = colTop PA AA GA b q then w32 (r : ℕ) else 1073741824#32 :=
    funext fun r => by rw [col_at GA H b hb r q]
  rw [hcol]
  by_cases ht : ⊥ < colTop PA AA GA b q
  · obtain ⟨r, h₁, h₂, h₃⟩ := first_row (col PA AA GA b q) (colTop PA AA GA b q) _ (fun k => rfl) (colTop_met GA b q ht)
    refine ⟨r, fun _ => ⟨h₁, h₂⟩, ?_⟩
    rw [h₃, show w32 ((r : ℕ) + 1024 * b) = w32 (r : ℕ) + w32 (1024 * b) from BitVec.ofNat_add ..]
  · have hm : ¬ m (ix2 0 q) < colTop PA AA GA b q := fun h => ht (lt_of_le_of_lt bot_le h)
    exact ⟨0, fun h => absurd h ht, by rw [if_neg hm, if_neg hm]⟩

/-- After `b` blocks the best score is the greatest mark of their rows, kept with its first row. -/
theorem best_at (H : Fair PA AA) (q : Fin 128) : ∀ b : ℕ, b ≤ 98 →
    ∃ k, Best (fun i => mark PA AA GA i (q : ℕ)) (min (1024 * b) 100000) ((best (F := Ideal) PA AA GA b).1 (ix2 0 q)) k
      ∧ (best (F := Ideal) PA AA GA b).2 (ix2 0 q) = w32 k := by
  intro b
  induction b with
  | zero =>
    intro _
    refine ⟨0, ?_, ?_⟩
    · have e : (best (F := Ideal) PA AA GA 0).1 (ix2 0 q) = ⊥ := by
        show (k0_pay28 (F := Ideal)) (ix2 0 q) = ⊥
        unfold k0_pay28
        rw [shapeCast_self, broadcast_apply]
        exact ninf_bits
      rw [e]
      exact Best.start _
    · show k0_pay29 (ix2 0 q) = w32 0
      unfold k0_pay29
      rw [shapeCast_self, broadcast_apply]
  | succ b ih =>
    intro hb
    obtain ⟨k, hk, hw⟩ := ih (by omega)
    obtain ⟨r, hr, hi⟩ := index_step GA H b (by omega) q (best (F := Ideal) PA AA GA b).1 (best (F := Ideal) PA AA GA b).2
    have hv := value_step GA H b (by omega) q (best (F := Ideal) PA AA GA b).1
    rw [best]
    dsimp only
    rw [hv, hi]
    generalize (best (F := Ideal) PA AA GA b).1 (ix2 0 q) = v at hk hr
    refine ⟨if v < colTop PA AA GA b q then (r : ℕ) + 1024 * b else k, ?_, ?_⟩
    · rw [show min (1024 * b) 100000 = 1024 * b by omega] at hk
      have hn : min (1024 * (b + 1)) 100000 = 1024 * b + min 1024 (100000 - 1024 * b) := by omega
      rw [hn]
      have hc : ∀ i : ℕ, ∀ h : i < min 1024 (100000 - 1024 * b),
          mark PA AA GA (1024 * b + i) (q : ℕ) = col PA AA GA b q ⟨i, by omega⟩ := fun i h =>
        (if_pos (by show 1024 * b + i < 100000; omega)).symm
      refine hk.block (fun i h => ?_) fun hlt => ?_
      · rw [hc i h]; exact colTop_le GA b q _
      · have ht : ⊥ < colTop PA AA GA b q := lt_of_le_of_lt bot_le hlt
        obtain ⟨h₁, h₂⟩ := hr ht
        have hin : 1024 * b + (r : ℕ) < 100000 := by
          by_contra hn
          unfold col at h₁
          rw [if_neg hn] at h₁
          rw [← h₁] at ht
          exact lt_irrefl _ ht
        have hrr := r.isLt
        refine ⟨by omega, ?_, fun i h e => ?_⟩
        · rw [← h₁]; exact (if_pos hin).symm
        · exact h₂ ⟨i, by omega⟩ ((hc i h).symm.trans e)
    · split <;> first | rfl | exact hw

end Cert.KernelIdeal.Policy
-- ==== Proof.Equal.lean ====
/-
  The two programs' results agree over extended reals, from the same arguments, when the tables are fair.
-/
module

public import proofs.«01_k».proof.Proof.Run
public import proofs.«01_k».proof.Proof.Pass2
public import proofs.«01_k».proof.Proof.RefValue
public import proofs.«01_k».proof.Proof.DrawAlike

@[expose] public section

set_option pp.maxSteps 200

noncomputable section

namespace Cert.KernelIdeal.Policy

open Idealize.ShloMosaic hiding ix1 ix2 eq_ix2
open Idealize.ShloMosaic.ValueIdx Cert.KernelIdeal Cert.KernelIdeal.Gen Cert.Policy
open TcCoe
open Idealize.SL.Sem
open Cert.ReferenceIdeal.Policy (tab tab_at normed actions chosen chosen_at scored scored_at normed_at)

variable (m : (ℓ : Loc nD τ sig) → Buf (Elt Ideal) ℓ) (c : Dev nD)

/-- A transposed array at a row and a column is the array's table there. -/
theorem table_read (x : FVec Ideal S128x100000 .f32) (i j : ℕ) :
    transpose S100000x128 [1, 0] x transposes_S128x100000_S100000x128_1_0 (arrIx 100000 i j) = tab x i j :=
  transpose_apply _ _ _ _ _ fun b => match b with
    | ⟨0, _⟩ => rfl
    | ⟨1, _⟩ => rfl

/-- The line before the call: the key, the drawing, the three transposes. -/
theorem before_call (W : Valuation τ sig (Elt Ideal)) : StableHlo.after (List.flatten [hostOps0, hostOps0_1, hostOps0_2]) W
    = StableHlo.after hostOps0_2 (StableHlo.after hostOps0_1 (StableHlo.after hostOps0 W)) := by
  have two : ∀ (l₁ l₂ : List (HloOp τ sig (Elt Ideal))) (W : Valuation τ sig (Elt Ideal)),
      StableHlo.after (l₁ ++ l₂) W = StableHlo.after l₂ (StableHlo.after l₁ W) := by
    intro l₁
    induction l₁ with
    | nil => exact fun _ _ => rfl
    | cons op l ih => exact fun l₂ W => ih l₂ (op.result W)
  rw [List.flatten_cons, List.flatten_cons, List.flatten_cons, List.flatten_nil, List.append_nil, two, two]

/-- The three transposes. -/
theorem turn_pol (W : Valuation τ sig (Elt Ideal)) : StableHlo.after hostOps0_2 W (main_v8 : DevRef τ sig)
    = transpose S100000x128 [1, 0] (W (main_arg0 : DevRef τ sig)) transposes_S128x100000_S100000x128_1_0 := by
  after_results
theorem turn_avl (W : Valuation τ sig (Elt Ideal)) : StableHlo.after hostOps0_2 W (main_v9 : DevRef τ sig)
    = transpose S100000x128 [1, 0] (W (main_arg1 : DevRef τ sig)) transposes_S128x100000_S100000x128_1_0 := by
  after_results
theorem turn_gum (W : Valuation τ sig (Elt Ideal)) : StableHlo.after hostOps0_2 W (main_v10 : DevRef τ sig)
    = transpose S100000x128 [1, 0] (W (main_v7 : DevRef τ sig)) transposes_S128x100000_S100000x128_1_0 := by
  after_results
/-- They leave the arguments. -/
theorem turn_arg0 (W : Valuation τ sig (Elt Ideal)) : StableHlo.after hostOps0_2 W (main_arg0 : DevRef τ sig) = W (main_arg0 : DevRef τ sig) := by
  after_results
theorem turn_arg1 (W : Valuation τ sig (Elt Ideal)) : StableHlo.after hostOps0_2 W (main_arg1 : DevRef τ sig) = W (main_arg1 : DevRef τ sig) := by
  after_results

/-- The noise the kernel draws. -/
def noise : FVec Ideal S128x100000 .f32 :=
  StableHlo.after hostOps0_1 (StableHlo.after hostOps0 fun b => m (c, b)) (main_v7 : DevRef τ sig)

theorem in_pol : V m c main_v8 = transpose S100000x128 [1, 0] (m ((c : Thread nD τ).loc main_arg0)) transposes_S128x100000_S100000x128_1_0 := by
  have h := V_main_arg0 m c
  show StableHlo.after (List.flatten [hostOps0, hostOps0_1, hostOps0_2]) _ _ = _
  change StableHlo.after (List.flatten [hostOps0, hostOps0_1, hostOps0_2]) _ (main_arg0 : DevRef τ sig) = _ at h
  rw [before_call] at h ⊢
  rw [turn_arg0] at h
  rw [turn_pol, h]

theorem in_avl : V m c main_v9 = transpose S100000x128 [1, 0] (m ((c : Thread nD τ).loc main_arg1)) transposes_S128x100000_S100000x128_1_0 := by
  have h := V_main_arg1 m c
  show StableHlo.after (List.flatten [hostOps0, hostOps0_1, hostOps0_2]) _ _ = _
  change StableHlo.after (List.flatten [hostOps0, hostOps0_1, hostOps0_2]) _ (main_arg1 : DevRef τ sig) = _ at h
  rw [before_call] at h ⊢
  rw [turn_arg1] at h
  rw [turn_avl, h]

theorem in_gum : V m c main_v10 = transpose S100000x128 [1, 0] (noise m c) transposes_S128x100000_S100000x128_1_0 := by
  show StableHlo.after (List.flatten [hostOps0, hostOps0_1, hostOps0_2]) _ _ = _
  rw [before_call, turn_gum]
  rfl

/-- The key the kernel draws from is the reference's. -/
theorem key_kernel (W : Valuation τ sig (Elt Ideal)) :
    StableHlo.after hostOps0 W (main_v6 : DevRef τ sig) = Cert.ReferenceIdeal.Policy.keyWords := by
  after_results
  rfl

/-- The kernel's noise is the reference's. -/
theorem noise_same (m' : (ℓ : Loc Cert.ReferenceIdeal.nD Cert.ReferenceIdeal.τ Cert.ReferenceIdeal.sig) → Buf (Elt Ideal) ℓ)
    (c' : Dev Cert.ReferenceIdeal.nD) : noise m c = Cert.ReferenceIdeal.Policy.drawn (F := Ideal) fun b => m' (c', b) := by
  refine eq_of_heq (draw_same (F := Ideal) (StableHlo.after hostOps0 fun b => m (c, b))
    (StableHlo.after Cert.ReferenceIdeal.Policy.opsA fun b => m' (c', b)) ?_)
  exact (heq_of_eq (key_kernel _)).trans (heq_of_eq (Cert.ReferenceIdeal.Policy.line_key _).symm)

theorem pol_tab : polAt (F := Ideal) m c = tab (m ((c : Thread nD τ).loc main_arg0)) := by
  funext i j
  unfold polAt
  rw [in_pol]
  exact table_read _ i j

theorem avl_tab : avlAt (F := Ideal) m c = tab (m ((c : Thread nD τ).loc main_arg1)) := by
  funext i j
  unfold avlAt
  rw [in_avl]
  exact table_read _ i j

theorem gum_tab : gumAt (F := Ideal) m c = tab (noise m c) := by
  funext i j
  unfold gumAt
  rw [in_gum]
  exact table_read _ i j

/-- The transposed norms at a row and a column. -/
theorem turned_at (v : FVec Ideal S100000x128 .f32) (j : Fin 128) (i : Fin 100000) :
    transpose S128x100000 [1, 0] v transposes_S100000x128_S128x100000_1_0 (ix2 j i) = v (ix2 i j) :=
  transpose_apply _ _ _ _ _ fun b => match b with
    | ⟨0, _⟩ => rfl
    | ⟨1, _⟩ => rfl

variable (H : Fair (tab (m ((c : Thread nD τ).loc main_arg0))) (tab (m ((c : Thread nD τ).loc main_arg1))))

include H in
/-- The first results agree. -/
theorem first_equal : result0 (F := Ideal) m c
    = normed (F := Ideal) (m ((c : Thread nD τ).loc main_arg0)) (m ((c : Thread nD τ).loc main_arg1)) := by
  refine funext fun (y : S128x100000.Idx) => ?_
  obtain ⟨j, i, rfl⟩ : ∃ (j : Fin 128) (i : Fin 100000), y = ix2 j i := ⟨y 0, y 1, eq_ix2 y⟩
  rw [normed_at]
  unfold result0
  refine (turned_at _ j i).trans ?_
  unfold normArr
  rw [pol_tab, avl_tab]
  exact norm_at H i i.isLt j

/-- A row as a column. -/
theorem column_at (v : IVec S1x128 32) (j : Fin 128) : shapeCast S128x1 v shapeCasts_S1x128_S128x1 (ix2 j 0) = v (ix2 0 j) := by
  refine shapeCast_apply _ _ _ _ ?_
  rw [Shape.rowMajor_val_two, Shape.rowMajor_val_two]
  show 0 * 128 + (j : ℕ) = (j : ℕ) * 1 + 0
  omega

theorem list_at (v : IVec Cert.ReferenceIdeal.S128 32) (j : Fin 128) (h : Cert.ReferenceIdeal.S128.ShapeCasts Cert.ReferenceIdeal.S128x1) :
    shapeCast Cert.ReferenceIdeal.S128x1 v h (ix2 j 0) = v (ix1 j) := by
  refine shapeCast_apply _ _ _ _ ?_
  rw [Shape.rowMajor_val_one, Shape.rowMajor_val_two]
  show (j : ℕ) = (j : ℕ) * 1 + 0
  omega

/-- Both programs come to the same place. -/
theorem same_place (x a g : FVec Ideal Cert.ReferenceIdeal.S128x100000 .f32) (H : Fair (tab x) (tab a)) (j : Fin 128) :
    (best (F := Ideal) (tab x) (tab a) (tab g) 98).2 (ix2 0 j) = chosen (F := Ideal) (scored x a g) (ix1 j) := by
  obtain ⟨k, h, e⟩ := best_at (tab g) H j 98 (le_refl _)
  obtain ⟨w, l, h', e'⟩ := chosen_at (scored x a g) (fun i => mark (tab x) (tab a) (tab g) i (j : ℕ)) j (fun i => scored_at x a g j i)
  have n : min (1024 * 98) 100000 = 100000 := by decide
  rw [n] at h
  rw [(Best.unique h h').2] at e
  exact e.trans e'.symm

include H in
/-- The second results agree. -/
theorem second_equal : result1 (F := Ideal) m c
    = actions (F := Ideal) (m ((c : Thread nD τ).loc main_arg0)) (m ((c : Thread nD τ).loc main_arg1)) (noise m c) := by
  refine funext fun (y : S128x1.Idx) => ?_
  obtain ⟨j, rfl⟩ : ∃ (j : Fin 128), y = ix2 j 0 := ⟨y 0, by
    refine Shape.idx_ext₂ rfl ?_
    have h : (y 1 : ℕ) < 1 := (y 1).isLt
    show (y 1 : ℕ) = 0
    omega⟩
  unfold result1 actions
  refine (column_at _ j).trans (Eq.trans ?_ (list_at _ j _).symm)
  unfold bestArr
  rw [pol_tab, avl_tab, gum_tab]
  exact same_place _ _ _ H j

end Cert.KernelIdeal.Policy
-- ==== Proof.lean ====
/-
  The proof of the claims: the kernel as printed and as idealized by the run of `Proof/Run.lean` (and its twin for the
  printed program), the reference by the run of `Proof/RefRun.lean`, and their results by `Proof/Equal.lean`.
-/
module

public import proofs.«01_k».proof.Defs
public import proofs.«01_k».proof.Proof.Run
public import proofs.«01_k».proof.Proof.Twin.Run
public import proofs.«01_k».proof.Proof.RefRun
public import proofs.«01_k».proof.Proof.Pre
public import proofs.«01_k».proof.Proof.Equal
public import proofs.«01_k».proof.Proof.Gen.Kernel
public import proofs.«01_k».proof.Proof.Gen.Pre_fair
public import proofs.«01_k».proof.Proof.Gen.KernelIdeal
public import proofs.«01_k».proof.Proof.Gen.ReferenceIdeal

@[expose] public section

noncomputable section

namespace Cert.Proof

open Idealize.ShloMosaic Idealize.ShloMosaic.TcCoe Idealize.SL.Sem

/-- The printed kernel leaves its arguments as they were. -/
theorem frame_kernel : quiescent_Kernel := fun m g _ =>
  (θ_run _ _ _).mono (fun _ h => ⟨fun c => (h.1 c).2.2, h.2⟩) (Cert.Kernel.Policy.run_main (F := Bits) m g)

/-- So does the idealized one. -/
theorem frame_ideal : quiescent_KernelIdeal := fun m g _ =>
  (θ_run _ _ _).mono (fun _ h => ⟨fun c => (h.1 c).2.2, h.2⟩) (Cert.KernelIdeal.Policy.run_main (F := Ideal) m g)

/-- And the reference. -/
theorem frame_reference : quiescent_ReferenceIdeal := fun m g _ =>
  (θ_run _ _ _).mono (fun _ h => ⟨fun c => (h.1 c).2.2, h.2⟩) (Cert.ReferenceIdeal.Policy.run_main (F := Ideal) m g)

/-- Under the precondition the two results agree. -/
theorem equal : algebraic_KernelIdeal_ReferenceIdeal_pre_fair := fun m g m' g' hp ha => by
  have H := fun c => Cert.Policy.fair_of_pre _ _ (hp c)
  refine ⟨fun c => Cert.KernelIdeal.Policy.result0 (F := Ideal) m c, fun c => Cert.KernelIdeal.Policy.result1 (F := Ideal) m c,
    (θ_run _ _ _).mono (fun _ h => h.1) (Cert.KernelIdeal.Policy.run_main (F := Ideal) m g),
    (θ_run _ _ _).mono (fun _ h c => ?_) (Cert.ReferenceIdeal.Policy.run_main (F := Ideal) m' g')⟩
  obtain ⟨h₀, h₁, h₂⟩ := h.1 c
  obtain ⟨a₀, a₁⟩ := ha c
  refine ⟨h₀.trans ?_, h₁.trans ?_, h₂⟩
  · rw [a₀, a₁]
    exact (Cert.KernelIdeal.Policy.first_equal m c (H c)).symm
  · rw [a₀, a₁, ← Cert.KernelIdeal.Policy.noise_same m c m' c]
    exact (Cert.KernelIdeal.Policy.second_equal m c (H c)).symm

theorem claim : Cert.Claim :=
  ⟨inferInstance, inferInstance, inferInstance, inferInstance, frame_kernel, frame_ideal, fun m g _ => frame_ideal m g trivial,
    frame_reference, fun m g _ => frame_reference m g trivial, trivial, equal⟩

end Cert.Proof

end
